-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Adaln (m : (ℓ : Loc Cert.Adaln.nD Cert.Adaln.τ Cert.Adaln.sig) → Buf (Elt Bits) ℓ) : Prop :=
  True

def Pre_AdalnIdeal (m : (ℓ : Loc Cert.AdalnIdeal.nD Cert.AdalnIdeal.τ Cert.AdalnIdeal.sig) → Buf (Elt Ideal) ℓ) : Prop :=
  True

def Pre_AdalnRefIdeal (m : (ℓ : Loc Cert.AdalnRefIdeal.nD Cert.AdalnRefIdeal.τ Cert.AdalnRefIdeal.sig) → Buf (Elt Ideal) ℓ) : Prop :=
  True

def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_finite_keys [hPre_finite_keys : Cert.Pre_finite_keys.Facts] (m : (ℓ : Loc Cert.GqaIdeal.nD Cert.GqaIdeal.τ Cert.GqaIdeal.sig) → Buf (Elt Ideal) ℓ) : Prop :=
  ∀ c : Dev Cert.GqaIdeal.nD,
    (Cert.Pre_finite_keys.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3))) = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_finite_keys [hPre_finite_keys : Cert.Pre_finite_keys.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_finite_keys.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3))) = (fun _ => 1#1)

def Pre_Na (m : (ℓ : Loc Cert.Na.nD Cert.Na.τ Cert.Na.sig) → Buf (Elt Bits) ℓ) : Prop :=
  True

def Pre_NaIdeal (m : (ℓ : Loc Cert.NaIdeal.nD Cert.NaIdeal.τ Cert.NaIdeal.sig) → Buf (Elt Ideal) ℓ) : Prop :=
  True

def Pre_NaIdeal_finite_scores [hPre_finite_scores : Cert.Pre_finite_scores.Facts] (m : (ℓ : Loc Cert.NaIdeal.nD Cert.NaIdeal.τ Cert.NaIdeal.sig) → Buf (Elt Ideal) ℓ) : Prop :=
  ∀ c : Dev Cert.NaIdeal.nD,
    (Cert.Pre_finite_scores.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1)) (m ((c.tc : Thread Cert.NaIdeal.nD Cert.NaIdeal.τ).loc Cert.NaIdeal.main_arg2)) (m ((c.tc : Thread Cert.NaIdeal.nD Cert.NaIdeal.τ).loc Cert.NaIdeal.main_arg3)) (m ((c.tc : Thread Cert.NaIdeal.nD Cert.NaIdeal.τ).loc Cert.NaIdeal.main_arg4))) = (fun _ => 1#1)

def Pre_NaRefIdeal (m : (ℓ : Loc Cert.NaRefIdeal.nD Cert.NaRefIdeal.τ Cert.NaRefIdeal.sig) → Buf (Elt Ideal) ℓ) : Prop :=
  True

def Pre_NaRefIdeal_finite_scores [hPre_finite_scores : Cert.Pre_finite_scores.Facts] (m : (ℓ : Loc Cert.NaRefIdeal.nD Cert.NaRefIdeal.τ Cert.NaRefIdeal.sig) → Buf (Elt Ideal) ℓ) : Prop :=
  ∀ c : Dev Cert.NaRefIdeal.nD,
    (Cert.Pre_finite_scores.fn (F := Ideal) (m ((c.tc : Thread Cert.NaRefIdeal.nD Cert.NaRefIdeal.τ).loc Cert.NaRefIdeal.main_arg0)) (m ((c.tc : Thread Cert.NaRefIdeal.nD Cert.NaRefIdeal.τ).loc Cert.NaRefIdeal.main_arg1)) (m ((c.tc : Thread Cert.NaRefIdeal.nD Cert.NaRefIdeal.τ).loc Cert.NaRefIdeal.main_arg2)) (m ((c.tc : Thread Cert.NaRefIdeal.nD Cert.NaRefIdeal.τ).loc Cert.NaRefIdeal.main_arg3)) (m ((c.tc : Thread Cert.NaRefIdeal.nD Cert.NaRefIdeal.τ).loc Cert.NaRefIdeal.main_arg4))) = (fun _ => 1#1)

def Pre_NaBias (m : (ℓ : Loc Cert.NaBias.nD Cert.NaBias.τ Cert.NaBias.sig) → Buf (Elt Bits) ℓ) : Prop :=
  True

def Pre_NaBiasIdeal (m : (ℓ : Loc Cert.NaBiasIdeal.nD Cert.NaBiasIdeal.τ Cert.NaBiasIdeal.sig) → Buf (Elt Ideal) ℓ) : Prop :=
  True

def Pre_NaBiasRefIdeal (m : (ℓ : Loc Cert.NaBiasRefIdeal.nD Cert.NaBiasRefIdeal.τ Cert.NaBiasRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
      ∧ r.2.sem = fun _ => 0)

def quiescent_Adaln [hAdaln : Cert.Adaln.Facts] : Prop :=
  ∀ (m : (ℓ : Loc Cert.Adaln.nD Cert.Adaln.τ Cert.Adaln.sig) → Buf (Elt Bits) ℓ) (g : Dev Cert.Adaln.nD → PrngReg), Pre_Adaln m →
    θ_run (Cert.Adaln.defs (F := Bits)) (onTc (τ := Cert.Adaln.τ) (Cert.Adaln.main (F := Bits))) ⟨m, fun _ => 0, g⟩ (fun r => (∀ c : Dev Cert.Adaln.nD,
      r.2.mem ((c.tc : Thread Cert.Adaln.nD Cert.Adaln.τ).loc Cert.Adaln.main_arg0) = m ((c.tc : Thread Cert.Adaln.nD Cert.Adaln.τ).loc Cert.Adaln.main_arg0)
      ∧ r.2.mem ((c.tc : Thread Cert.Adaln.nD Cert.Adaln.τ).loc Cert.Adaln.main_arg1) = m ((c.tc : Thread Cert.Adaln.nD Cert.Adaln.τ).loc Cert.Adaln.main_arg1)
      ∧ r.2.mem ((c.tc : Thread Cert.Adaln.nD Cert.Adaln.τ).loc Cert.Adaln.main_arg2) = m ((c.tc : Thread Cert.Adaln.nD Cert.Adaln.τ).loc Cert.Adaln.main_arg2))
      ∧ r.2.sem = fun _ => 0)

def quiescent_AdalnIdeal [hAdalnIdeal : Cert.AdalnIdeal.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ r.2.sem = fun _ => 0)

def quiescent_AdalnRefIdeal [hAdalnRefIdeal : Cert.AdalnRefIdeal.Facts] : Prop :=
  ∀ (m : (ℓ : Loc Cert.AdalnRefIdeal.nD Cert.AdalnRefIdeal.τ Cert.AdalnRefIdeal.sig) → Buf (Elt Ideal) ℓ) (g : Dev Cert.AdalnRefIdeal.nD → PrngReg), Pre_AdalnRefIdeal m →
    θ_run (Cert.AdalnRefIdeal.defs (F := Ideal)) (onTc (τ := Cert.AdalnRefIdeal.τ) (Cert.AdalnRefIdeal.main (F := Ideal))) ⟨m, fun _ => 0, g⟩ (fun r => (∀ c : Dev Cert.AdalnRefIdeal.nD,
      r.2.mem ((c.tc : Thread Cert.AdalnRefIdeal.nD Cert.AdalnRefIdeal.τ).loc Cert.AdalnRefIdeal.main_arg0) = m ((c.tc : Thread Cert.AdalnRefIdeal.nD Cert.AdalnRefIdeal.τ).loc Cert.AdalnRefIdeal.main_arg0)
      ∧ r.2.mem ((c.tc : Thread Cert.AdalnRefIdeal.nD Cert.AdalnRefIdeal.τ).loc Cert.AdalnRefIdeal.main_arg1) = m ((c.tc : Thread Cert.AdalnRefIdeal.nD Cert.AdalnRefIdeal.τ).loc Cert.AdalnRefIdeal.main_arg1)
      ∧ r.2.mem ((c.tc : Thread Cert.AdalnRefIdeal.nD Cert.AdalnRefIdeal.τ).loc Cert.AdalnRefIdeal.main_arg2) = m ((c.tc : Thread Cert.AdalnRefIdeal.nD Cert.AdalnRefIdeal.τ).loc Cert.AdalnRefIdeal.main_arg2))
      ∧ r.2.sem = fun _ => 0)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2)
      ∧ r.2.mem ((c.tc : Thread Cert.Gqa.nD Cert.Gqa.τ).loc Cert.Gqa.main_arg3) = m ((c.tc : Thread Cert.Gqa.nD Cert.Gqa.τ).loc Cert.Gqa.main_arg3))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3))
      ∧ r.2.sem = fun _ => 0)

def quiescent_GqaIdeal_pre_finite_keys [hGqaIdeal : Cert.GqaIdeal.Facts] [hPre_finite_keys : Cert.Pre_finite_keys.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_finite_keys m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3))
      ∧ r.2.sem = fun _ => 0)

def quiescent_GqaRefIdeal_pre_finite_keys [hGqaRefIdeal : Cert.GqaRefIdeal.Facts] [hPre_finite_keys : Cert.Pre_finite_keys.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_finite_keys m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3))
      ∧ r.2.sem = fun _ => 0)

def quiescent_Na [hNa : Cert.Na.Facts] : Prop :=
  ∀ (m : (ℓ : Loc Cert.Na.nD Cert.Na.τ Cert.Na.sig) → Buf (Elt Bits) ℓ) (g : Dev Cert.Na.nD → PrngReg), Pre_Na m →
    θ_run (Cert.Na.defs (F := Bits)) (onTc (τ := Cert.Na.τ) (Cert.Na.main (F := Bits))) ⟨m, fun _ => 0, g⟩ (fun r => (∀ c : Dev Cert.Na.nD,
      r.2.mem ((c.tc : Thread Cert.Na.nD Cert.Na.τ).loc Cert.Na.main_arg0) = m ((c.tc : Thread Cert.Na.nD Cert.Na.τ).loc Cert.Na.main_arg0)
      ∧ r.2.mem ((c.tc : Thread Cert.Na.nD Cert.Na.τ).loc Cert.Na.main_arg1) = m ((c.tc : Thread Cert.Na.nD Cert.Na.τ).loc Cert.Na.main_arg1)
      ∧ r.2.mem ((c.tc : Thread Cert.Na.nD Cert.Na.τ).loc Cert.Na.main_arg2) = m ((c.tc : Thread Cert.Na.nD Cert.Na.τ).loc Cert.Na.main_arg2)
      ∧ r.2.mem ((c.tc : Thread Cert.Na.nD Cert.Na.τ).loc Cert.Na.main_arg3) = m ((c.tc : Thread Cert.Na.nD Cert.Na.τ).loc Cert.Na.main_arg3)
      ∧ r.2.mem ((c.tc : Thread Cert.Na.nD Cert.Na.τ).loc Cert.Na.main_arg4) = m ((c.tc : Thread Cert.Na.nD Cert.Na.τ).loc Cert.Na.main_arg4))
      ∧ r.2.sem = fun _ => 0)

def quiescent_NaIdeal [hNaIdeal : Cert.NaIdeal.Facts] : Prop :=
  ∀ (m : (ℓ : Loc Cert.NaIdeal.nD Cert.NaIdeal.τ Cert.NaIdeal.sig) → Buf (Elt Ideal) ℓ) (g : Dev Cert.NaIdeal.nD → PrngReg), Pre_NaIdeal m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1)
      ∧ r.2.mem ((c.tc : Thread Cert.NaIdeal.nD Cert.NaIdeal.τ).loc Cert.NaIdeal.main_arg2) = m ((c.tc : Thread Cert.NaIdeal.nD Cert.NaIdeal.τ).loc Cert.NaIdeal.main_arg2)
      ∧ r.2.mem ((c.tc : Thread Cert.NaIdeal.nD Cert.NaIdeal.τ).loc Cert.NaIdeal.main_arg3) = m ((c.tc : Thread Cert.NaIdeal.nD Cert.NaIdeal.τ).loc Cert.NaIdeal.main_arg3)
      ∧ r.2.mem ((c.tc : Thread Cert.NaIdeal.nD Cert.NaIdeal.τ).loc Cert.NaIdeal.main_arg4) = m ((c.tc : Thread Cert.NaIdeal.nD Cert.NaIdeal.τ).loc Cert.NaIdeal.main_arg4))
      ∧ r.2.sem = fun _ => 0)

def quiescent_NaIdeal_pre_finite_scores [hNaIdeal : Cert.NaIdeal.Facts] [hPre_finite_scores : Cert.Pre_finite_scores.Facts] : Prop :=
  ∀ (m : (ℓ : Loc Cert.NaIdeal.nD Cert.NaIdeal.τ Cert.NaIdeal.sig) → Buf (Elt Ideal) ℓ) (g : Dev Cert.NaIdeal.nD → PrngReg), Pre_NaIdeal_finite_scores m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1)
      ∧ r.2.mem ((c.tc : Thread Cert.NaIdeal.nD Cert.NaIdeal.τ).loc Cert.NaIdeal.main_arg2) = m ((c.tc : Thread Cert.NaIdeal.nD Cert.NaIdeal.τ).loc Cert.NaIdeal.main_arg2)
      ∧ r.2.mem ((c.tc : Thread Cert.NaIdeal.nD Cert.NaIdeal.τ).loc Cert.NaIdeal.main_arg3) = m ((c.tc : Thread Cert.NaIdeal.nD Cert.NaIdeal.τ).loc Cert.NaIdeal.main_arg3)
      ∧ r.2.mem ((c.tc : Thread Cert.NaIdeal.nD Cert.NaIdeal.τ).loc Cert.NaIdeal.main_arg4) = m ((c.tc : Thread Cert.NaIdeal.nD Cert.NaIdeal.τ).loc Cert.NaIdeal.main_arg4))
      ∧ r.2.sem = fun _ => 0)

def quiescent_NaRefIdeal [hNaRefIdeal : Cert.NaRefIdeal.Facts] : Prop :=
  ∀ (m : (ℓ : Loc Cert.NaRefIdeal.nD Cert.NaRefIdeal.τ Cert.NaRefIdeal.sig) → Buf (Elt Ideal) ℓ) (g : Dev Cert.NaRefIdeal.nD → PrngReg), Pre_NaRefIdeal m →
    θ_run (Cert.NaRefIdeal.defs (F := Ideal)) (onTc (τ := Cert.NaRefIdeal.τ) (Cert.NaRefIdeal.main (F := Ideal))) ⟨m, fun _ => 0, g⟩ (fun r => (∀ c : Dev Cert.NaRefIdeal.nD,
      r.2.mem ((c.tc : Thread Cert.NaRefIdeal.nD Cert.NaRefIdeal.τ).loc Cert.NaRefIdeal.main_arg0) = m ((c.tc : Thread Cert.NaRefIdeal.nD Cert.NaRefIdeal.τ).loc Cert.NaRefIdeal.main_arg0)
      ∧ r.2.mem ((c.tc : Thread Cert.NaRefIdeal.nD Cert.NaRefIdeal.τ).loc Cert.NaRefIdeal.main_arg1) = m ((c.tc : Thread Cert.NaRefIdeal.nD Cert.NaRefIdeal.τ).loc Cert.NaRefIdeal.main_arg1)
      ∧ r.2.mem ((c.tc : Thread Cert.NaRefIdeal.nD Cert.NaRefIdeal.τ).loc Cert.NaRefIdeal.main_arg2) = m ((c.tc : Thread Cert.NaRefIdeal.nD Cert.NaRefIdeal.τ).loc Cert.NaRefIdeal.main_arg2)
      ∧ r.2.mem ((c.tc : Thread Cert.NaRefIdeal.nD Cert.NaRefIdeal.τ).loc Cert.NaRefIdeal.main_arg3) = m ((c.tc : Thread Cert.NaRefIdeal.nD Cert.NaRefIdeal.τ).loc Cert.NaRefIdeal.main_arg3)
      ∧ r.2.mem ((c.tc : Thread Cert.NaRefIdeal.nD Cert.NaRefIdeal.τ).loc Cert.NaRefIdeal.main_arg4) = m ((c.tc : Thread Cert.NaRefIdeal.nD Cert.NaRefIdeal.τ).loc Cert.NaRefIdeal.main_arg4))
      ∧ r.2.sem = fun _ => 0)

def quiescent_NaRefIdeal_pre_finite_scores [hNaRefIdeal : Cert.NaRefIdeal.Facts] [hPre_finite_scores : Cert.Pre_finite_scores.Facts] : Prop :=
  ∀ (m : (ℓ : Loc Cert.NaRefIdeal.nD Cert.NaRefIdeal.τ Cert.NaRefIdeal.sig) → Buf (Elt Ideal) ℓ) (g : Dev Cert.NaRefIdeal.nD → PrngReg), Pre_NaRefIdeal_finite_scores m →
    θ_run (Cert.NaRefIdeal.defs (F := Ideal)) (onTc (τ := Cert.NaRefIdeal.τ) (Cert.NaRefIdeal.main (F := Ideal))) ⟨m, fun _ => 0, g⟩ (fun r => (∀ c : Dev Cert.NaRefIdeal.nD,
      r.2.mem ((c.tc : Thread Cert.NaRefIdeal.nD Cert.NaRefIdeal.τ).loc Cert.NaRefIdeal.main_arg0) = m ((c.tc : Thread Cert.NaRefIdeal.nD Cert.NaRefIdeal.τ).loc Cert.NaRefIdeal.main_arg0)
      ∧ r.2.mem ((c.tc : Thread Cert.NaRefIdeal.nD Cert.NaRefIdeal.τ).loc Cert.NaRefIdeal.main_arg1) = m ((c.tc : Thread Cert.NaRefIdeal.nD Cert.NaRefIdeal.τ).loc Cert.NaRefIdeal.main_arg1)
      ∧ r.2.mem ((c.tc : Thread Cert.NaRefIdeal.nD Cert.NaRefIdeal.τ).loc Cert.NaRefIdeal.main_arg2) = m ((c.tc : Thread Cert.NaRefIdeal.nD Cert.NaRefIdeal.τ).loc Cert.NaRefIdeal.main_arg2)
      ∧ r.2.mem ((c.tc : Thread Cert.NaRefIdeal.nD Cert.NaRefIdeal.τ).loc Cert.NaRefIdeal.main_arg3) = m ((c.tc : Thread Cert.NaRefIdeal.nD Cert.NaRefIdeal.τ).loc Cert.NaRefIdeal.main_arg3)
      ∧ r.2.mem ((c.tc : Thread Cert.NaRefIdeal.nD Cert.NaRefIdeal.τ).loc Cert.NaRefIdeal.main_arg4) = m ((c.tc : Thread Cert.NaRefIdeal.nD Cert.NaRefIdeal.τ).loc Cert.NaRefIdeal.main_arg4))
      ∧ r.2.sem = fun _ => 0)

def quiescent_NaBias [hNaBias : Cert.NaBias.Facts] : Prop :=
  ∀ (m : (ℓ : Loc Cert.NaBias.nD Cert.NaBias.τ Cert.NaBias.sig) → Buf (Elt Bits) ℓ) (g : Dev Cert.NaBias.nD → PrngReg), Pre_NaBias m →
    θ_run (Cert.NaBias.defs (F := Bits)) (onTc (τ := Cert.NaBias.τ) (Cert.NaBias.main (F := Bits))) ⟨m, fun _ => 0, g⟩ (fun r => (∀ c : Dev Cert.NaBias.nD,
      r.2.mem ((c.tc : Thread Cert.NaBias.nD Cert.NaBias.τ).loc Cert.NaBias.main_arg0) = m ((c.tc : Thread Cert.NaBias.nD Cert.NaBias.τ).loc Cert.NaBias.main_arg0))
      ∧ r.2.sem = fun _ => 0)

def quiescent_NaBiasIdeal [hNaBiasIdeal : Cert.NaBiasIdeal.Facts] : Prop :=
  ∀ (m : (ℓ : Loc Cert.NaBiasIdeal.nD Cert.NaBiasIdeal.τ Cert.NaBiasIdeal.sig) → Buf (Elt Ideal) ℓ) (g : Dev Cert.NaBiasIdeal.nD → PrngReg), Pre_NaBiasIdeal m →
    θ_run (Cert.NaBiasIdeal.defs (F := Ideal)) (onTc (τ := Cert.NaBiasIdeal.τ) (Cert.NaBiasIdeal.main (F := Ideal))) ⟨m, fun _ => 0, g⟩ (fun r => (∀ c : Dev Cert.NaBiasIdeal.nD,
      r.2.mem ((c.tc : Thread Cert.NaBiasIdeal.nD Cert.NaBiasIdeal.τ).loc Cert.NaBiasIdeal.main_arg0) = m ((c.tc : Thread Cert.NaBiasIdeal.nD Cert.NaBiasIdeal.τ).loc Cert.NaBiasIdeal.main_arg0))
      ∧ r.2.sem = fun _ => 0)

def quiescent_NaBiasRefIdeal [hNaBiasRefIdeal : Cert.NaBiasRefIdeal.Facts] : Prop :=
  ∀ (m : (ℓ : Loc Cert.NaBiasRefIdeal.nD Cert.NaBiasRefIdeal.τ Cert.NaBiasRefIdeal.sig) → Buf (Elt Ideal) ℓ) (g : Dev Cert.NaBiasRefIdeal.nD → PrngReg), Pre_NaBiasRefIdeal m →
    θ_run (Cert.NaBiasRefIdeal.defs (F := Ideal)) (onTc (τ := Cert.NaBiasRefIdeal.τ) (Cert.NaBiasRefIdeal.main (F := Ideal))) ⟨m, fun _ => 0, g⟩ (fun r => (∀ c : Dev Cert.NaBiasRefIdeal.nD,
      r.2.mem ((c.tc : Thread Cert.NaBiasRefIdeal.nD Cert.NaBiasRefIdeal.τ).loc Cert.NaBiasRefIdeal.main_arg0) = m ((c.tc : Thread Cert.NaBiasRefIdeal.nD Cert.NaBiasRefIdeal.τ).loc Cert.NaBiasRefIdeal.main_arg0))
      ∧ r.2.sem = fun _ => 0)

def preserves_Kernel_KernelIdeal : Prop :=
  True

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_v40) = v3 c
          ∧ r.2.mem ((c.tc : Thread Cert.ReferenceIdeal.nD Cert.ReferenceIdeal.τ).loc Cert.ReferenceIdeal.main_v93) = v4 c
          ∧ r.2.mem ((c.tc : Thread Cert.ReferenceIdeal.nD Cert.ReferenceIdeal.τ).loc Cert.ReferenceIdeal.main_v96) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v79) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v55) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v21) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6))

def preserves_Adaln_AdalnIdeal : Prop :=
  True

def algebraic_AdalnIdeal_AdalnRefIdeal [hAdalnIdeal : Cert.AdalnIdeal.Facts] [hAdalnRefIdeal : Cert.AdalnRefIdeal.Facts] : Prop :=
  ∀ (m : (ℓ : Loc Cert.AdalnIdeal.nD Cert.AdalnIdeal.τ Cert.AdalnIdeal.sig) → Buf (Elt Ideal) ℓ) (g : Dev Cert.AdalnIdeal.nD → PrngReg)
    (m' : (ℓ : Loc Cert.AdalnRefIdeal.nD Cert.AdalnRefIdeal.τ Cert.AdalnRefIdeal.sig) → Buf (Elt Ideal) ℓ) (g' : Dev Cert.AdalnRefIdeal.nD → PrngReg), Pre_AdalnIdeal m →
    (∀ c : Dev Cert.AdalnIdeal.nD,
      m' ((c.tc : Thread Cert.AdalnRefIdeal.nD Cert.AdalnRefIdeal.τ).loc Cert.AdalnRefIdeal.main_arg0) = m ((c.tc : Thread Cert.AdalnIdeal.nD Cert.AdalnIdeal.τ).loc Cert.AdalnIdeal.main_arg0)
      ∧ m' ((c.tc : Thread Cert.AdalnRefIdeal.nD Cert.AdalnRefIdeal.τ).loc Cert.AdalnRefIdeal.main_arg1) = m ((c.tc : Thread Cert.AdalnIdeal.nD Cert.AdalnIdeal.τ).loc Cert.AdalnIdeal.main_arg1)
      ∧ m' ((c.tc : Thread Cert.AdalnRefIdeal.nD Cert.AdalnRefIdeal.τ).loc Cert.AdalnRefIdeal.main_arg2) = m ((c.tc : Thread Cert.AdalnIdeal.nD Cert.AdalnIdeal.τ).loc Cert.AdalnIdeal.main_arg2)) →
    ∃ (v0 : (c : Dev Cert.AdalnIdeal.nD) → Buf (Elt Ideal) ((c.tc : Thread Cert.AdalnIdeal.nD Cert.AdalnIdeal.τ).loc Cert.AdalnIdeal.main_v1)),
      θ_run (Cert.AdalnIdeal.defs (F := Ideal)) (onTc (τ := Cert.AdalnIdeal.τ) (Cert.AdalnIdeal.main (F := Ideal))) ⟨m, fun _ => 0, g⟩ (fun r => ∀ c : Dev Cert.AdalnIdeal.nD,
          r.2.mem ((c.tc : Thread Cert.AdalnIdeal.nD Cert.AdalnIdeal.τ).loc Cert.AdalnIdeal.main_v1) = v0 c
          ∧ r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
          ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
          ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ θ_run (Cert.AdalnRefIdeal.defs (F := Ideal)) (onTc (τ := Cert.AdalnRefIdeal.τ) (Cert.AdalnRefIdeal.main (F := Ideal))) ⟨m', fun _ => 0, g'⟩ (fun r => ∀ c : Dev Cert.AdalnRefIdeal.nD,
          r.2.mem ((c.tc : Thread Cert.AdalnRefIdeal.nD Cert.AdalnRefIdeal.τ).loc Cert.AdalnRefIdeal.main_v40) = v0 c
          ∧ r.2.mem ((c.tc : Thread Cert.AdalnRefIdeal.nD Cert.AdalnRefIdeal.τ).loc Cert.AdalnRefIdeal.main_arg0) = m' ((c.tc : Thread Cert.AdalnRefIdeal.nD Cert.AdalnRefIdeal.τ).loc Cert.AdalnRefIdeal.main_arg0)
          ∧ r.2.mem ((c.tc : Thread Cert.AdalnRefIdeal.nD Cert.AdalnRefIdeal.τ).loc Cert.AdalnRefIdeal.main_arg1) = m' ((c.tc : Thread Cert.AdalnRefIdeal.nD Cert.AdalnRefIdeal.τ).loc Cert.AdalnRefIdeal.main_arg1)
          ∧ r.2.mem ((c.tc : Thread Cert.AdalnRefIdeal.nD Cert.AdalnRefIdeal.τ).loc Cert.AdalnRefIdeal.main_arg2) = m' ((c.tc : Thread Cert.AdalnRefIdeal.nD Cert.AdalnRefIdeal.τ).loc Cert.AdalnRefIdeal.main_arg2))

def preserves_Gqa_GqaIdeal : Prop :=
  True

def algebraic_GqaIdeal_GqaRefIdeal_pre_finite_keys [hGqaIdeal : Cert.GqaIdeal.Facts] [hGqaRefIdeal : Cert.GqaRefIdeal.Facts] [hPre_finite_keys : Cert.Pre_finite_keys.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_finite_keys m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)
      ∧ m' ((c.tc : Thread Cert.GqaRefIdeal.nD Cert.GqaRefIdeal.τ).loc Cert.GqaRefIdeal.main_arg3) = m ((c.tc : Thread Cert.GqaIdeal.nD Cert.GqaIdeal.τ).loc Cert.GqaIdeal.main_arg3)) →
    ∃ (v0 : (c : Dev Cert.GqaIdeal.nD) → Buf (Elt Ideal) ((c.tc : Thread Cert.GqaIdeal.nD Cert.GqaIdeal.τ).loc Cert.GqaIdeal.main_v32)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v32) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
          ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v173) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2)
          ∧ r.2.mem ((c.tc : Thread Cert.GqaRefIdeal.nD Cert.GqaRefIdeal.τ).loc Cert.GqaRefIdeal.main_arg3) = m' ((c.tc : Thread Cert.GqaRefIdeal.nD Cert.GqaRefIdeal.τ).loc Cert.GqaRefIdeal.main_arg3))

def preserves_Na_NaIdeal : Prop :=
  True

def algebraic_NaIdeal_NaRefIdeal_pre_finite_scores [hNaIdeal : Cert.NaIdeal.Facts] [hNaRefIdeal : Cert.NaRefIdeal.Facts] [hPre_finite_scores : Cert.Pre_finite_scores.Facts] : Prop :=
  ∀ (m : (ℓ : Loc Cert.NaIdeal.nD Cert.NaIdeal.τ Cert.NaIdeal.sig) → Buf (Elt Ideal) ℓ) (g : Dev Cert.NaIdeal.nD → PrngReg)
    (m' : (ℓ : Loc Cert.NaRefIdeal.nD Cert.NaRefIdeal.τ Cert.NaRefIdeal.sig) → Buf (Elt Ideal) ℓ) (g' : Dev Cert.NaRefIdeal.nD → PrngReg), Pre_NaIdeal_finite_scores m →
    (∀ c : Dev Cert.NaIdeal.nD,
      m' ((c.tc : Thread Cert.NaRefIdeal.nD Cert.NaRefIdeal.τ).loc Cert.NaRefIdeal.main_arg0) = m ((c.tc : Thread Cert.NaIdeal.nD Cert.NaIdeal.τ).loc Cert.NaIdeal.main_arg0)
      ∧ m' ((c.tc : Thread Cert.NaRefIdeal.nD Cert.NaRefIdeal.τ).loc Cert.NaRefIdeal.main_arg1) = m ((c.tc : Thread Cert.NaIdeal.nD Cert.NaIdeal.τ).loc Cert.NaIdeal.main_arg1)
      ∧ m' ((c.tc : Thread Cert.NaRefIdeal.nD Cert.NaRefIdeal.τ).loc Cert.NaRefIdeal.main_arg2) = m ((c.tc : Thread Cert.NaIdeal.nD Cert.NaIdeal.τ).loc Cert.NaIdeal.main_arg2)
      ∧ m' ((c.tc : Thread Cert.NaRefIdeal.nD Cert.NaRefIdeal.τ).loc Cert.NaRefIdeal.main_arg3) = m ((c.tc : Thread Cert.NaIdeal.nD Cert.NaIdeal.τ).loc Cert.NaIdeal.main_arg3)
      ∧ m' ((c.tc : Thread Cert.NaRefIdeal.nD Cert.NaRefIdeal.τ).loc Cert.NaRefIdeal.main_arg4) = m ((c.tc : Thread Cert.NaIdeal.nD Cert.NaIdeal.τ).loc Cert.NaIdeal.main_arg4)) →
    ∃ (v0 : (c : Dev Cert.NaIdeal.nD) → Buf (Elt Ideal) ((c.tc : Thread Cert.NaIdeal.nD Cert.NaIdeal.τ).loc Cert.NaIdeal.main_v0)),
      θ_run (Cert.NaIdeal.defs (F := Ideal)) (onTc (τ := Cert.NaIdeal.τ) (Cert.NaIdeal.main (F := Ideal))) ⟨m, fun _ => 0, g⟩ (fun r => ∀ c : Dev Cert.NaIdeal.nD,
          r.2.mem ((c.tc : Thread Cert.NaIdeal.nD Cert.NaIdeal.τ).loc Cert.NaIdeal.main_v0) = v0 c
          ∧ r.2.mem ((c.tc : Thread Cert.NaIdeal.nD Cert.NaIdeal.τ).loc Cert.NaIdeal.main_arg0) = m ((c.tc : Thread Cert.NaIdeal.nD Cert.NaIdeal.τ).loc Cert.NaIdeal.main_arg0)
          ∧ r.2.mem ((c.tc : Thread Cert.NaIdeal.nD Cert.NaIdeal.τ).loc Cert.NaIdeal.main_arg1) = m ((c.tc : Thread Cert.NaIdeal.nD Cert.NaIdeal.τ).loc Cert.NaIdeal.main_arg1)
          ∧ r.2.mem ((c.tc : Thread Cert.NaIdeal.nD Cert.NaIdeal.τ).loc Cert.NaIdeal.main_arg2) = m ((c.tc : Thread Cert.NaIdeal.nD Cert.NaIdeal.τ).loc Cert.NaIdeal.main_arg2)
          ∧ r.2.mem ((c.tc : Thread Cert.NaIdeal.nD Cert.NaIdeal.τ).loc Cert.NaIdeal.main_arg3) = m ((c.tc : Thread Cert.NaIdeal.nD Cert.NaIdeal.τ).loc Cert.NaIdeal.main_arg3)
          ∧ r.2.mem ((c.tc : Thread Cert.NaIdeal.nD Cert.NaIdeal.τ).loc Cert.NaIdeal.main_arg4) = m ((c.tc : Thread Cert.NaIdeal.nD Cert.NaIdeal.τ).loc Cert.NaIdeal.main_arg4))
      ∧ θ_run (Cert.NaRefIdeal.defs (F := Ideal)) (onTc (τ := Cert.NaRefIdeal.τ) (Cert.NaRefIdeal.main (F := Ideal))) ⟨m', fun _ => 0, g'⟩ (fun r => ∀ c : Dev Cert.NaRefIdeal.nD,
          r.2.mem ((c.tc : Thread Cert.NaRefIdeal.nD Cert.NaRefIdeal.τ).loc Cert.NaRefIdeal.main_v88) = v0 c
          ∧ r.2.mem ((c.tc : Thread Cert.NaRefIdeal.nD Cert.NaRefIdeal.τ).loc Cert.NaRefIdeal.main_arg0) = m' ((c.tc : Thread Cert.NaRefIdeal.nD Cert.NaRefIdeal.τ).loc Cert.NaRefIdeal.main_arg0)
          ∧ r.2.mem ((c.tc : Thread Cert.NaRefIdeal.nD Cert.NaRefIdeal.τ).loc Cert.NaRefIdeal.main_arg1) = m' ((c.tc : Thread Cert.NaRefIdeal.nD Cert.NaRefIdeal.τ).loc Cert.NaRefIdeal.main_arg1)
          ∧ r.2.mem ((c.tc : Thread Cert.NaRefIdeal.nD Cert.NaRefIdeal.τ).loc Cert.NaRefIdeal.main_arg2) = m' ((c.tc : Thread Cert.NaRefIdeal.nD Cert.NaRefIdeal.τ).loc Cert.NaRefIdeal.main_arg2)
          ∧ r.2.mem ((c.tc : Thread Cert.NaRefIdeal.nD Cert.NaRefIdeal.τ).loc Cert.NaRefIdeal.main_arg3) = m' ((c.tc : Thread Cert.NaRefIdeal.nD Cert.NaRefIdeal.τ).loc Cert.NaRefIdeal.main_arg3)
          ∧ r.2.mem ((c.tc : Thread Cert.NaRefIdeal.nD Cert.NaRefIdeal.τ).loc Cert.NaRefIdeal.main_arg4) = m' ((c.tc : Thread Cert.NaRefIdeal.nD Cert.NaRefIdeal.τ).loc Cert.NaRefIdeal.main_arg4))

def preserves_NaBias_NaBiasIdeal : Prop :=
  True

def algebraic_NaBiasIdeal_NaBiasRefIdeal [hNaBiasIdeal : Cert.NaBiasIdeal.Facts] [hNaBiasRefIdeal : Cert.NaBiasRefIdeal.Facts] : Prop :=
  ∀ (m : (ℓ : Loc Cert.NaBiasIdeal.nD Cert.NaBiasIdeal.τ Cert.NaBiasIdeal.sig) → Buf (Elt Ideal) ℓ) (g : Dev Cert.NaBiasIdeal.nD → PrngReg)
    (m' : (ℓ : Loc Cert.NaBiasRefIdeal.nD Cert.NaBiasRefIdeal.τ Cert.NaBiasRefIdeal.sig) → Buf (Elt Ideal) ℓ) (g' : Dev Cert.NaBiasRefIdeal.nD → PrngReg), Pre_NaBiasIdeal m →
    (∀ c : Dev Cert.NaBiasIdeal.nD,
      m' ((c.tc : Thread Cert.NaBiasRefIdeal.nD Cert.NaBiasRefIdeal.τ).loc Cert.NaBiasRefIdeal.main_arg0) = m ((c.tc : Thread Cert.NaBiasIdeal.nD Cert.NaBiasIdeal.τ).loc Cert.NaBiasIdeal.main_arg0)) →
    ∃ (v0 : (c : Dev Cert.NaBiasIdeal.nD) → Buf (Elt Ideal) ((c.tc : Thread Cert.NaBiasIdeal.nD Cert.NaBiasIdeal.τ).loc Cert.NaBiasIdeal.main_v1)),
      θ_run (Cert.NaBiasIdeal.defs (F := Ideal)) (onTc (τ := Cert.NaBiasIdeal.τ) (Cert.NaBiasIdeal.main (F := Ideal))) ⟨m, fun _ => 0, g⟩ (fun r => ∀ c : Dev Cert.NaBiasIdeal.nD,
          r.2.mem ((c.tc : Thread Cert.NaBiasIdeal.nD Cert.NaBiasIdeal.τ).loc Cert.NaBiasIdeal.main_v1) = v0 c
          ∧ r.2.mem ((c.tc : Thread Cert.NaBiasIdeal.nD Cert.NaBiasIdeal.τ).loc Cert.NaBiasIdeal.main_arg0) = m ((c.tc : Thread Cert.NaBiasIdeal.nD Cert.NaBiasIdeal.τ).loc Cert.NaBiasIdeal.main_arg0))
      ∧ θ_run (Cert.NaBiasRefIdeal.defs (F := Ideal)) (onTc (τ := Cert.NaBiasRefIdeal.τ) (Cert.NaBiasRefIdeal.main (F := Ideal))) ⟨m', fun _ => 0, g'⟩ (fun r => ∀ c : Dev Cert.NaBiasRefIdeal.nD,
          r.2.mem ((c.tc : Thread Cert.NaBiasRefIdeal.nD Cert.NaBiasRefIdeal.τ).loc Cert.NaBiasRefIdeal.main_v77) = v0 c
          ∧ r.2.mem ((c.tc : Thread Cert.NaBiasRefIdeal.nD Cert.NaBiasRefIdeal.τ).loc Cert.NaBiasRefIdeal.main_arg0) = m' ((c.tc : Thread Cert.NaBiasRefIdeal.nD Cert.NaBiasRefIdeal.τ).loc Cert.NaBiasRefIdeal.main_arg0))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hAdaln : Cert.Adaln.Facts) (hAdalnIdeal : Cert.AdalnIdeal.Facts) (hAdalnRefIdeal : Cert.AdalnRefIdeal.Facts) (hGqa : Cert.Gqa.Facts) (hGqaIdeal : Cert.GqaIdeal.Facts) (hGqaRefIdeal : Cert.GqaRefIdeal.Facts) (hNa : Cert.Na.Facts) (hNaIdeal : Cert.NaIdeal.Facts) (hNaRefIdeal : Cert.NaRefIdeal.Facts) (hNaBias : Cert.NaBias.Facts) (hNaBiasIdeal : Cert.NaBiasIdeal.Facts) (hNaBiasRefIdeal : Cert.NaBiasRefIdeal.Facts) (hPre_finite_weights : Cert.Pre_finite_weights.Facts) (hPre_finite_keys : Cert.Pre_finite_keys.Facts) (hPre_finite_scores : Cert.Pre_finite_scores.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Adaln (hAdaln := hAdaln)
    ∧ quiescent_AdalnIdeal (hAdalnIdeal := hAdalnIdeal)
    ∧ quiescent_AdalnRefIdeal (hAdalnRefIdeal := hAdalnRefIdeal)
    ∧ quiescent_Gqa (hGqa := hGqa)
    ∧ quiescent_GqaIdeal (hGqaIdeal := hGqaIdeal)
    ∧ quiescent_GqaIdeal_pre_finite_keys (hGqaIdeal := hGqaIdeal) (hPre_finite_keys := hPre_finite_keys)
    ∧ quiescent_GqaRefIdeal (hGqaRefIdeal := hGqaRefIdeal)
    ∧ quiescent_GqaRefIdeal_pre_finite_keys (hGqaRefIdeal := hGqaRefIdeal) (hPre_finite_keys := hPre_finite_keys)
    ∧ quiescent_Na (hNa := hNa)
    ∧ quiescent_NaIdeal (hNaIdeal := hNaIdeal)
    ∧ quiescent_NaIdeal_pre_finite_scores (hNaIdeal := hNaIdeal) (hPre_finite_scores := hPre_finite_scores)
    ∧ quiescent_NaRefIdeal (hNaRefIdeal := hNaRefIdeal)
    ∧ quiescent_NaRefIdeal_pre_finite_scores (hNaRefIdeal := hNaRefIdeal) (hPre_finite_scores := hPre_finite_scores)
    ∧ quiescent_NaBias (hNaBias := hNaBias)
    ∧ quiescent_NaBiasIdeal (hNaBiasIdeal := hNaBiasIdeal)
    ∧ quiescent_NaBiasRefIdeal (hNaBiasRefIdeal := hNaBiasRefIdeal)
    ∧ preserves_Kernel_KernelIdeal
    ∧ algebraic_KernelIdeal_ReferenceIdeal_pre_finite_weights (hKernelIdeal := hKernelIdeal) (hReferenceIdeal := hReferenceIdeal) (hPre_finite_weights := hPre_finite_weights)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Adaln_AdalnIdeal
    ∧ algebraic_AdalnIdeal_AdalnRefIdeal (hAdalnIdeal := hAdalnIdeal) (hAdalnRefIdeal := hAdalnRefIdeal)
    ∧ preserves_Gqa_GqaIdeal
    ∧ algebraic_GqaIdeal_GqaRefIdeal_pre_finite_keys (hGqaIdeal := hGqaIdeal) (hGqaRefIdeal := hGqaRefIdeal) (hPre_finite_keys := hPre_finite_keys)
    ∧ preserves_Na_NaIdeal
    ∧ algebraic_NaIdeal_NaRefIdeal_pre_finite_scores (hNaIdeal := hNaIdeal) (hNaRefIdeal := hNaRefIdeal) (hPre_finite_scores := hPre_finite_scores)
    ∧ preserves_NaBias_NaBiasIdeal
    ∧ algebraic_NaBiasIdeal_NaBiasRefIdeal (hNaBiasIdeal := hNaBiasIdeal) (hNaBiasRefIdeal := hNaBiasRefIdeal)
-- ==== Pre_finite_keys.lean ====
abbrev S12288x6272 : Shape := ⟨2, ![12288, 6272]⟩
abbrev S8x4x2x256x128 : Shape := ⟨5, ![8, 4, 2, 256, 128]⟩
abbrev S2x128 : Shape := ⟨2, ![2, 128]⟩
abbrev S_ : Shape := ⟨0, ![]⟩

class Facts : Prop where
  bcast_S_S8x4x2x256x128 : S_.BroadcastsInDim S8x4x2x256x128 (![] : Fin 0 → Fin S8x4x2x256x128.rank)
  reducesTo_S8x4x2x256x128_S_d0_1_2_3_4 : S8x4x2x256x128.ReducesTo [0, 1, 2, 3, 4] S_
  h_S_ : 0 < S_.numel
  bcast_S_S2x128 : S_.BroadcastsInDim S2x128 (![] : Fin 0 → Fin S2x128.rank)
  reducesTo_S2x128_S_d0_1 : S2x128.ReducesTo [0, 1] S_

variable [Facts]

def fn {F : FTy → Type} [FloatOps F] (main_arg0 : FVec F S12288x6272 .f32) (main_arg1 : FVec F S8x4x2x256x128 .f32) (main_arg2 : FVec F S8x4x2x256x128 .f32) (main_arg3 : FVec F S2x128 .f32) : IVec S_ 1 :=
  let main_v0 : FVec F S8x4x2x256x128 .f32 := Host.absf main_arg1
  let main_cst : FVec F S_ .f32 := constant S_ .f32 0x7F800000#32
  let main_v1 : FVec F S8x4x2x256x128 .f32 := broadcastInDim S8x4x2x256x128 ![] bcast_S_S8x4x2x256x128 main_cst
  let main_v2 : IVec S8x4x2x256x128 1 := cmpf .olt main_v0 main_v1
  let main_c : IVec S_ 1 := constantI S_ 1 1#1
  let main_v3 : IVec S_ 1 := (fun x v => Host.reduce IntOp.andi x v reducesTo_S8x4x2x256x128_S_d0_1_2_3_4 h_S_) main_v2 main_c
  let main_v4 : FVec F S2x128 .f32 := Host.absf main_arg3
  let main_cst_0 : FVec F S_ .f32 := constant S_ .f32 0x7F800000#32
  let main_v5 : FVec F S2x128 .f32 := broadcastInDim S2x128 ![] bcast_S_S2x128 main_cst_0
  let main_v6 : IVec S2x128 1 := cmpf .olt main_v4 main_v5
  let main_c_1 : IVec S_ 1 := constantI S_ 1 1#1
  let main_v7 : IVec S_ 1 := (fun x v => Host.reduce IntOp.andi x v reducesTo_S2x128_S_d0_1 h_S_) main_v6 main_c_1
  let main_v8 : IVec S_ 1 := andi main_v3 main_v7
  main_v8
-- ==== Pre_finite_scores.lean ====
abbrev S12288x6272 : Shape := ⟨2, ![12288, 6272]⟩
abbrev S8x4x4x256x128 : Shape := ⟨5, ![8, 4, 4, 256, 128]⟩
abbrev S4x4x4x256x768 : Shape := ⟨5, ![4, 4, 4, 256, 768]⟩
abbrev S2x128 : Shape := ⟨2, ![2, 128]⟩
abbrev S_ : Shape := ⟨0, ![]⟩

class Facts : Prop where
  bcast_S_S8x4x4x256x128 : S_.BroadcastsInDim S8x4x4x256x128 (![] : Fin 0 → Fin S8x4x4x256x128.rank)
  reducesTo_S8x4x4x256x128_S_d0_1_2_3_4 : S8x4x4x256x128.ReducesTo [0, 1, 2, 3, 4] S_
  h_S_ : 0 < S_.numel
  bcast_S_S4x4x4x256x768 : S_.BroadcastsInDim S4x4x4x256x768 (![] : Fin 0 → Fin S4x4x4x256x768.rank)
  reducesTo_S4x4x4x256x768_S_d0_1_2_3_4 : S4x4x4x256x768.ReducesTo [0, 1, 2, 3, 4] S_
  bcast_S_S2x128 : S_.BroadcastsInDim S2x128 (![] : Fin 0 → Fin S2x128.rank)
  reducesTo_S2x128_S_d0_1 : S2x128.ReducesTo [0, 1] S_

variable [Facts]

def fn {F : FTy → Type} [FloatOps F] (main_arg0 : FVec F S12288x6272 .f32) (main_arg1 : FVec F S8x4x4x256x128 .f32) (main_arg2 : FVec F S8x4x4x256x128 .f32) (main_arg3 : FVec F S4x4x4x256x768 .f32) (main_arg4 : FVec F S2x128 .f32) : IVec S_ 1 :=
  let main_v0 : FVec F S8x4x4x256x128 .f32 := Host.absf main_arg1
  let main_cst : FVec F S_ .f32 := constant S_ .f32 0x7F800000#32
  let main_v1 : FVec F S8x4x4x256x128 .f32 := broadcastInDim S8x4x4x256x128 ![] bcast_S_S8x4x4x256x128 main_cst
  let main_v2 : IVec S8x4x4x256x128 1 := cmpf .olt main_v0 main_v1
  let main_c : IVec S_ 1 := constantI S_ 1 1#1
  let main_v3 : IVec S_ 1 := (fun x v => Host.reduce IntOp.andi x v reducesTo_S8x4x4x256x128_S_d0_1_2_3_4 h_S_) main_v2 main_c
  let main_cst_0 : FVec F S_ .f32 := constant S_ .f32 0x7F800000#32
  let main_v4 : FVec F S4x4x4x256x768 .f32 := broadcastInDim S4x4x4x256x768 ![] bcast_S_S4x4x4x256x768 main_cst_0
  let main_v5 : IVec S4x4x4x256x768 1 := cmpf .olt main_arg3 main_v4
  let main_c_1 : IVec S_ 1 := constantI S_ 1 1#1
  let main_v6 : IVec S_ 1 := (fun x v => Host.reduce IntOp.andi x v reducesTo_S4x4x4x256x768_S_d0_1_2_3_4 h_S_) main_v5 main_c_1
  let main_v7 : IVec S_ 1 := andi main_v3 main_v6
  let main_v8 : FVec F S2x128 .f32 := Host.absf main_arg4
  let main_cst_2 : FVec F S_ .f32 := constant S_ .f32 0x7F800000#32
  let main_v9 : FVec F S2x128 .f32 := broadcastInDim S2x128 ![] bcast_S_S2x128 main_cst_2
  let main_v10 : IVec S2x128 1 := cmpf .olt main_v8 main_v9
  let main_c_3 : IVec S_ 1 := constantI S_ 1 1#1
  let main_v11 : IVec S_ 1 := (fun x v => Host.reduce IntOp.andi x v reducesTo_S2x128_S_d0_1 h_S_) main_v10 main_c_3
  let main_v12 : IVec S_ 1 := andi main_v7 main_v11
  main_v12
-- ==== Pre_finite_weights.lean ====
abbrev S12288x6272 : Shape := ⟨2, ![12288, 6272]⟩
abbrev S2x128 : Shape := ⟨2, ![2, 128]⟩
abbrev S_ : Shape := ⟨0, ![]⟩

class Facts : Prop where
  bcast_S_S2x128 : S_.BroadcastsInDim S2x128 (![] : Fin 0 → Fin S2x128.rank)

variable [Facts]

def fn {F : FTy → Type} [FloatOps F] (main_arg0 : FVec F S12288x6272 .f32) (main_arg1 : FVec F S2x128 .f32) (main_arg2 : FVec F S2x128 .f32) : IVec S2x128 1 :=
  let main_v0 : FVec F S2x128 .f32 := Host.absf main_arg1
  let main_cst : FVec F S_ .f32 := constant S_ .f32 0x7F800000#32
  let main_v1 : FVec F S2x128 .f32 := broadcastInDim S2x128 ![] bcast_S_S2x128 main_cst
  let main_v2 : IVec S2x128 1 := cmpf .olt main_v0 main_v1
  let main_v3 : FVec F S2x128 .f32 := Host.absf main_arg2
  let main_cst_0 : FVec F S_ .f32 := constant S_ .f32 0x7F800000#32
  let main_v4 : FVec F S2x128 .f32 := broadcastInDim S2x128 ![] bcast_S_S2x128 main_cst_0
  let main_v5 : IVec S2x128 1 := cmpf .olt main_v3 main_v4
  let main_v6 : IVec S2x128 1 := andi main_v2 main_v5
  main_v6
-- ==== Kernel.lean ====
abbrev S12288x6272 : Shape := ⟨2, ![12288, 6272]⟩
abbrev S2x128 : Shape := ⟨2, ![2, 128]⟩
abbrev S4096x512 : Shape := ⟨2, ![4096, 512]⟩
abbrev S16x4x256x128 : Shape := ⟨4, ![16, 4, 256, 128]⟩
abbrev S16x2x256x128 : Shape := ⟨4, ![16, 2, 256, 128]⟩
abbrev S256x512 : Shape := ⟨2, ![256, 512]⟩
abbrev S256x256 : Shape := ⟨2, ![256, 256]⟩
abbrev S1x4x256x128 : Shape := ⟨4, ![1, 4, 256, 128]⟩
abbrev S1x2x256x128 : Shape := ⟨4, ![1, 2, 256, 128]⟩
abbrev S256x128 : Shape := ⟨2, ![256, 128]⟩
abbrev S1x128 : Shape := ⟨2, ![1, 128]⟩
abbrev S256 : Shape := ⟨1, ![256]⟩
abbrev S256x1 : Shape := ⟨2, ![256, 1]⟩
abbrev S1x1x256x128 : Shape := ⟨4, ![1, 1, 256, 128]⟩

abbrev nBuf : Space → Nat
  | .hbm => 9
  | .vmem => 26
  | .smem => 0
  | _ => 0

abbrev bufTy : (tb : Table) → Fin (tcTables nBuf tb) → BufTy
  | .hbm, ⟨0, _⟩ => ⟨S12288x6272, .f32⟩
  | .hbm, ⟨1, _⟩ => ⟨S2x128, .f32⟩
  | .hbm, ⟨2, _⟩ => ⟨S2x128, .f32⟩
  | .hbm, ⟨3, _⟩ => ⟨S4096x512, .bf16⟩
  | .hbm, ⟨4, _⟩ => ⟨S4096x512, .bf16⟩
  | .hbm, ⟨5, _⟩ => ⟨S16x4x256x128, .f32⟩
  | .hbm, ⟨6, _⟩ => ⟨S16x4x256x128, .f32⟩
  | .hbm, ⟨7, _⟩ => ⟨S16x2x256x128, .f32⟩
  | .hbm, ⟨8, _⟩ => ⟨S16x2x256x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S2x128, .f32⟩
  | .local _ .vmem, ⟨13, _⟩ => ⟨S2x128, .f32⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S1x4x256x128, .f32⟩
  | .local _ .vmem, ⟨19, _⟩ => ⟨S1x4x256x128, .f32⟩
  | .local _ .vmem, ⟨20, _⟩ => ⟨S1x4x256x128, .f32⟩
  | .local _ .vmem, ⟨21, _⟩ => ⟨S1x4x256x128, .f32⟩
  | .local _ .vmem, ⟨22, _⟩ => ⟨S1x2x256x128, .f32⟩
  | .local _ .vmem, ⟨23, _⟩ => ⟨S1x2x256x128, .f32⟩
  | .local _ .vmem, ⟨24, _⟩ => ⟨S1x2x256x128, .f32⟩
  | .local _ .vmem, ⟨25, _⟩ => ⟨S1x2x256x128, .f32⟩
  | _, _ => ⟨S12288x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_5 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x2x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x2x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S12288x6272 : Shape := ⟨2, ![12288, 6272]⟩
abbrev S2x128 : Shape := ⟨2, ![2, 128]⟩
abbrev S4096x6272 : Shape := ⟨2, ![4096, 6272]⟩
abbrev S16x256x6272 : Shape := ⟨3, ![16, 256, 6272]⟩
abbrev S16x256x512 : Shape := ⟨3, ![16, 256, 512]⟩
abbrev S16x256x4x128 : Shape := ⟨4, ![16, 256, 4, 128]⟩
abbrev S16x4x256x128 : Shape := ⟨4, ![16, 4, 256, 128]⟩
abbrev S1x128 : Shape := ⟨2, ![1, 128]⟩
abbrev S128 : Shape := ⟨1, ![128]⟩
abbrev S_ : Shape := ⟨0, ![]⟩
abbrev S16x4x256 : Shape := ⟨3, ![16, 4, 256]⟩
abbrev S16x4x256x1 : Shape := ⟨4, ![16, 4, 256, 1]⟩
abbrev S1x1x1x128 : Shape := ⟨4, ![1, 1, 1, 128]⟩
abbrev S16x4x1x256x128 : Shape := ⟨5, ![16, 4, 1, 256, 128]⟩
abbrev S16x4x1x256x256 : Shape := ⟨5, ![16, 4, 1, 256, 256]⟩
abbrev S16x4x1x256 : Shape := ⟨4, ![16, 4, 1, 256]⟩
abbrev S16x4x1x256x1 : Shape := ⟨5, ![16, 4, 1, 256, 1]⟩
abbrev S16x256x256 : Shape := ⟨3, ![16, 256, 256]⟩
abbrev S16x256x2x128 : Shape := ⟨4, ![16, 256, 2, 128]⟩
abbrev S16x2x256x128 : Shape := ⟨4, ![16, 2, 256, 128]⟩
abbrev S16x2x256 : Shape := ⟨3, ![16, 2, 256]⟩
abbrev S16x2x256x1 : Shape := ⟨4, ![16, 2, 256, 1]⟩
abbrev S16x2x2x256x128 : Shape := ⟨5, ![16, 2, 2, 256, 128]⟩
abbrev S16x2x2x256x256 : Shape := ⟨5, ![16, 2, 2, 256, 256]⟩
abbrev S16x2x2x256 : Shape := ⟨4, ![16, 2, 2, 256]⟩
abbrev S16x2x2x256x1 : Shape := ⟨5, ![16, 2, 2, 256, 1]⟩
abbrev S4096x512 : Shape := ⟨2, ![4096, 512]⟩

abbrev nBuf : Space → Nat
  | .hbm => 143
  | .vmem => 0
  | .smem => 0
  | _ => 0

abbrev hbmTy0_0 (i : Nat) : BufTy := match i % 128 with
  | 0 => ⟨S12288x6272, .f32⟩
  | 1 => ⟨S2x128, .f32⟩
  | 2 => ⟨S2x128, .f32⟩
  | 3 => ⟨S4096x6272, .f32⟩
  | 4 => ⟨S16x256x6272, .f32⟩
  | 5 => ⟨S16x256x512, .f32⟩
  | 6 => ⟨S16x256x4x128, .f32⟩
  | 7 => ⟨S16x4x256x128, .f32⟩
  | 8 => ⟨S1x128, .f32⟩
  | 9 => ⟨S128, .f32⟩
  | 10 => ⟨S16x4x256x128, .f32⟩
  | 11 => ⟨S_, .f32⟩
  | 12 => ⟨S16x4x256, .f32⟩
  | 13 => ⟨S16x4x256x1, .f32⟩
  | 14 => ⟨S_, .f32⟩
  | 15 => ⟨S16x4x256x1, .f32⟩
  | 16 => ⟨S16x4x256x1, .f32⟩
  | 17 => ⟨S_, .f32⟩
  | 18 => ⟨S16x4x256x1, .f32⟩
  | 19 => ⟨S16x4x256x1, .f32⟩
  | 20 => ⟨S16x4x256x1, .f32⟩
  | 21 => ⟨S16x4x256x128, .f32⟩
  | 22 => ⟨S16x4x256x128, .f32⟩
  | 23 => ⟨S1x1x1x128, .f32⟩
  | 24 => ⟨S16x4x256x128, .f32⟩
  | 25 => ⟨S16x4x256x128, .f32⟩
  | 26 => ⟨S16x256x512, .f32⟩
  | 27 => ⟨S16x256x4x128, .f32⟩
  | 28 => ⟨S16x4x256x128, .f32⟩
  | 29 => ⟨S1x128, .f32⟩
  | 30 => ⟨S128, .f32⟩
  | 31 => ⟨S16x4x256x128, .f32⟩
  | 32 => ⟨S_, .f32⟩
  | 33 => ⟨S16x4x256, .f32⟩
  | 34 => ⟨S16x4x256x1, .f32⟩
  | 35 => ⟨S_, .f32⟩
  | 36 => ⟨S16x4x256x1, .f32⟩
  | 37 => ⟨S16x4x256x1, .f32⟩
  | 38 => ⟨S_, .f32⟩
  | 39 => ⟨S16x4x256x1, .f32⟩
  | 40 => ⟨S16x4x256x1, .f32⟩
  | 41 => ⟨S16x4x256x1, .f32⟩
  | 42 => ⟨S16x4x256x128, .f32⟩
  | 43 => ⟨S16x4x256x128, .f32⟩
  | 44 => ⟨S1x1x1x128, .f32⟩
  | 45 => ⟨S16x4x256x128, .f32⟩
  | 46 => ⟨S16x4x256x128, .f32⟩
  | 47 => ⟨S16x256x512, .f32⟩
  | 48 => ⟨S16x256x4x128, .f32⟩
  | 49 => ⟨S16x4x256x128, .f32⟩
  | 50 => ⟨S16x4x1x256x128, .f32⟩
  | 51 => ⟨S16x4x1x256x256, .f32⟩
  | 52 => ⟨S_, .f32⟩
  | 53 => ⟨S16x4x1x256x256, .f32⟩
  | 54 => ⟨S16x4x1x256x256, .f32⟩
  | 55 => ⟨S_, .f32⟩
  | 56 => ⟨S16x4x1x256, .f32⟩
  | 57 => ⟨S_, .f32⟩
  | 58 => ⟨S16x4x1x256, .f32⟩
  | 59 => ⟨S16x4x1x256, .f32⟩
  | 60 => ⟨S16x4x1x256x1, .f32⟩
  | 61 => ⟨S16x4x1x256x256, .f32⟩
  | 62 => ⟨S16x4x1x256x256, .f32⟩
  | 63 => ⟨S16x4x1x256x256, .f32⟩
  | 64 => ⟨S_, .f32⟩
  | 65 => ⟨S16x4x1x256, .f32⟩
  | 66 => ⟨S16x4x1x256x1, .f32⟩
  | 67 => ⟨S16x4x1x256x256, .f32⟩
  | 68 => ⟨S16x4x1x256x256, .f32⟩
  | 69 => ⟨S16x4x1x256x128, .f32⟩
  | 70 => ⟨S16x4x256x128, .f32⟩
  | 71 => ⟨S16x256x512, .f32⟩
  | 72 => ⟨S16x256x4x128, .f32⟩
  | 73 => ⟨S16x4x256x128, .f32⟩
  | 74 => ⟨S1x128, .f32⟩
  | 75 => ⟨S128, .f32⟩
  | 76 => ⟨S16x4x256x128, .f32⟩
  | 77 => ⟨S_, .f32⟩
  | 78 => ⟨S16x4x256, .f32⟩
  | 79 => ⟨S16x4x256x1, .f32⟩
  | 80 => ⟨S_, .f32⟩
  | 81 => ⟨S16x4x256x1, .f32⟩
  | 82 => ⟨S16x4x256x1, .f32⟩
  | 83 => ⟨S_, .f32⟩
  | 84 => ⟨S16x4x256x1, .f32⟩
  | 85 => ⟨S16x4x256x1, .f32⟩
  | 86 => ⟨S16x4x256x1, .f32⟩
  | 87 => ⟨S16x4x256x128, .f32⟩
  | 88 => ⟨S16x4x256x128, .f32⟩
  | 89 => ⟨S1x1x1x128, .f32⟩
  | 90 => ⟨S16x4x256x128, .f32⟩
  | 91 => ⟨S16x4x256x128, .f32⟩
  | 92 => ⟨S16x256x256, .f32⟩
  | 93 => ⟨S16x256x2x128, .f32⟩
  | 94 => ⟨S16x2x256x128, .f32⟩
  | 95 => ⟨S1x128, .f32⟩
  | 96 => ⟨S128, .f32⟩
  | 97 => ⟨S16x2x256x128, .f32⟩
  | 98 => ⟨S_, .f32⟩
  | 99 => ⟨S16x2x256, .f32⟩
  | 100 => ⟨S16x2x256x1, .f32⟩
  | 101 => ⟨S_, .f32⟩
  | 102 => ⟨S16x2x256x1, .f32⟩
  | 103 => ⟨S16x2x256x1, .f32⟩
  | 104 => ⟨S_, .f32⟩
  | 105 => ⟨S16x2x256x1, .f32⟩
  | 106 => ⟨S16x2x256x1, .f32⟩
  | 107 => ⟨S16x2x256x1, .f32⟩
  | 108 => ⟨S16x2x256x128, .f32⟩
  | 109 => ⟨S16x2x256x128, .f32⟩
  | 110 => ⟨S1x1x1x128, .f32⟩
  | 111 => ⟨S16x2x256x128, .f32⟩
  | 112 => ⟨S16x2x256x128, .f32⟩
  | 113 => ⟨S16x256x256, .f32⟩
  | 114 => ⟨S16x256x2x128, .f32⟩
  | 115 => ⟨S16x2x256x128, .f32⟩
  | 116 => ⟨S16x2x2x256x128, .f32⟩
  | 117 => ⟨S16x2x2x256x256, .f32⟩
  | 118 => ⟨S_, .f32⟩
  | 119 => ⟨S16x2x2x256x256, .f32⟩
  | 120 => ⟨S16x2x2x256x256, .f32⟩
  | 121 => ⟨S_, .f32⟩
  | 122 => ⟨S16x2x2x256, .f32⟩
  | 123 => ⟨S_, .f32⟩
  | 124 => ⟨S16x2x2x256, .f32⟩
  | 125 => ⟨S16x2x2x256, .f32⟩
  | 126 => ⟨S16x2x2x256x1, .f32⟩
  | 127 => ⟨S16x2x2x256x256, .f32⟩
  | _ => ⟨S12288x6272, .f32⟩

abbrev hbmTy0_1 (i : Nat) : BufTy := match i % 128 with
  | 0 => ⟨S16x2x2x256x256, .f32⟩
  | 1 => ⟨S16x2x2x256x256, .f32⟩
  | 2 => ⟨S_, .f32⟩
  | 3 => ⟨S16x2x2x256, .f32⟩
  | 4 => ⟨S16x2x2x256x1, .f32⟩
  | 5 => ⟨S16x2x2x256x256, .f32⟩
  | 6 => ⟨S16x2x2x256x256, .f32⟩
  | 7 => ⟨S16x2x2x256x128, .f32⟩
  | 8 => ⟨S16x4x256x128, .f32⟩
  | 9 => ⟨S16x256x4x128, .f32⟩
  | 10 => ⟨S4096x512, .f32⟩
  | 11 => ⟨S4096x512, .bf16⟩
  | 12 => ⟨S16x256x4x128, .f32⟩
  | 13 => ⟨S4096x512, .f32⟩
  | 14 => ⟨S4096x512, .bf16⟩
  | _ => ⟨S12288x6272, .f32⟩

abbrev hbmTy (i : Nat) : BufTy := match i / 128 with
  | 0 => hbmTy0_0 i
  | 1 => hbmTy0_1 i
  | _ => ⟨S12288x6272, .f32⟩

abbrev bufTy : (tb : Table) → Fin (tcTables nBuf tb) → BufTy
  | .hbm, ⟨i, _⟩ => hbmTy i
  | _, _ => ⟨S12288x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_8 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_9 : Ref sig .tc := ⟨.hbm, 77, rfl⟩
abbrev main_v64 : Ref sig .tc := ⟨.hbm, 78, rfl⟩
abbrev main_v65 : Ref sig .tc := ⟨.hbm, 79, rfl⟩
abbrev main_cst_10 : Ref sig .tc := ⟨.hbm, 80, rfl⟩
abbrev main_v66 : Ref sig .tc := ⟨.hbm, 81, rfl⟩
abbrev main_v67 : Ref sig .tc := ⟨.hbm, 82, rfl⟩
abbrev main_cst_11 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_cst_12 : Ref sig .tc := ⟨.hbm, 98, rfl⟩
abbrev main_v82 : Ref sig .tc := ⟨.hbm, 99, rfl⟩
abbrev main_v83 : Ref sig .tc := ⟨.hbm, 100, rfl⟩
abbrev main_cst_13 : Ref sig .tc := ⟨.hbm, 101, rfl⟩
abbrev main_v84 : Ref sig .tc := ⟨.hbm, 102, rfl⟩
abbrev main_v85 : Ref sig .tc := ⟨.hbm, 103, rfl⟩
abbrev main_cst_14 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_cst_15 : Ref sig .tc := ⟨.hbm, 118, rfl⟩
abbrev main_v99 : Ref sig .tc := ⟨.hbm, 119, rfl⟩
abbrev main_v100 : Ref sig .tc := ⟨.hbm, 120, rfl⟩
abbrev main_cst_16 : Ref sig .tc := ⟨.hbm, 121, rfl⟩
abbrev main_v101 : Ref sig .tc := ⟨.hbm, 122, rfl⟩
abbrev main_cst_17 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_cst_18 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩

abbrev nD : Nat := 1
abbrev τ : Topo := Topo.v7x

variable {F : FTy → Type} [FloatOps F]
-- ==== Ffn.lean ====
abbrev S12288x2048 : Shape := ⟨2, ![12288, 2048]⟩
abbrev S16x9x2048 : Shape := ⟨3, ![16, 9, 2048]⟩
abbrev S2048 : Shape := ⟨1, ![2048]⟩
abbrev S2048x11008 : Shape := ⟨2, ![2048, 11008]⟩
abbrev S5504x2048 : Shape := ⟨2, ![5504, 2048]⟩
abbrev S2048x2x5504 : Shape := ⟨3, ![2048, 2, 5504]⟩
abbrev S_ : Shape := ⟨0, ![]⟩
abbrev S2048x2x5632 : Shape := ⟨3, ![2048, 2, 5632]⟩
abbrev S2048x11264 : Shape := ⟨2, ![2048, 11264]⟩
abbrev S5632x2048 : Shape := ⟨2, ![5632, 2048]⟩
abbrev S1x2048 : Shape := ⟨2, ![1, 2048]⟩
abbrev S512x2048 : Shape := ⟨2, ![512, 2048]⟩
abbrev S1x9x2048 : Shape := ⟨3, ![1, 9, 2048]⟩
abbrev S2048x512 : Shape := ⟨2, ![2048, 512]⟩
abbrev S1x1x2048 : Shape := ⟨3, ![1, 1, 2048]⟩
abbrev S512 : Shape := ⟨1, ![512]⟩
abbrev S512x1 : Shape := ⟨2, ![512, 1]⟩
abbrev S512x512 : Shape := ⟨2, ![512, 512]⟩

abbrev nBuf : Space → Nat
  | .hbm => 17
  | .vmem => 15
  | .smem => 0
  | _ => 0

abbrev bufTy : (tb : Table) → Fin (tcTables nBuf tb) → BufTy
  | .hbm, ⟨0, _⟩ => ⟨S12288x2048, .f32⟩
  | .hbm, ⟨1, _⟩ => ⟨S16x9x2048, .f32⟩
  | .hbm, ⟨2, _⟩ => ⟨S2048, .f32⟩
  | .hbm, ⟨3, _⟩ => ⟨S2048x11008, .f32⟩
  | .hbm, ⟨4, _⟩ => ⟨S5504x2048, .f32⟩
  | .hbm, ⟨5, _⟩ => ⟨S2048x2x5504, .f32⟩
  | .hbm, ⟨6, _⟩ => ⟨S_, .i32⟩
  | .hbm, ⟨7, _⟩ => ⟨S_, .f32⟩
  | .hbm, ⟨8, _⟩ => ⟨S2048x2x5632, .f32⟩
  | .hbm, ⟨9, _⟩ => ⟨S2048x2x5632, .bf16⟩
  | .hbm, ⟨10, _⟩ => ⟨S2048x11264, .bf16⟩
  | .hbm, ⟨11, _⟩ => ⟨S_, .i32⟩
  | .hbm, ⟨12, _⟩ => ⟨S_, .f32⟩
  | .hbm, ⟨13, _⟩ => ⟨S5632x2048, .f32⟩
  | .hbm, ⟨14, _⟩ => ⟨S5632x2048, .bf16⟩
  | .hbm, ⟨15, _⟩ => ⟨S1x2048, .f32⟩
  | .hbm, ⟨16, _⟩ => ⟨S12288x2048, .f32⟩
  | .local _ .vmem, ⟨0, _⟩ => ⟨S512x2048, .f32⟩
  | .local _ .vmem, ⟨1, _⟩ => ⟨S512x2048, .f32⟩
  | .local _ .vmem, ⟨2, _⟩ => ⟨S1x9x2048, .f32⟩
  | .local _ .vmem, ⟨3, _⟩ => ⟨S1x9x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .f32⟩
  | _, _ => ⟨S12288x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![24, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S12288x2048 : Shape := ⟨2, ![12288, 2048]⟩
abbrev S16x9x2048 : Shape := ⟨3, ![16, 9, 2048]⟩
abbrev S2048 : Shape := ⟨1, ![2048]⟩
abbrev S2048x11008 : Shape := ⟨2, ![2048, 11008]⟩
abbrev S5504x2048 : Shape := ⟨2, ![5504, 2048]⟩
abbrev S4096x2048 : Shape := ⟨2, ![4096, 2048]⟩
abbrev S1x1x2048 : Shape := ⟨3, ![1, 1, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S4096x11008 : Shape := ⟨2, ![4096, 11008]⟩
abbrev S4096x5504 : Shape := ⟨2, ![4096, 5504]⟩
abbrev S8192x2048 : Shape := ⟨2, ![8192, 2048]⟩
abbrev S8x1024x2048 : Shape := ⟨3, ![8, 1024, 2048]⟩
abbrev S8x1x2048 : Shape := ⟨3, ![8, 1, 2048]⟩
abbrev S8x2048 : Shape := ⟨2, ![8, 2048]⟩
abbrev S8x1024 : Shape := ⟨2, ![8, 1024]⟩
abbrev S8x1024x1 : Shape := ⟨3, ![8, 1024, 1]⟩
abbrev S8x1024x11008 : Shape := ⟨3, ![8, 1024, 11008]⟩
abbrev S8x1024x5504 : Shape := ⟨3, ![8, 1024, 5504]⟩

abbrev nBuf : Space → Nat
  | .hbm => 111
  | .vmem => 0
  | .smem => 0
  | _ => 0

abbrev bufTy : (tb : Table) → Fin (tcTables nBuf tb) → BufTy
  | .hbm, ⟨0, _⟩ => ⟨S12288x2048, .f32⟩
  | .hbm, ⟨1, _⟩ => ⟨S16x9x2048, .f32⟩
  | .hbm, ⟨2, _⟩ => ⟨S2048, .f32⟩
  | .hbm, ⟨3, _⟩ => ⟨S2048x11008, .f32⟩
  | .hbm, ⟨4, _⟩ => ⟨S5504x2048, .f32⟩
  | .hbm, ⟨5, _⟩ => ⟨S4096x2048, .f32⟩
  | .hbm, ⟨6, _⟩ => ⟨S1x1x2048, .f32⟩
  | .hbm, ⟨7, _⟩ => ⟨S1x2048, .f32⟩
  | .hbm, ⟨8, _⟩ => ⟨S1x1x2048, .f32⟩
  | .hbm, ⟨9, _⟩ => ⟨S1x2048, .f32⟩
  | .hbm, ⟨10, _⟩ => ⟨S1x1x2048, .f32⟩
  | .hbm, ⟨11, _⟩ => ⟨S1x2048, .f32⟩
  | .hbm, ⟨12, _⟩ => ⟨S4096x2048, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S1x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S1x2048, .f32⟩
  | .hbm, ⟨37, _⟩ => ⟨S1x2048, .f32⟩
  | .hbm, ⟨38, _⟩ => ⟨S4096x11008, .f32⟩
  | .hbm, ⟨39, _⟩ => ⟨S4096x5504, .f32⟩
  | .hbm, ⟨40, _⟩ => ⟨S4096x5504, .f32⟩
  | .hbm, ⟨41, _⟩ => ⟨S4096x5504, .f32⟩
  | .hbm, ⟨42, _⟩ => ⟨S4096x5504, .f32⟩
  | .hbm, ⟨43, _⟩ => ⟨S_, .f32⟩
  | .hbm, ⟨44, _⟩ => ⟨S4096x5504, .f32⟩
  | .hbm, ⟨45, _⟩ => ⟨S4096x5504, .f32⟩
  | .hbm, ⟨46, _⟩ => ⟨S_, .f32⟩
  | .hbm, ⟨47, _⟩ => ⟨S4096x5504, .f32⟩
  | .hbm, ⟨48, _⟩ => ⟨S4096x5504, .f32⟩
  | .hbm, ⟨49, _⟩ => ⟨S4096x5504, .f32⟩
  | .hbm, ⟨50, _⟩ => ⟨S4096x5504, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S8192x2048, .f32⟩
  | .hbm, ⟨56, _⟩ => ⟨S8x1024x2048, .f32⟩
  | .hbm, ⟨57, _⟩ => ⟨S8x1x2048, .f32⟩
  | .hbm, ⟨58, _⟩ => ⟨S8x2048, .f32⟩
  | .hbm, ⟨59, _⟩ => ⟨S8x1x2048, .f32⟩
  | .hbm, ⟨60, _⟩ => ⟨S8x1x2048, .f32⟩
  | .hbm, ⟨61, _⟩ => ⟨S8x2048, .f32⟩
  | .hbm, ⟨62, _⟩ => ⟨S8x1x2048, .f32⟩
  | .hbm, ⟨63, _⟩ => ⟨S8x1x2048, .f32⟩
  | .hbm, ⟨64, _⟩ => ⟨S8x2048, .f32⟩
  | .hbm, ⟨65, _⟩ => ⟨S8x1x2048, .f32⟩
  | .hbm, ⟨66, _⟩ => ⟨S8x1024x2048, .f32⟩
  | .hbm, ⟨67, _⟩ => ⟨S_, .f32⟩
  | .hbm, ⟨68, _⟩ => ⟨S8x1024, .f32⟩
  | .hbm, ⟨69, _⟩ => ⟨S8x1024x1, .f32⟩
  | .hbm, ⟨70, _⟩ => ⟨S_, .f32⟩
  | .hbm, ⟨71, _⟩ => ⟨S8x1024x1, .f32⟩
  | .hbm, ⟨72, _⟩ => ⟨S8x1024x1, .f32⟩
  | .hbm, ⟨73, _⟩ => ⟨S_, .f32⟩
  | .hbm, ⟨74, _⟩ => ⟨S8x1024x1, .f32⟩
  | .hbm, ⟨75, _⟩ => ⟨S8x1024x1, .f32⟩
  | .hbm, ⟨76, _⟩ => ⟨S8x1024x1, .f32⟩
  | .hbm, ⟨77, _⟩ => ⟨S8x1024x2048, .f32⟩
  | .hbm, ⟨78, _⟩ => ⟨S8x1024x2048, .f32⟩
  | .hbm, ⟨79, _⟩ => ⟨S1x1x2048, .f32⟩
  | .hbm, ⟨80, _⟩ => ⟨S8x1024x2048, .f32⟩
  | .hbm, ⟨81, _⟩ => ⟨S8x1024x2048, .f32⟩
  | .hbm, ⟨82, _⟩ => ⟨S_, .f32⟩
  | .hbm, ⟨83, _⟩ => ⟨S8x1x2048, .f32⟩
  | .hbm, ⟨84, _⟩ => ⟨S8x1x2048, .f32⟩
  | .hbm, ⟨85, _⟩ => ⟨S8x1024x2048, .f32⟩
  | .hbm, ⟨86, _⟩ => ⟨S8x1024x2048, .f32⟩
  | .hbm, ⟨87, _⟩ => ⟨S8x1024x2048, .f32⟩
  | .hbm, ⟨88, _⟩ => ⟨S8x1024x2048, .f32⟩
  | .hbm, ⟨89, _⟩ => ⟨S_, .f32⟩
  | .hbm, ⟨90, _⟩ => ⟨S8x1x2048, .f32⟩
  | .hbm, ⟨91, _⟩ => ⟨S8x1x2048, .f32⟩
  | .hbm, ⟨92, _⟩ => ⟨S8x1024x11008, .f32⟩
  | .hbm, ⟨93, _⟩ => ⟨S8x1024x5504, .f32⟩
  | .hbm, ⟨94, _⟩ => ⟨S8x1024x5504, .f32⟩
  | .hbm, ⟨95, _⟩ => ⟨S8x1024x5504, .f32⟩
  | .hbm, ⟨96, _⟩ => ⟨S8x1024x5504, .f32⟩
  | .hbm, ⟨97, _⟩ => ⟨S_, .f32⟩
  | .hbm, ⟨98, _⟩ => ⟨S8x1024x5504, .f32⟩
  | .hbm, ⟨99, _⟩ => ⟨S8x1024x5504, .f32⟩
  | .hbm, ⟨100, _⟩ => ⟨S_, .f32⟩
  | .hbm, ⟨101, _⟩ => ⟨S8x1024x5504, .f32⟩
  | .hbm, ⟨102, _⟩ => ⟨S8x1024x5504, .f32⟩
  | .hbm, ⟨103, _⟩ => ⟨S8x1024x5504, .f32⟩
  | .hbm, ⟨104, _⟩ => ⟨S8x1024x5504, .f32⟩
  | .hbm, ⟨105, _⟩ => ⟨S8x1024x2048, .f32⟩
  | .hbm, ⟨106, _⟩ => ⟨S8x1024x2048, .f32⟩
  | .hbm, ⟨107, _⟩ => ⟨S8x1024x2048, .f32⟩
  | .hbm, ⟨108, _⟩ => ⟨S8x1024x2048, .f32⟩
  | .hbm, ⟨109, _⟩ => ⟨S8192x2048, .f32⟩
  | .hbm, ⟨110, _⟩ => ⟨S12288x2048, .f32⟩
  | _, _ => ⟨S12288x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_4 : Ref sig .tc := ⟨.hbm, 67, rfl⟩
abbrev main_v49 : Ref sig .tc := ⟨.hbm, 68, rfl⟩
abbrev main_v50 : Ref sig .tc := ⟨.hbm, 69, rfl⟩
abbrev main_cst_5 : Ref sig .tc := ⟨.hbm, 70, rfl⟩
abbrev main_v51 : Ref sig .tc := ⟨.hbm, 71, rfl⟩
abbrev main_v52 : Ref sig .tc := ⟨.hbm, 72, rfl⟩
abbrev main_cst_6 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_7 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_8 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_call1_v0 : Ref sig .tc := ⟨.hbm, 95, rfl⟩
abbrev main_call1_v1 : Ref sig .tc := ⟨.hbm, 96, rfl⟩
abbrev main_call1_cst : Ref sig .tc := ⟨.hbm, 97, rfl⟩
abbrev main_call1_v2 : Ref sig .tc := ⟨.hbm, 98, rfl⟩
abbrev main_call1_v3 : Ref sig .tc := ⟨.hbm, 99, rfl⟩
abbrev main_call1_cst_0 : Ref sig .tc := ⟨.hbm, 100, rfl⟩
abbrev main_call1_v4 : Ref sig .tc := ⟨.hbm, 101, rfl⟩
abbrev main_call1_v5 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩

abbrev nD : Nat := 1
abbrev τ : Topo := Topo.v7x

variable {F : FTy → Type} [FloatOps F]
-- ==== InProj.lean ====
abbrev S12288x2048 : Shape := ⟨2, ![12288, 2048]⟩
abbrev S16x9x2048 : Shape := ⟨3, ![16, 9, 2048]⟩
abbrev S2048 : Shape := ⟨1, ![2048]⟩
abbrev S2048x6272 : Shape := ⟨2, ![2048, 6272]⟩
abbrev S1x2048 : Shape := ⟨2, ![1, 2048]⟩
abbrev S12288x6272 : Shape := ⟨2, ![12288, 6272]⟩
abbrev S512x2048 : Shape := ⟨2, ![512, 2048]⟩
abbrev S1x9x2048 : Shape := ⟨3, ![1, 9, 2048]⟩
abbrev S2048x896 : Shape := ⟨2, ![2048, 896]⟩
abbrev S512x896 : Shape := ⟨2, ![512, 896]⟩
abbrev S1x1x2048 : Shape := ⟨3, ![1, 1, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S12288x2048, .f32⟩
  | .hbm, ⟨1, _⟩ => ⟨S16x9x2048, .f32⟩
  | .hbm, ⟨2, _⟩ => ⟨S2048, .f32⟩
  | .hbm, ⟨3, _⟩ => ⟨S2048x6272, .bf16⟩
  | .hbm, ⟨4, _⟩ => ⟨S1x2048, .f32⟩
  | .hbm, ⟨5, _⟩ => ⟨S12288x6272, .f32⟩
  | .local _ .vmem, ⟨0, _⟩ => ⟨S512x2048, .f32⟩
  | .local _ .vmem, ⟨1, _⟩ => ⟨S512x2048, .f32⟩
  | .local _ .vmem, ⟨2, _⟩ => ⟨S1x9x2048, .f32⟩
  | .local _ .vmem, ⟨3, _⟩ => ⟨S1x9x2048, .f32⟩
  | .local _ .vmem, ⟨4, _⟩ => ⟨S1x2048, .f32⟩
  | .local _ .vmem, ⟨5, _⟩ => ⟨S2048x896, .bf16⟩
  | .local _ .vmem, ⟨6, _⟩ => ⟨S2048x896, .bf16⟩
  | .local _ .vmem, ⟨7, _⟩ => ⟨S512x896, .f32⟩
  | .local _ .vmem, ⟨8, _⟩ => ⟨S512x896, .f32⟩
  | .local _ .vmem, ⟨9, _⟩ => ⟨S512x2048, .bf16⟩
  | _, _ => ⟨S12288x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![24, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjRefIdeal.lean ====
abbrev S12288x2048 : Shape := ⟨2, ![12288, 2048]⟩
abbrev S16x9x2048 : Shape := ⟨3, ![16, 9, 2048]⟩
abbrev S2048 : Shape := ⟨1, ![2048]⟩
abbrev S2048x6272 : Shape := ⟨2, ![2048, 6272]⟩
abbrev S4096x2048 : Shape := ⟨2, ![4096, 2048]⟩
abbrev S1x1x2048 : Shape := ⟨3, ![1, 1, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S4096x6272 : Shape := ⟨2, ![4096, 6272]⟩
abbrev S8192x2048 : Shape := ⟨2, ![8192, 2048]⟩
abbrev S8x1024x2048 : Shape := ⟨3, ![8, 1024, 2048]⟩
abbrev S8x1x2048 : Shape := ⟨3, ![8, 1, 2048]⟩
abbrev S8x2048 : Shape := ⟨2, ![8, 2048]⟩
abbrev S8x1024 : Shape := ⟨2, ![8, 1024]⟩
abbrev S8x1024x1 : Shape := ⟨3, ![8, 1024, 1]⟩
abbrev S8x1024x6272 : Shape := ⟨3, ![8, 1024, 6272]⟩
abbrev S8192x6272 : Shape := ⟨2, ![8192, 6272]⟩
abbrev S12288x6272 : Shape := ⟨2, ![12288, 6272]⟩

abbrev nBuf : Space → Nat
  | .hbm => 68
  | .vmem => 0
  | .smem => 0
  | _ => 0

abbrev bufTy : (tb : Table) → Fin (tcTables nBuf tb) → BufTy
  | .hbm, ⟨0, _⟩ => ⟨S12288x2048, .f32⟩
  | .hbm, ⟨1, _⟩ => ⟨S16x9x2048, .f32⟩
  | .hbm, ⟨2, _⟩ => ⟨S2048, .f32⟩
  | .hbm, ⟨3, _⟩ => ⟨S2048x6272, .bf16⟩
  | .hbm, ⟨4, _⟩ => ⟨S2048x6272, .f32⟩
  | .hbm, ⟨5, _⟩ => ⟨S4096x2048, .f32⟩
  | .hbm, ⟨6, _⟩ => ⟨S1x1x2048, .f32⟩
  | .hbm, ⟨7, _⟩ => ⟨S1x2048, .f32⟩
  | .hbm, ⟨8, _⟩ => ⟨S1x1x2048, .f32⟩
  | .hbm, ⟨9, _⟩ => ⟨S1x2048, .f32⟩
  | .hbm, ⟨10, _⟩ => ⟨S4096x2048, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x6272, .f32⟩
  | .hbm, ⟨34, _⟩ => ⟨S8192x2048, .f32⟩
  | .hbm, ⟨35, _⟩ => ⟨S8x1024x2048, .f32⟩
  | .hbm, ⟨36, _⟩ => ⟨S8x1x2048, .f32⟩
  | .hbm, ⟨37, _⟩ => ⟨S8x2048, .f32⟩
  | .hbm, ⟨38, _⟩ => ⟨S8x1x2048, .f32⟩
  | .hbm, ⟨39, _⟩ => ⟨S8x1x2048, .f32⟩
  | .hbm, ⟨40, _⟩ => ⟨S8x2048, .f32⟩
  | .hbm, ⟨41, _⟩ => ⟨S8x1x2048, .f32⟩
  | .hbm, ⟨42, _⟩ => ⟨S8x1024x2048, .f32⟩
  | .hbm, ⟨43, _⟩ => ⟨S_, .f32⟩
  | .hbm, ⟨44, _⟩ => ⟨S8x1024, .f32⟩
  | .hbm, ⟨45, _⟩ => ⟨S8x1024x1, .f32⟩
  | .hbm, ⟨46, _⟩ => ⟨S_, .f32⟩
  | .hbm, ⟨47, _⟩ => ⟨S8x1024x1, .f32⟩
  | .hbm, ⟨48, _⟩ => ⟨S8x1024x1, .f32⟩
  | .hbm, ⟨49, _⟩ => ⟨S_, .f32⟩
  | .hbm, ⟨50, _⟩ => ⟨S8x1024x1, .f32⟩
  | .hbm, ⟨51, _⟩ => ⟨S8x1024x1, .f32⟩
  | .hbm, ⟨52, _⟩ => ⟨S8x1024x1, .f32⟩
  | .hbm, ⟨53, _⟩ => ⟨S8x1024x2048, .f32⟩
  | .hbm, ⟨54, _⟩ => ⟨S8x1024x2048, .f32⟩
  | .hbm, ⟨55, _⟩ => ⟨S1x1x2048, .f32⟩
  | .hbm, ⟨56, _⟩ => ⟨S8x1024x2048, .f32⟩
  | .hbm, ⟨57, _⟩ => ⟨S8x1024x2048, .f32⟩
  | .hbm, ⟨58, _⟩ => ⟨S_, .f32⟩
  | .hbm, ⟨59, _⟩ => ⟨S8x1x2048, .f32⟩
  | .hbm, ⟨60, _⟩ => ⟨S8x1x2048, .f32⟩
  | .hbm, ⟨61, _⟩ => ⟨S8x1024x2048, .f32⟩
  | .hbm, ⟨62, _⟩ => ⟨S8x1024x2048, .f32⟩
  | .hbm, ⟨63, _⟩ => ⟨S8x1024x2048, .f32⟩
  | .hbm, ⟨64, _⟩ => ⟨S8x1024x2048, .f32⟩
  | .hbm, ⟨65, _⟩ => ⟨S8x1024x6272, .f32⟩
  | .hbm, ⟨66, _⟩ => ⟨S8192x6272, .f32⟩
  | .hbm, ⟨67, _⟩ => ⟨S12288x6272, .f32⟩
  | _, _ => ⟨S12288x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩

abbrev nD : Nat := 1
abbrev τ : Topo := Topo.v7x

variable {F : FTy → Type} [FloatOps F]
-- ==== OutProj.lean ====
abbrev S12288x2048 : Shape := ⟨2, ![12288, 2048]⟩
abbrev S16x9x2048 : Shape := ⟨3, ![16, 9, 2048]⟩
abbrev S12288x512 : Shape := ⟨2, ![12288, 512]⟩
abbrev S2048x2048 : Shape := ⟨2, ![2048, 2048]⟩
abbrev S512x2048 : Shape := ⟨2, ![512, 2048]⟩
abbrev S1x9x2048 : Shape := ⟨3, ![1, 9, 2048]⟩
abbrev S512x512 : Shape := ⟨2, ![512, 512]⟩
abbrev S1x1x2048 : Shape := ⟨3, ![1, 1, 2048]⟩
abbrev S1x2048 : Shape := ⟨2, ![1, 2048]⟩

abbrev nBuf : Space → Nat
  | .hbm => 9
  | .vmem => 15
  | .smem => 0
  | _ => 0

abbrev bufTy : (tb : Table) → Fin (tcTables nBuf tb) → BufTy
  | .hbm, ⟨0, _⟩ => ⟨S12288x2048, .f32⟩
  | .hbm, ⟨1, _⟩ => ⟨S16x9x2048, .f32⟩
  | .hbm, ⟨2, _⟩ => ⟨S12288x512, .bf16⟩
  | .hbm, ⟨3, _⟩ => ⟨S12288x512, .bf16⟩
  | .hbm, ⟨4, _⟩ => ⟨S12288x512, .bf16⟩
  | .hbm, ⟨5, _⟩ => ⟨S12288x512, .bf16⟩
  | .hbm, ⟨6, _⟩ => ⟨S2048x2048, .f32⟩
  | .hbm, ⟨7, _⟩ => ⟨S2048x2048, .bf16⟩
  | .hbm, ⟨8, _⟩ => ⟨S12288x2048, .f32⟩
  | .local _ .vmem, ⟨0, _⟩ => ⟨S512x2048, .f32⟩
  | .local _ .vmem, ⟨1, _⟩ => ⟨S512x2048, .f32⟩
  | .local _ .vmem, ⟨2, _⟩ => ⟨S1x9x2048, .f32⟩
  | .local _ .vmem, ⟨3, _⟩ => ⟨S1x9x2048, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S2048x2048, .bf16⟩
  | .local _ .vmem, ⟨13, _⟩ => ⟨S512x2048, .f32⟩
  | .local _ .vmem, ⟨14, _⟩ => ⟨S512x2048, .f32⟩
  | _, _ => ⟨S12288x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutProjRefIdeal.lean ====
abbrev S12288x2048 : Shape := ⟨2, ![12288, 2048]⟩
abbrev S16x9x2048 : Shape := ⟨3, ![16, 9, 2048]⟩
abbrev S12288x512 : Shape := ⟨2, ![12288, 512]⟩
abbrev S2048x2048 : Shape := ⟨2, ![2048, 2048]⟩
abbrev S4096x2048 : Shape := ⟨2, ![4096, 2048]⟩
abbrev S1x1x2048 : Shape := ⟨3, ![1, 1, 2048]⟩
abbrev S1x2048 : Shape := ⟨2, ![1, 2048]⟩
abbrev S8192x2048 : Shape := ⟨2, ![8192, 2048]⟩
abbrev S8x1024x2048 : Shape := ⟨3, ![8, 1024, 2048]⟩
abbrev S8x1x2048 : Shape := ⟨3, ![8, 1, 2048]⟩
abbrev S8x2048 : Shape := ⟨2, ![8, 2048]⟩

abbrev nBuf : Space → Nat
  | .hbm => 29
  | .vmem => 0
  | .smem => 0
  | _ => 0

abbrev bufTy : (tb : Table) → Fin (tcTables nBuf tb) → BufTy
  | .hbm, ⟨0, _⟩ => ⟨S12288x2048, .f32⟩
  | .hbm, ⟨1, _⟩ => ⟨S16x9x2048, .f32⟩
  | .hbm, ⟨2, _⟩ => ⟨S12288x512, .bf16⟩
  | .hbm, ⟨3, _⟩ => ⟨S12288x512, .bf16⟩
  | .hbm, ⟨4, _⟩ => ⟨S12288x512, .bf16⟩
  | .hbm, ⟨5, _⟩ => ⟨S12288x512, .bf16⟩
  | .hbm, ⟨6, _⟩ => ⟨S2048x2048, .f32⟩
  | .hbm, ⟨7, _⟩ => ⟨S12288x2048, .bf16⟩
  | .hbm, ⟨8, _⟩ => ⟨S12288x2048, .f32⟩
  | .hbm, ⟨9, _⟩ => ⟨S12288x2048, .f32⟩
  | .hbm, ⟨10, _⟩ => ⟨S4096x2048, .f32⟩
  | .hbm, ⟨11, _⟩ => ⟨S1x1x2048, .f32⟩
  | .hbm, ⟨12, _⟩ => ⟨S1x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S8192x2048, .f32⟩
  | .hbm, ⟨18, _⟩ => ⟨S8x1024x2048, .f32⟩
  | .hbm, ⟨19, _⟩ => ⟨S8x1x2048, .f32⟩
  | .hbm, ⟨20, _⟩ => ⟨S8x2048, .f32⟩
  | .hbm, ⟨21, _⟩ => ⟨S8x1x2048, .f32⟩
  | .hbm, ⟨22, _⟩ => ⟨S8192x2048, .f32⟩
  | .hbm, ⟨23, _⟩ => ⟨S8x1024x2048, .f32⟩
  | .hbm, ⟨24, _⟩ => ⟨S8x1024x2048, .f32⟩
  | .hbm, ⟨25, _⟩ => ⟨S8x1024x2048, .f32⟩
  | .hbm, ⟨26, _⟩ => ⟨S8x1024x2048, .f32⟩
  | .hbm, ⟨27, _⟩ => ⟨S8192x2048, .f32⟩
  | .hbm, ⟨28, _⟩ => ⟨S12288x2048, .f32⟩
  | _, _ => ⟨S12288x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Adaln.lean ====
abbrev S16x2048 : Shape := ⟨2, ![16, 2048]⟩
abbrev S4x2048x18432 : Shape := ⟨3, ![4, 2048, 18432]⟩
abbrev S4x18432 : Shape := ⟨2, ![4, 18432]⟩
abbrev S4x1x18432 : Shape := ⟨3, ![4, 1, 18432]⟩
abbrev S4x16x18432 : Shape := ⟨3, ![4, 16, 18432]⟩
abbrev S1x2048x1024 : Shape := ⟨3, ![1, 2048, 1024]⟩
abbrev S1x1x1024 : Shape := ⟨3, ![1, 1, 1024]⟩
abbrev S1x16x1024 : Shape := ⟨3, ![1, 16, 1024]⟩
abbrev S2048x1024 : Shape := ⟨2, ![2048, 1024]⟩
abbrev S16x1024 : Shape := ⟨2, ![16, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S4x2048x18432, .f32⟩
  | .hbm, ⟨2, _⟩ => ⟨S4x18432, .f32⟩
  | .hbm, ⟨3, _⟩ => ⟨S4x1x18432, .f32⟩
  | .hbm, ⟨4, _⟩ => ⟨S4x16x18432, .f32⟩
  | .local _ .vmem, ⟨0, _⟩ => ⟨S16x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdalnRefIdeal.lean ====
abbrev S16x2048 : Shape := ⟨2, ![16, 2048]⟩
abbrev S4x2048x18432 : Shape := ⟨3, ![4, 2048, 18432]⟩
abbrev S4x18432 : Shape := ⟨2, ![4, 18432]⟩
abbrev S_ : Shape := ⟨0, ![]⟩
abbrev S1x2048x18432 : Shape := ⟨3, ![1, 2048, 18432]⟩
abbrev S2048x18432 : Shape := ⟨2, ![2048, 18432]⟩
abbrev S16x18432 : Shape := ⟨2, ![16, 18432]⟩
abbrev S1x18432 : Shape := ⟨2, ![1, 18432]⟩
abbrev S18432 : Shape := ⟨1, ![18432]⟩
abbrev S1x16x18432 : Shape := ⟨3, ![1, 16, 18432]⟩
abbrev S4x16x18432 : Shape := ⟨3, ![4, 16, 18432]⟩

abbrev nBuf : Space → Nat
  | .hbm => 76
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S4x2048x18432, .f32⟩
  | .hbm, ⟨2, _⟩ => ⟨S4x18432, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S1x2048x18432, .f32⟩
  | .hbm, ⟨13, _⟩ => ⟨S2048x18432, .f32⟩
  | .hbm, ⟨14, _⟩ => ⟨S16x18432, .f32⟩
  | .hbm, ⟨15, _⟩ => ⟨S1x18432, .f32⟩
  | .hbm, ⟨16, _⟩ => ⟨S18432, .f32⟩
  | .hbm, ⟨17, _⟩ => ⟨S1x18432, .f32⟩
  | .hbm, ⟨18, _⟩ => ⟨S16x18432, .f32⟩
  | .hbm, ⟨19, _⟩ => ⟨S16x18432, .f32⟩
  | .hbm, ⟨20, _⟩ => ⟨S16x2048, .f32⟩
  | .hbm, ⟨21, _⟩ => ⟨S16x2048, .f32⟩
  | .hbm, ⟨22, _⟩ => ⟨S_, .f32⟩
  | .hbm, ⟨23, _⟩ => ⟨S16x2048, .f32⟩
  | .hbm, ⟨24, _⟩ => ⟨S16x2048, .f32⟩
  | .hbm, ⟨25, _⟩ => ⟨S_, .f32⟩
  | .hbm, ⟨26, _⟩ => ⟨S16x2048, .f32⟩
  | .hbm, ⟨27, _⟩ => ⟨S16x2048, .f32⟩
  | .hbm, ⟨28, _⟩ => ⟨S16x2048, .f32⟩
  | .hbm, ⟨29, _⟩ => ⟨S1x2048x18432, .f32⟩
  | .hbm, ⟨30, _⟩ => ⟨S2048x18432, .f32⟩
  | .hbm, ⟨31, _⟩ => ⟨S16x18432, .f32⟩
  | .hbm, ⟨32, _⟩ => ⟨S1x18432, .f32⟩
  | .hbm, ⟨33, _⟩ => ⟨S18432, .f32⟩
  | .hbm, ⟨34, _⟩ => ⟨S1x18432, .f32⟩
  | .hbm, ⟨35, _⟩ => ⟨S16x18432, .f32⟩
  | .hbm, ⟨36, _⟩ => ⟨S16x18432, .f32⟩
  | .hbm, ⟨37, _⟩ => ⟨S16x2048, .f32⟩
  | .hbm, ⟨38, _⟩ => ⟨S16x2048, .f32⟩
  | .hbm, ⟨39, _⟩ => ⟨S_, .f32⟩
  | .hbm, ⟨40, _⟩ => ⟨S16x2048, .f32⟩
  | .hbm, ⟨41, _⟩ => ⟨S16x2048, .f32⟩
  | .hbm, ⟨42, _⟩ => ⟨S_, .f32⟩
  | .hbm, ⟨43, _⟩ => ⟨S16x2048, .f32⟩
  | .hbm, ⟨44, _⟩ => ⟨S16x2048, .f32⟩
  | .hbm, ⟨45, _⟩ => ⟨S16x2048, .f32⟩
  | .hbm, ⟨46, _⟩ => ⟨S1x2048x18432, .f32⟩
  | .hbm, ⟨47, _⟩ => ⟨S2048x18432, .f32⟩
  | .hbm, ⟨48, _⟩ => ⟨S16x18432, .f32⟩
  | .hbm, ⟨49, _⟩ => ⟨S1x18432, .f32⟩
  | .hbm, ⟨50, _⟩ => ⟨S18432, .f32⟩
  | .hbm, ⟨51, _⟩ => ⟨S1x18432, .f32⟩
  | .hbm, ⟨52, _⟩ => ⟨S16x18432, .f32⟩
  | .hbm, ⟨53, _⟩ => ⟨S16x18432, .f32⟩
  | .hbm, ⟨54, _⟩ => ⟨S16x2048, .f32⟩
  | .hbm, ⟨55, _⟩ => ⟨S16x2048, .f32⟩
  | .hbm, ⟨56, _⟩ => ⟨S_, .f32⟩
  | .hbm, ⟨57, _⟩ => ⟨S16x2048, .f32⟩
  | .hbm, ⟨58, _⟩ => ⟨S16x2048, .f32⟩
  | .hbm, ⟨59, _⟩ => ⟨S_, .f32⟩
  | .hbm, ⟨60, _⟩ => ⟨S16x2048, .f32⟩
  | .hbm, ⟨61, _⟩ => ⟨S16x2048, .f32⟩
  | .hbm, ⟨62, _⟩ => ⟨S16x2048, .f32⟩
  | .hbm, ⟨63, _⟩ => ⟨S1x2048x18432, .f32⟩
  | .hbm, ⟨64, _⟩ => ⟨S2048x18432, .f32⟩
  | .hbm, ⟨65, _⟩ => ⟨S16x18432, .f32⟩
  | .hbm, ⟨66, _⟩ => ⟨S1x18432, .f32⟩
  | .hbm, ⟨67, _⟩ => ⟨S18432, .f32⟩
  | .hbm, ⟨68, _⟩ => ⟨S1x18432, .f32⟩
  | .hbm, ⟨69, _⟩ => ⟨S16x18432, .f32⟩
  | .hbm, ⟨70, _⟩ => ⟨S16x18432, .f32⟩
  | .hbm, ⟨71, _⟩ => ⟨S1x16x18432, .f32⟩
  | .hbm, ⟨72, _⟩ => ⟨S1x16x18432, .f32⟩
  | .hbm, ⟨73, _⟩ => ⟨S1x16x18432, .f32⟩
  | .hbm, ⟨74, _⟩ => ⟨S1x16x18432, .f32⟩
  | .hbm, ⟨75, _⟩ => ⟨S4x16x18432, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call2_v0 : Ref sig .tc := ⟨.hbm, 37, rfl⟩
abbrev main_call2_v1 : Ref sig .tc := ⟨.hbm, 38, rfl⟩
abbrev main_call2_cst : Ref sig .tc := ⟨.hbm, 39, rfl⟩
abbrev main_call2_v2 : Ref sig .tc := ⟨.hbm, 40, rfl⟩
abbrev main_call2_v3 : Ref sig .tc := ⟨.hbm, 41, rfl⟩
abbrev main_call2_cst_0 : Ref sig .tc := ⟨.hbm, 42, rfl⟩
abbrev main_call2_v4 : Ref sig .tc := ⟨.hbm, 43, rfl⟩
abbrev main_call2_v5 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_call3_v0 : Ref sig .tc := ⟨.hbm, 54, rfl⟩
abbrev main_call3_v1 : Ref sig .tc := ⟨.hbm, 55, rfl⟩
abbrev main_call3_cst : Ref sig .tc := ⟨.hbm, 56, rfl⟩
abbrev main_call3_v2 : Ref sig .tc := ⟨.hbm, 57, rfl⟩
abbrev main_call3_v3 : Ref sig .tc := ⟨.hbm, 58, rfl⟩
abbrev main_call3_cst_0 : Ref sig .tc := ⟨.hbm, 59, rfl⟩
abbrev main_call3_v4 : Ref sig .tc := ⟨.hbm, 60, rfl⟩
abbrev main_call3_v5 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩

abbrev nD : Nat := 1
abbrev τ : Topo := Topo.v7x

variable {F : FTy → Type} [FloatOps F]
-- ==== Gqa.lean ====
abbrev S12288x6272 : Shape := ⟨2, ![12288, 6272]⟩
abbrev S8x4x2x256x128 : Shape := ⟨5, ![8, 4, 2, 256, 128]⟩
abbrev S2x128 : Shape := ⟨2, ![2, 128]⟩
abbrev S1024 : Shape := ⟨1, ![1024]⟩
abbrev S32 : Shape := ⟨1, ![32]⟩
abbrev S_ : Shape := ⟨0, ![]⟩
abbrev S1024x1 : Shape := ⟨2, ![1024, 1]⟩
abbrev S1x32 : Shape := ⟨2, ![1, 32]⟩
abbrev S1024x32 : Shape := ⟨2, ![1024, 32]⟩
abbrev S1024x128 : Shape := ⟨2, ![1024, 128]⟩
abbrev S8192x512 : Shape := ⟨2, ![8192, 512]⟩
abbrev S256x256 : Shape := ⟨2, ![256, 256]⟩
abbrev S1x1x1x256x128 : Shape := ⟨5, ![1, 1, 1, 256, 128]⟩
abbrev S256x128 : Shape := ⟨2, ![256, 128]⟩
abbrev S1x128 : Shape := ⟨2, ![1, 128]⟩
abbrev S256 : Shape := ⟨1, ![256]⟩
abbrev S256x1 : Shape := ⟨2, ![256, 1]⟩
abbrev S256x1024 : Shape := ⟨2, ![256, 1024]⟩

abbrev nBuf : Space → Nat
  | .hbm => 43
  | .vmem => 21
  | .smem => 0
  | _ => 0

abbrev bufTy : (tb : Table) → Fin (tcTables nBuf tb) → BufTy
  | .hbm, ⟨0, _⟩ => ⟨S12288x6272, .f32⟩
  | .hbm, ⟨1, _⟩ => ⟨S8x4x2x256x128, .f32⟩
  | .hbm, ⟨2, _⟩ => ⟨S8x4x2x256x128, .f32⟩
  | .hbm, ⟨3, _⟩ => ⟨S2x128, .f32⟩
  | .hbm, ⟨4, _⟩ => ⟨S1024, .f32⟩
  | .hbm, ⟨5, _⟩ => ⟨S1024, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S1024x1, .f32⟩
  | .hbm, ⟨21, _⟩ => ⟨S1x32, .f32⟩
  | .hbm, ⟨22, _⟩ => ⟨S1024x32, .f32⟩
  | .hbm, ⟨23, _⟩ => ⟨S1024x32, .f32⟩
  | .hbm, ⟨24, _⟩ => ⟨S1024x32, .f32⟩
  | .hbm, ⟨25, _⟩ => ⟨S1024x1, .f32⟩
  | .hbm, ⟨26, _⟩ => ⟨S1x32, .f32⟩
  | .hbm, ⟨27, _⟩ => ⟨S1024x32, .f32⟩
  | .hbm, ⟨28, _⟩ => ⟨S1024x32, .f32⟩
  | .hbm, ⟨29, _⟩ => ⟨S1024x32, .f32⟩
  | .hbm, ⟨30, _⟩ => ⟨S1024x32, .f32⟩
  | .hbm, ⟨31, _⟩ => ⟨S1024x32, .f32⟩
  | .hbm, ⟨32, _⟩ => ⟨S1024x32, .f32⟩
  | .hbm, ⟨33, _⟩ => ⟨S1024x32, .f32⟩
  | .hbm, ⟨34, _⟩ => ⟨S1024x128, .f32⟩
  | .hbm, ⟨35, _⟩ => ⟨S1024x32, .f32⟩
  | .hbm, ⟨36, _⟩ => ⟨S1024x32, .f32⟩
  | .hbm, ⟨37, _⟩ => ⟨S1024x32, .f32⟩
  | .hbm, ⟨38, _⟩ => ⟨S1024x32, .f32⟩
  | .hbm, ⟨39, _⟩ => ⟨S1024x32, .f32⟩
  | .hbm, ⟨40, _⟩ => ⟨S1024x32, .f32⟩
  | .hbm, ⟨41, _⟩ => ⟨S1024x128, .f32⟩
  | .hbm, ⟨42, _⟩ => ⟨S8192x512, .bf16⟩
  | .local _ .vmem, ⟨0, _⟩ => ⟨S256x256, .f32⟩
  | .local _ .vmem, ⟨1, _⟩ => ⟨S256x256, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1x1x1x256x128, .f32⟩
  | .local _ .vmem, ⟨7, _⟩ => ⟨S1x1x1x256x128, .f32⟩
  | .local _ .vmem, ⟨8, _⟩ => ⟨S1x1x1x256x128, .f32⟩
  | .local _ .vmem, ⟨9, _⟩ => ⟨S1x1x1x256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S1024x128, .f32⟩
  | .local _ .vmem, ⟨15, _⟩ => ⟨S1024x128, .f32⟩
  | .local _ .vmem, ⟨16, _⟩ => ⟨S2x128, .f32⟩
  | .local _ .vmem, ⟨17, _⟩ => ⟨S256x256, .bf16⟩
  | .local _ .vmem, ⟨18, _⟩ => ⟨S256x256, .bf16⟩
  | .local _ .vmem, ⟨19, _⟩ => ⟨S1024x128, .bf16⟩
  | .local _ .vmem, ⟨20, _⟩ => ⟨S1024x128, .bf16⟩
  | _, _ => ⟨S12288x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_cst_1 : Ref sig .tc := ⟨.hbm, 7, rfl⟩
abbrev main_v1 : Ref sig .tc := ⟨.hbm, 8, rfl⟩
abbrev main_v2 : Ref sig .tc := ⟨.hbm, 9, rfl⟩
abbrev main_cst_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_3 : Ref sig .tc := ⟨.hbm, 14, rfl⟩
abbrev main_v6 : Ref sig .tc := ⟨.hbm, 15, rfl⟩
abbrev main_v7 : Ref sig .tc := ⟨.hbm, 16, rfl⟩
abbrev main_cst_4 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c16_i32 : BitVec 32 := 16#32
  let v1 : BitVec 32 := Scalar.addi c16_i32 v0
  let v2 : BitVec 32 := Scalar.addi v1 arg2
  let c12_i32 : BitVec 32 := 12#32
  let v3 : BitVec 32 := Scalar.addi c12_i32 arg1
  let c0_i32 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c28_i32 : BitVec 32 := 28#32
  let v1 : BitVec 32 := Scalar.addi c28_i32 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c30_i32 : BitVec 32 := 30#32
  let v1 : BitVec 32 := Scalar.addi c30_i32 arg1
  let c0_i32 : BitVec 32 := 0#32
  ![v0.toNat, v1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== GqaRefIdeal.lean ====
abbrev S12288x6272 : Shape := ⟨2, ![12288, 6272]⟩
abbrev S8x4x2x256x128 : Shape := ⟨5, ![8, 4, 2, 256, 128]⟩
abbrev S2x128 : Shape := ⟨2, ![2, 128]⟩
abbrev S8192x6272 : Shape := ⟨2, ![8192, 6272]⟩
abbrev S8x1024x6272 : Shape := ⟨3, ![8, 1024, 6272]⟩
abbrev S1024 : Shape := ⟨1, ![1024]⟩
abbrev S_ : Shape := ⟨0, ![]⟩
abbrev S32 : Shape := ⟨1, ![32]⟩
abbrev S1024x1 : Shape := ⟨2, ![1024, 1]⟩
abbrev S1x32 : Shape := ⟨2, ![1, 32]⟩
abbrev S1024x32 : Shape := ⟨2, ![1024, 32]⟩
abbrev S8x1024x512 : Shape := ⟨3, ![8, 1024, 512]⟩
abbrev S8x1024x4x128 : Shape := ⟨4, ![8, 1024, 4, 128]⟩
abbrev S8x4x1024x128 : Shape := ⟨4, ![8, 4, 1024, 128]⟩
abbrev S1x128 : Shape := ⟨2, ![1, 128]⟩
abbrev S128 : Shape := ⟨1, ![128]⟩
abbrev S8x4x1024 : Shape := ⟨3, ![8, 4, 1024]⟩
abbrev S8x4x1024x1 : Shape := ⟨4, ![8, 4, 1024, 1]⟩
abbrev S1x1x1x128 : Shape := ⟨4, ![1, 1, 1, 128]⟩
abbrev S8x4x1024x64 : Shape := ⟨4, ![8, 4, 1024, 64]⟩
abbrev S8x4x1024x32 : Shape := ⟨4, ![8, 4, 1024, 32]⟩
abbrev S1x1x1024x32 : Shape := ⟨4, ![1, 1, 1024, 32]⟩
abbrev S8x1024x256 : Shape := ⟨3, ![8, 1024, 256]⟩
abbrev S8x1024x2x128 : Shape := ⟨4, ![8, 1024, 2, 128]⟩
abbrev S8x2x1024x128 : Shape := ⟨4, ![8, 2, 1024, 128]⟩
abbrev S8x2x1024 : Shape := ⟨3, ![8, 2, 1024]⟩
abbrev S8x2x1024x1 : Shape := ⟨4, ![8, 2, 1024, 1]⟩
abbrev S8x2x1024x64 : Shape := ⟨4, ![8, 2, 1024, 64]⟩
abbrev S8x2x1024x32 : Shape := ⟨4, ![8, 2, 1024, 32]⟩
abbrev S8x1x2x256x128 : Shape := ⟨5, ![8, 1, 2, 256, 128]⟩
abbrev S8x2x256x128 : Shape := ⟨4, ![8, 2, 256, 128]⟩
abbrev S8x2x1280x128 : Shape := ⟨4, ![8, 2, 1280, 128]⟩
abbrev S8x2x2x1024x128 : Shape := ⟨5, ![8, 2, 2, 1024, 128]⟩
abbrev S8x2x2x1024x1280 : Shape := ⟨5, ![8, 2, 2, 1024, 1280]⟩
abbrev S8x2x2x1024 : Shape := ⟨4, ![8, 2, 2, 1024]⟩
abbrev S8x2x2x1024x1 : Shape := ⟨5, ![8, 2, 2, 1024, 1]⟩
abbrev S8192x512 : Shape := ⟨2, ![8192, 512]⟩

abbrev nBuf : Space → Nat
  | .hbm => 230
  | .vmem => 0
  | .smem => 0
  | _ => 0

abbrev hbmTy0_0 (i : Nat) : BufTy := match i % 128 with
  | 0 => ⟨S12288x6272, .f32⟩
  | 1 => ⟨S8x4x2x256x128, .f32⟩
  | 2 => ⟨S8x4x2x256x128, .f32⟩
  | 3 => ⟨S2x128, .f32⟩
  | 4 => ⟨S8192x6272, .f32⟩
  | 5 => ⟨S8x1024x6272, .f32⟩
  | 6 => ⟨S1024, .i32⟩
  | 7 => ⟨S_, .i32⟩
  | 8 => ⟨S_, .i32⟩
  | 9 => ⟨S1024, .i32⟩
  | 10 => ⟨S1024, .i32⟩
  | 11 => ⟨S1024, .i32⟩
  | 12 => ⟨S_, .i32⟩
  | 13 => ⟨S1024, .i32⟩
  | 14 => ⟨S1024, .i1⟩
  | 15 => ⟨S1024, .i32⟩
  | 16 => ⟨S1024, .i32⟩
  | 17 => ⟨S_, .i32⟩
  | 18 => ⟨S1024, .i32⟩
  | 19 => ⟨S1024, .i1⟩
  | 20 => ⟨S1024, .i1⟩
  | 21 => ⟨S_, .i32⟩
  | 22 => ⟨S1024, .i32⟩
  | 23 => ⟨S1024, .i32⟩
  | 24 => ⟨S1024, .i32⟩
  | 25 => ⟨S1024, .f32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S1024, .i32⟩
  | 33 => ⟨S1024, .i32⟩
  | 34 => ⟨S_, .i32⟩
  | 35 => ⟨S1024, .i32⟩
  | 36 => ⟨S1024, .i1⟩
  | 37 => ⟨S_, .i32⟩
  | 38 => ⟨S1024, .i32⟩
  | 39 => ⟨S1024, .i1⟩
  | 40 => ⟨S_, .i32⟩
  | 41 => ⟨S_, .i1⟩
  | 42 => ⟨S1024, .i1⟩
  | 43 => ⟨S1024, .i1⟩
  | 44 => ⟨S1024, .i1⟩
  | 45 => ⟨S1024, .i32⟩
  | 46 => ⟨S1024, .i32⟩
  | 47 => ⟨S1024, .i32⟩
  | 48 => ⟨S1024, .f32⟩
  | 49 => ⟨S32, .f32⟩
  | 50 => ⟨S_, .f32⟩
  | 51 => ⟨S32, .f32⟩
  | 52 => ⟨S32, .f32⟩
  | 53 => ⟨S_, .f32⟩
  | 54 => ⟨S32, .f32⟩
  | 55 => ⟨S32, .f32⟩
  | 56 => ⟨S32, .f32⟩
  | 57 => ⟨S_, .f32⟩
  | 58 => ⟨S32, .f32⟩
  | 59 => ⟨S32, .f32⟩
  | 60 => ⟨S_, .f32⟩
  | 61 => ⟨S32, .f32⟩
  | 62 => ⟨S32, .f32⟩
  | 63 => ⟨S1024x1, .f32⟩
  | 64 => ⟨S1x32, .f32⟩
  | 65 => ⟨S1024x32, .f32⟩
  | 66 => ⟨S1024x32, .f32⟩
  | 67 => ⟨S1024x32, .f32⟩
  | 68 => ⟨S1024x1, .f32⟩
  | 69 => ⟨S1x32, .f32⟩
  | 70 => ⟨S1024x32, .f32⟩
  | 71 => ⟨S1024x32, .f32⟩
  | 72 => ⟨S1024x32, .f32⟩
  | 73 => ⟨S8x1024x512, .f32⟩
  | 74 => ⟨S8x1024x4x128, .f32⟩
  | 75 => ⟨S8x4x1024x128, .f32⟩
  | 76 => ⟨S1x128, .f32⟩
  | 77 => ⟨S128, .f32⟩
  | 78 => ⟨S8x4x1024x128, .f32⟩
  | 79 => ⟨S_, .f32⟩
  | 80 => ⟨S8x4x1024, .f32⟩
  | 81 => ⟨S8x4x1024x1, .f32⟩
  | 82 => ⟨S_, .f32⟩
  | 83 => ⟨S8x4x1024x1, .f32⟩
  | 84 => ⟨S8x4x1024x1, .f32⟩
  | 85 => ⟨S_, .f32⟩
  | 86 => ⟨S8x4x1024x1, .f32⟩
  | 87 => ⟨S8x4x1024x1, .f32⟩
  | 88 => ⟨S8x4x1024x1, .f32⟩
  | 89 => ⟨S8x4x1024x128, .f32⟩
  | 90 => ⟨S8x4x1024x128, .f32⟩
  | 91 => ⟨S1x1x1x128, .f32⟩
  | 92 => ⟨S8x4x1024x128, .f32⟩
  | 93 => ⟨S8x4x1024x128, .f32⟩
  | 94 => ⟨S8x4x1024x64, .f32⟩
  | 95 => ⟨S8x4x1024x64, .f32⟩
  | 96 => ⟨S8x4x1024x32, .f32⟩
  | 97 => ⟨S8x4x1024x32, .f32⟩
  | 98 => ⟨S1024x32, .f32⟩
  | 99 => ⟨S1024x32, .f32⟩
  | 100 => ⟨S1x1x1024x32, .f32⟩
  | 101 => ⟨S8x4x1024x32, .f32⟩
  | 102 => ⟨S8x4x1024x32, .f32⟩
  | 103 => ⟨S1x1x1024x32, .f32⟩
  | 104 => ⟨S8x4x1024x32, .f32⟩
  | 105 => ⟨S8x4x1024x32, .f32⟩
  | 106 => ⟨S8x4x1024x32, .f32⟩
  | 107 => ⟨S1x1x1024x32, .f32⟩
  | 108 => ⟨S8x4x1024x32, .f32⟩
  | 109 => ⟨S8x4x1024x32, .f32⟩
  | 110 => ⟨S1x1x1024x32, .f32⟩
  | 111 => ⟨S8x4x1024x32, .f32⟩
  | 112 => ⟨S8x4x1024x32, .f32⟩
  | 113 => ⟨S8x4x1024x32, .f32⟩
  | 114 => ⟨S8x4x1024x64, .f32⟩
  | 115 => ⟨S8x4x1024x32, .f32⟩
  | 116 => ⟨S8x4x1024x32, .f32⟩
  | 117 => ⟨S1024x32, .f32⟩
  | 118 => ⟨S1024x32, .f32⟩
  | 119 => ⟨S1x1x1024x32, .f32⟩
  | 120 => ⟨S8x4x1024x32, .f32⟩
  | 121 => ⟨S8x4x1024x32, .f32⟩
  | 122 => ⟨S1x1x1024x32, .f32⟩
  | 123 => ⟨S8x4x1024x32, .f32⟩
  | 124 => ⟨S8x4x1024x32, .f32⟩
  | 125 => ⟨S8x4x1024x32, .f32⟩
  | 126 => ⟨S1x1x1024x32, .f32⟩
  | 127 => ⟨S8x4x1024x32, .f32⟩
  | _ => ⟨S12288x6272, .f32⟩

abbrev hbmTy0_1 (i : Nat) : BufTy := match i % 128 with
  | 0 => ⟨S8x4x1024x32, .f32⟩
  | 1 => ⟨S1x1x1024x32, .f32⟩
  | 2 => ⟨S8x4x1024x32, .f32⟩
  | 3 => ⟨S8x4x1024x32, .f32⟩
  | 4 => ⟨S8x4x1024x32, .f32⟩
  | 5 => ⟨S8x4x1024x64, .f32⟩
  | 6 => ⟨S8x4x1024x128, .f32⟩
  | 7 => ⟨S8x1024x256, .f32⟩
  | 8 => ⟨S8x1024x2x128, .f32⟩
  | 9 => ⟨S8x2x1024x128, .f32⟩
  | 10 => ⟨S1x128, .f32⟩
  | 11 => ⟨S128, .f32⟩
  | 12 => ⟨S8x2x1024x128, .f32⟩
  | 13 => ⟨S_, .f32⟩
  | 14 => ⟨S8x2x1024, .f32⟩
  | 15 => ⟨S8x2x1024x1, .f32⟩
  | 16 => ⟨S_, .f32⟩
  | 17 => ⟨S8x2x1024x1, .f32⟩
  | 18 => ⟨S8x2x1024x1, .f32⟩
  | 19 => ⟨S_, .f32⟩
  | 20 => ⟨S8x2x1024x1, .f32⟩
  | 21 => ⟨S8x2x1024x1, .f32⟩
  | 22 => ⟨S8x2x1024x1, .f32⟩
  | 23 => ⟨S8x2x1024x128, .f32⟩
  | 24 => ⟨S8x2x1024x128, .f32⟩
  | 25 => ⟨S1x1x1x128, .f32⟩
  | 26 => ⟨S8x2x1024x128, .f32⟩
  | 27 => ⟨S8x2x1024x128, .f32⟩
  | 28 => ⟨S8x2x1024x64, .f32⟩
  | 29 => ⟨S8x2x1024x64, .f32⟩
  | 30 => ⟨S8x2x1024x32, .f32⟩
  | 31 => ⟨S8x2x1024x32, .f32⟩
  | 32 => ⟨S1024x32, .f32⟩
  | 33 => ⟨S1024x32, .f32⟩
  | 34 => ⟨S1x1x1024x32, .f32⟩
  | 35 => ⟨S8x2x1024x32, .f32⟩
  | 36 => ⟨S8x2x1024x32, .f32⟩
  | 37 => ⟨S1x1x1024x32, .f32⟩
  | 38 => ⟨S8x2x1024x32, .f32⟩
  | 39 => ⟨S8x2x1024x32, .f32⟩
  | 40 => ⟨S8x2x1024x32, .f32⟩
  | 41 => ⟨S1x1x1024x32, .f32⟩
  | 42 => ⟨S8x2x1024x32, .f32⟩
  | 43 => ⟨S8x2x1024x32, .f32⟩
  | 44 => ⟨S1x1x1024x32, .f32⟩
  | 45 => ⟨S8x2x1024x32, .f32⟩
  | 46 => ⟨S8x2x1024x32, .f32⟩
  | 47 => ⟨S8x2x1024x32, .f32⟩
  | 48 => ⟨S8x2x1024x64, .f32⟩
  | 49 => ⟨S8x2x1024x32, .f32⟩
  | 50 => ⟨S8x2x1024x32, .f32⟩
  | 51 => ⟨S1024x32, .f32⟩
  | 52 => ⟨S1024x32, .f32⟩
  | 53 => ⟨S1x1x1024x32, .f32⟩
  | 54 => ⟨S8x2x1024x32, .f32⟩
  | 55 => ⟨S8x2x1024x32, .f32⟩
  | 56 => ⟨S1x1x1024x32, .f32⟩
  | 57 => ⟨S8x2x1024x32, .f32⟩
  | 58 => ⟨S8x2x1024x32, .f32⟩
  | 59 => ⟨S8x2x1024x32, .f32⟩
  | 60 => ⟨S1x1x1024x32, .f32⟩
  | 61 => ⟨S8x2x1024x32, .f32⟩
  | 62 => ⟨S8x2x1024x32, .f32⟩
  | 63 => ⟨S1x1x1024x32, .f32⟩
  | 64 => ⟨S8x2x1024x32, .f32⟩
  | 65 => ⟨S8x2x1024x32, .f32⟩
  | 66 => ⟨S8x2x1024x32, .f32⟩
  | 67 => ⟨S8x2x1024x64, .f32⟩
  | 68 => ⟨S8x2x1024x128, .f32⟩
  | 69 => ⟨S8x1x2x256x128, .f32⟩
  | 70 => ⟨S8x2x256x128, .f32⟩
  | 71 => ⟨S8x2x1280x128, .f32⟩
  | 72 => ⟨S8x1x2x256x128, .f32⟩
  | 73 => ⟨S8x2x256x128, .f32⟩
  | 74 => ⟨S8x1024x256, .f32⟩
  | 75 => ⟨S8x1024x2x128, .f32⟩
  | 76 => ⟨S8x2x1024x128, .f32⟩
  | 77 => ⟨S8x2x1280x128, .f32⟩
  | 78 => ⟨S8x2x2x1024x128, .f32⟩
  | 79 => ⟨S8x2x2x1024x1280, .f32⟩
  | 80 => ⟨S_, .f32⟩
  | 81 => ⟨S8x2x2x1024x1280, .f32⟩
  | 82 => ⟨S8x2x2x1024x1280, .f32⟩
  | 83 => ⟨S_, .f32⟩
  | 84 => ⟨S8x2x2x1024, .f32⟩
  | 85 => ⟨S_, .f32⟩
  | 86 => ⟨S8x2x2x1024, .f32⟩
  | 87 => ⟨S8x2x2x1024, .f32⟩
  | 88 => ⟨S8x2x2x1024x1, .f32⟩
  | 89 => ⟨S8x2x2x1024x1280, .f32⟩
  | 90 => ⟨S8x2x2x1024x1280, .f32⟩
  | 91 => ⟨S8x2x2x1024x1280, .f32⟩
  | 92 => ⟨S_, .f32⟩
  | 93 => ⟨S8x2x2x1024, .f32⟩
  | 94 => ⟨S8x2x2x1024x1, .f32⟩
  | 95 => ⟨S8x2x2x1024x1280, .f32⟩
  | 96 => ⟨S8x2x2x1024x1280, .f32⟩
  | 97 => ⟨S8x2x2x1024x128, .f32⟩
  | 98 => ⟨S8x4x1024x128, .f32⟩
  | 99 => ⟨S8x1024x4x128, .f32⟩
  | 100 => ⟨S8192x512, .f32⟩
  | 101 => ⟨S8192x512, .bf16⟩
  | _ => ⟨S12288x6272, .f32⟩

abbrev hbmTy (i : Nat) : BufTy := match i / 128 with
  | 0 => hbmTy0_0 i
  | 1 => hbmTy0_1 i
  | _ => ⟨S12288x6272, .f32⟩

abbrev bufTy : (tb : Table) → Fin (tcTables nBuf tb) → BufTy
  | .hbm, ⟨i, _⟩ => hbmTy i
  | _, _ => ⟨S12288x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v3 : Ref sig .tc := ⟨.hbm, 24, rfl⟩
abbrev main_v4 : Ref sig .tc := ⟨.hbm, 25, rfl⟩
abbrev main_c_0 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_cst : Ref sig .tc := ⟨.hbm, 50, rfl⟩
abbrev main_v8 : Ref sig .tc := ⟨.hbm, 51, rfl⟩
abbrev main_v9 : Ref sig .tc := ⟨.hbm, 52, rfl⟩
abbrev main_cst_1 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_cst_2 : Ref sig .tc := ⟨.hbm, 57, rfl⟩
abbrev main_v13 : Ref sig .tc := ⟨.hbm, 58, rfl⟩
abbrev main_v14 : Ref sig .tc := ⟨.hbm, 59, rfl⟩
abbrev main_cst_3 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_cst_4 : Ref sig .tc := ⟨.hbm, 79, rfl⟩
abbrev main_v33 : Ref sig .tc := ⟨.hbm, 80, rfl⟩
abbrev main_v34 : Ref sig .tc := ⟨.hbm, 81, rfl⟩
abbrev main_cst_5 : Ref sig .tc := ⟨.hbm, 82, rfl⟩
abbrev main_v35 : Ref sig .tc := ⟨.hbm, 83, rfl⟩
abbrev main_v36 : Ref sig .tc := ⟨.hbm, 84, rfl⟩
abbrev main_cst_6 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_cst_7 : Ref sig .tc := ⟨.hbm, 141, rfl⟩
abbrev main_v92 : Ref sig .tc := ⟨.hbm, 142, rfl⟩
abbrev main_v93 : Ref sig .tc := ⟨.hbm, 143, rfl⟩
abbrev main_cst_8 : Ref sig .tc := ⟨.hbm, 144, rfl⟩
abbrev main_v94 : Ref sig .tc := ⟨.hbm, 145, rfl⟩
abbrev main_v95 : Ref sig .tc := ⟨.hbm, 146, rfl⟩
abbrev main_cst_9 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_cst_10 : Ref sig .tc := ⟨.hbm, 208, rfl⟩
abbrev main_v156 : Ref sig .tc := ⟨.hbm, 209, rfl⟩
abbrev main_v157 : Ref sig .tc := ⟨.hbm, 210, rfl⟩
abbrev main_cst_11 : Ref sig .tc := ⟨.hbm, 211, rfl⟩
abbrev main_v158 : Ref sig .tc := ⟨.hbm, 212, rfl⟩
abbrev main_cst_12 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_cst_13 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩

abbrev nD : Nat := 1
abbrev τ : Topo := Topo.v7x

variable {F : FTy → Type} [FloatOps F]
-- ==== Na.lean ====
abbrev S12288x6272 : Shape := ⟨2, ![12288, 6272]⟩
abbrev S8x4x4x256x128 : Shape := ⟨5, ![8, 4, 4, 256, 128]⟩
abbrev S4x4x4x256x768 : Shape := ⟨5, ![4, 4, 4, 256, 768]⟩
abbrev S2x128 : Shape := ⟨2, ![2, 128]⟩
abbrev S8192x512 : Shape := ⟨2, ![8192, 512]⟩
abbrev S256x128 : Shape := ⟨2, ![256, 128]⟩
abbrev S1024x128 : Shape := ⟨2, ![1024, 128]⟩
abbrev S1x1x1x256x128 : Shape := ⟨5, ![1, 1, 1, 256, 128]⟩
abbrev S1x1x1x256x768 : Shape := ⟨5, ![1, 1, 1, 256, 768]⟩
abbrev S1x128 : Shape := ⟨2, ![1, 128]⟩
abbrev S1024 : Shape := ⟨1, ![1024]⟩
abbrev S1024x1 : Shape := ⟨2, ![1024, 1]⟩
abbrev S256 : Shape := ⟨1, ![256]⟩
abbrev S256x1 : Shape := ⟨2, ![256, 1]⟩
abbrev S256x256 : Shape := ⟨2, ![256, 256]⟩
abbrev S768x128 : Shape := ⟨2, ![768, 128]⟩
abbrev S256x768 : Shape := ⟨2, ![256, 768]⟩

abbrev nBuf : Space → Nat
  | .hbm => 6
  | .vmem => 17
  | .smem => 0
  | _ => 0

abbrev bufTy : (tb : Table) → Fin (tcTables nBuf tb) → BufTy
  | .hbm, ⟨0, _⟩ => ⟨S12288x6272, .f32⟩
  | .hbm, ⟨1, _⟩ => ⟨S8x4x4x256x128, .f32⟩
  | .hbm, ⟨2, _⟩ => ⟨S8x4x4x256x128, .f32⟩
  | .hbm, ⟨3, _⟩ => ⟨S4x4x4x256x768, .f32⟩
  | .hbm, ⟨4, _⟩ => ⟨S2x128, .f32⟩
  | .hbm, ⟨5, _⟩ => ⟨S8192x512, .bf16⟩
  | .local _ .vmem, ⟨0, _⟩ => ⟨S256x128, .f32⟩
  | .local _ .vmem, ⟨1, _⟩ => ⟨S256x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1x1x1x256x128, .f32⟩
  | .local _ .vmem, ⟨7, _⟩ => ⟨S1x1x1x256x128, .f32⟩
  | .local _ .vmem, ⟨8, _⟩ => ⟨S1x1x1x256x128, .f32⟩
  | .local _ .vmem, ⟨9, _⟩ => ⟨S1x1x1x256x128, .f32⟩
  | .local _ .vmem, ⟨10, _⟩ => ⟨S1x1x1x256x768, .f32⟩
  | .local _ .vmem, ⟨11, _⟩ => ⟨S1x1x1x256x768, .f32⟩
  | .local _ .vmem, ⟨12, _⟩ => ⟨S2x128, .f32⟩
  | .local _ .vmem, ⟨13, _⟩ => ⟨S256x128, .bf16⟩
  | .local _ .vmem, ⟨14, _⟩ => ⟨S256x128, .bf16⟩
  | .local _ .vmem, ⟨15, _⟩ => ⟨S1024x128, .bf16⟩
  | .local _ .vmem, ⟨16, _⟩ => ⟨S1024x128, .bf16⟩
  | _, _ => ⟨S12288x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let arg2 : BitVec 32 := BitVec.ofNat 32 (i 2).val
  let c3_i32 : BitVec 32 := 3#32
  let v7 : BitVec 1 := Scalar.cmpi .eq arg2 c3_i32
  let c4_i32_3 : BitVec 32 := 4#32
  let c2_i32 : BitVec 32 := 2#32
  let v5 : BitVec 1 := Scalar.cmpi .eq arg2 c2_i32
  let c4_i32 : BitVec 32 := 4#32
  let c1_i32 : BitVec 32 := 1#32
  let v3 : BitVec 1 := Scalar.cmpi .eq arg2 c1_i32
  let c0_i32_1 : BitVec 32 := 0#32
  let c0_i32_2 : BitVec 32 := 0#32
  let v4 : BitVec 32 := Scalar.select v3 c0_i32_1 c0_i32_2
  let v6 : BitVec 32 := Scalar.select v5 c4_i32 v4
  let v8 : BitVec 32 := Scalar.select v7 c4_i32_3 v6
  let c64_i32 : BitVec 32 := 64#32
  let v9 : BitVec 32 := Scalar.muli v8 c64_i32
  v9
def k0_off1 (i : grid0.Coords) : Fin 2 → Nat :=
  let arg2 : BitVec 32 := BitVec.ofNat 32 (i 2).val
  let c3_i32 : BitVec 32 := 3#32
  let v7 : BitVec 1 := Scalar.cmpi .eq arg2 c3_i32
  let c4_i32_3 : BitVec 32 := 4#32
  let c2_i32 : BitVec 32 := 2#32
  let v5 : BitVec 1 := Scalar.cmpi .eq arg2 c2_i32
  let c4_i32 : BitVec 32 := 4#32
  let c1_i32 : BitVec 32 := 1#32
  let v3 : BitVec 1 := Scalar.cmpi .eq arg2 c1_i32
  let c0_i32_1 : BitVec 32 := 0#32
  let c0_i32_2 : BitVec 32 := 0#32
  let v4 : BitVec 32 := Scalar.select v3 c0_i32_1 c0_i32_2
  let v6 : BitVec 32 := Scalar.select v5 c4_i32 v4
  let v8 : BitVec 32 := Scalar.select v7 c4_i32_3 v6
  let c64_i32 : BitVec 32 := 64#32
  let v9 : BitVec 32 := Scalar.muli v8 c64_i32
  let v10 : BitVec 32 := v9
  let v32 : Index := Scalar.indexCast v10
  let c0_16 : Index := 0#32
  ![v32.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c16_i32 : BitVec 32 := 16#32
  let v1 : BitVec 32 := Scalar.addi c16_i32 v0
  let v2 : BitVec 32 := Scalar.addi v1 arg2
  let c0_i32 : BitVec 32 := 0#32
  let v3 : BitVec 32 := Scalar.addi c0_i32 arg1
  let c0_i32_0 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c4_i32_0 : BitVec 32 := 4#32
  let v1 : BitVec 32 := Scalar.addi c4_i32_0 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c8_i32 : BitVec 32 := 8#32
  let v1 : BitVec 32 := Scalar.addi c8_i32 arg1
  let c0_i32 : BitVec 32 := 0#32
  ![v0.toNat, v1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, arg2.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== NaRefIdeal.lean ====
abbrev S12288x6272 : Shape := ⟨2, ![12288, 6272]⟩
abbrev S8x4x4x256x128 : Shape := ⟨5, ![8, 4, 4, 256, 128]⟩
abbrev S4x4x4x256x768 : Shape := ⟨5, ![4, 4, 4, 256, 768]⟩
abbrev S2x128 : Shape := ⟨2, ![2, 128]⟩
abbrev S8192x6272 : Shape := ⟨2, ![8192, 6272]⟩
abbrev S8x1024x6272 : Shape := ⟨3, ![8, 1024, 6272]⟩
abbrev S8x1024x512 : Shape := ⟨3, ![8, 1024, 512]⟩
abbrev S8x1024x4x128 : Shape := ⟨4, ![8, 1024, 4, 128]⟩
abbrev S8x4x1024x128 : Shape := ⟨4, ![8, 4, 1024, 128]⟩
abbrev S1x128 : Shape := ⟨2, ![1, 128]⟩
abbrev S128 : Shape := ⟨1, ![128]⟩
abbrev S_ : Shape := ⟨0, ![]⟩
abbrev S8x4x1024 : Shape := ⟨3, ![8, 4, 1024]⟩
abbrev S8x4x1024x1 : Shape := ⟨4, ![8, 4, 1024, 1]⟩
abbrev S1x1x1x128 : Shape := ⟨4, ![1, 1, 1, 128]⟩
abbrev S8x1x4x256x128 : Shape := ⟨5, ![8, 1, 4, 256, 128]⟩
abbrev S8x4x256x128 : Shape := ⟨4, ![8, 4, 256, 128]⟩
abbrev S1x4x4x256x768 : Shape := ⟨5, ![1, 4, 4, 256, 768]⟩
abbrev S4x4x256x768 : Shape := ⟨4, ![4, 4, 256, 768]⟩
abbrev S8x4x2x512x128 : Shape := ⟨5, ![8, 4, 2, 512, 128]⟩
abbrev S8x4x768x128 : Shape := ⟨4, ![8, 4, 768, 128]⟩
abbrev S8x4x1x768x128 : Shape := ⟨5, ![8, 4, 1, 768, 128]⟩
abbrev S8x4x2x768x128 : Shape := ⟨5, ![8, 4, 2, 768, 128]⟩
abbrev S8x4x2x512x768 : Shape := ⟨5, ![8, 4, 2, 512, 768]⟩
abbrev S4x2x512x768 : Shape := ⟨4, ![4, 2, 512, 768]⟩
abbrev S1x4x2x512x768 : Shape := ⟨5, ![1, 4, 2, 512, 768]⟩
abbrev S8x4x2x512x256 : Shape := ⟨5, ![8, 4, 2, 512, 256]⟩
abbrev S8x4x2x512x1024 : Shape := ⟨5, ![8, 4, 2, 512, 1024]⟩
abbrev S8x4x2x512 : Shape := ⟨4, ![8, 4, 2, 512]⟩
abbrev S8x4x2x512x1 : Shape := ⟨5, ![8, 4, 2, 512, 1]⟩
abbrev S8192x512 : Shape := ⟨2, ![8192, 512]⟩

abbrev nBuf : Space → Nat
  | .hbm => 105
  | .vmem => 0
  | .smem => 0
  | _ => 0

abbrev bufTy : (tb : Table) → Fin (tcTables nBuf tb) → BufTy
  | .hbm, ⟨0, _⟩ => ⟨S12288x6272, .f32⟩
  | .hbm, ⟨1, _⟩ => ⟨S8x4x4x256x128, .f32⟩
  | .hbm, ⟨2, _⟩ => ⟨S8x4x4x256x128, .f32⟩
  | .hbm, ⟨3, _⟩ => ⟨S4x4x4x256x768, .f32⟩
  | .hbm, ⟨4, _⟩ => ⟨S2x128, .f32⟩
  | .hbm, ⟨5, _⟩ => ⟨S8192x6272, .f32⟩
  | .hbm, ⟨6, _⟩ => ⟨S8x1024x6272, .f32⟩
  | .hbm, ⟨7, _⟩ => ⟨S8x1024x512, .f32⟩
  | .hbm, ⟨8, _⟩ => ⟨S8x1024x4x128, .f32⟩
  | .hbm, ⟨9, _⟩ => ⟨S8x4x1024x128, .f32⟩
  | .hbm, ⟨10, _⟩ => ⟨S1x128, .f32⟩
  | .hbm, ⟨11, _⟩ => ⟨S128, .f32⟩
  | .hbm, ⟨12, _⟩ => ⟨S8x4x1024x128, .f32⟩
  | .hbm, ⟨13, _⟩ => ⟨S_, .f32⟩
  | .hbm, ⟨14, _⟩ => ⟨S8x4x1024, .f32⟩
  | .hbm, ⟨15, _⟩ => ⟨S8x4x1024x1, .f32⟩
  | .hbm, ⟨16, _⟩ => ⟨S_, .f32⟩
  | .hbm, ⟨17, _⟩ => ⟨S8x4x1024x1, .f32⟩
  | .hbm, ⟨18, _⟩ => ⟨S8x4x1024x1, .f32⟩
  | .hbm, ⟨19, _⟩ => ⟨S_, .f32⟩
  | .hbm, ⟨20, _⟩ => ⟨S8x4x1024x1, .f32⟩
  | .hbm, ⟨21, _⟩ => ⟨S8x4x1024x1, .f32⟩
  | .hbm, ⟨22, _⟩ => ⟨S8x4x1024x1, .f32⟩
  | .hbm, ⟨23, _⟩ => ⟨S8x4x1024x128, .f32⟩
  | .hbm, ⟨24, _⟩ => ⟨S8x4x1024x128, .f32⟩
  | .hbm, ⟨25, _⟩ => ⟨S1x1x1x128, .f32⟩
  | .hbm, ⟨26, _⟩ => ⟨S8x4x1024x128, .f32⟩
  | .hbm, ⟨27, _⟩ => ⟨S8x4x1024x128, .f32⟩
  | .hbm, ⟨28, _⟩ => ⟨S8x1024x512, .f32⟩
  | .hbm, ⟨29, _⟩ => ⟨S8x1024x4x128, .f32⟩
  | .hbm, ⟨30, _⟩ => ⟨S8x4x1024x128, .f32⟩
  | .hbm, ⟨31, _⟩ => ⟨S1x128, .f32⟩
  | .hbm, ⟨32, _⟩ => ⟨S128, .f32⟩
  | .hbm, ⟨33, _⟩ => ⟨S8x4x1024x128, .f32⟩
  | .hbm, ⟨34, _⟩ => ⟨S_, .f32⟩
  | .hbm, ⟨35, _⟩ => ⟨S8x4x1024, .f32⟩
  | .hbm, ⟨36, _⟩ => ⟨S8x4x1024x1, .f32⟩
  | .hbm, ⟨37, _⟩ => ⟨S_, .f32⟩
  | .hbm, ⟨38, _⟩ => ⟨S8x4x1024x1, .f32⟩
  | .hbm, ⟨39, _⟩ => ⟨S8x4x1024x1, .f32⟩
  | .hbm, ⟨40, _⟩ => ⟨S_, .f32⟩
  | .hbm, ⟨41, _⟩ => ⟨S8x4x1024x1, .f32⟩
  | .hbm, ⟨42, _⟩ => ⟨S8x4x1024x1, .f32⟩
  | .hbm, ⟨43, _⟩ => ⟨S8x4x1024x1, .f32⟩
  | .hbm, ⟨44, _⟩ => ⟨S8x4x1024x128, .f32⟩
  | .hbm, ⟨45, _⟩ => ⟨S8x4x1024x128, .f32⟩
  | .hbm, ⟨46, _⟩ => ⟨S1x1x1x128, .f32⟩
  | .hbm, ⟨47, _⟩ => ⟨S8x4x1024x128, .f32⟩
  | .hbm, ⟨48, _⟩ => ⟨S8x4x1024x128, .f32⟩
  | .hbm, ⟨49, _⟩ => ⟨S8x1024x512, .f32⟩
  | .hbm, ⟨50, _⟩ => ⟨S8x1024x4x128, .f32⟩
  | .hbm, ⟨51, _⟩ => ⟨S8x4x1024x128, .f32⟩
  | .hbm, ⟨52, _⟩ => ⟨S8x1x4x256x128, .f32⟩
  | .hbm, ⟨53, _⟩ => ⟨S8x4x256x128, .f32⟩
  | .hbm, ⟨54, _⟩ => ⟨S8x1x4x256x128, .f32⟩
  | .hbm, ⟨55, _⟩ => ⟨S8x4x256x128, .f32⟩
  | .hbm, ⟨56, _⟩ => ⟨S1x4x4x256x768, .f32⟩
  | .hbm, ⟨57, _⟩ => ⟨S4x4x256x768, .f32⟩
  | .hbm, ⟨58, _⟩ => ⟨S8x4x2x512x128, .f32⟩
  | .hbm, ⟨59, _⟩ => ⟨S8x4x768x128, .f32⟩
  | .hbm, ⟨60, _⟩ => ⟨S8x4x768x128, .f32⟩
  | .hbm, ⟨61, _⟩ => ⟨S8x4x1x768x128, .f32⟩
  | .hbm, ⟨62, _⟩ => ⟨S8x4x1x768x128, .f32⟩
  | .hbm, ⟨63, _⟩ => ⟨S8x4x2x768x128, .f32⟩
  | .hbm, ⟨64, _⟩ => ⟨S8x4x768x128, .f32⟩
  | .hbm, ⟨65, _⟩ => ⟨S8x4x768x128, .f32⟩
  | .hbm, ⟨66, _⟩ => ⟨S8x4x1x768x128, .f32⟩
  | .hbm, ⟨67, _⟩ => ⟨S8x4x1x768x128, .f32⟩
  | .hbm, ⟨68, _⟩ => ⟨S8x4x2x768x128, .f32⟩
  | .hbm, ⟨69, _⟩ => ⟨S8x4x2x512x768, .f32⟩
  | .hbm, ⟨70, _⟩ => ⟨S_, .f32⟩
  | .hbm, ⟨71, _⟩ => ⟨S8x4x2x512x768, .f32⟩
  | .hbm, ⟨72, _⟩ => ⟨S8x4x2x512x768, .f32⟩
  | .hbm, ⟨73, _⟩ => ⟨S4x2x512x768, .f32⟩
  | .hbm, ⟨74, _⟩ => ⟨S1x4x2x512x768, .f32⟩
  | .hbm, ⟨75, _⟩ => ⟨S8x4x2x512x768, .f32⟩
  | .hbm, ⟨76, _⟩ => ⟨S8x4x2x512x768, .f32⟩
  | .hbm, ⟨77, _⟩ => ⟨S8x4x2x512x256, .f32⟩
  | .hbm, ⟨78, _⟩ => ⟨S_, .f32⟩
  | .hbm, ⟨79, _⟩ => ⟨S8x4x2x512x256, .f32⟩
  | .hbm, ⟨80, _⟩ => ⟨S8x4x2x512x256, .f32⟩
  | .hbm, ⟨81, _⟩ => ⟨S8x4x2x512x1024, .f32⟩
  | .hbm, ⟨82, _⟩ => ⟨S_, .f32⟩
  | .hbm, ⟨83, _⟩ => ⟨S8x4x2x512, .f32⟩
  | .hbm, ⟨84, _⟩ => ⟨S_, .f32⟩
  | .hbm, ⟨85, _⟩ => ⟨S8x4x2x512, .f32⟩
  | .hbm, ⟨86, _⟩ => ⟨S8x4x2x512, .f32⟩
  | .hbm, ⟨87, _⟩ => ⟨S8x4x2x512x1, .f32⟩
  | .hbm, ⟨88, _⟩ => ⟨S8x4x2x512x1024, .f32⟩
  | .hbm, ⟨89, _⟩ => ⟨S8x4x2x512x1024, .f32⟩
  | .hbm, ⟨90, _⟩ => ⟨S8x4x2x512x1024, .f32⟩
  | .hbm, ⟨91, _⟩ => ⟨S_, .f32⟩
  | .hbm, ⟨92, _⟩ => ⟨S8x4x2x512, .f32⟩
  | .hbm, ⟨93, _⟩ => ⟨S8x4x2x512x1, .f32⟩
  | .hbm, ⟨94, _⟩ => ⟨S8x4x2x512x1024, .f32⟩
  | .hbm, ⟨95, _⟩ => ⟨S8x4x2x512x1024, .f32⟩
  | .hbm, ⟨96, _⟩ => ⟨S8x4x2x512x256, .f32⟩
  | .hbm, ⟨97, _⟩ => ⟨S8x4x2x512x128, .f32⟩
  | .hbm, ⟨98, _⟩ => ⟨S8x4x2x512x768, .f32⟩
  | .hbm, ⟨99, _⟩ => ⟨S8x4x2x512x128, .f32⟩
  | .hbm, ⟨100, _⟩ => ⟨S8x4x2x512x128, .f32⟩
  | .hbm, ⟨101, _⟩ => ⟨S8x4x1024x128, .f32⟩
  | .hbm, ⟨102, _⟩ => ⟨S8x1024x4x128, .f32⟩
  | .hbm, ⟨103, _⟩ => ⟨S8192x512, .f32⟩
  | .hbm, ⟨104, _⟩ => ⟨S8192x512, .bf16⟩
  | _, _ => ⟨S12288x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_5 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_cst_6 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_cst_7 : Ref sig .tc := ⟨.hbm, 82, rfl⟩
abbrev main_v69 : Ref sig .tc := ⟨.hbm, 83, rfl⟩
abbrev main_cst_8 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_cst_9 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩

abbrev nD : Nat := 1
abbrev τ : Topo := Topo.v7x

variable {F : FTy → Type} [FloatOps F]
-- ==== NaBias.lean ====
abbrev S4x4x15x31 : Shape := ⟨4, ![4, 4, 15, 31]⟩
abbrev S7440 : Shape := ⟨1, ![7440]⟩
abbrev S4x4x4x256x768 : Shape := ⟨5, ![4, 4, 4, 256, 768]⟩
abbrev S1x1x4x256x768 : Shape := ⟨5, ![1, 1, 4, 256, 768]⟩
abbrev S64x64 : Shape := ⟨2, ![64, 64]⟩
abbrev S1 : Shape := ⟨1, ![1]⟩
abbrev S1x1x1x64x64 : Shape := ⟨5, ![1, 1, 1, 64, 64]⟩

abbrev nBuf : Space → Nat
  | .hbm => 3
  | .vmem => 2
  | .smem => 1
  | _ => 0

abbrev bufTy : (tb : Table) → Fin (tcTables nBuf tb) → BufTy
  | .hbm, ⟨0, _⟩ => ⟨S4x4x15x31, .f32⟩
  | .hbm, ⟨1, _⟩ => ⟨S7440, .f32⟩
  | .hbm, ⟨2, _⟩ => ⟨S4x4x4x256x768, .f32⟩
  | .local _ .vmem, ⟨0, _⟩ => ⟨S1x1x4x256x768, .f32⟩
  | .local _ .vmem, ⟨1, _⟩ => ⟨S1x1x4x256x768, .f32⟩
  | .local _ .smem, ⟨0, _⟩ => ⟨S7440, .f32⟩
  | _, _ => ⟨S4x4x15x31, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨2, ![4, 4], ![false, false]⟩

def k0_off1 (i : grid0.Coords) (c0_i32_3 : BitVec 32) (c0_i32_4 : BitVec 32) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c465_i32 : BitVec 32 := 465#32
  let v2 : BitVec 32 := Scalar.muli v1 c465_i32
  let v27 : BitVec 32 := Scalar.addi v2 c0_i32_3
  let v28 : BitVec 32 := Scalar.addi v27 c0_i32_4
  let v29 : Index := Scalar.indexCast v28
  ![v29.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 1 → Memref sig .tc .smem S7440 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x4x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== NaBiasRefIdeal.lean ====
abbrev S4x4x15x31 : Shape := ⟨4, ![4, 4, 15, 31]⟩
abbrev S16 : Shape := ⟨1, ![16]⟩
abbrev S_ : Shape := ⟨0, ![]⟩
abbrev S1x16 : Shape := ⟨2, ![1, 16]⟩
abbrev S16x1 : Shape := ⟨2, ![16, 1]⟩
abbrev S16x16 : Shape := ⟨2, ![16, 16]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S16x1x16x1 : Shape := ⟨4, ![16, 1, 16, 1]⟩
abbrev S1x64x1x64 : Shape := ⟨4, ![1, 64, 1, 64]⟩
abbrev S16x64x16x64 : Shape := ⟨4, ![16, 64, 16, 64]⟩
abbrev S16x64x16x64x1 : Shape := ⟨5, ![16, 64, 16, 64, 1]⟩
abbrev S16x64x16x64x2 : Shape := ⟨5, ![16, 64, 16, 64, 2]⟩
abbrev S4x4x16x64x16x64 : Shape := ⟨6, ![4, 4, 16, 64, 16, 64]⟩
abbrev S4x4x8x64x12x64 : Shape := ⟨6, ![4, 4, 8, 64, 12, 64]⟩
abbrev S4x4x16x64x12x64 : Shape := ⟨6, ![4, 4, 16, 64, 12, 64]⟩
abbrev S4x4x4x256x768 : Shape := ⟨5, ![4, 4, 4, 256, 768]⟩

abbrev nBuf : Space → Nat
  | .hbm => 121
  | .vmem => 0
  | .smem => 0
  | _ => 0

abbrev bufTy : (tb : Table) → Fin (tcTables nBuf tb) → BufTy
  | .hbm, ⟨0, _⟩ => ⟨S4x4x15x31, .f32⟩
  | .hbm, ⟨1, _⟩ => ⟨S16, .i32⟩
  | .hbm, ⟨2, _⟩ => ⟨S_, .i32⟩
  | .hbm, ⟨3, _⟩ => ⟨S16, .i32⟩
  | .hbm, ⟨4, _⟩ => ⟨S16, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S_, .i32⟩
  | .hbm, ⟨11, _⟩ => ⟨S16, .i32⟩
  | .hbm, ⟨12, _⟩ => ⟨S16, .i32⟩
  | .hbm, ⟨13, _⟩ => ⟨S1x16, .i32⟩
  | .hbm, ⟨14, _⟩ => ⟨S16x1, .i32⟩
  | .hbm, ⟨15, _⟩ => ⟨S16x16, .i32⟩
  | .hbm, ⟨16, _⟩ => ⟨S16x16, .i32⟩
  | .hbm, ⟨17, _⟩ => ⟨S16x16, .i1⟩
  | .hbm, ⟨18, _⟩ => ⟨S1x16, .i32⟩
  | .hbm, ⟨19, _⟩ => ⟨S16x1, .i32⟩
  | .hbm, ⟨20, _⟩ => ⟨S_, .i32⟩
  | .hbm, ⟨21, _⟩ => ⟨S16x1, .i32⟩
  | .hbm, ⟨22, _⟩ => ⟨S16x1, .i32⟩
  | .hbm, ⟨23, _⟩ => ⟨S16x16, .i32⟩
  | .hbm, ⟨24, _⟩ => ⟨S16x16, .i32⟩
  | .hbm, ⟨25, _⟩ => ⟨S16x16, .i1⟩
  | .hbm, ⟨26, _⟩ => ⟨S16x16, .i1⟩
  | .hbm, ⟨27, _⟩ => ⟨S64, .i32⟩
  | .hbm, ⟨28, _⟩ => ⟨S_, .i32⟩
  | .hbm, ⟨29, _⟩ => ⟨S64, .i32⟩
  | .hbm, ⟨30, _⟩ => ⟨S64, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S64, .i32⟩
  | .hbm, ⟨35, _⟩ => ⟨S64, .i32⟩
  | .hbm, ⟨36, _⟩ => ⟨S_, .i32⟩
  | .hbm, ⟨37, _⟩ => ⟨S64, .i32⟩
  | .hbm, ⟨38, _⟩ => ⟨S64, .i32⟩
  | .hbm, ⟨39, _⟩ => ⟨S1x64, .i32⟩
  | .hbm, ⟨40, _⟩ => ⟨S64x1, .i32⟩
  | .hbm, ⟨41, _⟩ => ⟨S64x64, .i32⟩
  | .hbm, ⟨42, _⟩ => ⟨S64x64, .i32⟩
  | .hbm, ⟨43, _⟩ => ⟨S64x64, .i1⟩
  | .hbm, ⟨44, _⟩ => ⟨S1x64, .i32⟩
  | .hbm, ⟨45, _⟩ => ⟨S64x1, .i32⟩
  | .hbm, ⟨46, _⟩ => ⟨S_, .i32⟩
  | .hbm, ⟨47, _⟩ => ⟨S64x1, .i32⟩
  | .hbm, ⟨48, _⟩ => ⟨S64x1, .i32⟩
  | .hbm, ⟨49, _⟩ => ⟨S64x64, .i32⟩
  | .hbm, ⟨50, _⟩ => ⟨S64x64, .i32⟩
  | .hbm, ⟨51, _⟩ => ⟨S64x64, .i1⟩
  | .hbm, ⟨52, _⟩ => ⟨S64x64, .i1⟩
  | .hbm, ⟨53, _⟩ => ⟨S1x16, .i32⟩
  | .hbm, ⟨54, _⟩ => ⟨S16x1, .i32⟩
  | .hbm, ⟨55, _⟩ => ⟨S16x16, .i32⟩
  | .hbm, ⟨56, _⟩ => ⟨S16x16, .i32⟩
  | .hbm, ⟨57, _⟩ => ⟨S16x16, .i32⟩
  | .hbm, ⟨58, _⟩ => ⟨S_, .i32⟩
  | .hbm, ⟨59, _⟩ => ⟨S16x16, .i32⟩
  | .hbm, ⟨60, _⟩ => ⟨S16x16, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S16x16, .i32⟩
  | .hbm, ⟨65, _⟩ => ⟨S16x16, .i32⟩
  | .hbm, ⟨66, _⟩ => ⟨S_, .i32⟩
  | .hbm, ⟨67, _⟩ => ⟨S16x16, .i32⟩
  | .hbm, ⟨68, _⟩ => ⟨S16x16, .i32⟩
  | .hbm, ⟨69, _⟩ => ⟨S1x64, .i32⟩
  | .hbm, ⟨70, _⟩ => ⟨S64x1, .i32⟩
  | .hbm, ⟨71, _⟩ => ⟨S64x64, .i32⟩
  | .hbm, ⟨72, _⟩ => ⟨S64x64, .i32⟩
  | .hbm, ⟨73, _⟩ => ⟨S64x64, .i32⟩
  | .hbm, ⟨74, _⟩ => ⟨S_, .i32⟩
  | .hbm, ⟨75, _⟩ => ⟨S64x64, .i32⟩
  | .hbm, ⟨76, _⟩ => ⟨S64x64, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S64x64, .i32⟩
  | .hbm, ⟨81, _⟩ => ⟨S64x64, .i32⟩
  | .hbm, ⟨82, _⟩ => ⟨S_, .i32⟩
  | .hbm, ⟨83, _⟩ => ⟨S64x64, .i32⟩
  | .hbm, ⟨84, _⟩ => ⟨S64x64, .i32⟩
  | .hbm, ⟨85, _⟩ => ⟨S16x1x16x1, .i32⟩
  | .hbm, ⟨86, _⟩ => ⟨S1x64x1x64, .i32⟩
  | .hbm, ⟨87, _⟩ => ⟨S_, .i32⟩
  | .hbm, ⟨88, _⟩ => ⟨S16x1x16x1, .i32⟩
  | .hbm, ⟨89, _⟩ => ⟨S16x1x16x1, .i1⟩
  | .hbm, ⟨90, _⟩ => ⟨S_, .i32⟩
  | .hbm, ⟨91, _⟩ => ⟨S16x1x16x1, .i32⟩
  | .hbm, ⟨92, _⟩ => ⟨S16x1x16x1, .i32⟩
  | .hbm, ⟨93, _⟩ => ⟨S16x1x16x1, .i32⟩
  | .hbm, ⟨94, _⟩ => ⟨S_, .i32⟩
  | .hbm, ⟨95, _⟩ => ⟨S1x64x1x64, .i32⟩
  | .hbm, ⟨96, _⟩ => ⟨S1x64x1x64, .i1⟩
  | .hbm, ⟨97, _⟩ => ⟨S_, .i32⟩
  | .hbm, ⟨98, _⟩ => ⟨S1x64x1x64, .i32⟩
  | .hbm, ⟨99, _⟩ => ⟨S1x64x1x64, .i32⟩
  | .hbm, ⟨100, _⟩ => ⟨S1x64x1x64, .i32⟩
  | .hbm, ⟨101, _⟩ => ⟨S16x64x16x64, .i32⟩
  | .hbm, ⟨102, _⟩ => ⟨S16x64x16x64, .i32⟩
  | .hbm, ⟨103, _⟩ => ⟨S16x64x16x64x1, .i32⟩
  | .hbm, ⟨104, _⟩ => ⟨S16x64x16x64x1, .i32⟩
  | .hbm, ⟨105, _⟩ => ⟨S16x64x16x64x2, .i32⟩
  | .hbm, ⟨106, _⟩ => ⟨S4x4x16x64x16x64, .f32⟩
  | .hbm, ⟨107, _⟩ => ⟨S16x1x16x1, .i1⟩
  | .hbm, ⟨108, _⟩ => ⟨S1x64x1x64, .i1⟩
  | .hbm, ⟨109, _⟩ => ⟨S16x64x16x64, .i1⟩
  | .hbm, ⟨110, _⟩ => ⟨S16x64x16x64, .i1⟩
  | .hbm, ⟨111, _⟩ => ⟨S16x64x16x64, .i1⟩
  | .hbm, ⟨112, _⟩ => ⟨S_, .f32⟩
  | .hbm, ⟨113, _⟩ => ⟨S_, .f32⟩
  | .hbm, ⟨114, _⟩ => ⟨S4x4x16x64x16x64, .i1⟩
  | .hbm, ⟨115, _⟩ => ⟨S4x4x16x64x16x64, .f32⟩
  | .hbm, ⟨116, _⟩ => ⟨S4x4x16x64x16x64, .f32⟩
  | .hbm, ⟨117, _⟩ => ⟨S4x4x8x64x12x64, .f32⟩
  | .hbm, ⟨118, _⟩ => ⟨S4x4x8x64x12x64, .f32⟩
  | .hbm, ⟨119, _⟩ => ⟨S4x4x16x64x12x64, .f32⟩
  | .hbm, ⟨120, _⟩ => ⟨S4x4x4x256x768, .f32⟩
  | _, _ => ⟨S4x4x15x31, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_c_1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_c_5 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_7 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_c_9 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_10 : Ref sig .tc := ⟨.hbm, 74, rfl⟩
abbrev main_v47 : Ref sig .tc := ⟨.hbm, 75, rfl⟩
abbrev main_v48 : Ref sig .tc := ⟨.hbm, 76, rfl⟩
abbrev main_c_11 : Ref sig .tc := ⟨.hbm, 77, rfl⟩
abbrev main_c_12 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_c_13 : Ref sig .tc := ⟨.hbm, 87, rfl⟩
abbrev main_v52 : Ref sig .tc := ⟨.hbm, 88, rfl⟩
abbrev main_v53 : Ref sig .tc := ⟨.hbm, 89, rfl⟩
abbrev main_c_14 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_c_15 : Ref sig .tc := ⟨.hbm, 94, rfl⟩
abbrev main_v57 : Ref sig .tc := ⟨.hbm, 95, rfl⟩
abbrev main_v58 : Ref sig .tc := ⟨.hbm, 96, rfl⟩
abbrev main_c_16 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst : Ref sig .tc := ⟨.hbm, 112, rfl⟩
abbrev main_call4_v0 : Ref sig .tc := ⟨.hbm, 113, rfl⟩
abbrev main_call4_v1 : Ref sig .tc := ⟨.hbm, 114, rfl⟩
abbrev main_call4_v2 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩

abbrev nD : Nat := 1
abbrev τ : Topo := Topo.v7x

variable {F : FTy → Type} [FloatOps F]
-- ==== Proof.Softmax.lean ====
module
public import Idealize.ShloMosaic.Lib.IdealHost
public import Idealize.ShloMosaic.Lib.Pointwise
/-! The scalar mathematics of the attention: a row's root-mean-square norm, the softmax-weighted sum written with the
    division before the product and after it, and the equation of the two at finite scores. -/
@[expose] public section
noncomputable section
open Idealize.ShloMosaic
namespace Cert.Softmax

/-- The f32 constant −∞. -/
theorem ofBits_neg_inf : Ideal.ofBits .f32 0xFF800000#32 = ⊥ := by simp [Ideal.ofBits, Ideal.ieee]
/-- The f32 constant +∞. -/
theorem ofBits_inf : Ideal.ofBits .f32 0x7F800000#32 = ⊤ := by simp [Ideal.ofBits, Ideal.ieee]
/-- The f32 constant 128. -/
theorem ofBits_128 : Ideal.ofBits .f32 0x43000000#32 = ((128 : ℝ) : EReal) := by
  simp [Ideal.ofBits, Ideal.ieee, -EReal.coe_mul]; norm_num
/-- The norm's small constant is a positive real. -/
theorem ofBits_eps : ∃ r : ℝ, 0 < r ∧ Ideal.ofBits .f32 0x358637BD#32 = (r : EReal) := by
  refine ⟨8796093 * (2 : ℝ) ^ (-43 : ℤ), by positivity, ?_⟩
  simp [Ideal.ofBits, Ideal.ieee, -EReal.coe_mul]
/-- The scores' scale is a real. -/
theorem ofBits_scale : ∃ r : ℝ, Ideal.ofBits .f32 0x3DB504F3#32 = (r : EReal) := by
  refine ⟨11863283 * (2 : ℝ) ^ (-27 : ℤ), ?_⟩
  simp [Ideal.ofBits, Ideal.ieee, -EReal.coe_mul]

/-- A finite extended real. -/
def IsReal (x : EReal) : Prop := ∃ r : ℝ, x = r

theorem IsReal.mul {x y : EReal} (hx : IsReal x) (hy : IsReal y) : IsReal (x * y) := by
  obtain ⟨a, rfl⟩ := hx; obtain ⟨b, rfl⟩ := hy; exact ⟨a * b, by norm_cast⟩
theorem IsReal.add {x y : EReal} (hx : IsReal x) (hy : IsReal y) : IsReal (x + y) := by
  obtain ⟨a, rfl⟩ := hx; obtain ⟨b, rfl⟩ := hy; exact ⟨a + b, by norm_cast⟩
theorem IsReal.sum {ι : Type} (s : Finset ι) {f : ι → EReal} (h : ∀ k, IsReal (f k)) : IsReal (∑ k ∈ s, f k) := by
  classical
  induction s using Finset.induction_on with
  | empty => exact ⟨0, by simp⟩
  | insert a s ha ih => rw [Finset.sum_insert ha]; exact (h a).add ih
theorem IsReal.ne_top {x : EReal} (h : IsReal x) : x ≠ ⊤ := by obtain ⟨a, rfl⟩ := h; exact EReal.coe_ne_top a
theorem IsReal.ne_bot {x : EReal} (h : IsReal x) : x ≠ ⊥ := by obtain ⟨a, rfl⟩ := h; exact EReal.coe_ne_bot a
theorem isReal_of_ne {x : EReal} (h : x ≠ ⊤) (h' : x ≠ ⊥) : IsReal x := ⟨x.toReal, (EReal.coe_toReal h h').symm⟩
/-- An extended real whose absolute value is below +∞ is finite. -/
theorem isReal_of_abs_lt {x : EReal} (h : max x (-x) < ⊤) : IsReal x := by
  refine isReal_of_ne (fun e => ?_) (fun e => ?_) <;> subst e <;> simp at h

/-- A row's root-mean-square norm over 128 columns. -/
def rms (x : Fin 128 → EReal) (l : Fin 128) : EReal :=
  x l * Ideal.rsqrt (Ideal.div (∑ k, x k * x k) (Ideal.ofBits .f32 0x43000000#32) + Ideal.ofBits .f32 0x358637BD#32)

theorem mul_self_nonneg' (x : EReal) : 0 ≤ x * x := by
  induction x with
  | bot => simp
  | top => simp
  | coe a => exact_mod_cast mul_self_nonneg a

/-- The normalised row is finite, whatever the row. -/
theorem rms_fin (x : Fin 128 → EReal) (l : Fin 128) : IsReal (rms x l) := by
  obtain ⟨e, he, he'⟩ := ofBits_eps
  unfold rms
  rw [ofBits_128, he', Ideal.div_coe (by norm_num)]
  by_cases h : ∀ k, IsReal (x k)
  · have h2 : IsReal (∑ k, x k * x k) := IsReal.sum _ fun k => (h k).mul (h k)
    have h0 : 0 ≤ ∑ k, x k * x k := Finset.sum_nonneg fun k _ => mul_self_nonneg' (x k)
    refine (h l).mul ?_
    obtain ⟨r, hr⟩ := h2
    rw [hr] at h0 ⊢
    have h0 : 0 ≤ r := by exact_mod_cast h0
    have hp : 0 < r * (1 / 128) + e := by positivity
    have hc : ((r : EReal) * ((1 / 128 : ℝ) : EReal) + (e : EReal)) = ((r * (1 / 128) + e : ℝ) : EReal) := by norm_cast
    rw [hc, Ideal.rsqrt_coe, if_neg (not_lt.mpr hp.le), if_neg hp.ne']
    exact ⟨_, rfl⟩
  · push Not at h
    obtain ⟨k, hk⟩ := h
    have hk' : x k * x k = ⊤ := by
      induction hx : x k with
      | bot => simp
      | top => simp
      | coe a => exact absurd ⟨a, hx⟩ hk
    have hs : ∑ k, x k * x k = ⊤ := by
      refine top_le_iff.mp (hk' ▸ ?_)
      exact Finset.single_le_sum (f := fun k => x k * x k) (fun k _ => mul_self_nonneg' (x k)) (Finset.mem_univ k)
    rw [hs, EReal.top_mul_coe_of_pos (by norm_num), EReal.top_add_coe, Ideal.rsqrt_top, mul_zero]
    exact ⟨0, by simp⟩

/-- The largest of the values, starting from −∞. -/
def top {n : ℕ} (s : Fin n → EReal) : EReal := Finset.univ.fold max (Ideal.ofBits .f32 0xFF800000#32) s

theorem top_fin {n : ℕ} (hn : 0 < n) {s : Fin n → EReal} (h : ∀ k, IsReal (s k)) : IsReal (top s) := by
  unfold top
  rw [ofBits_neg_inf]
  refine isReal_of_ne (ne_of_lt ?_) (ne_of_gt ?_)
  · rw [Finset.fold_max_lt]; exact ⟨bot_lt_top, fun k _ => lt_top_iff_ne_top.mpr (h k).ne_top⟩
  · rw [Finset.lt_fold_max]; exact .inr ⟨⟨0, hn⟩, Finset.mem_univ _, bot_lt_iff_ne_bot.mpr (h _).ne_bot⟩

theorem max_top {n : ℕ} (s : Fin n → EReal) : max (Ideal.ofBits .f32 0xFF800000#32) (top s) = top s := by
  rw [ofBits_neg_inf]; exact max_eq_right bot_le

/-- Multiplying a sum by a real that is not negative. -/
theorem sum_mul_coe {ι : Type} (s : Finset ι) (f : ι → EReal) {c : ℝ} (hc : 0 ≤ c) :
    (∑ k ∈ s, f k) * (c : EReal) = ∑ k ∈ s, f k * c :=
  map_sum ({ toFun := (· * (c : EReal)), map_zero' := zero_mul _,
             map_add' := EReal.right_distrib_of_nonneg_of_ne_top (by exact_mod_cast hc) (EReal.coe_ne_top c) } : EReal →+ EReal) f s

theorem exp_sub_pos {x y : EReal} (hx : IsReal x) (hy : IsReal y) : ∃ r : ℝ, 0 < r ∧ Ideal.exp (x - y) = (r : EReal) := by
  obtain ⟨a, rfl⟩ := hx; obtain ⟨b, rfl⟩ := hy
  exact ⟨Real.exp (a - b), Real.exp_pos _, by rw [← EReal.coe_sub]; rfl⟩

theorem sum_coe_pos {n : ℕ} (hn : 0 < n) {f : Fin n → EReal} (h : ∀ k, ∃ r : ℝ, 0 < r ∧ f k = (r : EReal)) :
    ∃ r : ℝ, 0 < r ∧ ∑ k, f k = (r : EReal) := by
  choose g hg hf using h
  refine ⟨∑ k, g k, Finset.sum_pos (fun k _ => hg k) ⟨⟨0, hn⟩, Finset.mem_univ _⟩, ?_⟩
  simp only [hf]
  exact (map_sum (⟨⟨Real.toEReal, rfl⟩, EReal.coe_add⟩ : ℝ →+ EReal) g Finset.univ).symm

/-- The softmax-weighted sum of `v`, the exponentials divided by their sum. -/
def weighted {n : ℕ} (s v : Fin n → EReal) : EReal :=
  ∑ k, Ideal.div (Ideal.exp (s k - top s)) (∑ j, Ideal.exp (s j - top s)) * v k

/-- At finite scores the division may come after the product with the values. -/
theorem div_sum_eq_weighted {n : ℕ} (hn : 0 < n) (s v : Fin n → EReal) (h : ∀ k, IsReal (s k)) :
    Ideal.div (∑ k, Ideal.exp (s k - top s) * v k) (∑ j, Ideal.exp (s j - top s)) = weighted s v := by
  obtain ⟨d, hd, hD⟩ := sum_coe_pos hn fun k => exp_sub_pos (h k) (top_fin hn h)
  unfold weighted
  rw [hD, Ideal.div_coe hd.ne', sum_mul_coe _ _ (by positivity)]
  refine Finset.sum_congr rfl fun k _ => ?_
  rw [Ideal.div_coe hd.ne', mul_right_comm]

end Cert.Softmax
-- ==== Proof.CtxSpec.lean ====
module
public import proofs.«01_k».proof.Proof.Softmax
/-! What the context attention computes, as functions of the projected tokens and the norm weights, entries read at
    natural numbers. -/
@[expose] public section
noncomputable section
open Idealize.ShloMosaic
namespace Cert.CtxSpec
open Cert.Softmax

/-- The entry of a matrix at row `r` and column `c`, zero outside. -/
def at2 {a b : ℕ} (z : (⟨2, ![a, b]⟩ : Shape).Idx → EReal) (r c : ℕ) : EReal :=
  if h : r < a ∧ c < b then z (ix2 ⟨r, h.1⟩ ⟨c, h.2⟩) else 0

theorem at2_eq {a b : ℕ} (z : (⟨2, ![a, b]⟩ : Shape).Idx → EReal) (i : Fin a) (j : Fin b) :
    z (ix2 i j) = at2 z i j := by unfold at2; rw [dif_pos ⟨i.2, j.2⟩]

variable (z : (⟨2, ![12288, 6272]⟩ : Shape).Idx → EReal) (w : (⟨2, ![2, 128]⟩ : Shape).Idx → EReal)

/-- Token `r`'s 128 columns from `c`, normalised, times row `j` of the weights. -/
def nrow (j r c : ℕ) (l : Fin 128) : EReal := rms (fun d => at2 z r (c + d)) l * at2 w j l

/-- The score of query token `r` (columns from `qc`) against key token `k` (columns from `kc`). -/
def score (r qc k kc : ℕ) : EReal :=
  (∑ d, nrow z w 0 r qc d * nrow z w 1 k kc d) * Ideal.ofBits .f32 0x3DB504F3#32

/-- Token `r`'s attention over the 256 tokens of its sequence: queries from column `qc`, keys from `kc`, values in
    column `vc`. -/
def att (r qc kc vc : ℕ) : EReal :=
  weighted (fun s : Fin 256 => score z w r qc (r / 256 * 256 + s) kc) (fun s => at2 z (r / 256 * 256 + s) vc)

variable {z w} (hw : ∀ i, IsReal (w i))
include hw

theorem at2_real (r c : ℕ) : IsReal (at2 w r c) := by
  unfold at2; split
  · exact hw _
  · exact ⟨0, rfl⟩

theorem score_real (r qc k kc : ℕ) : IsReal (score z w r qc k kc) := by
  obtain ⟨s, hs⟩ := ofBits_scale
  exact IsReal.mul (IsReal.sum _ fun d => ((rms_fin _ _).mul (at2_real hw _ _)).mul ((rms_fin _ _).mul (at2_real hw _ _)))
    ⟨s, hs⟩

end Cert.CtxSpec
-- ==== Proof.Ctx.lean ====
module
public import proofs.«01_k».proof.Proof.Gen.KernelIdeal.Value
public import proofs.«01_k».proof.Proof.CtxSpec
public import Idealize.ShloMosaic.Lib.Pipeline.ValueKit
public import Idealize.ShloMosaic.Lib.Pointwise
/-! The context attention kernel's outputs. -/
@[expose] public section
set_option maxRecDepth 16384
noncomputable section
open Idealize.ShloMosaic Idealize.ShloMosaic.TcCoe Idealize.SL.Sem
open Idealize.ShloMosaic.Pipeline (Dat)
namespace Cert.KernelIdeal.Ctx
open Cert.KernelIdeal Cert.KernelIdeal.Gen Cert.Softmax Cert.CtxSpec
variable (m : (ℓ : Loc nD τ sig) → Buf (Elt Ideal) ℓ)

theorem idx : ∀ t : Fin cfg0.N, win0_0.index t = ![t.val, 0] ∧ win0_1.index t = ![t.val, 1]
    ∧ win0_2.index t = ![t.val, 2] ∧ win0_3.index t = ![t.val, 6] ∧ win0_4.index t = ![t.val, 14]
    ∧ win0_5.index t = ![t.val, 15] ∧ win0_6.index t = ![0, 0] ∧ win0_7.index t = ![0, 0]
    ∧ win0_8.index t = ![t.val, 0] ∧ win0_9.index t = ![t.val, 0] ∧ win0_10.index t = ![t.val, 0, 0, 0]
    ∧ win0_11.index t = ![t.val, 0, 0, 0] ∧ win0_12.index t = ![t.val, 0, 0, 0] ∧ win0_13.index t = ![t.val, 0, 0, 0] :=
  (by decide +kernel : ∀ t : Fin grid0.N, _)

/-- A block's row norm times a row of weights. -/
theorem pay2_at (x : FVec Ideal S256x128 .f32) (w : FVec Ideal S1x128 .f32) (i : Fin 256) (l : Fin 128) :
    k0_pay2 (F := Ideal) x w (ix2 i l) = rms (fun d => x (ix2 i d)) l * w (ix2 0 l) := by
  pointwise [k0_pay2]; rfl

theorem pay6_at (k v q : FVec Ideal S256x128 .f32) (i : Fin 256) (l : Fin 128) :
    k0_pay6 (F := Ideal) k v q (ix2 i l)
      = Ideal.div (∑ x, Ideal.exp ((∑ d, q (ix2 i d) * k (ix2 x d)) * Ideal.ofBits .f32 0x3DB504F3#32 -
            top fun y : Fin 256 => (∑ d, q (ix2 i d) * k (ix2 y d)) * Ideal.ofBits .f32 0x3DB504F3#32) * v (ix2 x l))
          (∑ x, Ideal.exp ((∑ d, q (ix2 i d) * k (ix2 x d)) * Ideal.ofBits .f32 0x3DB504F3#32 -
            top fun y : Fin 256 => (∑ d, q (ix2 i d) * k (ix2 y d)) * Ideal.ofBits .f32 0x3DB504F3#32)) := by
  pointwise [k0_pay6]; rfl

/-- The stored attention of one head, whatever the parts its payload was cut into. -/
def head (q k v : FVec Ideal S256x128 .f32) (wq wk : FVec Ideal S1x128 .f32) : FVec Ideal S256x128 .bf16 :=
  k0_pay6 (F := Ideal) (k0_pay2 k wk) v (k0_pay2 q wq)

variable (q k v : FVec Ideal S256x128 .f32) (wq wk : FVec Ideal S1x128 .f32)
theorem pay22_eq : k0_pay22 (F := Ideal) (k0_pay18 k wk) v q wq (k0_pay19 q) (FloatOps.ofBits .f32 1124073472#32) = head q k v wq wk := rfl
theorem pay17_eq : k0_pay17 (F := Ideal) v (k0_pay15 q wq) (k0_pay16 k wk) = head q k v wq wk := rfl
theorem pay11_eq : k0_pay11 (F := Ideal) (k0_pay7 k wk) v q wq (k0_pay8 q) = head q k v wq wk := rfl
theorem pay6_eq : k0_pay6 (F := Ideal) (k0_pay2 k wk) v (k0_pay3 q wq) = head q k v wq wk := rfl
theorem pay34_eq : k0_pay34 (F := Ideal) (k0_pay30 v) (k0_pay32 (k0_pay24 k wk (k0_pay23 k)) q wq) (k0_pay33 (k0_pay24 k wk (k0_pay23 k)) q wq) = head q k v wq wk := rfl
theorem pay29_eq : k0_pay29 (F := Ideal) v (k0_pay27 k wk (k0_pay23 k) q wq) (k0_pay28 (F := Ideal)) = head q k v wq wk := rfl
theorem pay39_eq : k0_pay39 (F := Ideal) (k0_pay35 k wk) v q wq (k0_pay38 q) (FloatOps.ofBits .f32 1124073472#32) = head q k v wq wk := rfl
theorem pay1_eq : k0_pay1 (F := Ideal) v (k0_pay40 q wq) (k0_pay41 (k0_pay35 k wk)) = head q k v wq wk := rfl
theorem pay18_eq : k0_pay18 (F := Ideal) k wk = k0_pay2 k wk := rfl
theorem pay12_eq : k0_pay12 (F := Ideal) k wk = k0_pay2 k wk := rfl
theorem pay7_eq : k0_pay7 (F := Ideal) k wk = k0_pay2 k wk := rfl

/-- One head's stored attention, from what its operands hold. -/
theorem head_at {Z : FVec Ideal S12288x6272 .f32} {W : FVec Ideal S2x128 .f32} (hW : ∀ i, IsReal (W i)) {r qc kc vc : ℕ}
    {i : Fin 256} {l : Fin 128} (hq : ∀ d : Fin 128, q (ix2 i d) = at2 Z r (qc + d))
    (hk : ∀ (s : Fin 256) (d : Fin 128), k (ix2 s d) = at2 Z (r / 256 * 256 + s) (kc + d))
    (hv : ∀ s : Fin 256, v (ix2 s l) = at2 Z (r / 256 * 256 + s) vc)
    (hwq : ∀ d : Fin 128, wq (ix2 0 d) = at2 W 0 d) (hwk : ∀ d : Fin 128, wk (ix2 0 d) = at2 W 1 d) :
    head q k v wq wk (ix2 i l) = att Z W r qc kc vc := by
  unfold head
  rw [pay6_at]
  simp only [pay2_at, hq, hk, hv, hwq, hwk]
  exact div_sum_eq_weighted (by norm_num) (fun s : Fin 256 => score Z W r qc (r / 256 * 256 + s) kc) _ fun s => score_real hW _ _ _ _

theorem pay13_eq : k0_pay13 (F := Ideal) k wk = k0_pay20 (k0_pay2 k wk) := rfl
theorem pay9_eq : k0_pay9 (F := Ideal) (k0_pay7 k wk) = k0_pay20 (k0_pay2 k wk) := rfl
theorem pay4_eq : k0_pay4 (F := Ideal) k wk = k0_pay20 (k0_pay2 k wk) := rfl
theorem pay20_eq : k0_pay20 (F := Ideal) (k0_pay18 k wk) = k0_pay20 (k0_pay2 k wk) := rfl
theorem pay36_eq : k0_pay36 (F := Ideal) k wk = k0_pay20 (k0_pay2 k wk) := rfl
theorem pay25_eq : k0_pay25 (F := Ideal) k wk (k0_pay23 k) = k0_pay20 (k0_pay2 k wk) := rfl
theorem pay14_eq : k0_pay14 (F := Ideal) v = k0_pay21 v := rfl
theorem pay10_eq : k0_pay10 (F := Ideal) v = k0_pay21 v := rfl
theorem pay5_eq : k0_pay5 (F := Ideal) v = k0_pay21 v := rfl
theorem pay37_eq : k0_pay37 (F := Ideal) v = k0_pay21 v := rfl
theorem pay26_eq : k0_pay26 (F := Ideal) v = k0_pay21 v := rfl
theorem pay20_at (a b : Fin 1) (i : Fin 256) (l : Fin 128) : k0_pay20 (F := Ideal) k (ix4 a b i l) = k (ix2 i l) := by
  pointwise [k0_pay20]
theorem pay21_at (a b : Fin 1) (i : Fin 256) (l : Fin 128) : k0_pay21 (F := Ideal) k (ix4 a b i l) = k (ix2 i l) := by
  pointwise [k0_pay21]

variable (c : Dev nD) (t : Fin cfg0.N)
abbrev Z : FVec Ideal S12288x6272 .f32 := m ((c : Thread nD τ).loc main_arg0)

theorem X0_0_at (y : S256x512.Idx) : X0_0 m c t y = at2 (Z m c) (t * 256 + y 0) (0 + y 1) := by
  unfold X0_0 Pipeline.Window.fill
  rw [dif_pos (moved0_0 t _)]
  blk_point [iblk, V, idx t]
  all_goals exfalso; omega
theorem ld_0 (o : ℕ) (h) (i : Fin 256) (d : Fin 128) :
    View.ld (X0_0 m c t) (Rect.unit ![0, o] ![256, 128] h) (ix2 i d) = at2 (Z m c) (t * 256 + i) (0 + o + d) := by
  rw [View.ld_apply, X0_0_at, Rect.idx_unit_val, Rect.idx_unit_val, ← add_assoc (_ : ℕ) (![0, o] 1) _]
  show at2 _ (t * 256 + (0 + i)) _ = _
  rw [zero_add]; rfl
theorem X0_1_at (y : S256x512.Idx) : X0_1 m c t y = at2 (Z m c) (t * 256 + y 0) (512 + y 1) := by
  unfold X0_1 Pipeline.Window.fill
  rw [dif_pos (moved0_1 t _)]
  blk_point [iblk, V, idx t]
  all_goals exfalso; omega
theorem ld_1 (o : ℕ) (h) (i : Fin 256) (d : Fin 128) :
    View.ld (X0_1 m c t) (Rect.unit ![0, o] ![256, 128] h) (ix2 i d) = at2 (Z m c) (t * 256 + i) (512 + o + d) := by
  rw [View.ld_apply, X0_1_at, Rect.idx_unit_val, Rect.idx_unit_val, ← add_assoc (_ : ℕ) (![0, o] 1) _]
  show at2 _ (t * 256 + (0 + i)) _ = _
  rw [zero_add]; rfl
theorem X0_2_at (y : S256x512.Idx) : X0_2 m c t y = at2 (Z m c) (t * 256 + y 0) (1024 + y 1) := by
  unfold X0_2 Pipeline.Window.fill
  rw [dif_pos (moved0_2 t _)]
  blk_point [iblk, V, idx t]
  all_goals exfalso; omega
theorem ld_2 (o : ℕ) (h) (i : Fin 256) (d : Fin 128) :
    View.ld (X0_2 m c t) (Rect.unit ![0, o] ![256, 128] h) (ix2 i d) = at2 (Z m c) (t * 256 + i) (1024 + o + d) := by
  rw [View.ld_apply, X0_2_at, Rect.idx_unit_val, Rect.idx_unit_val, ← add_assoc (_ : ℕ) (![0, o] 1) _]
  show at2 _ (t * 256 + (0 + i)) _ = _
  rw [zero_add]; rfl
theorem X0_3_at (y : S256x512.Idx) : X0_3 m c t y = at2 (Z m c) (t * 256 + y 0) (3072 + y 1) := by
  unfold X0_3 Pipeline.Window.fill
  rw [dif_pos (moved0_3 t _)]
  blk_point [iblk, V, idx t]
  all_goals exfalso; omega
theorem ld_3 (o : ℕ) (h) (i : Fin 256) (d : Fin 128) :
    View.ld (X0_3 m c t) (Rect.unit ![0, o] ![256, 128] h) (ix2 i d) = at2 (Z m c) (t * 256 + i) (3072 + o + d) := by
  rw [View.ld_apply, X0_3_at, Rect.idx_unit_val, Rect.idx_unit_val, ← add_assoc (_ : ℕ) (![0, o] 1) _]
  show at2 _ (t * 256 + (0 + i)) _ = _
  rw [zero_add]; rfl
theorem X0_4_at (y : S256x256.Idx) : X0_4 m c t y = at2 (Z m c) (t * 256 + y 0) (3584 + y 1) := by
  unfold X0_4 Pipeline.Window.fill
  rw [dif_pos (moved0_4 t _)]
  blk_point [iblk, V, idx t]
  all_goals exfalso; omega
theorem ld_4 (o : ℕ) (h) (i : Fin 256) (d : Fin 128) :
    View.ld (X0_4 m c t) (Rect.unit ![0, o] ![256, 128] h) (ix2 i d) = at2 (Z m c) (t * 256 + i) (3584 + o + d) := by
  rw [View.ld_apply, X0_4_at, Rect.idx_unit_val, Rect.idx_unit_val, ← add_assoc (_ : ℕ) (![0, o] 1) _]
  show at2 _ (t * 256 + (0 + i)) _ = _
  rw [zero_add]; rfl
theorem X0_5_at (y : S256x256.Idx) : X0_5 m c t y = at2 (Z m c) (t * 256 + y 0) (3840 + y 1) := by
  unfold X0_5 Pipeline.Window.fill
  rw [dif_pos (moved0_5 t _)]
  blk_point [iblk, V, idx t]
  all_goals exfalso; omega
theorem ld_5 (o : ℕ) (h) (i : Fin 256) (d : Fin 128) :
    View.ld (X0_5 m c t) (Rect.unit ![0, o] ![256, 128] h) (ix2 i d) = at2 (Z m c) (t * 256 + i) (3840 + o + d) := by
  rw [View.ld_apply, X0_5_at, Rect.idx_unit_val, Rect.idx_unit_val, ← add_assoc (_ : ℕ) (![0, o] 1) _]
  show at2 _ (t * 256 + (0 + i)) _ = _
  rw [zero_add]; rfl
theorem ldw_6 {j : ℕ} (hj : j < 2) (h) (d : Fin 128) :
    View.ld (iblk m c 6 t) (Rect.unit ![j, 0] ![1, 128] h) (ix2 0 d) = at2 (V m c main_arg1) j d := by
  blk_point [iblk, V, idx t]
  all_goals exfalso; omega
theorem ldw_7 {j : ℕ} (hj : j < 2) (h) (d : Fin 128) :
    View.ld (iblk m c 7 t) (Rect.unit ![j, 0] ![1, 128] h) (ix2 0 d) = at2 (V m c main_arg2) j d := by
  blk_point [iblk, V, idx t]
  all_goals exfalso; omega

variable (hna : ∀ i, IsReal (m ((c : Thread nD τ).loc main_arg1) i)) (hgq : ∀ i, IsReal (m ((c : Thread nD τ).loc main_arg2) i))
abbrev Wna : FVec Ideal S2x128 .f32 := m ((c : Thread nD τ).loc main_arg1)
abbrev Wgq : FVec Ideal S2x128 .f32 := m ((c : Thread nD τ).loc main_arg2)

include hna in
theorem head_na (o : ℕ) (h0 h1 h2 h3 h4) (i : Fin 256) (l : Fin 128) :
    head (View.ld (X0_0 m c t) (Rect.unit ![0, o] ![256, 128] h0)) (View.ld (X0_1 m c t) (Rect.unit ![0, o] ![256, 128] h1))
        (View.ld (X0_2 m c t) (Rect.unit ![0, o] ![256, 128] h2)) (View.ld (iblk m c 6 t) (Rect.unit ![0, 0] ![1, 128] h3))
        (View.ld (iblk m c 6 t) (Rect.unit ![1, 0] ![1, 128] h4)) (ix2 i l)
      = att (Z m c) (Wna m c) (t * 256 + i) (0 + o) (512 + o) (1024 + o + l) := by
  have e (s : Fin 256) : (t * 256 + i : ℕ) / 256 * 256 + s = t * 256 + s := by omega
  refine head_at _ _ _ _ _ hna (fun d => ld_0 ..) (fun s d => ?_) (fun s => ?_) (ldw_6 m c t (by norm_num) _) (ldw_6 m c t (by norm_num) _)
  · rw [e]; exact ld_1 ..
  · rw [e]; exact ld_2 ..
include hgq in
theorem head_gq (o o' : ℕ) (h0 h1 h2 h3 h4) (i : Fin 256) (l : Fin 128) :
    head (View.ld (X0_3 m c t) (Rect.unit ![0, o] ![256, 128] h0)) (View.ld (X0_4 m c t) (Rect.unit ![0, o'] ![256, 128] h1))
        (View.ld (X0_5 m c t) (Rect.unit ![0, o'] ![256, 128] h2)) (View.ld (iblk m c 7 t) (Rect.unit ![0, 0] ![1, 128] h3))
        (View.ld (iblk m c 7 t) (Rect.unit ![1, 0] ![1, 128] h4)) (ix2 i l)
      = att (Z m c) (Wgq m c) (t * 256 + i) (3072 + o) (3584 + o') (3840 + o' + l) := by
  have e (s : Fin 256) : (t * 256 + i : ℕ) / 256 * 256 + s = t * 256 + s := by omega
  refine head_at _ _ _ _ _ hgq (fun d => ld_3 ..) (fun s d => ?_) (fun s => ?_) (ldw_7 m c t (by norm_num) _) (ldw_7 m c t (by norm_num) _)
  · rw [e]; exact ld_4 ..
  · rw [e]; exact ld_5 ..

include hna in
theorem final8 : (dats m 0 c).arrAt 8 (cfgs 0).N = fun y : S4096x512.Idx =>
    att (Z m c) (Wna m c) (y 0) (128 * (y 1 / 128)) (512 + 128 * (y 1 / 128)) (1024 + y 1) := by
  refine (dats m 0 c).arrAt_eq_of_covers 8 _ (by decide +kernel) fun t _ y => ?_
  obtain ⟨-, -, -, -, -, -, -, -, e, -⟩ := idx t
  blk_simp
  rw [after0_8]
  unfold outsAt0
  frame_out
  canon_tiles x h
  all_goals
    idx_vars x
    first | rw [pay22_eq] | rw [pay17_eq] | rw [pay11_eq] | rw [pay6_eq]
    refine (head_na m c t hna ..).trans ?_
    simp only [e, h0, h1]
    congr 1 <;> simp <;> omega
include hgq in
theorem final9 : (dats m 0 c).arrAt 9 (cfgs 0).N = fun y : S4096x512.Idx =>
    att (Z m c) (Wgq m c) (y 0) (3072 + 128 * (y 1 / 128)) (3584 + 128 * (y 1 / 256)) (3840 + 128 * (y 1 / 256) + y 1 % 128) := by
  refine (dats m 0 c).arrAt_eq_of_covers 9 _ (by decide +kernel) fun t _ y => ?_
  obtain ⟨-, -, -, -, -, -, -, -, -, e, -⟩ := idx t
  blk_simp
  rw [after0_9]
  unfold outsAt0
  frame_out
  canon_tiles x h
  all_goals
    idx_vars x
    first | rw [pay1_eq] | rw [pay39_eq] | rw [pay34_eq] | rw [pay29_eq]
    refine (head_gq m c t hgq ..).trans ?_
    simp only [e, h0, h1]
    congr 1 <;> simp <;> omega
theorem final10 : (dats m 0 c).arrAt 10 (cfgs 0).N = fun y : S16x4x256x128.Idx =>
    nrow (Z m c) (Wna m c) 1 (y 0 * 256 + y 2) (512 + 128 * y 1) ⟨(y 3 : ℕ) % 128, by omega⟩ := by
  refine (dats m 0 c).arrAt_eq_of_covers 10 _ (by decide +kernel) fun t _ y => ?_
  obtain ⟨-, -, -, -, -, -, -, -, -, -, e, -⟩ := idx t
  blk_simp
  rw [after0_10]
  unfold outsAt0
  frame_out
  canon_tiles x h
  all_goals
    idx_vars x
    first | rw [pay20_eq] | rw [pay13_eq] | rw [pay9_eq] | rw [pay4_eq] | rw [pay36_eq] | rw [pay25_eq]
    rw [pay20_at, pay2_at, ldw_6 m c t (by norm_num)]
    simp only [ld_1, e, h0, h1, h2, h3]
    refine Eq.trans (b := nrow (Z m c) (Wna m c) 1 (t * 256 + x2) _ x3) rfl ?_
    congr 1
    · simp
    · simp
      try omega
    · apply Fin.ext; simp; omega
theorem final11 : (dats m 0 c).arrAt 11 (cfgs 0).N = fun y : S16x4x256x128.Idx =>
    at2 (Z m c) (y 0 * 256 + y 2) (1024 + 128 * y 1 + y 3) := by
  refine (dats m 0 c).arrAt_eq_of_covers 11 _ (by decide +kernel) fun t _ y => ?_
  obtain ⟨-, -, -, -, -, -, -, -, -, -, -, e, -⟩ := idx t
  blk_simp
  rw [after0_11]
  unfold outsAt0
  frame_out
  canon_tiles x h
  all_goals
    idx_vars x
    first | rw [pay14_eq] | rw [pay10_eq] | rw [pay5_eq] | rw [pay37_eq] | rw [pay26_eq] | skip
    rw [pay21_at, ld_2]
    simp only [e, h0, h1, h2, h3]
    congr 1 <;> simp <;> omega
theorem final12 : (dats m 0 c).arrAt 12 (cfgs 0).N = fun y : S16x2x256x128.Idx =>
    nrow (Z m c) (Wgq m c) 1 (y 0 * 256 + y 2) (3584 + 128 * y 1) ⟨(y 3 : ℕ) % 128, by omega⟩ := by
  refine (dats m 0 c).arrAt_eq_of_covers 12 _ (by decide +kernel) fun t _ y => ?_
  obtain ⟨-, -, -, -, -, -, -, -, -, -, -, -, e, -⟩ := idx t
  blk_simp
  rw [after0_12]
  unfold outsAt0
  frame_out
  canon_tiles x h
  all_goals
    idx_vars x
    first | rw [pay20_eq] | rw [pay13_eq] | rw [pay9_eq] | rw [pay4_eq] | rw [pay36_eq] | rw [pay25_eq]
    rw [pay20_at, pay2_at, ldw_7 m c t (by norm_num)]
    simp only [ld_4, e, h0, h1, h2, h3]
    refine Eq.trans (b := nrow (Z m c) (Wgq m c) 1 (t * 256 + x2) _ x3) rfl ?_
    congr 1
    · simp
    · simp
      try omega
    · apply Fin.ext; simp; omega
theorem final13 : (dats m 0 c).arrAt 13 (cfgs 0).N = fun y : S16x2x256x128.Idx =>
    at2 (Z m c) (y 0 * 256 + y 2) (3840 + 128 * y 1 + y 3) := by
  refine (dats m 0 c).arrAt_eq_of_covers 13 _ (by decide +kernel) fun t _ y => ?_
  obtain ⟨-, -, -, -, -, -, -, -, -, -, -, -, -, e⟩ := idx t
  blk_simp
  rw [after0_13]
  unfold outsAt0
  frame_out
  canon_tiles x h
  all_goals
    idx_vars x
    first | rw [pay14_eq] | rw [pay10_eq] | rw [pay5_eq] | rw [pay37_eq] | rw [pay26_eq] | skip
    rw [pay21_at, ld_5]
    simp only [e, h0, h1, h2, h3]
    congr 1 <;> simp <;> omega
end Cert.KernelIdeal.Ctx
-- ==== Proof.CtxRef.lean ====
module
public import proofs.«01_k».proof.Proof.Gen.ReferenceIdeal.Run
public import proofs.«01_k».proof.Proof.CtxSpec
public import Idealize.ShloMosaic.Lib.Pointwise
/-! The reference's results, read at an index. -/
@[expose] public section
set_option maxRecDepth 16384
noncomputable section
open Idealize.ShloMosaic Idealize.ShloMosaic.TcCoe Idealize.SL.Sem
namespace Cert.ReferenceIdeal.Ctx
open Cert.ReferenceIdeal Cert.ReferenceIdeal.Gen Cert.Softmax Cert.CtxSpec

/-- The prompt's tokens, by sequence. -/
abbrev tokens (z : FVec Ideal S12288x6272 .f32) : FVec Ideal S16x256x6272 .f32 :=
  shapeCast _ (extractStridedSlice S4096x6272 ![0, 0] z slices_S12288x6272_S4096x6272_0_0) shapeCasts_S4096x6272_S16x256x6272
abbrev heads4 (x : FVec Ideal S16x256x512 .f32) : FVec Ideal S16x4x256x128 .f32 :=
  transpose S16x4x256x128 [0, 2, 1, 3] (shapeCast _ x shapeCasts_S16x256x512_S16x256x4x128) transposes_S16x256x4x128_S16x4x256x128_0_2_1_3
abbrev heads2 (x : FVec Ideal S16x256x256 .f32) : FVec Ideal S16x2x256x128 .f32 :=
  transpose S16x2x256x128 [0, 2, 1, 3] (shapeCast _ x shapeCasts_S16x256x256_S16x256x2x128) transposes_S16x256x2x128_S16x2x256x128_0_2_1_3
def naQ (z : FVec Ideal S12288x6272 .f32) : FVec Ideal S16x4x256x128 .f32 :=
  heads4 (extractStridedSlice S16x256x512 ![0, 0, 0] (tokens z) slices_S16x256x6272_S16x256x512_0_0_0)
def naK (z : FVec Ideal S12288x6272 .f32) : FVec Ideal S16x4x256x128 .f32 :=
  heads4 (extractStridedSlice S16x256x512 ![0, 0, 512] (tokens z) slices_S16x256x6272_S16x256x512_0_0_512)
def naV (z : FVec Ideal S12288x6272 .f32) : FVec Ideal S16x4x256x128 .f32 :=
  heads4 (extractStridedSlice S16x256x512 ![0, 0, 1024] (tokens z) slices_S16x256x6272_S16x256x512_0_0_1024)
def gqQ (z : FVec Ideal S12288x6272 .f32) : FVec Ideal S16x4x256x128 .f32 :=
  heads4 (extractStridedSlice S16x256x512 ![0, 0, 3072] (tokens z) slices_S16x256x6272_S16x256x512_0_0_3072)
def gqK (z : FVec Ideal S12288x6272 .f32) : FVec Ideal S16x2x256x128 .f32 :=
  heads2 (extractStridedSlice S16x256x256 ![0, 0, 3584] (tokens z) slices_S16x256x6272_S16x256x256_0_0_3584)
def gqV (z : FVec Ideal S12288x6272 .f32) : FVec Ideal S16x2x256x128 .f32 :=
  heads2 (extractStridedSlice S16x256x256 ![0, 0, 3840] (tokens z) slices_S16x256x6272_S16x256x256_0_0_3840)
def w0 (w : FVec Ideal S2x128 .f32) : FVec Ideal S128 .f32 :=
  shapeCast _ (extractStridedSlice S1x128 ![0, 0] w slices_S2x128_S1x128_0_0) shapeCasts_S1x128_S128
def w1 (w : FVec Ideal S2x128 .f32) : FVec Ideal S128 .f32 :=
  shapeCast _ (extractStridedSlice S1x128 ![1, 0] w slices_S2x128_S1x128_1_0) shapeCasts_S1x128_S128
def norm4 (x : FVec Ideal S16x4x256x128 .f32) (w : FVec Ideal S128 .f32) : FVec Ideal S16x4x256x128 .f32 :=
  mulf (mulf x (broadcastInDim S16x4x256x128 ![0, 1, 2, 3] bcast_S16x4x256x1_S16x4x256x128_0_1_2_3 (Host.rsqrt (addf (Host.divf (broadcastInDim S16x4x256x1 ![0, 1, 2] bcast_S16x4x256_S16x4x256x1_0_1_2 (Host.reduceAdd (mulf x x) (constant S_ .f32 0x00000000#32) reducesTo_S16x4x256x128_S16x4x256_d3 h_S_)) (broadcastInDim S16x4x256x1 ![] bcast_S_S16x4x256x1 (constant S_ .f32 0x43000000#32))) (broadcastInDim S16x4x256x1 ![] bcast_S_S16x4x256x1 (constant S_ .f32 0x358637BD#32)))))) (broadcastInDim S16x4x256x128 ![0, 1, 2, 3] bcast_S1x1x1x128_S16x4x256x128_0_1_2_3 (broadcastInDim S1x1x1x128 ![3] bcast_S128_S1x1x1x128_3 w))
def norm2 (x : FVec Ideal S16x2x256x128 .f32) (w : FVec Ideal S128 .f32) : FVec Ideal S16x2x256x128 .f32 :=
  mulf (mulf x (broadcastInDim S16x2x256x128 ![0, 1, 2, 3] bcast_S16x2x256x1_S16x2x256x128_0_1_2_3 (Host.rsqrt (addf (Host.divf (broadcastInDim S16x2x256x1 ![0, 1, 2] bcast_S16x2x256_S16x2x256x1_0_1_2 (Host.reduceAdd (mulf x x) (constant S_ .f32 0x00000000#32) reducesTo_S16x2x256x128_S16x2x256_d3 h_S_)) (broadcastInDim S16x2x256x1 ![] bcast_S_S16x2x256x1 (constant S_ .f32 0x43000000#32))) (broadcastInDim S16x2x256x1 ![] bcast_S_S16x2x256x1 (constant S_ .f32 0x358637BD#32)))))) (broadcastInDim S16x2x256x128 ![0, 1, 2, 3] bcast_S1x1x1x128_S16x2x256x128_0_1_2_3 (broadcastInDim S1x1x1x128 ![3] bcast_S128_S1x1x1x128_3 w))
def scores4 (q k : FVec Ideal S16x4x256x128 .f32) : FVec Ideal S16x4x1x256x256 .f32 :=
  mulf (Host.dotGeneral dot_S16x4x1x256x128_S16x4x256x128_S16x4x1x256x256_4_3_23_2_01_01 none (broadcastInDim S16x4x1x256x128 ![0, 1, 3, 4] bcast_S16x4x256x128_S16x4x1x256x128_0_1_3_4 q) k) (broadcastInDim S16x4x1x256x256 ![] bcast_S_S16x4x1x256x256 (constant S_ .f32 0x3DB504F3#32))
def rowMax4 (s : FVec Ideal S16x4x1x256x256 .f32) : FVec Ideal S16x4x1x256 .f32 :=
  Host.reduce FloatOps.maximumf s (constant S_ .f32 0xFF800000#32) reducesTo_S16x4x1x256x256_S16x4x1x256_d4 h_S_
def shifted4 (s : FVec Ideal S16x4x1x256x256 .f32) (mx : FVec Ideal S16x4x1x256 .f32) : FVec Ideal S16x4x1x256x256 .f32 :=
  Host.exp (subf s (broadcastInDim S16x4x1x256x256 ![0, 1, 2, 3, 4] bcast_S16x4x1x256x1_S16x4x1x256x256_0_1_2_3_4 (broadcastInDim S16x4x1x256x1 ![0, 1, 2, 3] bcast_S16x4x1x256_S16x4x1x256x1_0_1_2_3 (maximumf (broadcastInDim S16x4x1x256 ![] bcast_S_S16x4x1x256 (constant S_ .f32 0xFF800000#32)) mx))))
def mix4 (e : FVec Ideal S16x4x1x256x256 .f32) (v : FVec Ideal S16x4x256x128 .f32) : FVec Ideal S4096x512 .bf16 :=
  truncf .bf16 (shapeCast _ (transpose S16x256x4x128 [0, 2, 1, 3] (shapeCast _ (Host.dotGeneral dot_S16x4x1x256x256_S16x4x256x128_S16x4x1x256x128_4_2_23_3_01_01 none (Host.divf e (broadcastInDim S16x4x1x256x256 ![0, 1, 2, 3, 4] bcast_S16x4x1x256x1_S16x4x1x256x256_0_1_2_3_4 (broadcastInDim S16x4x1x256x1 ![0, 1, 2, 3] bcast_S16x4x1x256_S16x4x1x256x1_0_1_2_3 (Host.reduceAdd e (constant S_ .f32 0x00000000#32) reducesTo_S16x4x1x256x256_S16x4x1x256_d4 h_S_)))) v) shapeCasts_S16x4x1x256x128_S16x4x256x128) transposes_S16x4x256x128_S16x256x4x128_0_2_1_3) shapeCasts_S16x256x4x128_S4096x512) bitsLt_bf16_f32
def scores2 (q : FVec Ideal S16x4x256x128 .f32) (k : FVec Ideal S16x2x256x128 .f32) : FVec Ideal S16x2x2x256x256 .f32 :=
  mulf (Host.dotGeneral dot_S16x2x2x256x128_S16x2x256x128_S16x2x2x256x256_4_3_23_2_01_01 none (shapeCast _ q shapeCasts_S16x4x256x128_S16x2x2x256x128) k) (broadcastInDim S16x2x2x256x256 ![] bcast_S_S16x2x2x256x256 (constant S_ .f32 0x3DB504F3#32))
def rowMax2 (s : FVec Ideal S16x2x2x256x256 .f32) : FVec Ideal S16x2x2x256 .f32 :=
  Host.reduce FloatOps.maximumf s (constant S_ .f32 0xFF800000#32) reducesTo_S16x2x2x256x256_S16x2x2x256_d4 h_S_
def shifted2 (s : FVec Ideal S16x2x2x256x256 .f32) (mx : FVec Ideal S16x2x2x256 .f32) : FVec Ideal S16x2x2x256x256 .f32 :=
  Host.exp (subf s (broadcastInDim S16x2x2x256x256 ![0, 1, 2, 3, 4] bcast_S16x2x2x256x1_S16x2x2x256x256_0_1_2_3_4 (broadcastInDim S16x2x2x256x1 ![0, 1, 2, 3] bcast_S16x2x2x256_S16x2x2x256x1_0_1_2_3 (maximumf (broadcastInDim S16x2x2x256 ![] bcast_S_S16x2x2x256 (constant S_ .f32 0xFF800000#32)) mx))))
def mix2 (e : FVec Ideal S16x2x2x256x256 .f32) (v : FVec Ideal S16x2x256x128 .f32) : FVec Ideal S4096x512 .bf16 :=
  truncf .bf16 (shapeCast _ (transpose S16x256x4x128 [0, 2, 1, 3] (shapeCast _ (Host.dotGeneral dot_S16x2x2x256x256_S16x2x256x128_S16x2x2x256x128_4_2_23_3_01_01 none (Host.divf e (broadcastInDim S16x2x2x256x256 ![0, 1, 2, 3, 4] bcast_S16x2x2x256x1_S16x2x2x256x256_0_1_2_3_4 (broadcastInDim S16x2x2x256x1 ![0, 1, 2, 3] bcast_S16x2x2x256_S16x2x2x256x1_0_1_2_3 (Host.reduceAdd e (constant S_ .f32 0x00000000#32) reducesTo_S16x2x2x256x256_S16x2x2x256_d4 h_S_)))) v) shapeCasts_S16x2x2x256x128_S16x4x256x128) transposes_S16x4x256x128_S16x256x4x128_0_2_1_3) shapeCasts_S16x256x4x128_S4096x512) bitsLt_bf16_f32

theorem naQ_at (z : FVec Ideal S12288x6272 .f32) (b : Fin 16) (h : Fin 4) (t : Fin 256) (l : Fin 128) :
    naQ z (ix4 b h t l) = at2 z (b * 256 + t) (0 + 128 * h + l) := by
  pointwise [naQ]; rw [at2_eq z]; congr 1; simp; omega
theorem naK_at (z : FVec Ideal S12288x6272 .f32) (b : Fin 16) (h : Fin 4) (t : Fin 256) (l : Fin 128) :
    naK z (ix4 b h t l) = at2 z (b * 256 + t) (512 + 128 * h + l) := by
  pointwise [naK]; rw [at2_eq z]; congr 1; simp; omega
theorem naV_at (z : FVec Ideal S12288x6272 .f32) (b : Fin 16) (h : Fin 4) (t : Fin 256) (l : Fin 128) :
    naV z (ix4 b h t l) = at2 z (b * 256 + t) (1024 + 128 * h + l) := by
  pointwise [naV]; rw [at2_eq z]; congr 1; simp; omega
theorem gqQ_at (z : FVec Ideal S12288x6272 .f32) (b : Fin 16) (h : Fin 4) (t : Fin 256) (l : Fin 128) :
    gqQ z (ix4 b h t l) = at2 z (b * 256 + t) (3072 + 128 * h + l) := by
  pointwise [gqQ]; rw [at2_eq z]; congr 1; simp; omega
theorem gqK_at (z : FVec Ideal S12288x6272 .f32) (b : Fin 16) (h : Fin 2) (t : Fin 256) (l : Fin 128) :
    gqK z (ix4 b h t l) = at2 z (b * 256 + t) (3584 + 128 * h + l) := by
  pointwise [gqK]; rw [at2_eq z]; congr 1; simp; omega
theorem gqV_at (z : FVec Ideal S12288x6272 .f32) (b : Fin 16) (h : Fin 2) (t : Fin 256) (l : Fin 128) :
    gqV z (ix4 b h t l) = at2 z (b * 256 + t) (3840 + 128 * h + l) := by
  pointwise [gqV]; rw [at2_eq z]; congr 1; simp; omega
theorem w0_at (w : FVec Ideal S2x128 .f32) (l : Fin 128) : w0 w (ix1 l) = at2 w 0 l := by
  pointwise [w0]; rw [at2_eq w]; rfl
theorem w1_at (w : FVec Ideal S2x128 .f32) (l : Fin 128) : w1 w (ix1 l) = at2 w 1 l := by
  pointwise [w1]; rw [at2_eq w]; rfl
theorem norm4_at (x : FVec Ideal S16x4x256x128 .f32) (w : FVec Ideal S128 .f32) (b : Fin 16) (h : Fin 4) (t : Fin 256) (l : Fin 128) :
    norm4 x w (ix4 b h t l) = rms (fun d => x (ix4 b h t d)) l * w (ix1 l) := by
  pointwise [norm4]; rfl
theorem norm2_at (x : FVec Ideal S16x2x256x128 .f32) (w : FVec Ideal S128 .f32) (b : Fin 16) (h : Fin 2) (t : Fin 256) (l : Fin 128) :
    norm2 x w (ix4 b h t l) = rms (fun d => x (ix4 b h t d)) l * w (ix1 l) := by
  pointwise [norm2]; rfl
theorem scores4_at (q k : FVec Ideal S16x4x256x128 .f32) (b : Fin 16) (h : Fin 4) (t s : Fin 256) :
    scores4 q k (ix5 b h 0 t s) = (∑ d, q (ix4 b h t d) * k (ix4 b h s d)) * Ideal.ofBits .f32 0x3DB504F3#32 := by
  pointwise [scores4]
theorem rowMax4_at (x : FVec Ideal S16x4x1x256x256 .f32) (b : Fin 16) (h : Fin 4) (t : Fin 256) :
    rowMax4 x (ix4 b h 0 t) = top fun k => x (ix5 b h 0 t k) := by
  pointwise [rowMax4]; unfold top; with_reducible rfl
theorem shifted4_at (x : FVec Ideal S16x4x1x256x256 .f32) (mx : FVec Ideal S16x4x1x256 .f32) (b : Fin 16) (h : Fin 4) (t s : Fin 256) :
    shifted4 x mx (ix5 b h 0 t s) = Ideal.exp (x (ix5 b h 0 t s) - max (Ideal.ofBits .f32 0xFF800000#32) (mx (ix4 b h 0 t))) := by
  pointwise [shifted4]
def exps4 (s : FVec Ideal S16x4x1x256x256 .f32) : FVec Ideal S16x4x1x256x256 .f32 := shifted4 s (rowMax4 s)
theorem exps4_at (x : FVec Ideal S16x4x1x256x256 .f32) (b : Fin 16) (h : Fin 4) (t s : Fin 256) :
    exps4 x (ix5 b h 0 t s) = Ideal.exp (x (ix5 b h 0 t s) - top fun k => x (ix5 b h 0 t k)) := by
  unfold exps4; rw [shifted4_at, rowMax4_at, max_top]
theorem mix4_at (e : FVec Ideal S16x4x1x256x256 .f32) (v : FVec Ideal S16x4x256x128 .f32) (r : Fin 4096) (c : Fin 512) :
    mix4 e v (ix2 r c) = ∑ s, Ideal.div (e (ix5 ⟨r / 256, by omega⟩ ⟨c / 128, by omega⟩ 0 ⟨r % 256, by omega⟩ s))
      (∑ j, e (ix5 ⟨r / 256, by omega⟩ ⟨c / 128, by omega⟩ 0 ⟨r % 256, by omega⟩ j))
        * v (ix4 ⟨r / 256, by omega⟩ ⟨c / 128, by omega⟩ s ⟨c % 128, by omega⟩) := by
  pointwise [mix4]
theorem scores2_at (q : FVec Ideal S16x4x256x128 .f32) (k : FVec Ideal S16x2x256x128 .f32) (b : Fin 16) (h g : Fin 2) (t s : Fin 256) :
    scores2 q k (ix5 b h g t s) = (∑ d, q (ix4 b ⟨h * 2 + g, by omega⟩ t d) * k (ix4 b h s d)) * Ideal.ofBits .f32 0x3DB504F3#32 := by
  pointwise [scores2]
theorem rowMax2_at (x : FVec Ideal S16x2x2x256x256 .f32) (b : Fin 16) (h g : Fin 2) (t : Fin 256) :
    rowMax2 x (ix4 b h g t) = top fun k => x (ix5 b h g t k) := by
  pointwise [rowMax2]; unfold top; with_reducible rfl
theorem shifted2_at (x : FVec Ideal S16x2x2x256x256 .f32) (mx : FVec Ideal S16x2x2x256 .f32) (b : Fin 16) (h g : Fin 2) (t s : Fin 256) :
    shifted2 x mx (ix5 b h g t s) = Ideal.exp (x (ix5 b h g t s) - max (Ideal.ofBits .f32 0xFF800000#32) (mx (ix4 b h g t))) := by
  pointwise [shifted2]
def exps2 (s : FVec Ideal S16x2x2x256x256 .f32) : FVec Ideal S16x2x2x256x256 .f32 := shifted2 s (rowMax2 s)
theorem exps2_at (x : FVec Ideal S16x2x2x256x256 .f32) (b : Fin 16) (h g : Fin 2) (t s : Fin 256) :
    exps2 x (ix5 b h g t s) = Ideal.exp (x (ix5 b h g t s) - top fun k => x (ix5 b h g t k)) := by
  unfold exps2; rw [shifted2_at, rowMax2_at, max_top]
theorem mix2_at (e : FVec Ideal S16x2x2x256x256 .f32) (v : FVec Ideal S16x2x256x128 .f32) (r : Fin 4096) (c : Fin 512) :
    mix2 e v (ix2 r c) = ∑ s, Ideal.div (e (ix5 ⟨r / 256, by omega⟩ ⟨c / 128 / 2, by omega⟩ ⟨c / 128 % 2, by omega⟩ ⟨r % 256, by omega⟩ s))
      (∑ j, e (ix5 ⟨r / 256, by omega⟩ ⟨c / 128 / 2, by omega⟩ ⟨c / 128 % 2, by omega⟩ ⟨r % 256, by omega⟩ j))
        * v (ix4 ⟨r / 256, by omega⟩ ⟨c / 128 / 2, by omega⟩ s ⟨c % 128, by omega⟩) := by
  pointwise [mix2]

variable (m : (ℓ : Loc nD τ sig) → Buf (Elt Ideal) ℓ) (c : Dev nD)

theorem out0_eq (z : FVec Ideal S12288x6272 .f32) (w : FVec Ideal S2x128 .f32)
    (hz : m ((c.tc : Thread nD τ).loc main_arg0) = z) (hw : m ((c.tc : Thread nD τ).loc main_arg1) = w) :
    Value.res_main_v116 m c = mix4 (exps4 (scores4 (norm4 (naQ z) (w0 w)) (norm4 (naK z) (w1 w)))) (naV z) := by
  subst hz hw; rfl
theorem out1_eq (z : FVec Ideal S12288x6272 .f32) (w : FVec Ideal S2x128 .f32)
    (hz : m ((c.tc : Thread nD τ).loc main_arg0) = z) (hw : m ((c.tc : Thread nD τ).loc main_arg2) = w) :
    Value.res_main_v119 m c = mix2 (exps2 (scores2 (norm4 (gqQ z) (w0 w)) (norm2 (gqK z) (w1 w)))) (gqV z) := by
  subst hz hw; rfl

/-- The neighbourhood branch's attention, at an index. -/
theorem out0_at (z : FVec Ideal S12288x6272 .f32) (w : FVec Ideal S2x128 .f32) (r : Fin 4096) (c : Fin 512) :
    mix4 (exps4 (scores4 (norm4 (naQ z) (w0 w)) (norm4 (naK z) (w1 w)))) (naV z) (ix2 r c)
      = att z w r (128 * (c / 128)) (512 + 128 * (c / 128)) (1024 + c) := by
  simp only [mix4_at, exps4_at, scores4_at, norm4_at, naQ_at, naK_at, naV_at, w0_at, w1_at]
  have e1 : (r : ℕ) / 256 * 256 + r % 256 = r := by omega
  have e2 : 1024 + 128 * ((c : ℕ) / 128) + c % 128 = 1024 + c := by omega
  simp only [e1, e2, zero_add]
  rfl
/-- The grouped branch's attention, at an index. -/
theorem out1_at (z : FVec Ideal S12288x6272 .f32) (w : FVec Ideal S2x128 .f32) (r : Fin 4096) (c : Fin 512) :
    mix2 (exps2 (scores2 (norm4 (gqQ z) (w0 w)) (norm2 (gqK z) (w1 w)))) (gqV z) (ix2 r c)
      = att z w r (3072 + 128 * (c / 128)) (3584 + 128 * (c / 256)) (3840 + 128 * (c / 256) + c % 128) := by
  simp only [mix2_at, exps2_at, scores2_at, norm4_at, norm2_at, gqQ_at, gqK_at, gqV_at, w0_at, w1_at]
  have e1 : (r : ℕ) / 256 * 256 + r % 256 = r := by omega
  have e2 : (c : ℕ) / 128 / 2 * 2 + c / 128 % 2 = c / 128 := by omega
  have e3 : (c : ℕ) / 128 / 2 = c / 256 := by omega
  simp only [e1, e2]
  simp only [e3]
  rfl
/-- The neighbourhood branch's keys. -/
theorem out2_at (z : FVec Ideal S12288x6272 .f32) (w : FVec Ideal S2x128 .f32) (b : Fin 16) (h : Fin 4) (t : Fin 256) (l : Fin 128) :
    norm4 (naK z) (w1 w) (ix4 b h t l) = nrow z w 1 (b * 256 + t) (512 + 128 * h) l := by
  simp only [norm4_at, naK_at, w1_at]; rfl
/-- The grouped branch's keys. -/
theorem out4_at (z : FVec Ideal S12288x6272 .f32) (w : FVec Ideal S2x128 .f32) (b : Fin 16) (h : Fin 2) (t : Fin 256) (l : Fin 128) :
    norm2 (gqK z) (w1 w) (ix4 b h t l) = nrow z w 1 (b * 256 + t) (3584 + 128 * h) l := by
  simp only [norm2_at, gqK_at, w1_at]; rfl
end Cert.ReferenceIdeal.Ctx
-- ==== Proof.CtxClaim.lean ====
module
public import proofs.«01_k».proof.Defs
public import proofs.«01_k».proof.Proof.Ctx
public import proofs.«01_k».proof.Proof.CtxRef
public import proofs.«01_k».proof.Proof.Gen.KernelIdeal.Frame
/-! The context attention against its reference. -/
@[expose] public section
set_option maxRecDepth 16384
noncomputable section
open Idealize.ShloMosaic Idealize.ShloMosaic.TcCoe Idealize.SL.Sem
namespace Cert.CtxClaim
open Cert.Softmax Cert.CtxSpec

theorem preFacts : Cert.Pre_finite_weights.Facts := ⟨by decide⟩
/-- The precondition, at an index: the weights are finite. -/
theorem weights_real [Cert.Pre_finite_weights.Facts] (z : FVec Ideal Cert.Pre_finite_weights.S12288x6272 .f32)
    (w w' : FVec Ideal Cert.Pre_finite_weights.S2x128 .f32) (h : Cert.Pre_finite_weights.fn (F := Ideal) z w w' = fun _ => 1#1) :
    (∀ i, IsReal (w i)) ∧ (∀ i, IsReal (w' i)) := by
  have key : ∀ (a : Fin 2) (b : Fin 128), IsReal (w (ix2 a b)) ∧ IsReal (w' (ix2 a b)) := by
    intro a b
    have h2 := congrFun h (ix2 a b)
    revert h2
    pointwise [Cert.Pre_finite_weights.fn]
    have hcase : ∀ p q : Prop, [Decidable p] → [Decidable q] →
        IntOp.andi (BitVec.ofBool (decide p)) (BitVec.ofBool (decide q)) = 1#1 → p ∧ q := by
      intro p q _ _ hpq
      by_cases hp : p <;> by_cases hq : q <;> simp [hp, hq, IntOp.andi] at hpq ⊢
    intro h2
    obtain ⟨ha, hb⟩ := hcase _ _ h2
    rw [ofBits_inf] at ha hb
    exact ⟨isReal_of_abs_lt ha, isReal_of_abs_lt hb⟩
  constructor
  · intro i; obtain ⟨a, b, rfl⟩ : ∃ a b, i = ix2 a b := ⟨i 0, i 1, by funext k; fin_cases k <;> rfl⟩
    exact (key a b).1
  · intro i; obtain ⟨a, b, rfl⟩ : ∃ a b, i = ix2 a b := ⟨i 0, i 1, by funext k; fin_cases k <;> rfl⟩
    exact (key a b).2

open Cert.KernelIdeal.Ctx Cert.ReferenceIdeal.Ctx in
/-- The context attention's outputs are the reference's, where the norm weights are finite. -/
theorem algebraic : Cert.algebraic_KernelIdeal_ReferenceIdeal_pre_finite_weights (hKernelIdeal := Cert.KernelIdeal.Gen.facts)
    (hReferenceIdeal := Cert.ReferenceIdeal.Gen.facts) (hPre_finite_weights := preFacts) := by
  intro m g m' g' hpre hargs
  refine ⟨_, _, _, _, _, _, Cert.KernelIdeal.Value.run_blocks m g, ?_⟩
  refine (θ_run _ _ _).mono (fun r h c => ?_) (Cert.ReferenceIdeal.Value.run m' g')
  obtain ⟨h0, h1, h2, h3, h4, h5, ha, hb, hc⟩ := h c
  obtain ⟨e0, e1, e2⟩ := hargs c
  have hw := @weights_real preFacts _ _ _ (hpre c)
  refine ⟨h0.trans ?_, h1.trans ?_, h2.trans ?_, h3.trans ?_, h4.trans ?_, h5.trans ?_, ha, hb, hc⟩
  · refine (out0_eq m' c _ _ e0 e1).trans (Eq.trans ?_ (final8 m c hw.1).symm)
    funext y; idx_vars y; exact out0_at _ _ _ _
  · refine (out1_eq m' c _ _ e0 e2).trans (Eq.trans ?_ (final9 m c hw.2).symm)
    funext y; idx_vars y; exact out1_at _ _ _ _
  · refine Eq.trans ?_ (final10 m c).symm
    refine (show _ = norm4 (naK (m' ((c.tc : Thread Cert.ReferenceIdeal.nD Cert.ReferenceIdeal.τ).loc Cert.ReferenceIdeal.main_arg0))) (w1 (m' ((c.tc : Thread Cert.ReferenceIdeal.nD Cert.ReferenceIdeal.τ).loc Cert.ReferenceIdeal.main_arg1))) from rfl).trans ?_
    rw [e0, e1]
    funext y; idx_vars y; refine (out2_at _ _ _ _ _ _).trans ?_
    congr 1; apply Fin.ext; exact (Nat.mod_eq_of_lt (by omega)).symm
  · refine Eq.trans ?_ (final11 m c).symm
    refine (show _ = naV (m' ((c.tc : Thread Cert.ReferenceIdeal.nD Cert.ReferenceIdeal.τ).loc Cert.ReferenceIdeal.main_arg0)) from rfl).trans ?_
    rw [e0]
    funext y; idx_vars y; exact naV_at _ _ _ _ _
  · refine Eq.trans ?_ (final12 m c).symm
    refine (show _ = norm2 (gqK (m' ((c.tc : Thread Cert.ReferenceIdeal.nD Cert.ReferenceIdeal.τ).loc Cert.ReferenceIdeal.main_arg0))) (w1 (m' ((c.tc : Thread Cert.ReferenceIdeal.nD Cert.ReferenceIdeal.τ).loc Cert.ReferenceIdeal.main_arg2))) from rfl).trans ?_
    rw [e0, e2]
    funext y; idx_vars y; refine (out4_at _ _ _ _ _ _).trans ?_
    congr 1; apply Fin.ext; exact (Nat.mod_eq_of_lt (by omega)).symm
  · refine Eq.trans ?_ (final13 m c).symm
    refine (show _ = gqV (m' ((c.tc : Thread Cert.ReferenceIdeal.nD Cert.ReferenceIdeal.τ).loc Cert.ReferenceIdeal.main_arg0)) from rfl).trans ?_
    rw [e0]
    funext y; idx_vars y; exact gqV_at _ _ _ _ _
end Cert.CtxClaim
-- ==== Proof.ProjSpec.lean ====
module
public import proofs.«01_k».proof.Proof.CtxSpec
/-! What the token-wise projections compute (the modulated norm, the feed-forward half step, the projections in and out), as
    functions of the call's arguments, entries read at natural numbers. -/
@[expose] public section
noncomputable section
open Idealize.ShloMosaic
namespace Cert.ProjSpec
open Cert.CtxSpec

/-- The entry of a vector, zero outside. -/
def at1 {a : ℕ} (z : (⟨1, ![a]⟩ : Shape).Idx → EReal) (r : ℕ) : EReal := if h : r < a then z (ix1 ⟨r, h⟩) else 0
theorem at1_eq {a : ℕ} (z : (⟨1, ![a]⟩ : Shape).Idx → EReal) (i : Fin a) : z (ix1 i) = at1 z i := by
  unfold at1; rw [dif_pos i.2]

/-- The entry of a three-dimensional array, zero outside. -/
def at3 {a b d : ℕ} (z : (⟨3, ![a, b, d]⟩ : Shape).Idx → EReal) (r s t : ℕ) : EReal :=
  if h : r < a ∧ s < b ∧ t < d then z (ix3 ⟨r, h.1⟩ ⟨s, h.2.1⟩ ⟨t, h.2.2⟩) else 0
theorem at3_eq {a b d : ℕ} (z : (⟨3, ![a, b, d]⟩ : Shape).Idx → EReal) (i : Fin a) (j : Fin b) (k : Fin d) :
    z (ix3 i j k) = at3 z i j k := by unfold at3; rw [dif_pos ⟨i.2, j.2, k.2⟩]

theorem at3_idx {a b d : ℕ} (z : (⟨3, ![a, b, d]⟩ : Shape).Idx → EReal) (y : (⟨3, ![a, b, d]⟩ : Shape).Idx) :
    z y = at3 z (y 0) (y 1) (y 2) :=
  (congrArg z (eq_ix3 y)).trans (at3_eq z (y 0) (y 1) (y 2))
theorem at2_idx {a b : ℕ} (z : (⟨2, ![a, b]⟩ : Shape).Idx → EReal) (y : (⟨2, ![a, b]⟩ : Shape).Idx) :
    z y = at2 z (y 0) (y 1) :=
  (congrArg z (eq_ix2 y)).trans (at2_eq z (y 0) (y 1))
theorem at2_zero {a b : ℕ} (z : (⟨2, ![a, b]⟩ : Shape).Idx → EReal) (r c : ℕ) (h : a ≤ r) : at2 z r c = 0 := by
  unfold at2; rw [dif_neg]; omega

/-- The row of the modulation that token `r` takes: row 0 for the 4096 context tokens, then one row per 1024 latent tokens. -/
def condRow (r : ℕ) : ℕ := if r < 4096 then 0 else 1 + (r - 4096) / 1024
theorem condRow_ctx {r : ℕ} (h : r < 4096) : condRow r = 0 := if_pos h
theorem condRow_lat (b t : ℕ) (ht : t < 1024) : condRow (4096 + (b * 1024 + t)) = 1 + b := by
  unfold condRow; rw [if_neg (by omega)]; omega

abbrev one : EReal := 1

/-- The modulated norm of a row `x`: normalised by its mean square, times the weight `g`, times one plus the scale, plus the shift. -/
def modnorm (x : Fin 2048 → EReal) (d : Fin 2048) (g sc sh : EReal) : EReal :=
  x d * Ideal.rsqrt (Ideal.div (∑ e, x e * x e) (Ideal.ofBits .f32 0x45000000#32) + Ideal.ofBits .f32 0x358637BD#32) * g * (one + sc) + sh

/-- The silu of `g`, as the quotient both programs compute. -/
def silu (g : EReal) : EReal := g * Ideal.div one (one + Ideal.exp (-g))

variable (x : (⟨2, ![12288, 2048]⟩ : Shape).Idx → EReal) (mod : (⟨3, ![16, 9, 2048]⟩ : Shape).Idx → EReal)
  (g : (⟨1, ![2048]⟩ : Shape).Idx → EReal)

/-- Token `r`'s modulated norm, the shift at row `b` of its modulation and the scale at row `b + 1`. -/
def hid (b r : ℕ) (d : Fin 2048) : EReal :=
  modnorm (fun e => at2 x r e) d (at1 g d) (at3 mod (condRow r) (b + 1) d) (at3 mod (condRow r) b d)

variable (gu : (⟨2, ![2048, 11008]⟩ : Shape).Idx → EReal) (down : (⟨2, ![5504, 2048]⟩ : Shape).Idx → EReal)

/-- The inner activation `j` of token `r`. -/
def act (r j : ℕ) : EReal :=
  silu (∑ d, hid x mod g 6 r d * at2 gu d j) * ∑ d, hid x mod g 6 r d * at2 gu d (5504 + j)

/-- The feed-forward half step at token `r`, column `k`. -/
def ffn (r k : ℕ) : EReal :=
  at2 x r k + Ideal.ofBits .f32 0x3F000000#32 * at3 mod (condRow r) 8 k * ∑ j : Fin 5504, act x mod g gu r j * at2 down j k

/-- The input projection at token `r`, column `k`. -/
def proj (w : (⟨2, ![2048, 6272]⟩ : Shape).Idx → EReal) (r k : ℕ) : EReal := ∑ d, hid x mod g 3 r d * at2 w d k

/-- The output projection at token `r`, column `k`: the four branches' outputs side by side, multiplied, gated and added. -/
def outp (o0 o1 o2 o3 : (⟨2, ![12288, 512]⟩ : Shape).Idx → EReal) (w : (⟨2, ![2048, 2048]⟩ : Shape).Idx → EReal) (r k : ℕ) : EReal :=
  at2 x r k + at3 mod (condRow r) 5 k *
    ((((∑ j : Fin 512, at2 o0 r j * at2 w j k) + ∑ j : Fin 512, at2 o1 r j * at2 w (512 + j) k)
      + ∑ j : Fin 512, at2 o2 r j * at2 w (1024 + j) k) + ∑ j : Fin 512, at2 o3 r j * at2 w (1536 + j) k)

/-- The modulation of condition `i` in layer `l`, at column `k`. -/
def modulation (y : (⟨2, ![16, 2048]⟩ : Shape).Idx → EReal) (w : (⟨3, ![4, 2048, 18432]⟩ : Shape).Idx → EReal)
    (b : (⟨2, ![4, 18432]⟩ : Shape).Idx → EReal) (l i k : ℕ) : EReal :=
  (∑ d : Fin 2048, silu (at2 y i d) * at3 w l d k) + at2 b l k

end Cert.ProjSpec
-- ==== Proof.FfnPay.lean ====
module
public import proofs.«01_k».proof.Proof.Gen.FfnIdeal.Value
public import proofs.«01_k».proof.Proof.ProjSpec
public import Idealize.ShloMosaic.Lib.Pipeline.ValueKit
public import Idealize.ShloMosaic.Lib.Pointwise
/-! The feed-forward half step kernel's window indices and stored values. -/
@[expose] public section
set_option maxRecDepth 16384
noncomputable section
open Idealize.ShloMosaic Idealize.ShloMosaic.TcCoe Idealize.SL.Sem
open Idealize.ShloMosaic.Pipeline (Dat)
namespace Cert.FfnIdeal.Ffn
open Cert.FfnIdeal Cert.FfnIdeal.Gen Cert.CtxSpec Cert.ProjSpec

theorem idx : ∀ t : Fin cfg0.N, win0_0.index t = ![t.val / 11, 0]
    ∧ win0_1.index t = ![if t.val / 11 < 8 then 0 else 1 + (t.val / 11 - 8) / 2, 0, 0] ∧ win0_2.index t = ![0, 0]
    ∧ win0_3.index t = ![0, t.val % 11] ∧ win0_4.index t = ![0, t.val % 11 + 11] ∧ win0_5.index t = ![t.val % 11, 0]
    ∧ win0_6.index t = ![t.val / 11, 0] :=
  (by decide +kernel : ∀ t : Fin grid0.N, _)

theorem pay1_at (x : FVec Ideal S512x2048 .f32) (g : FVec Ideal S1x2048 .f32) (sh sc : FVec Ideal S1x1x2048 .f32) (i : Fin 512) (d : Fin 2048) :
    k0_pay1 (F := Ideal) x g sh sc (ix2 i d) = modnorm (fun e => x (ix2 i e)) d (g (ix2 0 d)) (sc (ix3 0 0 d)) (sh (ix3 0 0 d)) := by
  pointwise [k0_pay1]; rfl
theorem pay2_at (i : Fin 512) (d : Fin 2048) : k0_pay2 (F := Ideal) (ix2 i d) = 0 := by
  pointwise [k0_pay2]
theorem pay3_at (h : FVec Ideal S512x2048 .bf16) (wg wu : FVec Ideal S2048x512 .bf16) (acc : FVec Ideal S512x2048 .f32)
    (wd : FVec Ideal S512x2048 .bf16) (i : Fin 512) (k : Fin 2048) :
    k0_pay3 (F := Ideal) h wg wu acc wd (ix2 i k) = acc (ix2 i k) + ∑ j : Fin 512,
      silu (∑ d : Fin 2048, h (ix2 i d) * wg (ix2 d j)) * (∑ d : Fin 2048, h (ix2 i d) * wu (ix2 d j)) * wd (ix2 j k) := by
  pointwise [k0_pay3]
  simp only [silu, zero_sub]
theorem pay4_at (x : FVec Ideal S512x2048 .f32) (mo : FVec Ideal S1x1x2048 .f32) (acc : FVec Ideal S512x2048 .f32) (i : Fin 512) (k : Fin 2048) :
    k0_pay4 (F := Ideal) x mo acc (ix2 i k) = x (ix2 i k) + Ideal.ofBits .f32 0x3F000000#32 * mo (ix3 0 0 k) * acc (ix2 i k) := by
  pointwise [k0_pay4]

end Cert.FfnIdeal.Ffn
-- ==== Proof.Ffn.lean ====
module
public import proofs.«01_k».proof.Proof.Gen.FfnIdeal.Value
public import proofs.«01_k».proof.Proof.FfnPay
public import Idealize.ShloMosaic.Lib.Pipeline.ValueKit
public import Idealize.ShloMosaic.Lib.Pointwise
/-! The feed-forward half step kernel's output. -/
@[expose] public section
set_option maxRecDepth 16384
noncomputable section
open Idealize.ShloMosaic Idealize.ShloMosaic.TcCoe Idealize.SL.Sem
open Idealize.ShloMosaic.Pipeline (Dat)
namespace Cert.FfnIdeal.Ffn
open Cert.FfnIdeal Cert.FfnIdeal.Gen Cert.CtxSpec Cert.ProjSpec
variable (m : (ℓ : Loc nD τ sig) → Buf (Elt Ideal) ℓ)

variable (c : Dev nD) (t : Fin cfg0.N)
abbrev X : FVec Ideal S12288x2048 .f32 := m ((c : Thread nD τ).loc main_arg0)
abbrev M : FVec Ideal S16x9x2048 .f32 := m ((c : Thread nD τ).loc main_arg1)
abbrev G : FVec Ideal S2048 .f32 := m ((c : Thread nD τ).loc main_arg2)
abbrev U : FVec Ideal S2048x11008 .f32 := m ((c : Thread nD τ).loc main_arg3)
abbrev D : FVec Ideal S5504x2048 .f32 := m ((c : Thread nD τ).loc main_arg4)

theorem V6 (y : S1x2048.Idx) : V m c main_v6 y = at1 (G m c) (y 1) := by
  have h : V m c main_v6 = shapeCast S1x2048 (G m c) shapeCasts_S2048_S1x2048 := rfl
  rw [h]; idx_vars y; rw [← at1_eq]
  pointwise []
theorem sitofp0 : (FloatOps.sitofp FTy.f32 0#32 : Ideal .f32) = (0 : EReal) := by
  show (((0#32 : BitVec 32).toInt : ℝ) : EReal) = 0
  simp
theorem V5 (y : S5632x2048.Idx) : V m c main_v5 y = at2 (D m c) (y 0) (y 1) := by
  have h : V m c main_v5 = truncf .bf16 (pad S5632x2048 ![0, 0] ![128, 0] ![0, 0] (D m c) (sitofp .f32 (constantI S_ 32 0#32))
    pads_S5504x2048_S5632x2048_01280_000 h_S_) bitsLt_bf16_f32 := rfl
  rw [h]; idx_vars y
  pointwise [at2]
  rw [sitofp0]
theorem V3 (y : S2048x11264.Idx) (b : Fin 2) (j : ℕ) (hj : j < 5504) (hy : (y 1 : ℕ) = b * 5632 + j) :
    V m c main_v3 y = at2 (U m c) (y 0) (b * 5504 + j) := by
  have h : V m c main_v3 = shapeCast S2048x11264 (truncf .bf16 (pad S2048x2x5632 ![0, 0, 0] ![0, 0, 128] ![0, 0, 0]
    (shapeCast S2048x2x5504 (U m c) shapeCasts_S2048x11008_S2048x2x5504) (sitofp .f32 (constantI S_ 32 0#32))
    pads_S2048x2x5504_S2048x2x5632_000_000_01280 h_S_) bitsLt_bf16_f32) shapeCasts_S2048x2x5632_S2048x11264 := rfl
  obtain ⟨d, e, rfl⟩ : ∃ (d : Fin 2048) (e : Fin 11264), y = ix2 d e := ⟨y 0, y 1, eq_ix2 y⟩
  replace hy : (e : ℕ) = b * 5632 + j := hy
  rw [h]
  have q0 : (e : ℕ) / 5632 = b.val := by omega
  have q1 : (e : ℕ) % 5632 = j := by omega
  pointwise [at2]
  rw [dif_pos ⟨by omega, by omega⟩, dif_pos (by omega)]
  congr 2
  exact Fin.ext (by simp only [q0, q1])
theorem blk0 (y : S512x2048.Idx) : iblk m c 0 t y = at2 (X m c) (t / 11 * 512 + y 0) (y 1) := by
  blk_point [iblk, V, idx t]
  all_goals exfalso; omega
theorem blk1 (y : S1x9x2048.Idx) : iblk m c 1 t y = at3 (M m c) (condRow (t / 11 * 512)) (y 1) (y 2) := by
  have h1 : (((win0_1.blk t).view.emb y) 0 : ℕ) = condRow (t / 11 * 512) := by
    blk_simp [idx t]; unfold condRow; split <;> split <;> omega
  have h2 : (((win0_1.blk t).view.emb y) 1 : ℕ) = y 1 := by blk_simp [idx t]
  have h3 : (((win0_1.blk t).view.emb y) 2 : ℕ) = y 2 := by blk_simp [idx t]
  have e : iblk m c 1 t y = V m c main_arg1 ((win0_1.blk t).view.emb y) := rfl
  rw [e, V_main_arg1]
  refine (at3_idx (M m c) _).trans ?_
  rw [h1, h2, h3]
theorem blk2 (y : S1x2048.Idx) : iblk m c 2 t y = at1 (G m c) (y 1) := by
  have h2 : (((win0_2.blk t).view.emb y) 1 : ℕ) = y 1 := by blk_simp [idx t]
  have e : iblk m c 2 t y = V m c main_v6 ((win0_2.blk t).view.emb y) := rfl
  rw [e, V6, h2]
theorem blk5 (y : S512x2048.Idx) : iblk m c 5 t y = at2 (D m c) (t % 11 * 512 + y 0) (y 1) := by
  have h1 : (((win0_5.blk t).view.emb y) 0 : ℕ) = t % 11 * 512 + y 0 := by blk_simp [idx t]
  have h2 : (((win0_5.blk t).view.emb y) 1 : ℕ) = y 1 := by blk_simp [idx t]
  have e : iblk m c 5 t y = V m c main_v5 ((win0_5.blk t).view.emb y) := rfl
  rw [e, V5, h1, h2]
theorem blk3 (y : S2048x512.Idx) (h : t % 11 * 512 + (y 1 : ℕ) < 5504) :
    iblk m c 3 t y = at2 (U m c) (y 0) (t % 11 * 512 + y 1) := by
  have h1 : (((win0_3.blk t).view.emb y) 0 : ℕ) = y 0 := by blk_simp [idx t]
  have h2 : (((win0_3.blk t).view.emb y) 1 : ℕ) = t % 11 * 512 + y 1 := by blk_simp [idx t]
  have e : iblk m c 3 t y = V m c main_v3 ((win0_3.blk t).view.emb y) := rfl
  rw [e, V3 m c _ 0 _ h (by rw [h2]; simp), h1]
  simp
theorem blk4 (y : S2048x512.Idx) (h : t % 11 * 512 + (y 1 : ℕ) < 5504) :
    iblk m c 4 t y = at2 (U m c) (y 0) (5504 + (t % 11 * 512 + y 1)) := by
  have h1 : (((win0_4.blk t).view.emb y) 0 : ℕ) = y 0 := by blk_simp [idx t]
  have h2 : (((win0_4.blk t).view.emb y) 1 : ℕ) = (t % 11 + 11) * 512 + y 1 := by blk_simp [idx t]
  have e : iblk m c 4 t y = V m c main_v3 ((win0_4.blk t).view.emb y) := rfl
  rw [e, V3 m c _ 1 _ h (by rw [h2]; simp; omega), h1]
  simp
end Cert.FfnIdeal.Ffn
-- ==== Proof.Ffn2.lean ====
module
public import proofs.«01_k».proof.Proof.Gen.FfnIdeal.Value
public import proofs.«01_k».proof.Proof.Ffn
public import Idealize.ShloMosaic.Lib.Pipeline.ValueKit
public import Idealize.ShloMosaic.Lib.Pointwise
/-! The feed-forward half step kernel's output. -/
@[expose] public section
set_option maxRecDepth 16384
noncomputable section
open Idealize.ShloMosaic Idealize.ShloMosaic.TcCoe Idealize.SL.Sem
open Idealize.ShloMosaic.Pipeline (Dat)
namespace Cert.FfnIdeal.Ffn
open Cert.FfnIdeal Cert.FfnIdeal.Gen Cert.CtxSpec Cert.ProjSpec
variable (m : (ℓ : Loc nD τ sig) → Buf (Elt Ideal) ℓ)

variable (c : Dev nD) (t : Fin cfg0.N)
abbrev Hid (n : ℕ) : FVec Ideal S512x2048 .bf16 :=
  fun y => hid (X m c) (M m c) (G m c) 6 (n / 11 * 512 + y 0) (y 1)

theorem ld1 (b : ℕ) (hb : b < 9) (h) (k : Fin 2048) :
    View.ld (iblk m c 1 t) (Rect.unit (s := S1x9x2048) ![0, b, 0] ![1, 1, 2048] h) (ix3 0 0 k) = at3 (M m c) (condRow (t / 11 * 512)) b k := by
  rw [View.ld_apply, blk1]
  congr 1
  rw [Rect.idx_unit_val]; simp

theorem pay1_hid : k0_pay1 (F := Ideal) (iblk m c 0 t) (iblk m c 2 t)
      (View.ld (iblk m c 1 t) (Rect.unit ![0, 6, 0] ![1, 1, 2048] inb_S1x9x2048_S1x1x2048_0_6_0))
      (View.ld (iblk m c 1 t) (Rect.unit ![0, 7, 0] ![1, 1, 2048] inb_S1x9x2048_S1x1x2048_0_7_0)) = Hid m c t.val := by
  funext y
  obtain ⟨i, d, rfl⟩ : ∃ (i : Fin 512) (d : Fin 2048), y = ix2 i d := ⟨y 0, y 1, eq_ix2 y⟩
  rw [pay1_at, ld1 m c t 6 (by omega), ld1 m c t 7 (by omega), blk2]
  have e : (fun e => iblk m c 0 t (ix2 i e)) = fun e : Fin 2048 => at2 (X m c) (t / 11 * 512 + i) e := funext fun e => blk0 m c t _
  have q : condRow (t / 11 * 512) = condRow (t / 11 * 512 + i) := by
    have := i.isLt; unfold condRow; split <;> split <;> omega
  rw [q]
  exact congrArg (fun f => modnorm f d _ _ _) e

theorem hA (h0 : t.val % 11 = 0) (h1 : ¬ t.val % 11 = 10) : (outsAt0 m c t.val t.isLt).2.1 = Hid m c t.val := by
  rw [outsAt0_A m c t h0 h1]
  frame_out
  exact pay1_hid m c t
theorem hB (h0 : ¬ t.val % 11 = 0) (h1 : ¬ t.val % 11 = 10) : (outsAt0 m c t.val t.isLt).2.1 =
    (outsAt0 m c (t.val - 1) (by omega)).2.1 := by
  rw [outsAt0_B m c t h0 h1]
  rfl
theorem hC (h0 : ¬ t.val % 11 = 0) (h1 : t.val % 11 = 10) : (outsAt0 m c t.val t.isLt).2.1 =
    (outsAt0 m c (t.val - 1) (by omega)).2.1 := by
  rw [outsAt0_C m c t h0 h1]
  rfl
/-- What the kernel keeps of the modulated norm, at every grid point. -/
theorem hid_at : ∀ (n : ℕ) (h : n < cfg0.N), (outsAt0 m c n h).2.1 = Hid m c n := by
  intro n
  induction n with
  | zero => intro h; exact hA m c ⟨0, h⟩ rfl (by show ¬ 0 % 11 = 10; decide)
  | succ n ih =>
    intro h
    by_cases h0 : (n + 1) % 11 = 0
    · exact hA m c ⟨n + 1, h⟩ h0 (by show ¬ (n + 1) % 11 = 10; omega)
    · have q : Hid m c (n + 1) = Hid m c n := by
        have q : (n + 1) / 11 = n / 11 := by omega
        unfold Hid; rw [q]
      rw [q]
      by_cases h1 : (n + 1) % 11 = 10
      · exact (hC m c ⟨n + 1, h⟩ h0 h1).trans (ih _)
      · exact (hB m c ⟨n + 1, h⟩ h0 h1).trans (ih _)

/-- What grid point `t` adds to the accumulated product. -/
def term (y : S512x2048.Idx) : EReal :=
  ∑ j : Fin 512, act (X m c) (M m c) (G m c) (U m c) (t.val / 11 * 512 + y 0) (t.val % 11 * 512 + j) * at2 (D m c) (t.val % 11 * 512 + j) (y 1)

theorem pay3_term (acc : FVec Ideal S512x2048 .f32) (y : S512x2048.Idx) :
    k0_pay3 (F := Ideal) (Hid m c t.val) (iblk m c 3 t) (iblk m c 4 t) acc (iblk m c 5 t) y = acc y + term m c t y := by
  obtain ⟨i, k, rfl⟩ : ∃ (i : Fin 512) (k : Fin 2048), y = ix2 i k := ⟨y 0, y 1, eq_ix2 y⟩
  rw [pay3_at]
  refine congrArg (acc (ix2 i k) + ·) (Finset.sum_congr rfl fun j _ => ?_)
  have hD := blk5 m c t (ix2 j k)
  by_cases hj : t.val % 11 * 512 + (j : ℕ) < 5504
  · have e3 : ∀ d : Fin 2048, iblk m c 3 t (ix2 d j) = at2 (U m c) d (t.val % 11 * 512 + j) := fun d => blk3 m c t (ix2 d j) hj
    have e4 : ∀ d : Fin 2048, iblk m c 4 t (ix2 d j) = at2 (U m c) d (5504 + (t.val % 11 * 512 + j)) := fun d => blk4 m c t (ix2 d j) hj
    simp only [e3, e4]
    rw [hD]
    rfl
  · have z : at2 (D m c) (t.val % 11 * 512 + j) k = 0 := at2_zero _ _ _ (by omega)
    have hz : iblk m c 5 t (ix2 j k) = (0 : EReal) := hD.trans z
    rw [hz, mul_zero]
    refine Eq.symm ((congrArg _ z).trans (mul_zero _))

theorem aA (h0 : t.val % 11 = 0) (h1 : ¬ t.val % 11 = 10) (y : S512x2048.Idx) : (outsAt0 m c t.val t.isLt).2.2 y = 0 + term m c t y := by
  rw [outsAt0_A m c t h0 h1]
  frame_out
  refine ((congrFun (congrArg (fun a => k0_pay3 (F := Ideal) a _ _ _ _) (pay1_hid m c t)) y).trans (pay3_term m c t _ y)).trans ?_
  obtain ⟨i, k, rfl⟩ : ∃ (i : Fin 512) (k : Fin 2048), y = ix2 i k := ⟨y 0, y 1, eq_ix2 y⟩
  rw [pay2_at]
theorem prev (h0 : ¬ t.val % 11 = 0) : (outsAt0 m c (t.val - 1) (by omega)).2.1 = Hid m c t.val := by
  rw [hid_at]
  have q : (t.val - 1) / 11 = t.val / 11 := by omega
  unfold Hid; rw [q]
theorem aB (h0 : ¬ t.val % 11 = 0) (h1 : ¬ t.val % 11 = 10) (y : S512x2048.Idx) : (outsAt0 m c t.val t.isLt).2.2 y =
    (outsAt0 m c (t.val - 1) (by omega)).2.2 y + term m c t y := by
  rw [outsAt0_B m c t h0 h1]
  frame_out
  exact (congrFun (congrArg₂ (fun a b => k0_pay3 (F := Ideal) a _ _ b _) ((Memref.IsWhole.read_unread _ _).trans (prev m c t h0))
    (Memref.IsWhole.read_unread _ _)) y).trans (pay3_term m c t _ y)
theorem aC (h0 : ¬ t.val % 11 = 0) (h1 : t.val % 11 = 10) (y : S512x2048.Idx) : (outsAt0 m c t.val t.isLt).2.2 y =
    (outsAt0 m c (t.val - 1) (by omega)).2.2 y + term m c t y := by
  rw [outsAt0_C m c t h0 h1]
  frame_out
  exact (congrFun (congrArg₂ (fun a b => k0_pay3 (F := Ideal) a _ _ b _) ((Memref.IsWhole.read_unread _ _).trans (prev m c t h0))
    (Memref.IsWhole.read_unread _ _)) y).trans (pay3_term m c t _ y)
theorem oC (h0 : ¬ t.val % 11 = 0) (h1 : t.val % 11 = 10) (i : Fin 512) (k : Fin 2048) : (outsAt0 m c t.val t.isLt).1 (ix2 i k) =
    at2 (X m c) (t.val / 11 * 512 + i) k + Ideal.ofBits .f32 0x3F000000#32 * at3 (M m c) (condRow (t.val / 11 * 512 + i)) 8 k *
      (outsAt0 m c t.val t.isLt).2.2 (ix2 i k) := by
  rw [aC m c t h0 h1]
  rw [outsAt0_C m c t h0 h1]
  frame_out
  have q : condRow (t / 11 * 512) = condRow (t / 11 * 512 + i) := by
    have := i.isLt; unfold condRow; split <;> split <;> omega
  refine (pay4_at _ _ _ i k).trans ?_
  rw [ld1 m c t 8 (by omega), blk0, q]
  exact congrArg (fun z => at2 (X m c) (t.val / 11 * 512 + i) k + Ideal.ofBits .f32 0x3F000000#32 * at3 (M m c) (condRow (t.val / 11 * 512 + i)) 8 k * z)
    ((congrFun (congrArg₂ (fun a b => k0_pay3 (F := Ideal) a _ _ b _) ((Memref.IsWhole.read_unread _ _).trans (prev m c t h0))
    (Memref.IsWhole.read_unread _ _)) (ix2 i k)).trans (pay3_term m c t _ (ix2 i k)))

/-- The accumulated product at the last point of a tile of tokens. -/
theorem acc_at (h1 : t.val % 11 = 10) (i : Fin 512) (k : Fin 2048) : (outsAt0 m c t.val t.isLt).2.2 (ix2 i k) =
    ∑ j : Fin 5504, act (X m c) (M m c) (G m c) (U m c) (t.val / 11 * 512 + i) j * at2 (D m c) j k := by
  have hN : cfg0.N = 264 := N_0
  rw [Pipeline.eq_sum_fin_of_reset_step_apply_of_flush (fun n h => (outsAt0 m c n h).2.2) 11 (fun _ => (0 : EReal)) (fun t y => term m c t y)
    (fun t h0 y => aA m c t h0 (by omega) y)
    (fun t h0 y => by
      by_cases h1 : t.val % 11 = 10
      · exact aC m c t h0 h1 y
      · exact aB m c t h0 h1 y) t h1 (ix2 i k)]
  rw [zero_add]
  have hs : ∀ s : Fin 11, term m c ⟨11 * (t.val / 11) + s.val, Pipeline.run_point_lt_of_flush t h1 s⟩ (ix2 i k) =
      ∑ j : Fin 512, act (X m c) (M m c) (G m c) (U m c) (t.val / 11 * 512 + i) (s.val * 512 + j) * at2 (D m c) (s.val * 512 + j) k := by
    intro s
    have q0 : (11 * (t.val / 11) + s.val) / 11 = t.val / 11 := by omega
    have q1 : (11 * (t.val / 11) + s.val) % 11 = s.val := by omega
    unfold term
    simp only [q0, q1]
    rfl
  rw [Finset.sum_congr rfl fun s _ => hs s]
  let f : Fin (5504 + 128) → EReal := fun l => act (X m c) (M m c) (G m c) (U m c) (t.val / 11 * 512 + i) l * at2 (D m c) l k
  refine (Fin.sum_mul_add_congr (f := f) (fun s j hl => rfl)).trans ?_
  rw [Fin.sum_univ_add]
  have z : ∀ j : Fin 128, f (Fin.natAdd 5504 j) = 0 := fun j => by
    have := at2_zero (D m c) (Fin.natAdd 5504 j : ℕ) k (by simp)
    show _ * at2 (D m c) (Fin.natAdd 5504 j : ℕ) k = 0
    rw [this, mul_zero]
  rw [Finset.sum_congr rfl fun j _ => z j, Finset.sum_const_zero, add_zero]
  rfl

/-- The kernel's output array. -/
theorem final : (dats m 0 c).arrAt 6 cfg0.N = fun y : S12288x2048.Idx => ffn (X m c) (M m c) (G m c) (U m c) (D m c) (y 0) (y 1) := by
  have hN : cfg0.N = 264 := N_0
  refine (dats m 0 c).arrAt_eq_of_covers 6 _ (by decide +kernel) fun t hf y => ?_
  have h1 : t.val % 11 = 10 := (flush0_6 t).mp hf
  blk_simp
  rw [after0_6]
  obtain ⟨i, k, rfl⟩ : ∃ (i : Fin 512) (k : Fin 2048), y = ix2 i k := ⟨y 0, y 1, eq_ix2 y⟩
  rw [oC m c t (by omega) h1, acc_at m c t h1]
  have e0 : win0_6.index t 0 * 512 + ((ix2 i k : S512x2048.Idx) 0 : ℕ) = t / 11 * 512 + i := by rw [(idx t).2.2.2.2.2.2]; rfl
  have e1 : win0_6.index t 1 * 2048 + ((ix2 i k : S512x2048.Idx) 1 : ℕ) = k := by rw [(idx t).2.2.2.2.2.2]; exact Nat.zero_add _
  rw [e0, e1]
  rfl
end Cert.FfnIdeal.Ffn
-- ==== Proof.FfnRef.lean ====
module
public import proofs.«01_k».proof.Proof.Gen.FfnRefIdeal.Run
public import proofs.«01_k».proof.Proof.ProjSpec
public import Idealize.ShloMosaic.Lib.Pointwise
/-! The feed-forward half step's reference, read at an index: the context tokens (`C`), then the latent ones (`L`). -/
@[expose] public section
set_option maxRecDepth 16384
noncomputable section
open Idealize.ShloMosaic Idealize.ShloMosaic.TcCoe Idealize.SL.Sem
namespace Cert.FfnRefIdeal.Ffn
open Cert.FfnRefIdeal Cert.FfnRefIdeal.Gen Cert.CtxSpec Cert.ProjSpec
def xsC (x : FVec Ideal S12288x2048 .f32) : FVec Ideal S4096x2048 .f32 :=
  extractStridedSlice S4096x2048 ![0, 0] x slices_S12288x2048_S4096x2048_0_0
def moC6 (mo : FVec Ideal S16x9x2048 .f32) : FVec Ideal S1x2048 .f32 :=
  shapeCast _ (extractStridedSlice S1x1x2048 ![0, 6, 0] mo slices_S16x9x2048_S1x1x2048_0_6_0) shapeCasts_S1x1x2048_S1x2048
def moC7 (mo : FVec Ideal S16x9x2048 .f32) : FVec Ideal S1x2048 .f32 :=
  shapeCast _ (extractStridedSlice S1x1x2048 ![0, 7, 0] mo slices_S16x9x2048_S1x1x2048_0_7_0) shapeCasts_S1x1x2048_S1x2048
def moC8 (mo : FVec Ideal S16x9x2048 .f32) : FVec Ideal S1x2048 .f32 :=
  shapeCast _ (extractStridedSlice S1x1x2048 ![0, 8, 0] mo slices_S16x9x2048_S1x1x2048_0_8_0) shapeCasts_S1x1x2048_S1x2048
def hidC (x : FVec Ideal S4096x2048 .f32) (g : FVec Ideal S2048 .f32) (sc sh : FVec Ideal S1x2048 .f32) : FVec Ideal S4096x2048 .f32 :=
  addf (mulf (mulf (mulf x (broadcastInDim S4096x2048 ![0, 1] bcast_S4096x1_S4096x2048_0_1 (Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (broadcastInDim S1x2048 ![1] bcast_S2048_S1x2048_1 g))) (broadcastInDim S4096x2048 ![0, 1] bcast_S1x2048_S4096x2048_0_1 (addf (broadcastInDim S1x2048 ![] bcast_S_S1x2048 (constant S_ .f32 0x3F800000#32)) sc))) (broadcastInDim S4096x2048 ![0, 1] bcast_S1x2048_S4096x2048_0_1 sh)
def prodC (h : FVec Ideal S4096x2048 .f32) (u : FVec Ideal S2048x11008 .f32) : FVec Ideal S4096x11008 .f32 :=
  Host.dotGeneral dot_S4096x2048_S2048x11008_S4096x11008_1_0_0_1_n_n none h u
def actC (p : FVec Ideal S4096x11008 .f32) : FVec Ideal S4096x5504 .f32 :=
  mulf (mulf (extractStridedSlice S4096x5504 ![0, 0] p slices_S4096x11008_S4096x5504_0_0) (Host.divf (broadcastInDim S4096x5504 ![] bcast_S_S4096x5504 (constant S_ .f32 0x3F800000#32)) (addf (broadcastInDim S4096x5504 ![] bcast_S_S4096x5504 (constant S_ .f32 0x3F800000#32)) (Host.exp (Host.negf (extractStridedSlice S4096x5504 ![0, 0] p slices_S4096x11008_S4096x5504_0_0)))))) (extractStridedSlice S4096x5504 ![0, 5504] p slices_S4096x11008_S4096x5504_0_5504)
def outC (x : FVec Ideal S4096x2048 .f32) (gt : FVec Ideal S1x2048 .f32) (a : FVec Ideal S4096x5504 .f32) (d : FVec Ideal S5504x2048 .f32) : FVec Ideal S4096x2048 .f32 :=
  addf x (mulf (broadcastInDim S4096x2048 ![0, 1] bcast_S1x2048_S4096x2048_0_1 (mulf (broadcastInDim S1x2048 ![] bcast_S_S1x2048 (constant S_ .f32 0x3F000000#32)) gt)) (Host.dotGeneral dot_S4096x5504_S5504x2048_S4096x2048_1_0_0_1_n_n none a d))
def xsL (x : FVec Ideal S12288x2048 .f32) : FVec Ideal S8x1024x2048 .f32 :=
  shapeCast _ (extractStridedSlice S8192x2048 ![4096, 0] x slices_S12288x2048_S8192x2048_4096_0) shapeCasts_S8192x2048_S8x1024x2048
def moL6 (mo : FVec Ideal S16x9x2048 .f32) : FVec Ideal S8x2048 .f32 :=
  shapeCast _ (extractStridedSlice S8x1x2048 ![1, 6, 0] mo slices_S16x9x2048_S8x1x2048_1_6_0) shapeCasts_S8x1x2048_S8x2048
def moL7 (mo : FVec Ideal S16x9x2048 .f32) : FVec Ideal S8x2048 .f32 :=
  shapeCast _ (extractStridedSlice S8x1x2048 ![1, 7, 0] mo slices_S16x9x2048_S8x1x2048_1_7_0) shapeCasts_S8x1x2048_S8x2048
def moL8 (mo : FVec Ideal S16x9x2048 .f32) : FVec Ideal S8x2048 .f32 :=
  shapeCast _ (extractStridedSlice S8x1x2048 ![1, 8, 0] mo slices_S16x9x2048_S8x1x2048_1_8_0) shapeCasts_S8x1x2048_S8x2048
def hidL (x : FVec Ideal S8x1024x2048 .f32) (g : FVec Ideal S2048 .f32) (sc sh : FVec Ideal S8x2048 .f32) : FVec Ideal S8x1024x2048 .f32 :=
  addf (mulf (mulf (mulf x (broadcastInDim S8x1024x2048 ![0, 1, 2] bcast_S8x1024x1_S8x1024x2048_0_1_2 (Host.rsqrt (addf (Host.divf (broadcastInDim S8x1024x1 ![0, 1] bcast_S8x1024_S8x1024x1_0_1 (Host.reduceAdd (mulf x x) (constant S_ .f32 0x00000000#32) reducesTo_S8x1024x2048_S8x1024_d2 h_S_)) (broadcastInDim S8x1024x1 ![] bcast_S_S8x1024x1 (constant S_ .f32 0x45000000#32))) (broadcastInDim S8x1024x1 ![] bcast_S_S8x1024x1 (constant S_ .f32 0x358637BD#32)))))) (broadcastInDim S8x1024x2048 ![0, 1, 2] bcast_S1x1x2048_S8x1024x2048_0_1_2 (broadcastInDim S1x1x2048 ![2] bcast_S2048_S1x1x2048_2 g))) (broadcastInDim S8x1024x2048 ![0, 1, 2] bcast_S8x1x2048_S8x1024x2048_0_1_2 (addf (broadcastInDim S8x1x2048 ![] bcast_S_S8x1x2048 (constant S_ .f32 0x3F800000#32)) (broadcastInDim S8x1x2048 ![0, 2] bcast_S8x2048_S8x1x2048_0_2 sc)))) (broadcastInDim S8x1024x2048 ![0, 1, 2] bcast_S8x1x2048_S8x1024x2048_0_1_2 (broadcastInDim S8x1x2048 ![0, 2] bcast_S8x2048_S8x1x2048_0_2 sh))
def prodL (h : FVec Ideal S8x1024x2048 .f32) (u : FVec Ideal S2048x11008 .f32) : FVec Ideal S8x1024x11008 .f32 :=
  Host.dotGeneral dot_S8x1024x2048_S2048x11008_S8x1024x11008_2_0_01_1_n_n none h u
def actL (p : FVec Ideal S8x1024x11008 .f32) : FVec Ideal S8x1024x5504 .f32 :=
  mulf (mulf (extractStridedSlice S8x1024x5504 ![0, 0, 0] p slices_S8x1024x11008_S8x1024x5504_0_0_0) (Host.divf (broadcastInDim S8x1024x5504 ![] bcast_S_S8x1024x5504 (constant S_ .f32 0x3F800000#32)) (addf (broadcastInDim S8x1024x5504 ![] bcast_S_S8x1024x5504 (constant S_ .f32 0x3F800000#32)) (Host.exp (Host.negf (extractStridedSlice S8x1024x5504 ![0, 0, 0] p slices_S8x1024x11008_S8x1024x5504_0_0_0)))))) (extractStridedSlice S8x1024x5504 ![0, 0, 5504] p slices_S8x1024x11008_S8x1024x5504_0_0_5504)
def outL (x : FVec Ideal S8x1024x2048 .f32) (gt : FVec Ideal S8x2048 .f32) (a : FVec Ideal S8x1024x5504 .f32) (d : FVec Ideal S5504x2048 .f32) : FVec Ideal S8192x2048 .f32 :=
  shapeCast _ (addf x (mulf (broadcastInDim S8x1024x2048 ![0, 1, 2] bcast_S8x1x2048_S8x1024x2048_0_1_2 (mulf (broadcastInDim S8x1x2048 ![] bcast_S_S8x1x2048 (constant S_ .f32 0x3F000000#32)) (broadcastInDim S8x1x2048 ![0, 2] bcast_S8x2048_S8x1x2048_0_2 gt))) (Host.dotGeneral dot_S8x1024x5504_S5504x2048_S8x1024x2048_2_0_01_1_n_n none a d))) shapeCasts_S8x1024x2048_S8192x2048

variable (m : (ℓ : Loc nD τ sig) → Buf (Elt Ideal) ℓ) (c : Dev nD)
def whole (X : FVec Ideal S12288x2048 .f32) (M : FVec Ideal S16x9x2048 .f32) (G : FVec Ideal S2048 .f32) (U : FVec Ideal S2048x11008 .f32)
    (D : FVec Ideal S5504x2048 .f32) : FVec Ideal S12288x2048 .f32 :=
  concatenate S12288x2048 0 [⟨S4096x2048, (outC (xsC X) (moC8 M) (actC (prodC (hidC (xsC X) G (moC7 M) (moC6 M)) U)) D)⟩, ⟨S8192x2048, (outL (xsL X) (moL8 M) (actL (prodL (hidL (xsL X) G (moL7 M) (moL6 M)) U)) D)⟩] concatenates_S4096x2048_S8192x2048_S12288x2048_d0
theorem out_eq (X : FVec Ideal S12288x2048 .f32) (M : FVec Ideal S16x9x2048 .f32) (G : FVec Ideal S2048 .f32) (U : FVec Ideal S2048x11008 .f32)
    (D : FVec Ideal S5504x2048 .f32) (h0 : m ((c.tc : Thread nD τ).loc main_arg0) = X) (h1 : m ((c.tc : Thread nD τ).loc main_arg1) = M)
    (h2 : m ((c.tc : Thread nD τ).loc main_arg2) = G) (h3 : m ((c.tc : Thread nD τ).loc main_arg3) = U) (h4 : m ((c.tc : Thread nD τ).loc main_arg4) = D) :
    Value.res_main_v79 m c = whole X M G U D := by
  subst h0 h1 h2 h3 h4; rfl

theorem xsC_at (x : FVec Ideal S12288x2048 .f32) (r : Fin 4096) (d : Fin 2048) : xsC x (ix2 r d) = at2 x r d := by
  pointwise [xsC, at2]
  rw [dif_pos (by omega)]
theorem xsL_at (x : FVec Ideal S12288x2048 .f32) (b : Fin 8) (t : Fin 1024) (d : Fin 2048) : xsL x (ix3 b t d) = at2 x (4096 + (b * 1024 + t)) d := by
  pointwise [xsL, at2]
  rw [dif_pos (by omega)]
theorem moC6_at (mo : FVec Ideal S16x9x2048 .f32) (d : Fin 2048) : moC6 mo (ix2 0 d) = at3 mo 0 6 d := by
  pointwise [moC6, at3]
theorem moL6_at (mo : FVec Ideal S16x9x2048 .f32) (b : Fin 8) (d : Fin 2048) : moL6 mo (ix2 b d) = at3 mo (1 + b) 6 d := by
  pointwise [moL6, at3]
  rw [dif_pos (by omega)]
theorem moC7_at (mo : FVec Ideal S16x9x2048 .f32) (d : Fin 2048) : moC7 mo (ix2 0 d) = at3 mo 0 7 d := by
  pointwise [moC7, at3]
theorem moL7_at (mo : FVec Ideal S16x9x2048 .f32) (b : Fin 8) (d : Fin 2048) : moL7 mo (ix2 b d) = at3 mo (1 + b) 7 d := by
  pointwise [moL7, at3]
  rw [dif_pos (by omega)]
theorem moC8_at (mo : FVec Ideal S16x9x2048 .f32) (d : Fin 2048) : moC8 mo (ix2 0 d) = at3 mo 0 8 d := by
  pointwise [moC8, at3]
theorem moL8_at (mo : FVec Ideal S16x9x2048 .f32) (b : Fin 8) (d : Fin 2048) : moL8 mo (ix2 b d) = at3 mo (1 + b) 8 d := by
  pointwise [moL8, at3]
  rw [dif_pos (by omega)]
theorem hidC_at (x : FVec Ideal S4096x2048 .f32) (g : FVec Ideal S2048 .f32) (sc sh : FVec Ideal S1x2048 .f32) (r : Fin 4096) (d : Fin 2048) :
    hidC x g sc sh (ix2 r d) = modnorm (fun e => x (ix2 r e)) d (g (ix1 d)) (sc (ix2 0 d)) (sh (ix2 0 d)) := by
  pointwise [hidC]; rfl
theorem hidL_at (x : FVec Ideal S8x1024x2048 .f32) (g : FVec Ideal S2048 .f32) (sc sh : FVec Ideal S8x2048 .f32) (b : Fin 8) (t : Fin 1024) (d : Fin 2048) :
    hidL x g sc sh (ix3 b t d) = modnorm (fun e => x (ix3 b t e)) d (g (ix1 d)) (sc (ix2 b d)) (sh (ix2 b d)) := by
  pointwise [hidL]; rfl
theorem prodC_at (h : FVec Ideal S4096x2048 .f32) (u : FVec Ideal S2048x11008 .f32) (r : Fin 4096) (j : Fin 11008) :
    prodC h u (ix2 r j) = ∑ d : Fin 2048, h (ix2 r d) * at2 u d j := by
  simp only [← at2_eq]
  pointwise [prodC]
theorem prodL_at (h : FVec Ideal S8x1024x2048 .f32) (u : FVec Ideal S2048x11008 .f32) (b : Fin 8) (t : Fin 1024) (j : Fin 11008) :
    prodL h u (ix3 b t j) = ∑ d : Fin 2048, h (ix3 b t d) * at2 u d j := by
  simp only [← at2_eq]
  pointwise [prodL]
theorem actC_at (p : FVec Ideal S4096x11008 .f32) (r : Fin 4096) (j : Fin 5504) :
    actC p (ix2 r j) = silu (p (ix2 r ⟨j, by omega⟩)) * p (ix2 r ⟨5504 + j, by omega⟩) := by
  pointwise [actC]
  rfl
theorem actL_at (p : FVec Ideal S8x1024x11008 .f32) (b : Fin 8) (t : Fin 1024) (j : Fin 5504) :
    actL p (ix3 b t j) = silu (p (ix3 b t ⟨j, by omega⟩)) * p (ix3 b t ⟨5504 + j, by omega⟩) := by
  pointwise [actL]
  rfl
theorem outC_at (x : FVec Ideal S4096x2048 .f32) (gt : FVec Ideal S1x2048 .f32) (a : FVec Ideal S4096x5504 .f32) (d : FVec Ideal S5504x2048 .f32)
    (r : Fin 4096) (k : Fin 2048) :
    outC x gt a d (ix2 r k) = x (ix2 r k) + Ideal.ofBits .f32 0x3F000000#32 * gt (ix2 0 k) * ∑ j : Fin 5504, a (ix2 r j) * at2 d j k := by
  simp only [← at2_eq]
  pointwise [outC]
theorem outL_at (x : FVec Ideal S8x1024x2048 .f32) (gt : FVec Ideal S8x2048 .f32) (a : FVec Ideal S8x1024x5504 .f32) (d : FVec Ideal S5504x2048 .f32)
    (r : Fin 8192) (k : Fin 2048) (b : Fin 8) (t : Fin 1024) (hr : (r : ℕ) = b * 1024 + t) :
    outL x gt a d (ix2 r k) = x (ix3 b t k) + Ideal.ofBits .f32 0x3F000000#32 * gt (ix2 b k) * ∑ j : Fin 5504, a (ix3 b t j) * at2 d j k := by
  have q0 : (r : ℕ) / 1024 = b := by omega
  have q1 : (r : ℕ) % 1024 = t := by omega
  simp only [← at2_eq]
  pointwise [outL]
  simp only [q0, q1]

theorem C_at (X : FVec Ideal S12288x2048 .f32) (M : FVec Ideal S16x9x2048 .f32) (G : FVec Ideal S2048 .f32) (U : FVec Ideal S2048x11008 .f32)
    (D : FVec Ideal S5504x2048 .f32) (r : Fin 4096) (k : Fin 2048) : (outC (xsC X) (moC8 M) (actC (prodC (hidC (xsC X) G (moC7 M) (moC6 M)) U)) D) (ix2 r k) = ffn X M G U D r k := by
  rw [outC_at]
  simp only [actC_at, prodC_at, hidC_at, xsC_at, moC6_at, moC7_at, moC8_at, at1_eq]
  unfold ffn act hid
  rw [condRow_ctx r.isLt]
theorem L_at (X : FVec Ideal S12288x2048 .f32) (M : FVec Ideal S16x9x2048 .f32) (G : FVec Ideal S2048 .f32) (U : FVec Ideal S2048x11008 .f32)
    (D : FVec Ideal S5504x2048 .f32) (r : Fin 8192) (k : Fin 2048) : (outL (xsL X) (moL8 M) (actL (prodL (hidL (xsL X) G (moL7 M) (moL6 M)) U)) D) (ix2 r k) = ffn X M G U D (4096 + r) k := by
  obtain ⟨b, t, hr⟩ : ∃ (b : Fin 8) (t : Fin 1024), (r : ℕ) = b * 1024 + t :=
    ⟨⟨r / 1024, by omega⟩, ⟨r % 1024, by omega⟩, by simp; omega⟩
  rw [outL_at _ _ _ _ r k b t hr]
  simp only [actL_at, prodL_at, hidL_at, xsL_at, moL6_at, moL7_at, moL8_at, at1_eq]
  unfold ffn act hid
  rw [hr, condRow_lat b t t.isLt]
theorem whole_at (X : FVec Ideal S12288x2048 .f32) (M : FVec Ideal S16x9x2048 .f32) (G : FVec Ideal S2048 .f32) (U : FVec Ideal S2048x11008 .f32)
    (D : FVec Ideal S5504x2048 .f32) (r : Fin 12288) (k : Fin 2048) : whole X M G U D (ix2 r k) = ffn X M G U D r k := by
  unfold whole
  generalize hC : (outC (xsC X) (moC8 M) (actC (prodC (hidC (xsC X) G (moC7 M) (moC6 M)) U)) D) = yC
  generalize hL : (outL (xsL X) (moL8 M) (actL (prodL (hidL (xsL X) G (moL7 M) (moL6 M)) U)) D) = yL
  pointwise []
  split
  · next h => exact (congrFun hC.symm _).trans (C_at X M G U D ⟨r, h⟩ k)
  · next h =>
    refine (congrFun hL.symm _).trans ((L_at X M G U D ⟨r - 4096, by omega⟩ k).trans ?_)
    have e : 4096 + ((⟨(r : ℕ) - 4096, by omega⟩ : Fin 8192) : ℕ) = r := by show 4096 + ((r : ℕ) - 4096) = r; omega
    rw [e]
end Cert.FfnRefIdeal.Ffn
-- ==== Proof.FfnClaim.lean ====
module
public import proofs.«01_k».proof.Defs
public import proofs.«01_k».proof.Proof.Ffn2
public import proofs.«01_k».proof.Proof.FfnRef
public import Idealize.ShloMosaic.Lib.Claim
/-! The feed-forward half step's claims. -/
@[expose] public section
noncomputable section
open Idealize.ShloMosaic Idealize.ShloMosaic.TcCoe Idealize.SL.Sem
namespace Cert.FfnClaim
open Cert.CtxSpec Cert.ProjSpec

theorem frame_ref : Cert.quiescent_FfnRefIdeal (hFfnRefIdeal := Cert.FfnRefIdeal.Gen.facts) := by
  intro m g _
  exact (θ_run _ _ _).mono (fun r h => ⟨fun c => (h c).2, Idealize.ShloMosaic.sem_eq_zero_of_no_sems (by decide) r.2⟩)
    (Cert.FfnRefIdeal.Value.run m g)

open Cert.FfnIdeal.Ffn Cert.FfnRefIdeal.Ffn in
/-- The feed-forward kernel's output is the reference's. -/
theorem algebraic : Cert.algebraic_FfnIdeal_FfnRefIdeal (hFfnIdeal := Cert.FfnIdeal.Gen.facts)
    (hFfnRefIdeal := Cert.FfnRefIdeal.Gen.facts) := by
  intro m g m' g' hpre hargs
  refine ⟨_, Cert.FfnIdeal.Value.run_blocks m g, ?_⟩
  refine (θ_run _ _ _).mono (fun r h c => ?_) (Cert.FfnRefIdeal.Value.run m' g')
  obtain ⟨h0, hrest⟩ := h c
  obtain ⟨e0, e1, e2, e3, e4⟩ := hargs c
  refine ⟨h0.trans ?_, hrest⟩
  refine (out_eq m' c _ _ _ _ _ e0 e1 e2 e3 e4).trans (Eq.trans ?_ (final m c).symm)
  funext y
  obtain ⟨r, k, rfl⟩ : ∃ (r : Fin 12288) (k : Fin 2048), y = ix2 r k := ⟨y 0, y 1, eq_ix2 y⟩
  exact whole_at _ _ _ _ _ r k
end Cert.FfnClaim
-- ==== Proof.InProj.lean ====
module
public import proofs.«01_k».proof.Proof.Gen.InProjIdeal.Value
public import proofs.«01_k».proof.Proof.ProjSpec
public import Idealize.ShloMosaic.Lib.Pipeline.ValueKit
public import Idealize.ShloMosaic.Lib.Pointwise
/-! The input projection kernel's output. -/
@[expose] public section
set_option maxRecDepth 16384
noncomputable section
open Idealize.ShloMosaic Idealize.ShloMosaic.TcCoe Idealize.SL.Sem
open Idealize.ShloMosaic.Pipeline (Dat)
namespace Cert.InProjIdeal.Proj
open Cert.InProjIdeal Cert.InProjIdeal.Gen Cert.CtxSpec Cert.ProjSpec
variable (m : (ℓ : Loc nD τ sig) → Buf (Elt Ideal) ℓ)

theorem idx : ∀ t : Fin cfg0.N, win0_0.index t = ![t.val / 7, 0]
    ∧ win0_1.index t = ![if t.val / 7 < 8 then 0 else 1 + (t.val / 7 - 8) / 2, 0, 0] ∧ win0_2.index t = ![0, 0]
    ∧ win0_3.index t = ![0, t.val % 7] ∧ win0_4.index t = ![t.val / 7, t.val % 7] :=
  (by decide +kernel : ∀ t : Fin grid0.N, _)

theorem pay1_at (x : FVec Ideal S512x2048 .f32) (g : FVec Ideal S1x2048 .f32) (sh sc : FVec Ideal S1x1x2048 .f32) (i : Fin 512) (d : Fin 2048) :
    k0_pay1 (F := Ideal) x g sh sc (ix2 i d) = modnorm (fun e => x (ix2 i e)) d (g (ix2 0 d)) (sc (ix3 0 0 d)) (sh (ix3 0 0 d)) := by
  pointwise [k0_pay1]; rfl
theorem pay2_at (h : FVec Ideal S512x2048 .bf16) (w : FVec Ideal S2048x896 .bf16) (i : Fin 512) (k : Fin 896) :
    k0_pay2 (F := Ideal) h w (ix2 i k) = ∑ d : Fin 2048, h (ix2 i d) * w (ix2 d k) := by
  pointwise [k0_pay2]

variable (c : Dev nD) (t : Fin cfg0.N)
abbrev X : FVec Ideal S12288x2048 .f32 := m ((c : Thread nD τ).loc main_arg0)
abbrev M : FVec Ideal S16x9x2048 .f32 := m ((c : Thread nD τ).loc main_arg1)
abbrev G : FVec Ideal S2048 .f32 := m ((c : Thread nD τ).loc main_arg2)
abbrev W : FVec Ideal S2048x6272 .bf16 := m ((c : Thread nD τ).loc main_arg3)

theorem V0 (y : S1x2048.Idx) : V m c main_v0 y = at1 (G m c) (y 1) := by
  have h : V m c main_v0 = shapeCast S1x2048 (G m c) shapeCasts_S2048_S1x2048 := rfl
  rw [h]; idx_vars y; rw [← at1_eq]
  pointwise []
theorem blk0 (y : S512x2048.Idx) : iblk m c 0 t y = at2 (X m c) (t / 7 * 512 + y 0) (y 1) := by
  blk_point [iblk, V, idx t]
  all_goals exfalso; omega
theorem blk1 (y : S1x9x2048.Idx) : iblk m c 1 t y = at3 (M m c) (condRow (t / 7 * 512)) (y 1) (y 2) := by
  have h1 : (((win0_1.blk t).view.emb y) 0 : ℕ) = condRow (t / 7 * 512) := by
    blk_simp [idx t]; unfold condRow; split <;> split <;> omega
  have h2 : (((win0_1.blk t).view.emb y) 1 : ℕ) = y 1 := by blk_simp [idx t]
  have h3 : (((win0_1.blk t).view.emb y) 2 : ℕ) = y 2 := by blk_simp [idx t]
  have e : iblk m c 1 t y = V m c main_arg1 ((win0_1.blk t).view.emb y) := rfl
  rw [e, V_main_arg1]
  refine (at3_idx (M m c) _).trans ?_
  rw [h1, h2, h3]
theorem blk2 (y : S1x2048.Idx) : iblk m c 2 t y = at1 (G m c) (y 1) := by
  have h2 : (((win0_2.blk t).view.emb y) 1 : ℕ) = y 1 := by blk_simp [idx t]
  have e : iblk m c 2 t y = V m c main_v0 ((win0_2.blk t).view.emb y) := rfl
  rw [e, V0, h2]
theorem blk3 (y : S2048x896.Idx) : iblk m c 3 t y = at2 (W m c) (y 0) (t % 7 * 896 + y 1) := by
  blk_point [iblk, V, idx t]
  all_goals exfalso; omega

/-- The modulated norm of the tokens of grid point `n`. -/
abbrev Hid (n : ℕ) : FVec Ideal S512x2048 .bf16 :=
  fun y => hid (X m c) (M m c) (G m c) 3 (n / 7 * 512 + y 0) (y 1)

theorem ld1 (b : ℕ) (hb : b < 9) (h) (k : Fin 2048) :
    View.ld (iblk m c 1 t) (Rect.unit (s := S1x9x2048) ![0, b, 0] ![1, 1, 2048] h) (ix3 0 0 k) = at3 (M m c) (condRow (t / 7 * 512)) b k := by
  rw [View.ld_apply, blk1]
  congr 1
  rw [Rect.idx_unit_val]; simp

theorem pay1_hid : k0_pay1 (F := Ideal) (iblk m c 0 t) (iblk m c 2 t)
      (View.ld (iblk m c 1 t) (Rect.unit ![0, 3, 0] ![1, 1, 2048] inb_S1x9x2048_S1x1x2048_0_3_0))
      (View.ld (iblk m c 1 t) (Rect.unit ![0, 4, 0] ![1, 1, 2048] inb_S1x9x2048_S1x1x2048_0_4_0)) = Hid m c t.val := by
  funext y
  obtain ⟨i, d, rfl⟩ : ∃ (i : Fin 512) (d : Fin 2048), y = ix2 i d := ⟨y 0, y 1, eq_ix2 y⟩
  rw [pay1_at, ld1 m c t 3 (by omega), ld1 m c t 4 (by omega), blk2]
  have e : (fun e => iblk m c 0 t (ix2 i e)) = fun e : Fin 2048 => at2 (X m c) (t / 7 * 512 + i) e := funext fun e => blk0 m c t _
  have q : condRow (t / 7 * 512) = condRow (t / 7 * 512 + i) := by
    have := i.isLt; unfold condRow; split <;> split <;> omega
  rw [q]
  exact congrArg (fun f => modnorm f d _ _ _) e

theorem hA (h0 : t.val % 7 = 0) : (outsAt0 m c t.val t.isLt).2 = Hid m c t.val := by
  rw [outsAt0_A m c t h0]
  frame_out
  exact pay1_hid m c t
theorem hB (h0 : ¬ t.val % 7 = 0) : (outsAt0 m c t.val t.isLt).2 = (outsAt0 m c (t.val - 1) (by omega)).2 := by
  rw [outsAt0_B m c t h0]
  rfl
/-- What the kernel keeps of the modulated norm, at every grid point. -/
theorem hid_at : ∀ (n : ℕ) (h : n < cfg0.N), (outsAt0 m c n h).2 = Hid m c n := by
  intro n
  induction n with
  | zero => intro h; exact hA m c ⟨0, h⟩ rfl
  | succ n ih =>
    intro h
    by_cases h0 : (n + 1) % 7 = 0
    · exact hA m c ⟨n + 1, h⟩ h0
    · have q : Hid m c (n + 1) = Hid m c n := by
        have q : (n + 1) / 7 = n / 7 := by omega
        unfold Hid; rw [q]
      rw [q]
      exact (hB m c ⟨n + 1, h⟩ h0).trans (ih _)
theorem prev (h0 : ¬ t.val % 7 = 0) : (outsAt0 m c (t.val - 1) (by omega)).2 = Hid m c t.val := by
  rw [hid_at]
  have q : (t.val - 1) / 7 = t.val / 7 := by omega
  unfold Hid; rw [q]

theorem pay2_proj (i : Fin 512) (k : Fin 896) : k0_pay2 (F := Ideal) (Hid m c t.val) (iblk m c 3 t) (ix2 i k) =
    proj (X m c) (M m c) (G m c) (W m c) (t / 7 * 512 + i) (t % 7 * 896 + k) := by
  rw [pay2_at]
  exact Finset.sum_congr rfl fun d _ => congrArg (_ * ·) (blk3 m c t (ix2 d k))
theorem out_at (i : Fin 512) (k : Fin 896) : (outsAt0 m c t.val t.isLt).1 (ix2 i k) =
    proj (X m c) (M m c) (G m c) (W m c) (t / 7 * 512 + i) (t % 7 * 896 + k) := by
  by_cases h0 : t.val % 7 = 0
  · rw [outsAt0_A m c t h0]
    frame_out
    exact (congrFun (congrArg (fun a => k0_pay2 (F := Ideal) a _) (pay1_hid m c t)) (ix2 i k)).trans (pay2_proj m c t i k)
  · rw [outsAt0_B m c t h0]
    frame_out
    exact (congrFun (congrArg (fun a => k0_pay2 (F := Ideal) a _) ((Memref.IsWhole.read_unread _ _).trans (prev m c t h0))) (ix2 i k)).trans
      (pay2_proj m c t i k)

/-- The kernel's output array. -/
theorem final : (dats m 0 c).arrAt 4 cfg0.N = fun y : S12288x6272.Idx => proj (X m c) (M m c) (G m c) (W m c) (y 0) (y 1) := by
  refine (dats m 0 c).arrAt_eq_of_covers 4 _ (by decide +kernel) fun t hf y => ?_
  blk_simp
  rw [after0_4]
  obtain ⟨i, k, rfl⟩ : ∃ (i : Fin 512) (k : Fin 896), y = ix2 i k := ⟨y 0, y 1, eq_ix2 y⟩
  rw [out_at]
  have e0 : win0_4.index t 0 * 512 + ((ix2 i k : S512x896.Idx) 0 : ℕ) = t / 7 * 512 + i := by rw [(idx t).2.2.2.2]; rfl
  have e1 : win0_4.index t 1 * 896 + ((ix2 i k : S512x896.Idx) 1 : ℕ) = t % 7 * 896 + k := by rw [(idx t).2.2.2.2]; rfl
  rw [e0, e1]
end Cert.InProjIdeal.Proj
-- ==== Proof.InProjRef.lean ====
module
public import proofs.«01_k».proof.Proof.Gen.InProjRefIdeal.Run
public import proofs.«01_k».proof.Proof.ProjSpec
public import Idealize.ShloMosaic.Lib.Pipeline.ValueKit
public import Idealize.ShloMosaic.Lib.Pointwise
/-! The input projection's reference, read at an index: the context tokens (`C`), then the latent ones (`L`). -/
@[expose] public section
set_option maxRecDepth 16384
noncomputable section
open Idealize.ShloMosaic Idealize.ShloMosaic.TcCoe Idealize.SL.Sem
namespace Cert.InProjRefIdeal.Proj
open Cert.InProjRefIdeal Cert.InProjRefIdeal.Gen Cert.CtxSpec Cert.ProjSpec
def xsC (x : FVec Ideal S12288x2048 .f32) : FVec Ideal S4096x2048 .f32 :=
  extractStridedSlice S4096x2048 ![0, 0] x slices_S12288x2048_S4096x2048_0_0
def xsL (x : FVec Ideal S12288x2048 .f32) : FVec Ideal S8x1024x2048 .f32 :=
  shapeCast _ (extractStridedSlice S8192x2048 ![4096, 0] x slices_S12288x2048_S8192x2048_4096_0) shapeCasts_S8192x2048_S8x1024x2048
def moC3 (mo : FVec Ideal S16x9x2048 .f32) : FVec Ideal S1x2048 .f32 :=
  shapeCast _ (extractStridedSlice S1x1x2048 ![0, 3, 0] mo slices_S16x9x2048_S1x1x2048_0_3_0) shapeCasts_S1x1x2048_S1x2048
def moC4 (mo : FVec Ideal S16x9x2048 .f32) : FVec Ideal S1x2048 .f32 :=
  shapeCast _ (extractStridedSlice S1x1x2048 ![0, 4, 0] mo slices_S16x9x2048_S1x1x2048_0_4_0) shapeCasts_S1x1x2048_S1x2048
def moL3 (mo : FVec Ideal S16x9x2048 .f32) : FVec Ideal S8x2048 .f32 :=
  shapeCast _ (extractStridedSlice S8x1x2048 ![1, 3, 0] mo slices_S16x9x2048_S8x1x2048_1_3_0) shapeCasts_S8x1x2048_S8x2048
def moL4 (mo : FVec Ideal S16x9x2048 .f32) : FVec Ideal S8x2048 .f32 :=
  shapeCast _ (extractStridedSlice S8x1x2048 ![1, 4, 0] mo slices_S16x9x2048_S8x1x2048_1_4_0) shapeCasts_S8x1x2048_S8x2048
def hidC (x : FVec Ideal S4096x2048 .f32) (g : FVec Ideal S2048 .f32) (sc sh : FVec Ideal S1x2048 .f32) : FVec Ideal S4096x2048 .f32 :=
  addf (mulf (mulf (mulf x (broadcastInDim S4096x2048 ![0, 1] bcast_S4096x1_S4096x2048_0_1 (Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (broadcastInDim S1x2048 ![1] bcast_S2048_S1x2048_1 g))) (broadcastInDim S4096x2048 ![0, 1] bcast_S1x2048_S4096x2048_0_1 (addf (broadcastInDim S1x2048 ![] bcast_S_S1x2048 (constant S_ .f32 0x3F800000#32)) sc))) (broadcastInDim S4096x2048 ![0, 1] bcast_S1x2048_S4096x2048_0_1 sh)
def hidL (x : FVec Ideal S8x1024x2048 .f32) (g : FVec Ideal S2048 .f32) (sc sh : FVec Ideal S8x2048 .f32) : FVec Ideal S8x1024x2048 .f32 :=
  addf (mulf (mulf (mulf x (broadcastInDim S8x1024x2048 ![0, 1, 2] bcast_S8x1024x1_S8x1024x2048_0_1_2 (Host.rsqrt (addf (Host.divf (broadcastInDim S8x1024x1 ![0, 1] bcast_S8x1024_S8x1024x1_0_1 (Host.reduceAdd (mulf x x) (constant S_ .f32 0x00000000#32) reducesTo_S8x1024x2048_S8x1024_d2 h_S_)) (broadcastInDim S8x1024x1 ![] bcast_S_S8x1024x1 (constant S_ .f32 0x45000000#32))) (broadcastInDim S8x1024x1 ![] bcast_S_S8x1024x1 (constant S_ .f32 0x358637BD#32)))))) (broadcastInDim S8x1024x2048 ![0, 1, 2] bcast_S1x1x2048_S8x1024x2048_0_1_2 (broadcastInDim S1x1x2048 ![2] bcast_S2048_S1x1x2048_2 g))) (broadcastInDim S8x1024x2048 ![0, 1, 2] bcast_S8x1x2048_S8x1024x2048_0_1_2 (addf (broadcastInDim S8x1x2048 ![] bcast_S_S8x1x2048 (constant S_ .f32 0x3F800000#32)) (broadcastInDim S8x1x2048 ![0, 2] bcast_S8x2048_S8x1x2048_0_2 sc)))) (broadcastInDim S8x1024x2048 ![0, 1, 2] bcast_S8x1x2048_S8x1024x2048_0_1_2 (broadcastInDim S8x1x2048 ![0, 2] bcast_S8x2048_S8x1x2048_0_2 sh))
def prodC (h : FVec Ideal S4096x2048 .f32) (w : FVec Ideal S2048x6272 .bf16) : FVec Ideal S4096x6272 .f32 :=
  Host.dotGeneral dot_S4096x2048_S2048x6272_S4096x6272_1_0_0_1_n_n none h (extf .f32 w bitsLt_bf16_f32)
def prodL (h : FVec Ideal S8x1024x2048 .f32) (w : FVec Ideal S2048x6272 .bf16) : FVec Ideal S8192x6272 .f32 :=
  shapeCast _ (Host.dotGeneral dot_S8x1024x2048_S2048x6272_S8x1024x6272_2_0_01_1_n_n none h (extf .f32 w bitsLt_bf16_f32)) shapeCasts_S8x1024x6272_S8192x6272
def whole (X : FVec Ideal S12288x2048 .f32) (M : FVec Ideal S16x9x2048 .f32) (G : FVec Ideal S2048 .f32) (W : FVec Ideal S2048x6272 .bf16) : FVec Ideal S12288x6272 .f32 :=
  concatenate S12288x6272 0 [⟨S4096x6272, (prodC (hidC (xsC X) G (moC4 M) (moC3 M)) W)⟩, ⟨S8192x6272, (prodL (hidL (xsL X) G (moL4 M) (moL3 M)) W)⟩] concatenates_S4096x6272_S8192x6272_S12288x6272_d0

theorem xsC_at (x : FVec Ideal S12288x2048 .f32) (r : Fin 4096) (d : Fin 2048) : xsC x (ix2 r d) = at2 x r d := by
  pointwise [xsC, at2]
  rw [dif_pos (by omega)]
theorem xsL_at (x : FVec Ideal S12288x2048 .f32) (b : Fin 8) (t : Fin 1024) (d : Fin 2048) : xsL x (ix3 b t d) = at2 x (4096 + (b * 1024 + t)) d := by
  pointwise [xsL, at2]
  rw [dif_pos (by omega)]
theorem moC3_at (mo : FVec Ideal S16x9x2048 .f32) (d : Fin 2048) : moC3 mo (ix2 0 d) = at3 mo 0 3 d := by
  pointwise [moC3, at3]
theorem moL3_at (mo : FVec Ideal S16x9x2048 .f32) (b : Fin 8) (d : Fin 2048) : moL3 mo (ix2 b d) = at3 mo (1 + b) 3 d := by
  pointwise [moL3, at3]
  rw [dif_pos (by omega)]
theorem moC4_at (mo : FVec Ideal S16x9x2048 .f32) (d : Fin 2048) : moC4 mo (ix2 0 d) = at3 mo 0 4 d := by
  pointwise [moC4, at3]
theorem moL4_at (mo : FVec Ideal S16x9x2048 .f32) (b : Fin 8) (d : Fin 2048) : moL4 mo (ix2 b d) = at3 mo (1 + b) 4 d := by
  pointwise [moL4, at3]
  rw [dif_pos (by omega)]
theorem hidC_at (x : FVec Ideal S4096x2048 .f32) (g : FVec Ideal S2048 .f32) (sc sh : FVec Ideal S1x2048 .f32) (r : Fin 4096) (d : Fin 2048) :
    hidC x g sc sh (ix2 r d) = modnorm (fun e => x (ix2 r e)) d (g (ix1 d)) (sc (ix2 0 d)) (sh (ix2 0 d)) := by
  pointwise [hidC]; rfl
theorem hidL_at (x : FVec Ideal S8x1024x2048 .f32) (g : FVec Ideal S2048 .f32) (sc sh : FVec Ideal S8x2048 .f32) (b : Fin 8) (t : Fin 1024) (d : Fin 2048) :
    hidL x g sc sh (ix3 b t d) = modnorm (fun e => x (ix3 b t e)) d (g (ix1 d)) (sc (ix2 b d)) (sh (ix2 b d)) := by
  pointwise [hidL]; rfl
theorem prodC_at (h : FVec Ideal S4096x2048 .f32) (w : FVec Ideal S2048x6272 .bf16) (r : Fin 4096) (k : Fin 6272) :
    prodC h w (ix2 r k) = ∑ d : Fin 2048, h (ix2 r d) * at2 w d k := by
  simp only [← at2_eq]
  pointwise [prodC]
theorem prodL_at (h : FVec Ideal S8x1024x2048 .f32) (w : FVec Ideal S2048x6272 .bf16) (r : Fin 8192) (k : Fin 6272) (b : Fin 8) (t : Fin 1024)
    (hr : (r : ℕ) = b * 1024 + t) : prodL h w (ix2 r k) = ∑ d : Fin 2048, h (ix3 b t d) * at2 w d k := by
  have q0 : (r : ℕ) / 1024 = b := by omega
  have q1 : (r : ℕ) % 1024 = t := by omega
  simp only [← at2_eq]
  pointwise [prodL]
  simp only [q0, q1]
theorem C_at (X : FVec Ideal S12288x2048 .f32) (M : FVec Ideal S16x9x2048 .f32) (G : FVec Ideal S2048 .f32) (W : FVec Ideal S2048x6272 .bf16) (r : Fin 4096) (k : Fin 6272) :
    (prodC (hidC (xsC X) G (moC4 M) (moC3 M)) W) (ix2 r k) = proj X M G W r k := by
  rw [prodC_at]
  simp only [hidC_at, xsC_at, moC3_at, moC4_at, at1_eq]
  unfold proj hid
  rw [condRow_ctx r.isLt]
theorem L_at (X : FVec Ideal S12288x2048 .f32) (M : FVec Ideal S16x9x2048 .f32) (G : FVec Ideal S2048 .f32) (W : FVec Ideal S2048x6272 .bf16) (r : Fin 8192) (k : Fin 6272) :
    (prodL (hidL (xsL X) G (moL4 M) (moL3 M)) W) (ix2 r k) = proj X M G W (4096 + r) k := by
  obtain ⟨b, t, hr⟩ : ∃ (b : Fin 8) (t : Fin 1024), (r : ℕ) = b * 1024 + t :=
    ⟨⟨r / 1024, by omega⟩, ⟨r % 1024, by omega⟩, by simp; omega⟩
  rw [prodL_at _ _ r k b t hr]
  simp only [hidL_at, xsL_at, moL3_at, moL4_at, at1_eq]
  unfold proj hid
  rw [hr, condRow_lat b t t.isLt]
theorem whole_at (X : FVec Ideal S12288x2048 .f32) (M : FVec Ideal S16x9x2048 .f32) (G : FVec Ideal S2048 .f32) (W : FVec Ideal S2048x6272 .bf16) (r : Fin 12288) (k : Fin 6272) : whole X M G W (ix2 r k) = proj X M G W r k := by
  unfold whole
  generalize hC : (prodC (hidC (xsC X) G (moC4 M) (moC3 M)) W) = yC
  generalize hL : (prodL (hidL (xsL X) G (moL4 M) (moL3 M)) W) = yL
  pointwise []
  split
  · next h => exact (congrFun hC.symm _).trans (C_at X M G W ⟨r, h⟩ k)
  · next h =>
    refine (congrFun hL.symm _).trans ((L_at X M G W ⟨r - 4096, by omega⟩ k).trans ?_)
    have e : 4096 + ((⟨(r : ℕ) - 4096, by omega⟩ : Fin 8192) : ℕ) = r := by show 4096 + ((r : ℕ) - 4096) = r; omega
    rw [e]
end Cert.InProjRefIdeal.Proj
-- ==== Proof.InProjClaim.lean ====
module
public import proofs.«01_k».proof.Defs
public import proofs.«01_k».proof.Proof.InProj
public import proofs.«01_k».proof.Proof.InProjRef
public import Idealize.ShloMosaic.Lib.Claim
/-! The input projection kernel computes the reference. -/
@[expose] public section
set_option maxRecDepth 16384
noncomputable section
open Idealize.ShloMosaic Idealize.ShloMosaic.TcCoe Idealize.SL.Sem
namespace Cert.InProjClaim

/-- The reference runs to its end. -/
theorem frame_ref : Cert.quiescent_InProjRefIdeal (hInProjRefIdeal := Cert.InProjRefIdeal.Gen.facts) := by
  intro m g _
  exact (θ_run _ _ _).mono (fun r h => ⟨fun c => (h c).2, Idealize.ShloMosaic.sem_eq_zero_of_no_sems (by decide) r.2⟩)
    (Cert.InProjRefIdeal.Value.run m g)

open Cert.InProjIdeal.Proj Cert.InProjRefIdeal.Proj in
/-- The kernel's output is the reference's. -/
theorem algebraic : Cert.algebraic_InProjIdeal_InProjRefIdeal (hInProjIdeal := Cert.InProjIdeal.Gen.facts) (hInProjRefIdeal := Cert.InProjRefIdeal.Gen.facts) := by
  intro m g m' g' hpre hargs
  refine ⟨_, Cert.InProjIdeal.Value.run_blocks m g, ?_⟩
  refine (θ_run _ _ _).mono (fun r h c => ?_) (Cert.InProjRefIdeal.Value.run m' g')
  obtain ⟨h0, hrest⟩ := h c
  obtain ⟨e0, e1, e2, e3⟩ := hargs c
  refine ⟨h0.trans ?_, hrest⟩
  refine Eq.trans ?_ (final m c).symm
  refine (show _ = whole (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2)) (m' ((c.tc : Thread Cert.InProjRefIdeal.nD Cert.InProjRefIdeal.τ).loc Cert.InProjRefIdeal.main_arg3)) from rfl).trans ?_
  rw [e0, e1, e2, e3]
  funext y
  obtain ⟨r, k, rfl⟩ : ∃ (r : Fin 12288) (k : Fin 6272), y = ix2 r k := ⟨y 0, y 1, eq_ix2 y⟩
  exact whole_at _ _ _ _ r k
end Cert.InProjClaim
-- ==== Proof.OutProj.lean ====
module
public import proofs.«01_k».proof.Proof.Gen.OutProjIdeal.Value
public import proofs.«01_k».proof.Proof.ProjSpec
public import Idealize.ShloMosaic.Lib.Pipeline.ValueKit
public import Idealize.ShloMosaic.Lib.Pointwise
/-! The output projection kernel's output. -/
@[expose] public section
set_option maxRecDepth 16384
noncomputable section
open Idealize.ShloMosaic Idealize.ShloMosaic.TcCoe Idealize.SL.Sem
open Idealize.ShloMosaic.Pipeline (Dat)
namespace Cert.OutProjIdeal.Proj
open Cert.OutProjIdeal Cert.OutProjIdeal.Gen Cert.CtxSpec Cert.ProjSpec
variable (m : (ℓ : Loc nD τ sig) → Buf (Elt Ideal) ℓ)

theorem idx : ∀ t : Fin cfg0.N, win0_0.index t = ![t.val, 0]
    ∧ win0_1.index t = ![if t.val < 8 then 0 else 1 + (t.val - 8) / 2, 0, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![t.val, 0] :=
  (by decide +kernel : ∀ t : Fin grid0.N, _)

theorem pay1_at (a0 : FVec Ideal S512x512 .bf16) (b0 : FVec Ideal S512x2048 .bf16) (a1 : FVec Ideal S512x512 .bf16) (b1 : FVec Ideal S512x2048 .bf16)
    (a2 : FVec Ideal S512x512 .bf16) (b2 : FVec Ideal S512x2048 .bf16) (a3 : FVec Ideal S512x512 .bf16) (b3 : FVec Ideal S512x2048 .bf16)
    (x : FVec Ideal S512x2048 .f32) (mo : FVec Ideal S1x1x2048 .f32) (i : Fin 512) (k : Fin 2048) :
    k0_pay1 (F := Ideal) a0 b0 a1 b1 a2 b2 a3 b3 x mo (ix2 i k) = x (ix2 i k) + mo (ix3 0 0 k) *
      ((((∑ j : Fin 512, a0 (ix2 i j) * b0 (ix2 j k)) + ∑ j : Fin 512, a1 (ix2 i j) * b1 (ix2 j k)) + ∑ j : Fin 512, a2 (ix2 i j) * b2 (ix2 j k))
        + ∑ j : Fin 512, a3 (ix2 i j) * b3 (ix2 j k)) := by
  pointwise [k0_pay1]

variable (c : Dev nD) (t : Fin cfg0.N)
abbrev X : FVec Ideal S12288x2048 .f32 := m ((c : Thread nD τ).loc main_arg0)
abbrev M : FVec Ideal S16x9x2048 .f32 := m ((c : Thread nD τ).loc main_arg1)
abbrev O0 : FVec Ideal S12288x512 .bf16 := m ((c : Thread nD τ).loc main_arg2)
abbrev O1 : FVec Ideal S12288x512 .bf16 := m ((c : Thread nD τ).loc main_arg3)
abbrev O2 : FVec Ideal S12288x512 .bf16 := m ((c : Thread nD τ).loc main_arg4)
abbrev O3 : FVec Ideal S12288x512 .bf16 := m ((c : Thread nD τ).loc main_arg5)
abbrev W : FVec Ideal S2048x2048 .f32 := m ((c : Thread nD τ).loc main_arg6)

theorem blk0 (y : S512x2048.Idx) : iblk m c 0 t y = at2 (X m c) (t * 512 + y 0) (y 1) := by
  blk_point [iblk, V, idx t]
  all_goals exfalso; omega
theorem blk1 (y : S1x9x2048.Idx) : iblk m c 1 t y = at3 (M m c) (condRow (t * 512)) (y 1) (y 2) := by
  have h1 : (((win0_1.blk t).view.emb y) 0 : ℕ) = condRow (t * 512) := by
    blk_simp [idx t]; unfold condRow; split <;> split <;> omega
  have h2 : (((win0_1.blk t).view.emb y) 1 : ℕ) = y 1 := by blk_simp [idx t]
  have h3 : (((win0_1.blk t).view.emb y) 2 : ℕ) = y 2 := by blk_simp [idx t]
  have e : iblk m c 1 t y = V m c main_arg1 ((win0_1.blk t).view.emb y) := rfl
  rw [e, V_main_arg1]
  refine (at3_idx (M m c) _).trans ?_
  rw [h1, h2, h3]
theorem blk2 (y : S512x512.Idx) : iblk m c 2 t y = at2 (O0 m c) (t * 512 + y 0) (y 1) := by
  blk_point [iblk, V, idx t]
  all_goals exfalso; omega
theorem blk3 (y : S512x512.Idx) : iblk m c 3 t y = at2 (O1 m c) (t * 512 + y 0) (y 1) := by
  blk_point [iblk, V, idx t]
  all_goals exfalso; omega
theorem blk4 (y : S512x512.Idx) : iblk m c 4 t y = at2 (O2 m c) (t * 512 + y 0) (y 1) := by
  blk_point [iblk, V, idx t]
  all_goals exfalso; omega
theorem blk5 (y : S512x512.Idx) : iblk m c 5 t y = at2 (O3 m c) (t * 512 + y 0) (y 1) := by
  blk_point [iblk, V, idx t]
  all_goals exfalso; omega
theorem blk6 (y : S2048x2048.Idx) : iblk m c 6 t y = at2 (W m c) (y 0) (y 1) := by
  have h1 : (((win0_6.blk t).view.emb y) 0 : ℕ) = y 0 := by blk_simp [idx t]
  have h2 : (((win0_6.blk t).view.emb y) 1 : ℕ) = y 1 := by blk_simp [idx t]
  have e : iblk m c 6 t y = V m c main_v0 ((win0_6.blk t).view.emb y) := rfl
  have h : V m c main_v0 = W m c := rfl
  rw [e, h]
  refine (at2_idx (W m c) _).trans ?_
  rw [h1, h2]
theorem ld1 (k : Fin 2048) : View.ld (iblk m c 1 t) r0_6 (ix3 0 0 k) = at3 (M m c) (condRow (t * 512)) 5 k := by
  rw [View.ld_apply, blk1]
  congr 1
  rw [Rect.idx_unit_val]; simp
theorem ld0 (i : Fin 512) (k : Fin 2048) : View.ld (iblk m c 0 t) r0_5 (ix2 i k) = at2 (X m c) (t * 512 + i) k := by
  rw [View.ld_apply, blk0, Rect.idx_unit_val, Rect.idx_unit_val]
  simp
theorem ldO0 (i : Fin 512) (j : Fin 512) : View.ld (iblk m c 2 t) r0_0 (ix2 i j) = at2 (O0 m c) (t * 512 + i) j := by
  rw [View.ld_apply, blk2, Rect.idx_unit_val, Rect.idx_unit_val]
  simp
theorem ldW0 (j : Fin 512) (k : Fin 2048) : View.ld (iblk m c 6 t) r0_1 (ix2 j k) = at2 (W m c) (0 + j) k := by
  rw [View.ld_apply, blk6, Rect.idx_unit_val, Rect.idx_unit_val]
  simp
theorem ldO1 (i : Fin 512) (j : Fin 512) : View.ld (iblk m c 3 t) r0_0 (ix2 i j) = at2 (O1 m c) (t * 512 + i) j := by
  rw [View.ld_apply, blk3, Rect.idx_unit_val, Rect.idx_unit_val]
  simp
theorem ldW1 (j : Fin 512) (k : Fin 2048) : View.ld (iblk m c 6 t) r0_2 (ix2 j k) = at2 (W m c) (512 + j) k := by
  rw [View.ld_apply, blk6, Rect.idx_unit_val, Rect.idx_unit_val]
  simp
theorem ldO2 (i : Fin 512) (j : Fin 512) : View.ld (iblk m c 4 t) r0_0 (ix2 i j) = at2 (O2 m c) (t * 512 + i) j := by
  rw [View.ld_apply, blk4, Rect.idx_unit_val, Rect.idx_unit_val]
  simp
theorem ldW2 (j : Fin 512) (k : Fin 2048) : View.ld (iblk m c 6 t) r0_3 (ix2 j k) = at2 (W m c) (1024 + j) k := by
  rw [View.ld_apply, blk6, Rect.idx_unit_val, Rect.idx_unit_val]
  simp
theorem ldO3 (i : Fin 512) (j : Fin 512) : View.ld (iblk m c 5 t) r0_0 (ix2 i j) = at2 (O3 m c) (t * 512 + i) j := by
  rw [View.ld_apply, blk5, Rect.idx_unit_val, Rect.idx_unit_val]
  simp
theorem ldW3 (j : Fin 512) (k : Fin 2048) : View.ld (iblk m c 6 t) r0_4 (ix2 j k) = at2 (W m c) (1536 + j) k := by
  rw [View.ld_apply, blk6, Rect.idx_unit_val, Rect.idx_unit_val]
  simp

/-- The kernel's output array. -/
theorem final : (dats m 0 c).arrAt 7 cfg0.N = fun y : S12288x2048.Idx =>
    outp (X m c) (M m c) (O0 m c) (O1 m c) (O2 m c) (O3 m c) (W m c) (y 0) (y 1) := by
  refine (dats m 0 c).arrAt_eq_of_covers 7 _ (by decide +kernel) fun t hf y => ?_
  blk_simp
  rw [after0_7]
  unfold out0_7
  canon_tiles y h
  obtain ⟨i, k, rfl⟩ : ∃ (i : Fin 512) (k : Fin 2048), y = ix2 i k := ⟨y 0, y 1, eq_ix2 y⟩
  have e0 : win0_7.index t 0 * 512 + ((ix2 i k : S512x2048.Idx) 0 : ℕ) = t * 512 + i := by rw [(idx t).2.2.2.2.2.2.2]; rfl
  have e1 : win0_7.index t 1 * 2048 + ((ix2 i k : S512x2048.Idx) 1 : ℕ) = k := by rw [(idx t).2.2.2.2.2.2.2]; exact Nat.zero_add _
  rw [h0, h1, e0, e1]
  refine (pay1_at _ _ _ _ _ _ _ _ _ _ i k).trans ?_
  simp only [ld0, ld1, ldO0, ldO1, ldO2, ldO3, ldW0, ldW1, ldW2, ldW3, zero_add]
  have q : condRow (t * 512) = condRow (t * 512 + i) := by
    have := i.isLt; unfold condRow; split <;> split <;> omega
  rw [q]
  rfl
end Cert.OutProjIdeal.Proj
-- ==== Proof.OutProjRef.lean ====
module
public import proofs.«01_k».proof.Proof.Gen.OutProjRefIdeal.Run
public import proofs.«01_k».proof.Proof.ProjSpec
public import Idealize.ShloMosaic.Lib.Pipeline.ValueKit
public import Idealize.ShloMosaic.Lib.Pointwise
/-! The output projection's reference, read at an index: the context tokens (`C`), then the latent ones (`L`). -/
@[expose] public section
set_option maxRecDepth 16384
noncomputable section
open Idealize.ShloMosaic Idealize.ShloMosaic.TcCoe Idealize.SL.Sem
namespace Cert.OutProjRefIdeal.Proj
open Cert.OutProjRefIdeal Cert.OutProjRefIdeal.Gen Cert.CtxSpec Cert.ProjSpec
def xsC (x : FVec Ideal S12288x2048 .f32) : FVec Ideal S4096x2048 .f32 :=
  extractStridedSlice S4096x2048 ![0, 0] x slices_S12288x2048_S4096x2048_0_0
def xsL (x : FVec Ideal S12288x2048 .f32) : FVec Ideal S8x1024x2048 .f32 :=
  shapeCast _ (extractStridedSlice S8192x2048 ![4096, 0] x slices_S12288x2048_S8192x2048_4096_0) shapeCasts_S8192x2048_S8x1024x2048
def moC5 (mo : FVec Ideal S16x9x2048 .f32) : FVec Ideal S1x2048 .f32 :=
  shapeCast _ (extractStridedSlice S1x1x2048 ![0, 5, 0] mo slices_S16x9x2048_S1x1x2048_0_5_0) shapeCasts_S1x1x2048_S1x2048
def moL5 (mo : FVec Ideal S16x9x2048 .f32) : FVec Ideal S8x2048 .f32 :=
  shapeCast _ (extractStridedSlice S8x1x2048 ![1, 5, 0] mo slices_S16x9x2048_S8x1x2048_1_5_0) shapeCasts_S8x1x2048_S8x2048
def cat (o0 o1 o2 o3 : FVec Ideal S12288x512 .bf16) : FVec Ideal S12288x2048 .bf16 :=
  concatenate S12288x2048 1 [⟨S12288x512, o0⟩, ⟨S12288x512, o1⟩, ⟨S12288x512, o2⟩, ⟨S12288x512, o3⟩] concatenates_S12288x512_S12288x512_S12288x512_S12288x512_S12288x2048_d1
def prod (o : FVec Ideal S12288x2048 .bf16) (w : FVec Ideal S2048x2048 .f32) : FVec Ideal S12288x2048 .f32 :=
  Host.dotGeneral dot_S12288x2048_S2048x2048_S12288x2048_1_0_0_1_n_n none (extf .f32 o bitsLt_bf16_f32) w
def outC (x : FVec Ideal S4096x2048 .f32) (gt : FVec Ideal S1x2048 .f32) (p : FVec Ideal S12288x2048 .f32) : FVec Ideal S4096x2048 .f32 :=
  addf x (mulf (broadcastInDim S4096x2048 ![0, 1] bcast_S1x2048_S4096x2048_0_1 gt) (extractStridedSlice S4096x2048 ![0, 0] p slices_S12288x2048_S4096x2048_0_0))
def outL (x : FVec Ideal S8x1024x2048 .f32) (gt : FVec Ideal S8x2048 .f32) (p : FVec Ideal S12288x2048 .f32) : FVec Ideal S8192x2048 .f32 :=
  shapeCast _ (addf x (mulf (broadcastInDim S8x1024x2048 ![0, 1, 2] bcast_S8x1x2048_S8x1024x2048_0_1_2 (broadcastInDim S8x1x2048 ![0, 2] bcast_S8x2048_S8x1x2048_0_2 gt)) (shapeCast _ (extractStridedSlice S8192x2048 ![4096, 0] p slices_S12288x2048_S8192x2048_4096_0) shapeCasts_S8192x2048_S8x1024x2048))) shapeCasts_S8x1024x2048_S8192x2048
def whole (X : FVec Ideal S12288x2048 .f32) (M : FVec Ideal S16x9x2048 .f32) (o0 o1 o2 o3 : FVec Ideal S12288x512 .bf16) (W : FVec Ideal S2048x2048 .f32) : FVec Ideal S12288x2048 .f32 :=
  concatenate S12288x2048 0 [⟨S4096x2048, (outC (xsC X) (moC5 M) (prod (cat o0 o1 o2 o3) W))⟩, ⟨S8192x2048, (outL (xsL X) (moL5 M) (prod (cat o0 o1 o2 o3) W))⟩] concatenates_S4096x2048_S8192x2048_S12288x2048_d0

theorem xsC_at (x : FVec Ideal S12288x2048 .f32) (r : Fin 4096) (d : Fin 2048) : xsC x (ix2 r d) = at2 x r d := by
  pointwise [xsC, at2]
  rw [dif_pos (by omega)]
theorem xsL_at (x : FVec Ideal S12288x2048 .f32) (b : Fin 8) (t : Fin 1024) (d : Fin 2048) : xsL x (ix3 b t d) = at2 x (4096 + (b * 1024 + t)) d := by
  pointwise [xsL, at2]
  rw [dif_pos (by omega)]
theorem moC5_at (mo : FVec Ideal S16x9x2048 .f32) (d : Fin 2048) : moC5 mo (ix2 0 d) = at3 mo 0 5 d := by
  pointwise [moC5, at3]
theorem moL5_at (mo : FVec Ideal S16x9x2048 .f32) (b : Fin 8) (d : Fin 2048) : moL5 mo (ix2 b d) = at3 mo (1 + b) 5 d := by
  pointwise [moL5, at3]
  rw [dif_pos (by omega)]
theorem cat_at (o0 o1 o2 o3 : FVec Ideal S12288x512 .bf16) (r : Fin 12288) (s : Fin 4) (j : Fin 512) (l : Fin 2048) (hl : (l : ℕ) = s * 512 + j) :
    cat o0 o1 o2 o3 (ix2 r l) = (![at2 o0 r j, at2 o1 r j, at2 o2 r j, at2 o3 r j] : Fin 4 → EReal) s := by
  have hj := j.isLt
  pointwise [cat]
  fin_cases s <;> simp only [Fin.zero_eta, Fin.mk_one, Fin.reduceFinMk, Matrix.cons_val] at hl ⊢ <;> simp at hl
  · rw [dif_pos (by omega)]
    exact (at2_eq _ _ _).trans (congrArg (at2 _ _) (by show (l : ℕ) = j; omega))
  · rw [dif_neg (by omega), dif_pos (by omega)]
    exact (at2_eq _ _ _).trans (congrArg (at2 _ _) (by show (l : ℕ) - 512 = j; omega))
  · rw [dif_neg (by omega), dif_neg (by omega), dif_pos (by omega)]
    exact (at2_eq _ _ _).trans (congrArg (at2 _ _) (by show (l : ℕ) - 512 - 512 = j; omega))
  · rw [dif_neg (by omega), dif_neg (by omega), dif_neg (by omega)]
    exact (at2_eq _ _ _).trans (congrArg (at2 _ _) (by show (l : ℕ) - 512 - 512 - 512 = j; omega))
theorem prod_at (o : FVec Ideal S12288x2048 .bf16) (w : FVec Ideal S2048x2048 .f32) (r : Fin 12288) (k : Fin 2048) :
    prod o w (ix2 r k) = ∑ l : Fin 2048, o (ix2 r l) * at2 w l k := by
  simp only [← at2_eq]
  pointwise [prod]
/-- The one product over all the columns is the sum of the branches' products. -/
theorem prod_cat (o0 o1 o2 o3 : FVec Ideal S12288x512 .bf16) (w : FVec Ideal S2048x2048 .f32) (r : Fin 12288) (k : Fin 2048) :
    prod (cat o0 o1 o2 o3) w (ix2 r k) =
      (((∑ j : Fin 512, at2 o0 r j * at2 w j k) + ∑ j : Fin 512, at2 o1 r j * at2 w (512 + j) k)
      + ∑ j : Fin 512, at2 o2 r j * at2 w (1024 + j) k) + ∑ j : Fin 512, at2 o3 r j * at2 w (1536 + j) k := by
  rw [prod_at]
  have e : (∑ s : Fin 4, ∑ j : Fin 512, (![at2 o0 r j, at2 o1 r j, at2 o2 r j, at2 o3 r j] : Fin 4 → EReal) s * at2 w (s * 512 + j) k) =
      ∑ l : Fin 2048, cat o0 o1 o2 o3 (ix2 r l) * at2 w l k := by
    refine Fin.sum_mul_add_congr fun s j hl => ?_
    rw [cat_at o0 o1 o2 o3 r s j _ rfl]
  rw [← e, Fin.sum_univ_four]
  simp
theorem outC_at (x : FVec Ideal S4096x2048 .f32) (gt : FVec Ideal S1x2048 .f32) (p : FVec Ideal S12288x2048 .f32) (r : Fin 4096) (k : Fin 2048) :
    outC x gt p (ix2 r k) = x (ix2 r k) + gt (ix2 0 k) * p (ix2 ⟨r, by omega⟩ k) := by
  pointwise [outC]
theorem outL_at (x : FVec Ideal S8x1024x2048 .f32) (gt : FVec Ideal S8x2048 .f32) (p : FVec Ideal S12288x2048 .f32)
    (r : Fin 8192) (k : Fin 2048) (b : Fin 8) (t : Fin 1024) (hr : (r : ℕ) = b * 1024 + t) :
    outL x gt p (ix2 r k) = x (ix3 b t k) + gt (ix2 b k) * p (ix2 ⟨4096 + (b * 1024 + t), by omega⟩ k) := by
  have q0 : (r : ℕ) / 1024 = b := by omega
  have q1 : (r : ℕ) % 1024 = t := by omega
  pointwise [outL]
  simp only [q0, q1]
  simp only [hr]
theorem C_at (X : FVec Ideal S12288x2048 .f32) (M : FVec Ideal S16x9x2048 .f32) (o0 o1 o2 o3 : FVec Ideal S12288x512 .bf16) (W : FVec Ideal S2048x2048 .f32) (r : Fin 4096) (k : Fin 2048) : (outC (xsC X) (moC5 M) (prod (cat o0 o1 o2 o3) W)) (ix2 r k) = outp X M o0 o1 o2 o3 W r k := by
  rw [outC_at, xsC_at, moC5_at, prod_cat]
  unfold outp
  rw [condRow_ctx r.isLt]
theorem L_at (X : FVec Ideal S12288x2048 .f32) (M : FVec Ideal S16x9x2048 .f32) (o0 o1 o2 o3 : FVec Ideal S12288x512 .bf16) (W : FVec Ideal S2048x2048 .f32) (r : Fin 8192) (k : Fin 2048) : (outL (xsL X) (moL5 M) (prod (cat o0 o1 o2 o3) W)) (ix2 r k) = outp X M o0 o1 o2 o3 W (4096 + r) k := by
  obtain ⟨b, t, hr⟩ : ∃ (b : Fin 8) (t : Fin 1024), (r : ℕ) = b * 1024 + t :=
    ⟨⟨r / 1024, by omega⟩, ⟨r % 1024, by omega⟩, by simp; omega⟩
  rw [outL_at _ _ _ r k b t hr, xsL_at, moL5_at, prod_cat]
  unfold outp
  rw [hr, condRow_lat b t t.isLt]
theorem whole_at (X : FVec Ideal S12288x2048 .f32) (M : FVec Ideal S16x9x2048 .f32) (o0 o1 o2 o3 : FVec Ideal S12288x512 .bf16) (W : FVec Ideal S2048x2048 .f32) (r : Fin 12288) (k : Fin 2048) : whole X M o0 o1 o2 o3 W (ix2 r k) = outp X M o0 o1 o2 o3 W r k := by
  unfold whole
  generalize hC : (outC (xsC X) (moC5 M) (prod (cat o0 o1 o2 o3) W)) = yC
  generalize hL : (outL (xsL X) (moL5 M) (prod (cat o0 o1 o2 o3) W)) = yL
  pointwise []
  split
  · next h => exact (congrFun hC.symm _).trans (C_at X M o0 o1 o2 o3 W ⟨r, h⟩ k)
  · next h =>
    refine (congrFun hL.symm _).trans ((L_at X M o0 o1 o2 o3 W ⟨r - 4096, by omega⟩ k).trans ?_)
    have e : 4096 + ((⟨(r : ℕ) - 4096, by omega⟩ : Fin 8192) : ℕ) = r := by show 4096 + ((r : ℕ) - 4096) = r; omega
    rw [e]
end Cert.OutProjRefIdeal.Proj
-- ==== Proof.OutProjClaim.lean ====
module
public import proofs.«01_k».proof.Defs
public import proofs.«01_k».proof.Proof.OutProj
public import proofs.«01_k».proof.Proof.OutProjRef
public import Idealize.ShloMosaic.Lib.Claim
/-! The output projection kernel computes the reference. -/
@[expose] public section
set_option maxRecDepth 16384
noncomputable section
open Idealize.ShloMosaic Idealize.ShloMosaic.TcCoe Idealize.SL.Sem
namespace Cert.OutProjClaim

/-- The reference runs to its end. -/
theorem frame_ref : Cert.quiescent_OutProjRefIdeal (hOutProjRefIdeal := Cert.OutProjRefIdeal.Gen.facts) := by
  intro m g _
  exact (θ_run _ _ _).mono (fun r h => ⟨fun c => (h c).2, Idealize.ShloMosaic.sem_eq_zero_of_no_sems (by decide) r.2⟩)
    (Cert.OutProjRefIdeal.Value.run m g)

open Cert.OutProjIdeal.Proj Cert.OutProjRefIdeal.Proj in
/-- The kernel's output is the reference's. -/
theorem algebraic : Cert.algebraic_OutProjIdeal_OutProjRefIdeal (hOutProjIdeal := Cert.OutProjIdeal.Gen.facts) (hOutProjRefIdeal := Cert.OutProjRefIdeal.Gen.facts) := by
  intro m g m' g' hpre hargs
  refine ⟨_, Cert.OutProjIdeal.Value.run_blocks m g, ?_⟩
  refine (θ_run _ _ _).mono (fun r h c => ?_) (Cert.OutProjRefIdeal.Value.run m' g')
  obtain ⟨h0, hrest⟩ := h c
  obtain ⟨e0, e1, e2, e3, e4, e5, e6⟩ := hargs c
  refine ⟨h0.trans ?_, hrest⟩
  refine Eq.trans ?_ (final m c).symm
  refine (show _ = whole (m' ((c.tc : Thread Cert.OutProjRefIdeal.nD Cert.OutProjRefIdeal.τ).loc Cert.OutProjRefIdeal.main_arg0)) (m' ((c.tc : Thread Cert.OutProjRefIdeal.nD Cert.OutProjRefIdeal.τ).loc Cert.OutProjRefIdeal.main_arg1)) (m' ((c.tc : Thread Cert.OutProjRefIdeal.nD Cert.OutProjRefIdeal.τ).loc Cert.OutProjRefIdeal.main_arg2)) (m' ((c.tc : Thread Cert.OutProjRefIdeal.nD Cert.OutProjRefIdeal.τ).loc Cert.OutProjRefIdeal.main_arg3)) (m' ((c.tc : Thread Cert.OutProjRefIdeal.nD Cert.OutProjRefIdeal.τ).loc Cert.OutProjRefIdeal.main_arg4)) (m' ((c.tc : Thread Cert.OutProjRefIdeal.nD Cert.OutProjRefIdeal.τ).loc Cert.OutProjRefIdeal.main_arg5)) (m' ((c.tc : Thread Cert.OutProjRefIdeal.nD Cert.OutProjRefIdeal.τ).loc Cert.OutProjRefIdeal.main_arg6)) from rfl).trans ?_
  rw [e0, e1, e2, e3, e4, e5, e6]
  funext y
  obtain ⟨r, k, rfl⟩ : ∃ (r : Fin 12288) (k : Fin 2048), y = ix2 r k := ⟨y 0, y 1, eq_ix2 y⟩
  exact whole_at _ _ _ _ _ _ _ r k
end Cert.OutProjClaim
-- ==== Proof.Adaln.lean ====
module
public import proofs.«01_k».proof.Proof.Gen.AdalnIdeal.Value
public import proofs.«01_k».proof.Proof.ProjSpec
public import Idealize.ShloMosaic.Lib.Pipeline.ValueKit
public import Idealize.ShloMosaic.Lib.Pointwise
/-! The modulation kernel's output. -/
@[expose] public section
set_option maxRecDepth 16384
noncomputable section
open Idealize.ShloMosaic Idealize.ShloMosaic.TcCoe Idealize.SL.Sem
open Idealize.ShloMosaic.Pipeline (Dat)
namespace Cert.AdalnIdeal.Ada
open Cert.AdalnIdeal Cert.AdalnIdeal.Gen Cert.CtxSpec Cert.ProjSpec
variable (m : (ℓ : Loc nD τ sig) → Buf (Elt Ideal) ℓ)

theorem idx : ∀ t : Fin cfg0.N, win0_0.index t = ![0, 0] ∧ win0_1.index t = ![t.val / 18, 0, t.val % 18]
    ∧ win0_2.index t = ![t.val / 18, 0, t.val % 18] ∧ win0_3.index t = ![t.val / 18, 0, t.val % 18] :=
  (by decide +kernel : ∀ t : Fin grid0.N, _)

theorem pay1_at (x : FVec Ideal S16x2048 .f32) (w : FVec Ideal S1x2048x1024 .f32) (b : FVec Ideal S1x1x1024 .f32) (i : Fin 16) (k : Fin 1024) :
    k0_pay1 (F := Ideal) x w b (ix3 0 i k) = (∑ d : Fin 2048, silu (x (ix2 i d)) * w (ix3 0 d k)) + b (ix3 0 0 k) := by
  pointwise [k0_pay1]
  simp only [silu, zero_sub]

variable (c : Dev nD) (t : Fin cfg0.N)
abbrev X : FVec Ideal S16x2048 .f32 := m ((c : Thread nD τ).loc main_arg0)
abbrev W : FVec Ideal S4x2048x18432 .f32 := m ((c : Thread nD τ).loc main_arg1)
abbrev B : FVec Ideal S4x18432 .f32 := m ((c : Thread nD τ).loc main_arg2)

theorem V0 (y : S4x1x18432.Idx) : V m c main_v0 y = at2 (B m c) (y 0) (y 2) := by
  have h : V m c main_v0 = shapeCast S4x1x18432 (B m c) shapeCasts_S4x18432_S4x1x18432 := rfl
  rw [h]; idx_vars y; rw [← at2_eq]
  pointwise []
theorem blk0 (y : S16x2048.Idx) : iblk m c 0 t y = at2 (X m c) (y 0) (y 1) := by
  blk_point [iblk, V, idx t]
  all_goals exfalso; omega
theorem blk1 (y : S1x2048x1024.Idx) : iblk m c 1 t y = at3 (W m c) (t / 18) (y 1) (t % 18 * 1024 + y 2) := by
  have h1 : (((win0_1.blk t).view.emb y) 0 : ℕ) = t / 18 := by blk_simp [idx t]
  have h2 : (((win0_1.blk t).view.emb y) 1 : ℕ) = y 1 := by blk_simp [idx t]
  have h3 : (((win0_1.blk t).view.emb y) 2 : ℕ) = t % 18 * 1024 + y 2 := by blk_simp [idx t]
  have e : iblk m c 1 t y = V m c main_arg1 ((win0_1.blk t).view.emb y) := rfl
  rw [e, V_main_arg1]
  refine (at3_idx (W m c) _).trans ?_
  rw [h1, h2, h3]
theorem blk2 (y : S1x1x1024.Idx) : iblk m c 2 t y = at2 (B m c) (t / 18) (t % 18 * 1024 + y 2) := by
  have h1 : (((win0_2.blk t).view.emb y) 0 : ℕ) = t / 18 := by blk_simp [idx t]
  have h3 : (((win0_2.blk t).view.emb y) 2 : ℕ) = t % 18 * 1024 + y 2 := by blk_simp [idx t]
  have e : iblk m c 2 t y = V m c main_v0 ((win0_2.blk t).view.emb y) := rfl
  rw [e, V0, h1, h3]
theorem ld0 (i : Fin 16) (d : Fin 2048) : View.ld (iblk m c 0 t) r0_0 (ix2 i d) = at2 (X m c) i d := by
  rw [View.ld_apply, blk0, Rect.idx_unit_val, Rect.idx_unit_val]
  simp
theorem ld1 (d : Fin 2048) (k : Fin 1024) : View.ld (iblk m c 1 t) r0_1 (ix3 0 d k) = at3 (W m c) (t / 18) d (t % 18 * 1024 + k) := by
  rw [View.ld_apply, blk1, Rect.idx_unit_val, Rect.idx_unit_val]
  simp
theorem ld2 (k : Fin 1024) : View.ld (iblk m c 2 t) r0_2 (ix3 0 0 k) = at2 (B m c) (t / 18) (t % 18 * 1024 + k) := by
  rw [View.ld_apply, blk2, Rect.idx_unit_val]
  simp

/-- The kernel's output array. -/
theorem final : (dats m 0 c).arrAt 3 cfg0.N = fun y : S4x16x18432.Idx => modulation (X m c) (W m c) (B m c) (y 0) (y 1) (y 2) := by
  refine (dats m 0 c).arrAt_eq_of_covers 3 _ (by decide +kernel) fun t hf y => ?_
  blk_simp
  rw [after0_3]
  unfold out0_3
  canon_tiles y h
  obtain ⟨z, i, k, rfl⟩ : ∃ (z : Fin 1) (i : Fin 16) (k : Fin 1024), y = ix3 z i k := ⟨y 0, y 1, y 2, eq_ix3 y⟩
  obtain rfl : z = 0 := Subsingleton.elim _ _
  have e0 : win0_3.index t 0 = t / 18 := by rw [(idx t).2.2.2]; rfl
  have e1 : win0_3.index t 1 * 16 + ((ix3 0 i k : S1x16x1024.Idx) 1 : ℕ) = i := by rw [(idx t).2.2.2]; exact Nat.zero_add _
  have e2 : win0_3.index t 2 * 1024 + ((ix3 0 i k : S1x16x1024.Idx) 2 : ℕ) = t % 18 * 1024 + k := by rw [(idx t).2.2.2]; rfl
  refine (pay1_at _ _ _ i k).trans ?_
  simp only [ld0, ld1, ld2]
  rw [e0, h1, h2, e1, e2]
  rfl
end Cert.AdalnIdeal.Ada
-- ==== Proof.AdalnRef.lean ====
module
public import proofs.«01_k».proof.Proof.Gen.AdalnRefIdeal.Run
public import proofs.«01_k».proof.Proof.ProjSpec
public import Idealize.ShloMosaic.Lib.Pipeline.ValueKit
public import Idealize.ShloMosaic.Lib.Pointwise
/-! The modulation's reference, read at an index. -/
@[expose] public section
set_option maxRecDepth 16384
noncomputable section
open Idealize.ShloMosaic Idealize.ShloMosaic.TcCoe Idealize.SL.Sem
namespace Cert.AdalnRefIdeal.Ada
open Cert.AdalnRefIdeal Cert.AdalnRefIdeal.Gen Cert.CtxSpec Cert.ProjSpec
def act (x : FVec Ideal S16x2048 .f32) : FVec Ideal S16x2048 .f32 :=
  mulf x (Host.divf (broadcastInDim S16x2048 ![] bcast_S_S16x2048 (constant S_ .f32 0x3F800000#32)) (addf (broadcastInDim S16x2048 ![] bcast_S_S16x2048 (constant S_ .f32 0x3F800000#32)) (Host.exp (Host.negf x))))
def lin (a : FVec Ideal S16x2048 .f32) (w : FVec Ideal S2048x18432 .f32) (b : FVec Ideal S18432 .f32) : FVec Ideal S1x16x18432 .f32 :=
  broadcastInDim S1x16x18432 ![1, 2] bcast_S16x18432_S1x16x18432_1_2 (addf (Host.dotGeneral dot_S16x2048_S2048x18432_S16x18432_1_0_0_1_n_n none a w) (broadcastInDim S16x18432 ![0, 1] bcast_S1x18432_S16x18432_0_1 (broadcastInDim S1x18432 ![1] bcast_S18432_S1x18432_1 b)))
def w0 (w : FVec Ideal S4x2048x18432 .f32) : FVec Ideal S2048x18432 .f32 :=
  shapeCast _ (extractStridedSlice S1x2048x18432 ![0, 0, 0] w slices_S4x2048x18432_S1x2048x18432_0_0_0) shapeCasts_S1x2048x18432_S2048x18432
def b0 (b : FVec Ideal S4x18432 .f32) : FVec Ideal S18432 .f32 :=
  shapeCast _ (extractStridedSlice S1x18432 ![0, 0] b slices_S4x18432_S1x18432_0_0) shapeCasts_S1x18432_S18432
def layer0 (X : FVec Ideal S16x2048 .f32) (W : FVec Ideal S4x2048x18432 .f32) (B : FVec Ideal S4x18432 .f32) : FVec Ideal S1x16x18432 .f32 := lin (act X) (w0 W) (b0 B)
def w1 (w : FVec Ideal S4x2048x18432 .f32) : FVec Ideal S2048x18432 .f32 :=
  shapeCast _ (extractStridedSlice S1x2048x18432 ![1, 0, 0] w slices_S4x2048x18432_S1x2048x18432_1_0_0) shapeCasts_S1x2048x18432_S2048x18432
def b1 (b : FVec Ideal S4x18432 .f32) : FVec Ideal S18432 .f32 :=
  shapeCast _ (extractStridedSlice S1x18432 ![1, 0] b slices_S4x18432_S1x18432_1_0) shapeCasts_S1x18432_S18432
def layer1 (X : FVec Ideal S16x2048 .f32) (W : FVec Ideal S4x2048x18432 .f32) (B : FVec Ideal S4x18432 .f32) : FVec Ideal S1x16x18432 .f32 := lin (act X) (w1 W) (b1 B)
def w2 (w : FVec Ideal S4x2048x18432 .f32) : FVec Ideal S2048x18432 .f32 :=
  shapeCast _ (extractStridedSlice S1x2048x18432 ![2, 0, 0] w slices_S4x2048x18432_S1x2048x18432_2_0_0) shapeCasts_S1x2048x18432_S2048x18432
def b2 (b : FVec Ideal S4x18432 .f32) : FVec Ideal S18432 .f32 :=
  shapeCast _ (extractStridedSlice S1x18432 ![2, 0] b slices_S4x18432_S1x18432_2_0) shapeCasts_S1x18432_S18432
def layer2 (X : FVec Ideal S16x2048 .f32) (W : FVec Ideal S4x2048x18432 .f32) (B : FVec Ideal S4x18432 .f32) : FVec Ideal S1x16x18432 .f32 := lin (act X) (w2 W) (b2 B)
def w3 (w : FVec Ideal S4x2048x18432 .f32) : FVec Ideal S2048x18432 .f32 :=
  shapeCast _ (extractStridedSlice S1x2048x18432 ![3, 0, 0] w slices_S4x2048x18432_S1x2048x18432_3_0_0) shapeCasts_S1x2048x18432_S2048x18432
def b3 (b : FVec Ideal S4x18432 .f32) : FVec Ideal S18432 .f32 :=
  shapeCast _ (extractStridedSlice S1x18432 ![3, 0] b slices_S4x18432_S1x18432_3_0) shapeCasts_S1x18432_S18432
def layer3 (X : FVec Ideal S16x2048 .f32) (W : FVec Ideal S4x2048x18432 .f32) (B : FVec Ideal S4x18432 .f32) : FVec Ideal S1x16x18432 .f32 := lin (act X) (w3 W) (b3 B)
def whole (X : FVec Ideal S16x2048 .f32) (W : FVec Ideal S4x2048x18432 .f32) (B : FVec Ideal S4x18432 .f32) : FVec Ideal S4x16x18432 .f32 :=
  concatenate S4x16x18432 0 [⟨S1x16x18432, layer0 X W B⟩, ⟨S1x16x18432, layer1 X W B⟩, ⟨S1x16x18432, layer2 X W B⟩, ⟨S1x16x18432, layer3 X W B⟩] concatenates_S1x16x18432_S1x16x18432_S1x16x18432_S1x16x18432_S4x16x18432_d0

theorem act_at (x : FVec Ideal S16x2048 .f32) (i : Fin 16) (d : Fin 2048) : act x (ix2 i d) = silu (x (ix2 i d)) := by
  pointwise [act]
  rfl
theorem lin_at (a : FVec Ideal S16x2048 .f32) (w : FVec Ideal S2048x18432 .f32) (b : FVec Ideal S18432 .f32) (z : Fin 1) (i : Fin 16) (k : Fin 18432) :
    lin a w b (ix3 z i k) = (∑ d : Fin 2048, a (ix2 i d) * w (ix2 d k)) + b (ix1 k) := by
  pointwise [lin]
theorem w0_at (w : FVec Ideal S4x2048x18432 .f32) (d : Fin 2048) (k : Fin 18432) : w0 w (ix2 d k) = at3 w 0 d k := by
  pointwise [w0, at3]
theorem b0_at (b : FVec Ideal S4x18432 .f32) (k : Fin 18432) : b0 b (ix1 k) = at2 b 0 k := by
  pointwise [b0, at2]
theorem layer0_at (X : FVec Ideal S16x2048 .f32) (W : FVec Ideal S4x2048x18432 .f32) (B : FVec Ideal S4x18432 .f32) (z : Fin 1) (i : Fin 16) (k : Fin 18432) : layer0 X W B (ix3 z i k) = modulation X W B 0 i k := by
  unfold layer0 modulation
  rw [lin_at]
  simp only [act_at, w0_at, b0_at]
  simp only [at2_eq]
theorem w1_at (w : FVec Ideal S4x2048x18432 .f32) (d : Fin 2048) (k : Fin 18432) : w1 w (ix2 d k) = at3 w 1 d k := by
  pointwise [w1, at3]
theorem b1_at (b : FVec Ideal S4x18432 .f32) (k : Fin 18432) : b1 b (ix1 k) = at2 b 1 k := by
  pointwise [b1, at2]
theorem layer1_at (X : FVec Ideal S16x2048 .f32) (W : FVec Ideal S4x2048x18432 .f32) (B : FVec Ideal S4x18432 .f32) (z : Fin 1) (i : Fin 16) (k : Fin 18432) : layer1 X W B (ix3 z i k) = modulation X W B 1 i k := by
  unfold layer1 modulation
  rw [lin_at]
  simp only [act_at, w1_at, b1_at]
  simp only [at2_eq]
theorem w2_at (w : FVec Ideal S4x2048x18432 .f32) (d : Fin 2048) (k : Fin 18432) : w2 w (ix2 d k) = at3 w 2 d k := by
  pointwise [w2, at3]
theorem b2_at (b : FVec Ideal S4x18432 .f32) (k : Fin 18432) : b2 b (ix1 k) = at2 b 2 k := by
  pointwise [b2, at2]
theorem layer2_at (X : FVec Ideal S16x2048 .f32) (W : FVec Ideal S4x2048x18432 .f32) (B : FVec Ideal S4x18432 .f32) (z : Fin 1) (i : Fin 16) (k : Fin 18432) : layer2 X W B (ix3 z i k) = modulation X W B 2 i k := by
  unfold layer2 modulation
  rw [lin_at]
  simp only [act_at, w2_at, b2_at]
  simp only [at2_eq]
theorem w3_at (w : FVec Ideal S4x2048x18432 .f32) (d : Fin 2048) (k : Fin 18432) : w3 w (ix2 d k) = at3 w 3 d k := by
  pointwise [w3, at3]
theorem b3_at (b : FVec Ideal S4x18432 .f32) (k : Fin 18432) : b3 b (ix1 k) = at2 b 3 k := by
  pointwise [b3, at2]
theorem layer3_at (X : FVec Ideal S16x2048 .f32) (W : FVec Ideal S4x2048x18432 .f32) (B : FVec Ideal S4x18432 .f32) (z : Fin 1) (i : Fin 16) (k : Fin 18432) : layer3 X W B (ix3 z i k) = modulation X W B 3 i k := by
  unfold layer3 modulation
  rw [lin_at]
  simp only [act_at, w3_at, b3_at]
  simp only [at2_eq]
theorem whole_at (X : FVec Ideal S16x2048 .f32) (W : FVec Ideal S4x2048x18432 .f32) (B : FVec Ideal S4x18432 .f32) (l : Fin 4) (i : Fin 16) (k : Fin 18432) : whole X W B (ix3 l i k) = modulation X W B l i k := by
  unfold whole
  generalize h0 : layer0 X W B = y0
  generalize h1 : layer1 X W B = y1
  generalize h2 : layer2 X W B = y2
  generalize h3 : layer3 X W B = y3
  pointwise []
  fin_cases l
  · exact (congrFun h0.symm _).trans (layer0_at X W B _ i k)
  · exact (congrFun h1.symm _).trans (layer1_at X W B _ i k)
  · exact (congrFun h2.symm _).trans (layer2_at X W B _ i k)
  · exact (congrFun h3.symm _).trans (layer3_at X W B _ i k)
end Cert.AdalnRefIdeal.Ada
-- ==== Proof.AdalnClaim.lean ====
module
public import proofs.«01_k».proof.Defs
public import proofs.«01_k».proof.Proof.Adaln
public import proofs.«01_k».proof.Proof.AdalnRef
public import Idealize.ShloMosaic.Lib.Claim
/-! The modulation kernel computes the reference. -/
@[expose] public section
set_option maxRecDepth 16384
noncomputable section
open Idealize.ShloMosaic Idealize.ShloMosaic.TcCoe Idealize.SL.Sem
namespace Cert.AdalnClaim

/-- The reference runs to its end. -/
theorem frame_ref : Cert.quiescent_AdalnRefIdeal (hAdalnRefIdeal := Cert.AdalnRefIdeal.Gen.facts) := by
  intro m g _
  exact (θ_run _ _ _).mono (fun r h => ⟨fun c => (h c).2, Idealize.ShloMosaic.sem_eq_zero_of_no_sems (by decide) r.2⟩)
    (Cert.AdalnRefIdeal.Value.run m g)

open Cert.AdalnIdeal.Ada Cert.AdalnRefIdeal.Ada in
/-- The kernel's output is the reference's. -/
theorem algebraic : Cert.algebraic_AdalnIdeal_AdalnRefIdeal (hAdalnIdeal := Cert.AdalnIdeal.Gen.facts) (hAdalnRefIdeal := Cert.AdalnRefIdeal.Gen.facts) := by
  intro m g m' g' hpre hargs
  refine ⟨_, Cert.AdalnIdeal.Value.run_blocks m g, ?_⟩
  refine (θ_run _ _ _).mono (fun r h c => ?_) (Cert.AdalnRefIdeal.Value.run m' g')
  obtain ⟨h0, hrest⟩ := h c
  obtain ⟨e0, e1, e2⟩ := hargs c
  refine ⟨h0.trans ?_, hrest⟩
  refine Eq.trans ?_ (final m c).symm
  refine (show _ = whole (m' ((c.tc : Thread Cert.AdalnRefIdeal.nD Cert.AdalnRefIdeal.τ).loc Cert.AdalnRefIdeal.main_arg0)) (m' ((c.tc : Thread Cert.AdalnRefIdeal.nD Cert.AdalnRefIdeal.τ).loc Cert.AdalnRefIdeal.main_arg1)) (m' ((c.tc : Thread Cert.AdalnRefIdeal.nD Cert.AdalnRefIdeal.τ).loc Cert.AdalnRefIdeal.main_arg2)) from rfl).trans ?_
  rw [e0, e1, e2]
  funext y
  obtain ⟨l, i, k, rfl⟩ : ∃ (l : Fin 4) (i : Fin 16) (k : Fin 18432), y = ix3 l i k := ⟨y 0, y 1, y 2, eq_ix3 y⟩
  exact whole_at _ _ _ l i k
end Cert.AdalnClaim
-- ==== Proof.GqaSpec.lean ====
module
public import proofs.«01_k».proof.Proof.CtxSpec
/-! What the grouped attention of the latent tokens computes, as functions of the projected tokens, the cached keys and
    values and the norm weights, entries read at natural numbers. -/
@[expose] public section
noncomputable section
open Idealize.ShloMosaic
namespace Cert.GqaSpec
open Cert.Softmax Cert.CtxSpec

/-- The entry of a cache at layer 0, zero outside. -/
def cache {a n b s d : ℕ} (z : (⟨5, ![a, n, b, s, d]⟩ : Shape).Idx → EReal) (i h r l : ℕ) : EReal :=
  if h : i < a ∧ 0 < n ∧ h < b ∧ r < s ∧ l < d then z (ix5 ⟨i, h.1⟩ ⟨0, h.2.1⟩ ⟨_, h.2.2.1⟩ ⟨r, h.2.2.2.1⟩ ⟨l, h.2.2.2.2⟩) else 0

/-- The rotation's frequency in column `l`. -/
def freq (l : ℕ) : EReal :=
  Ideal.pow (Ideal.ofBits .f32 0x461C4000#32)
    (Ideal.div (-(Ideal.ofBits .f32 0x40000000#32 * ((((l % 32 : ℕ) : ℤ) : ℝ) : EReal))) (Ideal.ofBits .f32 0x42800000#32))

/-- The rotation's angle of token `n` in column `l`: its grid row in the first 64 columns, its grid column in the others. -/
def angle (n l : ℕ) : EReal := (((if l < 64 then n / 64 else n % 64 : ℕ) : ℝ) : EReal) * freq l

/-- Token `n`'s row, rotated: in every 64 columns the first 32 against the last 32. -/
def rope (x : ℕ → EReal) (n l : ℕ) : EReal :=
  if l % 64 < 32 then x l * Ideal.cos (angle n l) - x (l + 32) * Ideal.sin (angle n l)
  else x (l - 32) * Ideal.sin (angle n l) + x l * Ideal.cos (angle n l)

/-- A normalised row read at natural numbers. -/
def nat (x : Fin 128 → EReal) (l : ℕ) : EReal := if h : l < 128 then x ⟨l, h⟩ else 0

theorem freq_real (l : ℕ) : IsReal (freq l) := by
  unfold freq
  have a : Ideal.ofBits .f32 0x461C4000#32 = ((10000 : ℝ) : EReal) := by
    simp [Ideal.ofBits, Ideal.ieee, -EReal.coe_mul]; norm_num
  have b : Ideal.ofBits .f32 0x40000000#32 = ((2 : ℝ) : EReal) := by
    simp [Ideal.ofBits, Ideal.ieee, -EReal.coe_mul]; norm_num
  have d : Ideal.ofBits .f32 0x42800000#32 = ((64 : ℝ) : EReal) := by
    simp [Ideal.ofBits, Ideal.ieee, -EReal.coe_mul]; norm_num
  rw [a, b, d, Ideal.div_coe (by norm_num), ← EReal.coe_mul, ← EReal.coe_neg, ← EReal.coe_mul, Ideal.pow_coe_coe]
  exact ⟨_, rfl⟩

theorem angle_real (n l : ℕ) : IsReal (angle n l) := IsReal.mul ⟨_, rfl⟩ (freq_real l)
theorem cos_real {x : EReal} (h : IsReal x) : IsReal (Ideal.cos x) := by obtain ⟨r, rfl⟩ := h; exact ⟨_, rfl⟩
theorem sin_real {x : EReal} (h : IsReal x) : IsReal (Ideal.sin x) := by obtain ⟨r, rfl⟩ := h; exact ⟨_, rfl⟩
theorem sub_real {x y : EReal} (hx : IsReal x) (hy : IsReal y) : IsReal (x - y) := by
  obtain ⟨a, rfl⟩ := hx; obtain ⟨b, rfl⟩ := hy; exact ⟨a - b, rfl⟩
theorem rope_real {x : ℕ → EReal} (h : ∀ l, IsReal (x l)) (n l : ℕ) : IsReal (rope x n l) := by
  have c := cos_real (angle_real n l)
  have s := sin_real (angle_real n l)
  unfold rope; split
  · exact sub_real ((h _).mul c) ((h _).mul s)
  · exact ((h _).mul s).add ((h _).mul c)

variable (z : (⟨2, ![12288, 6272]⟩ : Shape).Idx → EReal) (ck cv : (⟨5, ![8, 4, 2, 256, 128]⟩ : Shape).Idx → EReal)
  (w : (⟨2, ![2, 128]⟩ : Shape).Idx → EReal)

/-- Latent token `n` of sample `b`, the 128 columns from `c`, normalised with row `j` of the weights and rotated. -/
def rrow (j b n c l : ℕ) : EReal := rope (nat (nrow z w j (4096 + (b * 1024 + n)) c)) n l

/-- Sample `b`'s key `k` of head `h`: the 256 cached ones, then the 1024 latent ones. -/
def key (b h k l : ℕ) : EReal := if k < 256 then cache ck b h k l else rrow z w 1 b (k - 256) (3584 + 128 * h) l
/-- Sample `b`'s value `k` of head `h`. -/
def val (b h k l : ℕ) : EReal :=
  if k < 256 then cache cv b h k l else at2 z (4096 + (b * 1024 + (k - 256))) (3840 + 128 * h + l)

/-- The score of latent token `n` of sample `b` in query head `g` against key `k`. -/
def qscore (b g n k : ℕ) : EReal :=
  (∑ d : Fin 128, rrow z w 0 b n (3072 + 128 * g) d * key z ck w b (g / 2) k d) * Ideal.ofBits .f32 0x3DB504F3#32

/-- The attention of latent token `n` of sample `b` in query head `g`, column `l`. -/
def gqa (b g n l : ℕ) : EReal := weighted (fun k : Fin 1280 => qscore z ck w b g n k) (fun k => val z cv b (g / 2) k l)

variable {z ck w} (hw : ∀ i, IsReal (w i)) (hck : ∀ i, IsReal (ck i))
include hw

theorem rrow_real (j b n c l : ℕ) : IsReal (rrow z w j b n c l) := by
  refine rope_real (fun l => ?_) _ _
  unfold nat; split
  · exact (rms_fin _ _).mul (at2_real hw _ _)
  · exact ⟨0, rfl⟩

include hck
theorem key_real (b h k l : ℕ) : IsReal (key z ck w b h k l) := by
  unfold key; split
  · unfold cache; split
    · exact hck _
    · exact ⟨0, rfl⟩
  · exact rrow_real hw _ _ _ _ _

theorem qscore_real (b g n k : ℕ) : IsReal (qscore z ck w b g n k) := by
  obtain ⟨s, hs⟩ := ofBits_scale
  exact IsReal.mul (IsReal.sum _ fun d => (rrow_real hw _ _ _ _ _).mul (key_real hw hck _ _ _ _)) ⟨s, hs⟩

omit hw hck
theorem top_add {a b : ℕ} (s : Fin (a + b) → EReal) :
    top s = max (top fun k => s (Fin.castAdd b k)) (top fun k => s (Fin.natAdd a k)) := by
  unfold top
  refine le_antisymm ?_ (max_le ?_ ?_)
  · rw [Finset.fold_max_le]
    refine ⟨le_max_of_le_left ((Finset.le_fold_max _).mpr (.inl le_rfl)), fun k _ => ?_⟩
    induction k using Fin.addCases with
    | left k => exact le_max_of_le_left ((Finset.le_fold_max _).mpr (.inr ⟨k, Finset.mem_univ _, le_rfl⟩))
    | right k => exact le_max_of_le_right ((Finset.le_fold_max _).mpr (.inr ⟨k, Finset.mem_univ _, le_rfl⟩))
  · rw [Finset.fold_max_le]
    exact ⟨(Finset.le_fold_max _).mpr (.inl le_rfl), fun k _ => (Finset.le_fold_max _).mpr (.inr ⟨_, Finset.mem_univ _, le_rfl⟩)⟩
  · rw [Finset.fold_max_le]
    exact ⟨(Finset.le_fold_max _).mpr (.inl le_rfl), fun k _ => (Finset.le_fold_max _).mpr (.inr ⟨_, Finset.mem_univ _, le_rfl⟩)⟩

/-- Softmax over two parts, each summed alone and the division last, is the weighted sum over the whole, at finite scores. -/
theorem two_parts {a b : ℕ} (hn : 0 < a + b) (s v : Fin (a + b) → EReal) (h : ∀ k, IsReal (s k)) (x : EReal)
    (hx : x = max (top fun k => s (Fin.castAdd b k)) (top fun k => s (Fin.natAdd a k))) :
    Ideal.div ((∑ k, Ideal.exp (s (Fin.castAdd b k) - x) * v (Fin.castAdd b k)) + ∑ k, Ideal.exp (s (Fin.natAdd a k) - x) * v (Fin.natAdd a k))
      ((∑ k, Ideal.exp (s (Fin.castAdd b k) - x)) + ∑ k, Ideal.exp (s (Fin.natAdd a k) - x)) = weighted s v := by
  rw [← div_sum_eq_weighted hn s v h, Fin.sum_univ_add, Fin.sum_univ_add, top_add, hx]

/-- The rotation with the sine's sign carried by its table and the partner column picked by the position. -/
theorem rope_signed (x : ℕ → EReal) (n l : ℕ) :
    x l * Ideal.cos (angle n l) + (if l % 64 < 32 then x (l + 32) else x (l - 32)) *
      (if l % 64 < 32 then -Ideal.sin (angle n l) else Ideal.sin (angle n l)) = rope x n l := by
  unfold rope
  by_cases h : l % 64 < 32
  · rw [if_pos h, if_pos h, if_pos h, mul_neg]; rfl
  · rw [if_neg h, if_neg h, if_neg h, add_comm]

end Cert.GqaSpec
-- ==== Proof.GqaTab.lean ====
module
public import proofs.«01_k».proof.Proof.Gen.GqaIdeal.Value
public import proofs.«01_k».proof.Proof.GqaSpec
public import Idealize.ShloMosaic.Lib.Pipeline.ValueKit
public import Idealize.ShloMosaic.Lib.Pointwise
/-! The rotation tables the grouped attention kernel is given. -/
@[expose] public section
set_option maxRecDepth 16384
noncomputable section
open Idealize.ShloMosaic Idealize.ShloMosaic.TcCoe Idealize.SL.Sem
open Idealize.ShloMosaic.Pipeline (Dat)
namespace Cert.GqaIdeal.Gqa
open Cert.GqaIdeal Cert.GqaIdeal.Gen Cert.Softmax Cert.CtxSpec Cert.GqaSpec

/-- The exponent of a natural number below 64. -/
def expo (n : ℕ) : ℕ := if n < 2 then 0 else if n < 4 then 1 else if n < 8 then 2 else if n < 16 then 3 else if n < 32 then 4 else 5
/-- The f32 word of a natural number below 64. -/
def word (n : ℕ) : BitVec 32 := if n = 0 then 0#32 else BitVec.ofNat 32 ((127 + expo n) * 8388608 + (n - 2 ^ expo n) * 2 ^ (23 - expo n))
theorem word_val (n : ℕ) (h : n < 64) : Ideal.ofBits .f32 (word n) = ((n : ℝ) : EReal) := by
  interval_cases n <;> simp [word, expo, Ideal.ofBits, Ideal.ieee, -EReal.coe_mul] <;> norm_num
theorem lit0_eq : ∀ i : Fin 1024, lit0 i = word (i / 64) := by decide +kernel
theorem lit1_eq : ∀ i : Fin 1024, lit1 i = word (i % 64) := by decide +kernel
theorem lit0_val (i : Fin 1024) : Ideal.ofBits .f32 (lit0 i) = (((i / 64 : ℕ) : ℝ) : EReal) := by
  rw [lit0_eq, word_val _ (by omega)]
theorem lit1_val (i : Fin 1024) : Ideal.ofBits .f32 (lit1 i) = (((i % 64 : ℕ) : ℝ) : EReal) := by
  rw [lit1_eq, word_val _ (by omega)]

def inv : FVec Ideal S32 .f32 :=
  Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))
def ang (x : FVec Ideal S1024 .f32) : FVec Ideal S1024x32 .f32 :=
  mulf (broadcastInDim S1024x32 ![0, 1] bcast_S1024x1_S1024x32_0_1 (broadcastInDim S1024x1 ![0] bcast_S1024_S1024x1_0 x)) (broadcastInDim S1024x32 ![0, 1] bcast_S1x32_S1024x32_0_1 (broadcastInDim S1x32 ![1] bcast_S32_S1x32_1 inv))
def row0 : FVec Ideal S1024 .f32 := fun i => FloatOps.ofBits .f32 (lit0 (S1024.rowMajor i))
def col0 : FVec Ideal S1024 .f32 := fun i => FloatOps.ofBits .f32 (lit1 (S1024.rowMajor i))

theorem inv_at (k : Fin 32) : inv (ix1 k) = freq k := by
  have e : FloatOps.sitofp (F := Ideal) FTy.f32 (BitVec.ofNat 32 (k : ℕ)) = ((((k : ℕ) : ℤ) : ℝ) : EReal) := by
    have h : ∀ k : Fin 32, (BitVec.ofNat 32 (k : ℕ)).toInt = ((k : ℕ) : ℤ) := by decide +kernel
    rw [← h k]; rfl
  pointwise [inv, freq]
  rw [e, Nat.mod_eq_of_lt k.2]
theorem rowMajor_one (k : Fin 1024) : S1024.rowMajor (ix1 k) = k := by
  apply Fin.ext
  show (S1024.rowMajor (ix1 k) : ℕ) = k
  rw [Shape.rowMajor_val_one]; rfl
theorem row0_at (k : Fin 1024) : row0 (ix1 k) = (((k / 64 : ℕ) : ℝ) : EReal) := by
  refine Eq.trans ?_ (lit0_val k)
  unfold row0
  exact congrArg (fun i => Ideal.ofBits .f32 (lit0 i)) (rowMajor_one k)
theorem col0_at (k : Fin 1024) : col0 (ix1 k) = (((k % 64 : ℕ) : ℝ) : EReal) := by
  refine Eq.trans ?_ (lit1_val k)
  unfold col0
  exact congrArg (fun i => Ideal.ofBits .f32 (lit1 i)) (rowMajor_one k)
theorem ang_at (x : FVec Ideal S1024 .f32) (n : Fin 1024) (k : Fin 32) : ang x (ix2 n k) = x (ix1 n) * freq k := by
  rw [← inv_at]
  pointwise [ang]

variable (m : (ℓ : Loc nD τ sig) → Buf (Elt Ideal) ℓ) (c : Dev nD)

theorem V24_eq : V m c main_v24 = concatenate S1024x128 1 [⟨S1024x32, Host.cos (ang row0)⟩, ⟨S1024x32, Host.cos (ang row0)⟩,
    ⟨S1024x32, Host.cos (ang col0)⟩, ⟨S1024x32, Host.cos (ang col0)⟩] concatenates_S1024x32_S1024x32_S1024x32_S1024x32_S1024x128_d1 := rfl
theorem V31_eq : V m c main_v31 = concatenate S1024x128 1 [⟨S1024x32, Host.negf (Host.sin (ang row0))⟩, ⟨S1024x32, Host.sin (ang row0)⟩,
    ⟨S1024x32, Host.negf (Host.sin (ang col0))⟩, ⟨S1024x32, Host.sin (ang col0)⟩] concatenates_S1024x32_S1024x32_S1024x32_S1024x32_S1024x128_d1 := rfl
theorem freq_mod {a b : ℕ} (h : a % 32 = b % 32) : freq a = freq b := by unfold freq; rw [h]
theorem ang_row (n : Fin 1024) (k : Fin 32) (l : ℕ) (h : l < 64) (hk : (k : ℕ) = l % 32) : ang row0 (ix2 n k) = angle n l := by
  rw [ang_at, row0_at]; unfold angle; rw [if_pos h, freq_mod (show (k : ℕ) % 32 = l % 32 by omega)]
theorem ang_col (n : Fin 1024) (k : Fin 32) (l : ℕ) (h : ¬ l < 64) (hk : (k : ℕ) = l % 32) : ang col0 (ix2 n k) = angle n l := by
  rw [ang_at, col0_at]; unfold angle; rw [if_neg h, freq_mod (show (k : ℕ) % 32 = l % 32 by omega)]
/-- The cosine table. -/
theorem V24_at (n : Fin 1024) (l : Fin 128) : V m c main_v24 (ix2 n l) = Ideal.cos (angle n l) := by
  rw [V24_eq]
  have hl := l.2
  pointwise []
  split
  · rw [ang_row n _ l (by omega) (by show (l : ℕ) = _; omega)]
  split
  · rw [ang_row n _ l (by omega) (by show (l : ℕ) - 32 = _; omega)]
  split
  · rw [ang_col n _ l (by omega) (by show (l : ℕ) - 32 - 32 = _; omega)]
  · rw [ang_col n _ l (by omega) (by show (l : ℕ) - 32 - 32 - 32 = _; omega)]
/-- The sine table, with the sign of the first half of every 64 columns turned. -/
theorem V31_at (n : Fin 1024) (l : Fin 128) : V m c main_v31 (ix2 n l) =
    if (l : ℕ) % 64 < 32 then -Ideal.sin (angle n l) else Ideal.sin (angle n l) := by
  rw [V31_eq]
  have hl := l.2
  pointwise []
  split
  · rw [ang_row n _ l (by omega) (by show (l : ℕ) = _; omega), if_pos (by omega)]
  split
  · rw [ang_row n _ l (by omega) (by show (l : ℕ) - 32 = _; omega), if_neg (by omega)]
  split
  · rw [ang_col n _ l (by omega) (by show (l : ℕ) - 32 - 32 = _; omega), if_pos (by omega)]
  · rw [ang_col n _ l (by omega) (by show (l : ℕ) - 32 - 32 - 32 = _; omega), if_neg (by omega)]
end Cert.GqaIdeal.Gqa
-- ==== Proof.GqaPay.lean ====
module
public import proofs.«01_k».proof.Proof.Gen.GqaIdeal.Skeleton
public import proofs.«01_k».proof.Proof.GqaSpec
public import Idealize.ShloMosaic.Lib.KernelVsHost
public import Idealize.ShloMosaic.Lib.Pointwise
/-! The values the grouped attention kernel stores, read at an index. -/
@[expose] public section
set_option maxRecDepth 16384
noncomputable section
open Idealize.ShloMosaic Idealize.ShloMosaic.TcCoe Idealize.SL.Sem
namespace Cert.GqaIdeal.Gqa
open Cert.GqaIdeal Cert.GqaIdeal.Gen Cert.Softmax Cert.CtxSpec Cert.GqaSpec

theorem pay2_at (x : FVec Ideal S1024x128 .f32) (w : FVec Ideal S1x128 .f32) (i : Fin 1024) (l : Fin 128) :
    k0_pay2 (F := Ideal) x w (ix2 i l) = rms (fun d => x (ix2 i d)) l * w (ix2 0 l) := by
  pointwise [k0_pay2]; rfl
theorem pay21_at (x : FVec Ideal S256x128 .f32) (w : FVec Ideal S1x128 .f32) (i : Fin 256) (l : Fin 128) :
    k0_pay21 (F := Ideal) x w (ix2 i l) = rms (fun d => x (ix2 i d)) l * w (ix2 0 l) := by
  pointwise [k0_pay21]; rfl
theorem pay3_at (x : FVec Ideal S1024x128 .f32) (i : Fin 1024) (l : Fin 128) : k0_pay3 (F := Ideal) x (ix2 i l) = x (ix2 i l) := by
  pointwise [k0_pay3]
theorem pay4_at (x : FVec Ideal S1024x128 .f32) (i : Fin 1024) (l : Fin 128) : k0_pay4 (F := Ideal) x (ix2 i l) = x (ix2 i l) := by
  pointwise [k0_pay4]
theorem pay22_at (x : FVec Ideal S256x128 .f32) (i : Fin 256) (l : Fin 128) : k0_pay22 (F := Ideal) x (ix2 i l) = x (ix2 i l) := by
  pointwise [k0_pay22]
theorem pay23_at (x : FVec Ideal S256x128 .f32) (i : Fin 256) (l : Fin 128) : k0_pay23 (F := Ideal) x (ix2 i l) = x (ix2 i l) := by
  pointwise [k0_pay23]
theorem pay7_at (x : FVec Ideal S1024x128 .f32) (i : Fin 1024) (l : Fin 128) : k0_pay7 (F := Ideal) x (ix2 i l) = x (ix2 i l) := by
  pointwise [k0_pay7]
theorem pay8_at (x : FVec Ideal S1x1x1x256x128 .f32) (i : Fin 256) (l : Fin 128) : k0_pay8 (F := Ideal) x (ix2 i l) = x (ix5 0 0 0 i l) := by
  pointwise [k0_pay8]
theorem pay9_at (x : FVec Ideal S1x1x1x256x128 .f32) (i : Fin 256) (l : Fin 128) : k0_pay9 (F := Ideal) x (ix2 i l) = x (ix5 0 0 0 i l) := by
  pointwise [k0_pay9]

/-- The kernel's test for the first half of every 64 columns. -/
theorem mask : ∀ l : Fin 128, IntOp.cmpi CmpIPredicate.slt
            (Scalar.select
              (IntOp.andi
                (IntOp.xori
                  (IntOp.cmpi CmpIPredicate.slt
                    (IntOp.remsi ArithUnit.vector (BitVec.ofNat 32 (l : ℕ))
                      (Scalar.select (Scalar.cmpi CmpIPredicate.eq 64#32 0#32) 1#32 64#32))
                    0#32)
                  (Scalar.cmpi CmpIPredicate.slt 64#32 0#32))
                (IntOp.cmpi CmpIPredicate.ne
                  (IntOp.remsi ArithUnit.vector (BitVec.ofNat 32 (l : ℕ))
                    (Scalar.select (Scalar.cmpi CmpIPredicate.eq 64#32 0#32) 1#32 64#32))
                  0#32))
              (IntOp.addi
                (IntOp.remsi ArithUnit.vector (BitVec.ofNat 32 (l : ℕ))
                  (Scalar.select (Scalar.cmpi CmpIPredicate.eq 64#32 0#32) 1#32 64#32))
                64#32)
              (IntOp.remsi ArithUnit.vector (BitVec.ofNat 32 (l : ℕ))
                (Scalar.select (Scalar.cmpi CmpIPredicate.eq 64#32 0#32) 1#32 64#32)))
            32#32 = BitVec.ofBool (decide ((l : ℕ) % 64 < 32)) := by decide +kernel

theorem rope_pay (a : Fin 128 → EReal) (n : ℕ) (l : Fin 128) (b : BitVec 1) (hb : b = BitVec.ofBool (decide ((l : ℕ) % 64 < 32)))
    (c s : EReal) (hc : c = Ideal.cos (angle n l)) (hs : s = if (l : ℕ) % 64 < 32 then -Ideal.sin (angle n l) else Ideal.sin (angle n l)) (h h') :
    a l * c + Scalar.select b (a ⟨((l : ℕ) + 128 - 96) % 128, h⟩) (a ⟨((l : ℕ) + 128 - 32) % 128, h'⟩) * s = rope (nat a) n l := by
  have e (k : ℕ) (hk : k < 128) (j : Fin 128) (hj : (j : ℕ) = k) : a j = nat a k := by
    subst hj; unfold nat; rw [dif_pos j.2]
  rw [← rope_signed, ← hc, ← hs, e l l.2 l rfl]
  congr 2
  subst hb
  have hl := l.2
  by_cases q : (l : ℕ) % 64 < 32
  · rw [if_pos q]; simp only [q, decide_true]
    exact e _ (by omega) _ (by show ((l : ℕ) + 128 - 96) % 128 = _; omega)
  · rw [if_neg q]; simp only [q, decide_false]
    exact e _ (by omega) _ (by show ((l : ℕ) + 128 - 32) % 128 = _; omega)

/-- The rotated rows of keys the kernel keeps. -/
theorem krope_at (x cs sn : FVec Ideal S1024x128 .f32) (w : FVec Ideal S1x128 .f32) (n : ℕ) (i : Fin 1024) (l : Fin 128)
    (hc : cs (ix2 i l) = Ideal.cos (angle n l)) (hs : sn (ix2 i l) = if (l : ℕ) % 64 < 32 then -Ideal.sin (angle n l) else Ideal.sin (angle n l)) :
    k0_pay6 (F := Ideal) (k0_pay2 x w) (k0_pay3 cs) (k0_pay4 sn) (k0_pay5 x w) (ix2 i l) =
      rope (nat fun d => rms (fun d => x (ix2 i d)) d * w (ix2 0 d)) n l := by
  pointwise [k0_pay6, k0_pay3, k0_pay4, k0_pay5]
  refine (rope_pay (fun d => k0_pay2 (F := Ideal) x w (ix2 i d)) n l _ (mask l) _ _ hc hs _ _).trans ?_
  simp only [pay2_at]

variable (a cs sn : FVec Ideal S256x128 .f32) (ck cv : FVec Ideal S256x128 .bf16) (kr vb : FVec Ideal S1024x128 .bf16)

theorem pay26_at (n : ℕ) (i : Fin 256) (l : Fin 128)
    (hc : cs (ix2 i l) = Ideal.cos (angle n l)) (hs : sn (ix2 i l) = if (l : ℕ) % 64 < 32 then -Ideal.sin (angle n l) else Ideal.sin (angle n l)) :
    k0_pay26 (F := Ideal) a cs sn 64#32 k0_pay24 k0_pay25 0#32 (ix2 i l) = rope (nat fun d => a (ix2 i d)) n l := by
  pointwise [k0_pay26, k0_pay24, k0_pay25]
  exact rope_pay (fun d => a (ix2 i d)) n l _ (mask l) _ _ hc hs _ _
theorem pay27_at (M108 M110) (i : Fin 256) (x : Fin 256) :
    k0_pay27 (F := Ideal) ck a cs sn 64#32 M108 M110 0#32 (ix2 i x) =
      (∑ d, k0_pay26 (F := Ideal) a cs sn 64#32 M108 M110 0#32 (ix2 i d) * ck (ix2 x d)) * Ideal.ofBits .f32 0x3DB504F3#32 := by
  pointwise [k0_pay27]
theorem pay28_at (M108 M110) (i : Fin 256) (x : Fin 1024) :
    k0_pay28 (F := Ideal) a cs sn 64#32 M108 M110 0#32 kr (ix2 i x) =
      (∑ d, k0_pay26 (F := Ideal) a cs sn 64#32 M108 M110 0#32 (ix2 i d) * kr (ix2 x d)) * Ideal.ofBits .f32 0x3DB504F3#32 := by
  pointwise [k0_pay28]
theorem pay29_at (M108 M110) (i : Fin 256) (b : Fin 1) :
    k0_pay29 (F := Ideal) ck a cs sn 64#32 M108 M110 0#32 kr (ix2 i b) =
      max (top fun x : Fin 256 => k0_pay27 (F := Ideal) ck a cs sn 64#32 M108 M110 0#32 (ix2 i x))
        (top fun x : Fin 1024 => k0_pay28 (F := Ideal) a cs sn 64#32 M108 M110 0#32 kr (ix2 i x)) := by
  pointwise [k0_pay29]; rfl
theorem pay30_at (M108 M110) (i : Fin 256) (x : Fin 256) :
    k0_pay30 (F := Ideal) ck a cs sn 64#32 M108 M110 0#32 kr (ix2 i x) =
      Ideal.exp (k0_pay27 (F := Ideal) ck a cs sn 64#32 M108 M110 0#32 (ix2 i x) - k0_pay29 (F := Ideal) ck a cs sn 64#32 M108 M110 0#32 kr (ix2 i 0)) := by
  pointwise [k0_pay30]
theorem pay33_at (M108 M110) (i : Fin 256) (x : Fin 1024) :
    k0_pay33 (F := Ideal) ck a cs sn 64#32 M108 M110 0#32 kr (ix2 i x) =
      Ideal.exp (k0_pay28 (F := Ideal) a cs sn 64#32 M108 M110 0#32 kr (ix2 i x) - k0_pay29 (F := Ideal) ck a cs sn 64#32 M108 M110 0#32 kr (ix2 i 0)) := by
  pointwise [k0_pay33]
theorem pay31_at (M108 M110) (i : Fin 256) (b : Fin 1) :
    k0_pay31 (F := Ideal) ck a cs sn 64#32 M108 M110 0#32 kr (ix2 i b) =
      ∑ x, k0_pay30 (F := Ideal) ck a cs sn 64#32 M108 M110 0#32 kr (ix2 i x) := by
  pointwise [k0_pay31]
theorem pay34_at (M108 M110) (i : Fin 256) :
    k0_pay34 (F := Ideal) ck a cs sn 64#32 M108 M110 0#32 kr (ix1 i) =
      ∑ x, k0_pay33 (F := Ideal) ck a cs sn 64#32 M108 M110 0#32 kr (ix2 i x) := by
  pointwise [k0_pay34]
theorem pay32_at (M108 M110) (i : Fin 256) (l : Fin 128) :
    k0_pay32 (F := Ideal) ck cv a cs sn 64#32 M108 M110 0#32 kr (ix2 i l) =
      ∑ x, k0_pay30 (F := Ideal) ck a cs sn 64#32 M108 M110 0#32 kr (ix2 i x) * cv (ix2 x l) := by
  pointwise [k0_pay32]
theorem pay1_at (v147 : FVec Ideal S256x1 .f32) (v149 : FVec Ideal S256x128 .f32) (v152 : FVec Ideal S256x1024 .f32) (v153 : FVec Ideal S256 .f32)
    (i : Fin 256) (l : Fin 128) :
    k0_pay1 (F := Ideal) vb v147 v149 v152 v153 (ix2 i l) =
      Ideal.div (v149 (ix2 i l) + ∑ x, v152 (ix2 i x) * vb (ix2 x l)) (v147 (ix2 i 0) + v153 (ix1 i)) := by
  pointwise [k0_pay1]

/-- The stored attention of one query head, whatever the parts its payload was cut into. -/
def head (q cs sn : FVec Ideal S256x128 .f32) (wq : FVec Ideal S1x128 .f32) (ck cv : FVec Ideal S1x1x1x256x128 .f32)
    (kr vb : FVec Ideal S1024x128 .bf16) : FVec Ideal S256x128 .bf16 :=
  let a := k0_pay21 (F := Ideal) q wq
  let c := k0_pay22 (F := Ideal) cs
  let s := k0_pay23 (F := Ideal) sn
  k0_pay1 vb (k0_pay31 (k0_pay8 ck) a c s 64#32 k0_pay24 k0_pay25 0#32 kr) (k0_pay32 (k0_pay8 ck) (k0_pay9 cv) a c s 64#32 k0_pay24 k0_pay25 0#32 kr)
    (k0_pay33 (k0_pay8 ck) a c s 64#32 k0_pay24 k0_pay25 0#32 kr) (k0_pay34 (k0_pay8 ck) a c s 64#32 k0_pay24 k0_pay25 0#32 kr)

theorem head0_eq (q cs sn : FVec Ideal S256x128 .f32) (wq : FVec Ideal S1x128 .f32) (ck cv : FVec Ideal S1x1x1x256x128 .f32)
    (kr vb : FVec Ideal S1024x128 .bf16) (h) :
    k0_pay20 (F := Ideal) (k0_pay9 cv)
      (k0_pay15 (k0_pay10 q wq) (k0_pay11 cs) (k0_pay12 sn) (iota .tc S256x128 32 [1] h) (Scalar.select (Scalar.cmpi .eq 64#32 0#32) 1#32 64#32) kr) vb
      (k0_pay16 (k0_pay8 ck) (k0_pay10 q wq) (k0_pay11 cs) (k0_pay12 sn) (iota .tc S256x128 32 [1] h) (Scalar.select (Scalar.cmpi .eq 64#32 0#32) 1#32 64#32) kr)
      (k0_pay18 (k0_pay8 ck) (k0_pay10 q wq) (k0_pay11 cs) (k0_pay12 sn) (iota .tc S256x128 32 [1] h) (Scalar.select (Scalar.cmpi .eq 64#32 0#32) 1#32 64#32) kr)
      (k0_pay19 (k0_pay8 ck) (k0_pay10 q wq) (k0_pay11 cs) (k0_pay12 sn) (iota .tc S256x128 32 [1] h) (Scalar.select (Scalar.cmpi .eq 64#32 0#32) 1#32 64#32) kr)
      (constant S256x128 .f32 0x00000000#32) = head q cs sn wq ck cv kr vb := rfl

/-- One query head's stored attention, from what its operands hold. -/
theorem head_at {Z : FVec Ideal S12288x6272 .f32} {CK CV : FVec Ideal S8x4x2x256x128 .f32} {W : FVec Ideal S2x128 .f32}
    (hW : ∀ i, IsReal (W i)) (hC : ∀ i, IsReal (CK i)) {b g n : ℕ} {i : Fin 256} {l : Fin 128}
    {q cs sn : FVec Ideal S256x128 .f32} {wq : FVec Ideal S1x128 .f32} {ck cv : FVec Ideal S1x1x1x256x128 .f32}
    {kr vb : FVec Ideal S1024x128 .bf16}
    (hq : ∀ d : Fin 128, q (ix2 i d) = at2 Z (4096 + (b * 1024 + n)) (3072 + 128 * g + d))
    (hcs : ∀ d : Fin 128, cs (ix2 i d) = Ideal.cos (angle n d))
    (hsn : ∀ d : Fin 128, sn (ix2 i d) = if (d : ℕ) % 64 < 32 then -Ideal.sin (angle n d) else Ideal.sin (angle n d))
    (hwq : ∀ d : Fin 128, wq (ix2 0 d) = at2 W 0 d)
    (hck : ∀ (s : Fin 256) (d : Fin 128), ck (ix5 0 0 0 s d) = cache CK b (g / 2) s d)
    (hcv : ∀ (s : Fin 256), cv (ix5 0 0 0 s l) = cache CV b (g / 2) s l)
    (hkr : ∀ (s : Fin 1024) (d : Fin 128), kr (ix2 s d) = rrow Z W 1 b s (3584 + 128 * (g / 2)) d)
    (hvb : ∀ s : Fin 1024, vb (ix2 s l) = at2 Z (4096 + (b * 1024 + s)) (3840 + 128 * (g / 2) + l)) :
    head q cs sn wq ck cv kr vb (ix2 i l) = gqa Z CK CV W b g n l := by
  have hr : ∀ d : Fin 128, k0_pay26 (F := Ideal) (k0_pay21 q wq) (k0_pay22 cs) (k0_pay23 sn) 64#32 k0_pay24 k0_pay25 0#32 (ix2 i d) =
      rrow Z W 0 b n (3072 + 128 * g) d := by
    intro d
    rw [pay26_at _ _ _ n i d ((pay22_at _ _ _).trans (hcs d)) ((pay23_at _ _ _).trans (hsn d))]
    simp only [pay21_at, hq, hwq]; rfl
  have sc : ∀ x : Fin 256, k0_pay27 (F := Ideal) (k0_pay8 ck) (k0_pay21 q wq) (k0_pay22 cs) (k0_pay23 sn) 64#32 k0_pay24 k0_pay25 0#32 (ix2 i x) =
      qscore Z CK W b g n (Fin.castAdd 1024 x : Fin 1280) := by
    intro x
    rw [pay27_at]
    simp only [hr, pay8_at, hck]
    unfold qscore key
    simp only [Fin.val_castAdd, x.2, if_true]
  have sl : ∀ x : Fin 1024, k0_pay28 (F := Ideal) (k0_pay21 q wq) (k0_pay22 cs) (k0_pay23 sn) 64#32 k0_pay24 k0_pay25 0#32 kr (ix2 i x) =
      qscore Z CK W b g n (Fin.natAdd 256 x : Fin 1280) := by
    intro x
    rw [pay28_at]
    simp only [hr, hkr]
    unfold qscore key
    simp only [Fin.val_natAdd, Nat.add_sub_cancel_left, Nat.not_lt.mpr (Nat.le_add_right 256 _), if_false]
  unfold head
  rw [pay1_at, pay31_at, pay32_at, pay34_at]
  simp only [pay30_at, pay33_at, sc, sl, pay9_at, hcv, hvb]
  refine Eq.trans ?_ (two_parts (a := 256) (b := 1024) (by norm_num) (fun k => qscore Z CK W b g n k) (fun k => val Z CV b (g / 2) k l)
    (fun k => qscore_real hW hC _ _ _ _) _ rfl)
  have vc : ∀ x : Fin 256, val Z CV b (g / 2) (Fin.castAdd 1024 x : Fin 1280) l = cache CV b (g / 2) x l := by
    intro x; unfold val; simp only [Fin.val_castAdd, x.2, if_true]
  have vl : ∀ x : Fin 1024, val Z CV b (g / 2) (Fin.natAdd 256 x : Fin 1280) l = at2 Z (4096 + (b * 1024 + x)) (3840 + 128 * (g / 2) + l) := by
    intro x; unfold val
    simp only [Fin.val_natAdd, Nat.add_sub_cancel_left, Nat.not_lt.mpr (Nat.le_add_right 256 _), if_false]
  simp only [vc, vl]
  rw [pay29_at]
  simp only [sc, sl]
end Cert.GqaIdeal.Gqa
-- ==== Proof.Gqa.lean ====
module
public import proofs.«01_k».proof.Proof.GqaTab
public import proofs.«01_k».proof.Proof.GqaPay
/-! The grouped attention kernel's output. -/
@[expose] public section
set_option maxRecDepth 16384
noncomputable section
open Idealize.ShloMosaic Idealize.ShloMosaic.TcCoe Idealize.SL.Sem
open Idealize.ShloMosaic.Pipeline (Dat)
namespace Cert.GqaIdeal.Gqa
open Cert.GqaIdeal Cert.GqaIdeal.Gen Cert.Softmax Cert.CtxSpec Cert.GqaSpec
variable (m : (ℓ : Loc nD τ sig) → Buf (Elt Ideal) ℓ)

theorem idx : ∀ t : Fin cfg0.N, win0_0.index t = ![16 + (t.val / 8 * 4 + t.val % 4), 12 + t.val / 4 % 2]
    ∧ win0_1.index t = ![4 + t.val / 8, 28 + t.val / 4 % 2] ∧ win0_2.index t = ![4 + t.val / 8, 30 + t.val / 4 % 2]
    ∧ win0_3.index t = ![t.val / 8, 0, t.val / 4 % 2, 0, 0] ∧ win0_4.index t = ![t.val / 8, 0, t.val / 4 % 2, 0, 0]
    ∧ win0_5.index t = ![t.val % 4, 0] ∧ win0_6.index t = ![t.val % 4, 0] ∧ win0_7.index t = ![0, 0]
    ∧ win0_8.index t = ![0, 0] ∧ win0_9.index t = ![0, 0] ∧ win0_10.index t = ![t.val / 8 * 4 + t.val % 4, t.val / 4 % 2] :=
  (by decide +kernel : ∀ t : Fin grid0.N, _)

variable (c : Dev nD) (t : Fin cfg0.N)
abbrev Z : FVec Ideal S12288x6272 .f32 := m ((c : Thread nD τ).loc main_arg0)
abbrev CK : FVec Ideal S8x4x2x256x128 .f32 := m ((c : Thread nD τ).loc main_arg1)
abbrev CV : FVec Ideal S8x4x2x256x128 .f32 := m ((c : Thread nD τ).loc main_arg2)
abbrev W : FVec Ideal S2x128 .f32 := m ((c : Thread nD τ).loc main_arg3)

theorem X0_0_at (y : S256x256.Idx) : X0_0 m c t y = at2 (Z m c) ((16 + (t.val / 8 * 4 + t.val % 4)) * 256 + y 0) ((12 + t.val / 4 % 2) * 256 + y 1) := by
  unfold X0_0 Pipeline.Window.fill
  rw [dif_pos (moved0_0 t _)]
  blk_point [iblk, V, idx t]
  all_goals exfalso; omega
theorem ld_0 (o : ℕ) (h) (i : Fin 256) (d : Fin 128) :
    View.ld (X0_0 m c t) (Rect.unit ![0, o] ![256, 128] h) (ix2 i d) =
      at2 (Z m c) ((16 + (t.val / 8 * 4 + t.val % 4)) * 256 + i) ((12 + t.val / 4 % 2) * 256 + o + d) := by
  rw [View.ld_apply, X0_0_at, Rect.idx_unit_val, Rect.idx_unit_val, ← add_assoc (_ : ℕ) (![0, o] 1) _]
  show at2 _ (_ + (0 + i)) _ = _
  rw [zero_add]; rfl
theorem blk1 (i : Fin 1024) (d : Fin 128) : iblk m c 1 t (ix2 i d) = at2 (Z m c) ((4 + t.val / 8) * 1024 + i) ((28 + t.val / 4 % 2) * 128 + d) := by
  blk_point [iblk, V, idx t]
  all_goals exfalso; omega
theorem blk2 (i : Fin 1024) (d : Fin 128) : iblk m c 2 t (ix2 i d) = at2 (Z m c) ((4 + t.val / 8) * 1024 + i) ((30 + t.val / 4 % 2) * 128 + d) := by
  blk_point [iblk, V, idx t]
  all_goals exfalso; omega
theorem blk3 (i : Fin 256) (d : Fin 128) : iblk m c 3 t (ix5 0 0 0 i d) = cache (CK m c) (t.val / 8) (t.val / 4 % 2) i d := by
  blk_point [iblk, V, idx t, cache]
  all_goals exfalso; omega
theorem blk4 (i : Fin 256) (d : Fin 128) : iblk m c 4 t (ix5 0 0 0 i d) = cache (CV m c) (t.val / 8) (t.val / 4 % 2) i d := by
  blk_point [iblk, V, idx t, cache]
  all_goals exfalso; omega
theorem blk5 (i : Fin 256) (d : Fin 128) : iblk m c 5 t (ix2 i d) = Ideal.cos (angle (t.val % 4 * 256 + i) d) := by
  have e : iblk m c 5 t (ix2 i d) = V m c main_v24 ((win0_5.blk t).view.emb (ix2 i d)) := rfl
  have q : (win0_5.blk t).view.emb (ix2 i d) = (ix2 ⟨t.val % 4 * 256 + i, by omega⟩ d : S1024x128.Idx) := by
    have h0 : (((win0_5.blk t).view.emb (ix2 i d)) 0 : ℕ) = t.val % 4 * 256 + i := by blk_simp [idx t]
    have h1 : (((win0_5.blk t).view.emb (ix2 i d)) 1 : ℕ) = d := by blk_simp [idx t]
    exact (eq_ix2 _).trans (congrArg₂ ix2 (Fin.ext h0) (Fin.ext h1))
  rw [e, q, V24_at]
theorem blk6 (i : Fin 256) (d : Fin 128) : iblk m c 6 t (ix2 i d) =
    if (d : ℕ) % 64 < 32 then -Ideal.sin (angle (t.val % 4 * 256 + i) d) else Ideal.sin (angle (t.val % 4 * 256 + i) d) := by
  have e : iblk m c 6 t (ix2 i d) = V m c main_v31 ((win0_6.blk t).view.emb (ix2 i d)) := rfl
  have q : (win0_6.blk t).view.emb (ix2 i d) = (ix2 ⟨t.val % 4 * 256 + i, by omega⟩ d : S1024x128.Idx) := by
    have h0 : (((win0_6.blk t).view.emb (ix2 i d)) 0 : ℕ) = t.val % 4 * 256 + i := by blk_simp [idx t]
    have h1 : (((win0_6.blk t).view.emb (ix2 i d)) 1 : ℕ) = d := by blk_simp [idx t]
    exact (eq_ix2 _).trans (congrArg₂ ix2 (Fin.ext h0) (Fin.ext h1))
  rw [e, q, V31_at]
theorem ldw {j : ℕ} (hj : j < 2) (h) (d : Fin 128) :
    View.ld (iblk m c 9 t) (Rect.unit ![j, 0] ![1, 128] h) (ix2 0 d) = at2 (W m c) j d := by
  blk_point [iblk, V, idx t]
  all_goals exfalso; omega

theorem blk7 (i : Fin 1024) (d : Fin 128) : iblk m c 7 t (ix2 i d) = Ideal.cos (angle i d) := by
  have e : iblk m c 7 t (ix2 i d) = V m c main_v24 ((win0_7.blk t).view.emb (ix2 i d)) := rfl
  have q : (win0_7.blk t).view.emb (ix2 i d) = (ix2 i d : S1024x128.Idx) := by
    have h0 : (((win0_7.blk t).view.emb (ix2 i d)) 0 : ℕ) = i := by blk_simp [idx t]
    have h1 : (((win0_7.blk t).view.emb (ix2 i d)) 1 : ℕ) = d := by blk_simp [idx t]
    exact (eq_ix2 _).trans (congrArg₂ ix2 (Fin.ext h0) (Fin.ext h1))
  rw [e, q, V24_at]
theorem blk8 (i : Fin 1024) (d : Fin 128) : iblk m c 8 t (ix2 i d) =
    if (d : ℕ) % 64 < 32 then -Ideal.sin (angle i d) else Ideal.sin (angle i d) := by
  have e : iblk m c 8 t (ix2 i d) = V m c main_v31 ((win0_8.blk t).view.emb (ix2 i d)) := rfl
  have q : (win0_8.blk t).view.emb (ix2 i d) = (ix2 i d : S1024x128.Idx) := by
    have h0 : (((win0_8.blk t).view.emb (ix2 i d)) 0 : ℕ) = i := by blk_simp [idx t]
    have h1 : (((win0_8.blk t).view.emb (ix2 i d)) 1 : ℕ) = d := by blk_simp [idx t]
    exact (eq_ix2 _).trans (congrArg₂ ix2 (Fin.ext h0) (Fin.ext h1))
  rw [e, q, V31_at]

/-- The rotated keys the kernel keeps. -/
abbrev Keys (n : ℕ) : FVec Ideal S1024x128 .bf16 :=
  fun y => rrow (Z m c) (W m c) 1 (n / 8) (y 0) (3584 + 128 * (n / 4 % 2)) (y 1)
/-- The values the kernel keeps. -/
abbrev Vals (n : ℕ) : FVec Ideal S1024x128 .bf16 :=
  fun y => at2 (Z m c) (4096 + (n / 8 * 1024 + y 0)) (3840 + 128 * (n / 4 % 2) + y 1)

theorem keys_eq : k0_pay6 (F := Ideal) (k0_pay2 (iblk m c 1 t) (View.ld (iblk m c 9 t) (Rect.unit ![1, 0] ![1, 128] inb_S2x128_S1x128_1_0)))
      (k0_pay3 (iblk m c 7 t)) (k0_pay4 (iblk m c 8 t))
      (k0_pay5 (iblk m c 1 t) (View.ld (iblk m c 9 t) (Rect.unit ![1, 0] ![1, 128] inb_S2x128_S1x128_1_0))) = Keys m c t.val := by
  funext y
  obtain ⟨i, d, rfl⟩ : ∃ (i : Fin 1024) (d : Fin 128), y = ix2 i d := ⟨y 0, y 1, eq_ix2 y⟩
  refine (krope_at _ _ _ _ i i d (blk7 m c t i d) (blk8 m c t i d)).trans ?_
  have e1 : (4 + t.val / 8) * 1024 + (i : ℕ) = 4096 + (t.val / 8 * 1024 + i) := by omega
  have e2 : (28 + t.val / 4 % 2) * 128 = 3584 + 128 * (t.val / 4 % 2) := by omega
  simp only [blk1, ldw m c t (by norm_num : 1 < 2), e1, e2]
  rfl
theorem vals_eq : k0_pay7 (F := Ideal) (iblk m c 2 t) = Vals m c t.val := by
  funext y
  obtain ⟨i, d, rfl⟩ : ∃ (i : Fin 1024) (d : Fin 128), y = ix2 i d := ⟨y 0, y 1, eq_ix2 y⟩
  refine (pay7_at _ i d).trans ?_
  have e1 : (4 + t.val / 8) * 1024 + (i : ℕ) = 4096 + (t.val / 8 * 1024 + i) := by omega
  have e2 : (30 + t.val / 4 % 2) * 128 = 3840 + 128 * (t.val / 4 % 2) := by omega
  rw [blk2, e1, e2]
  rfl

theorem kA (h0 : t.val % 4 = 0) : (outsAt0 m c t.val t.isLt).2.1 = Keys m c t.val := by
  rw [outsAt0_A m c t h0]
  frame_out
  exact keys_eq m c t
theorem vA (h0 : t.val % 4 = 0) : (outsAt0 m c t.val t.isLt).2.2 = Vals m c t.val := by
  rw [outsAt0_A m c t h0]
  frame_out
  exact vals_eq m c t
theorem kB (h0 : ¬ t.val % 4 = 0) : (outsAt0 m c t.val t.isLt).2.1 = (outsAt0 m c (t.val - 1) (by omega)).2.1 := by
  rw [outsAt0_B m c t h0]
  rfl
theorem vB (h0 : ¬ t.val % 4 = 0) : (outsAt0 m c t.val t.isLt).2.2 = (outsAt0 m c (t.val - 1) (by omega)).2.2 := by
  rw [outsAt0_B m c t h0]
  rfl
/-- What the kernel keeps, at every grid point. -/
theorem kept_at : ∀ (n : ℕ) (h : n < cfg0.N), (outsAt0 m c n h).2.1 = Keys m c n ∧ (outsAt0 m c n h).2.2 = Vals m c n := by
  intro n
  induction n with
  | zero => intro h; exact ⟨kA m c ⟨0, h⟩ rfl, vA m c ⟨0, h⟩ rfl⟩
  | succ n ih =>
    intro h
    by_cases h0 : (n + 1) % 4 = 0
    · exact ⟨kA m c ⟨n + 1, h⟩ h0, vA m c ⟨n + 1, h⟩ h0⟩
    · have q8 : (n + 1) / 8 = n / 8 := by omega
      have q4 : (n + 1) / 4 % 2 = n / 4 % 2 := by omega
      have q : Keys m c (n + 1) = Keys m c n := by unfold Keys; rw [q8, q4]
      have q' : Vals m c (n + 1) = Vals m c n := by unfold Vals; rw [q8, q4]
      rw [q, q']
      exact ⟨(kB m c ⟨n + 1, h⟩ h0).trans (ih _).1, (vB m c ⟨n + 1, h⟩ h0).trans (ih _).2⟩
theorem prev (h0 : ¬ t.val % 4 = 0) : (outsAt0 m c (t.val - 1) (by omega)).2.1 = Keys m c t.val ∧
    (outsAt0 m c (t.val - 1) (by omega)).2.2 = Vals m c t.val := by
  have k := kept_at m c (t.val - 1) (by omega)
  have q8 : (t.val - 1) / 8 = t.val / 8 := by omega
  have q4 : (t.val - 1) / 4 % 2 = t.val / 4 % 2 := by omega
  refine ⟨k.1.trans ?_, k.2.trans ?_⟩
  · unfold Keys; rw [q8, q4]
  · unfold Vals; rw [q8, q4]

variable (hW : ∀ i, IsReal (W m c i)) (hC : ∀ i, IsReal (CK m c i))
include hW hC in
theorem head_pt (o j : ℕ) (ho : o = 128 * j) (hj : j < 2) (h0 h1) {kr vb : FVec Ideal S1024x128 .bf16}
    (hk : kr = Keys m c t.val) (hv : vb = Vals m c t.val) (i : Fin 256) (l : Fin 128) :
    head (View.ld (X0_0 m c t) (Rect.unit ![0, o] ![256, 128] h0)) (iblk m c 5 t) (iblk m c 6 t)
        (View.ld (iblk m c 9 t) (Rect.unit ![0, 0] ![1, 128] h1)) (iblk m c 3 t) (iblk m c 4 t) kr vb (ix2 i l)
      = gqa (Z m c) (CK m c) (CV m c) (W m c) (t.val / 8) (2 * (t.val / 4 % 2) + j) (t.val % 4 * 256 + i) l := by
  subst hk hv
  have g : (2 * (t.val / 4 % 2) + j) / 2 = t.val / 4 % 2 := by omega
  refine head_at hW hC (fun d => ?_) (blk5 m c t i) (blk6 m c t i) (ldw m c t (by norm_num) _) ?_ ?_ ?_ ?_
  · rw [ld_0]; congr 1 <;> omega
  · rw [g]; exact blk3 m c t
  · rw [g]; exact fun s => blk4 m c t s l
  · rw [g]; exact fun s d => rfl
  · rw [g]; exact fun s => rfl

include hW hC in
/-- The kernel's output array. -/
theorem final : (dats m 0 c).arrAt 10 cfg0.N = fun y : S8192x512.Idx =>
    gqa (Z m c) (CK m c) (CV m c) (W m c) (y 0 / 1024) (y 1 / 128) (y 0 % 1024) (y 1 % 128) := by
  refine (dats m 0 c).arrAt_eq_of_covers 10 _ (by decide +kernel) fun t _ y => ?_
  obtain ⟨-, -, -, -, -, -, -, -, -, -, e⟩ := idx t
  blk_simp
  rw [after0_10]
  by_cases hA : t.val % 4 = 0
  · rw [outsAt0_A m c t hA]
    frame_out
    canon_tiles x h
    · idx_vars x
      refine Eq.trans (head_pt m c t hW hC 128 1 rfl (by norm_num) _ _ (keys_eq m c t) (vals_eq m c t) x0 x1) ?_
      simp only [e, h0, h1]
      congr 1 <;> simp <;> omega
    · idx_vars x
      refine Eq.trans (congrFun (head0_eq _ _ _ _ _ _ _ _ _) _) (Eq.trans (head_pt m c t hW hC 0 0 rfl (by norm_num) _ _ (keys_eq m c t) (vals_eq m c t) x0 x1) ?_)
      simp only [e, h0, h1]
      congr 1 <;> simp <;> omega
  · have hB := hA
    rw [outsAt0_B m c t hB]
    frame_out
    canon_tiles x h
    · idx_vars x
      refine Eq.trans (head_pt m c t hW hC 128 1 rfl (by norm_num) _ _ ((Memref.IsWhole.read_unread _ _).trans (prev m c t hB).1) ((Memref.IsWhole.read_unread _ _).trans (prev m c t hB).2) x0 x1) ?_
      simp only [e, h0, h1]
      congr 1 <;> simp <;> omega
    · idx_vars x
      refine Eq.trans (congrFun (head0_eq _ _ _ _ _ _ _ _ _) _) (Eq.trans (head_pt m c t hW hC 0 0 rfl (by norm_num) _ _ ((Memref.IsWhole.read_unread _ _).trans (prev m c t hB).1) ((Memref.IsWhole.read_unread _ _).trans (prev m c t hB).2) x0 x1) ?_)
      simp only [e, h0, h1]
      congr 1 <;> simp <;> omega
end Cert.GqaIdeal.Gqa
-- ==== Proof.GqaRef.lean ====
module
public import proofs.«01_k».proof.Proof.Gen.GqaRefIdeal.Run
public import proofs.«01_k».proof.Proof.GqaSpec
public import Idealize.ShloMosaic.Lib.Pointwise
/-! The grouped attention reference's result, read at an index. -/
@[expose] public section
set_option maxRecDepth 16384
noncomputable section
open Idealize.ShloMosaic Idealize.ShloMosaic.TcCoe Idealize.SL.Sem
namespace Cert.GqaRefIdeal.Gqa
open Cert.GqaRefIdeal Cert.GqaRefIdeal.Gen Cert.Softmax Cert.CtxSpec Cert.GqaSpec

/-- The latent tokens, by sample. -/
abbrev tokens (z : FVec Ideal S12288x6272 .f32) : FVec Ideal S8x1024x6272 .f32 :=
  shapeCast _ (extractStridedSlice S8192x6272 ![4096, 0] z slices_S12288x6272_S8192x6272_4096_0) shapeCasts_S8192x6272_S8x1024x6272
def qh (z : FVec Ideal S12288x6272 .f32) : FVec Ideal S8x4x1024x128 .f32 :=
  transpose S8x4x1024x128 [0, 2, 1, 3] (shapeCast _ (extractStridedSlice S8x1024x512 ![0, 0, 3072] (tokens z) slices_S8x1024x6272_S8x1024x512_0_0_3072) shapeCasts_S8x1024x512_S8x1024x4x128) transposes_S8x1024x4x128_S8x4x1024x128_0_2_1_3
def kh (z : FVec Ideal S12288x6272 .f32) : FVec Ideal S8x2x1024x128 .f32 :=
  transpose S8x2x1024x128 [0, 2, 1, 3] (shapeCast _ (extractStridedSlice S8x1024x256 ![0, 0, 3584] (tokens z) slices_S8x1024x6272_S8x1024x256_0_0_3584) shapeCasts_S8x1024x256_S8x1024x2x128) transposes_S8x1024x2x128_S8x2x1024x128_0_2_1_3
def vh (z : FVec Ideal S12288x6272 .f32) : FVec Ideal S8x2x1024x128 .f32 :=
  transpose S8x2x1024x128 [0, 2, 1, 3] (shapeCast _ (extractStridedSlice S8x1024x256 ![0, 0, 3840] (tokens z) slices_S8x1024x6272_S8x1024x256_0_0_3840) shapeCasts_S8x1024x256_S8x1024x2x128) transposes_S8x1024x2x128_S8x2x1024x128_0_2_1_3
def w0 (w : FVec Ideal S2x128 .f32) : FVec Ideal S128 .f32 :=
  shapeCast _ (extractStridedSlice S1x128 ![0, 0] w slices_S2x128_S1x128_0_0) shapeCasts_S1x128_S128
def w1 (w : FVec Ideal S2x128 .f32) : FVec Ideal S128 .f32 :=
  shapeCast _ (extractStridedSlice S1x128 ![1, 0] w slices_S2x128_S1x128_1_0) shapeCasts_S1x128_S128
def norm4 (x : FVec Ideal S8x4x1024x128 .f32) (w : FVec Ideal S128 .f32) : FVec Ideal S8x4x1024x128 .f32 :=
  mulf (mulf x (broadcastInDim S8x4x1024x128 ![0, 1, 2, 3] bcast_S8x4x1024x1_S8x4x1024x128_0_1_2_3 (Host.rsqrt (addf (Host.divf (broadcastInDim S8x4x1024x1 ![0, 1, 2] bcast_S8x4x1024_S8x4x1024x1_0_1_2 (Host.reduceAdd (mulf x x) (constant S_ .f32 0x00000000#32) reducesTo_S8x4x1024x128_S8x4x1024_d3 h_S_)) (broadcastInDim S8x4x1024x1 ![] bcast_S_S8x4x1024x1 (constant S_ .f32 0x43000000#32))) (broadcastInDim S8x4x1024x1 ![] bcast_S_S8x4x1024x1 (constant S_ .f32 0x358637BD#32)))))) (broadcastInDim S8x4x1024x128 ![0, 1, 2, 3] bcast_S1x1x1x128_S8x4x1024x128_0_1_2_3 (broadcastInDim S1x1x1x128 ![3] bcast_S128_S1x1x1x128_3 w))
def tab4 (x : FVec Ideal S1024x32 .f32) : FVec Ideal S8x4x1024x32 .f32 :=
  broadcastInDim S8x4x1024x32 ![0, 1, 2, 3] bcast_S1x1x1024x32_S8x4x1024x32_0_1_2_3 (broadcastInDim S1x1x1024x32 ![2, 3] bcast_S1024x32_S1x1x1024x32_2_3 x)
/-- 64 columns rotated: the first 32 against the last 32. -/
def rot4 (x : FVec Ideal S8x4x1024x64 .f32) (c s : FVec Ideal S8x4x1024x32 .f32) : FVec Ideal S8x4x1024x64 .f32 :=
  concatenate S8x4x1024x64 3 [⟨S8x4x1024x32, (subf (mulf (extractStridedSlice S8x4x1024x32 ![0, 0, 0, 0] x slices_S8x4x1024x64_S8x4x1024x32_0_0_0_0) c) (mulf (extractStridedSlice S8x4x1024x32 ![0, 0, 0, 32] x slices_S8x4x1024x64_S8x4x1024x32_0_0_0_32) s))⟩, ⟨S8x4x1024x32, (addf (mulf (extractStridedSlice S8x4x1024x32 ![0, 0, 0, 0] x slices_S8x4x1024x64_S8x4x1024x32_0_0_0_0) s) (mulf (extractStridedSlice S8x4x1024x32 ![0, 0, 0, 32] x slices_S8x4x1024x64_S8x4x1024x32_0_0_0_32) c))⟩] concatenates_S8x4x1024x32_S8x4x1024x32_S8x4x1024x64_d3
def lo4 (x : FVec Ideal S8x4x1024x128 .f32) : FVec Ideal S8x4x1024x64 .f32 :=
  extractStridedSlice S8x4x1024x64 ![0, 0, 0, 0] x slices_S8x4x1024x128_S8x4x1024x64_0_0_0_0
def hi4 (x : FVec Ideal S8x4x1024x128 .f32) : FVec Ideal S8x4x1024x64 .f32 :=
  extractStridedSlice S8x4x1024x64 ![0, 0, 0, 64] x slices_S8x4x1024x128_S8x4x1024x64_0_0_0_64
def norm2 (x : FVec Ideal S8x2x1024x128 .f32) (w : FVec Ideal S128 .f32) : FVec Ideal S8x2x1024x128 .f32 :=
  mulf (mulf x (broadcastInDim S8x2x1024x128 ![0, 1, 2, 3] bcast_S8x2x1024x1_S8x2x1024x128_0_1_2_3 (Host.rsqrt (addf (Host.divf (broadcastInDim S8x2x1024x1 ![0, 1, 2] bcast_S8x2x1024_S8x2x1024x1_0_1_2 (Host.reduceAdd (mulf x x) (constant S_ .f32 0x00000000#32) reducesTo_S8x2x1024x128_S8x2x1024_d3 h_S_)) (broadcastInDim S8x2x1024x1 ![] bcast_S_S8x2x1024x1 (constant S_ .f32 0x43000000#32))) (broadcastInDim S8x2x1024x1 ![] bcast_S_S8x2x1024x1 (constant S_ .f32 0x358637BD#32)))))) (broadcastInDim S8x2x1024x128 ![0, 1, 2, 3] bcast_S1x1x1x128_S8x2x1024x128_0_1_2_3 (broadcastInDim S1x1x1x128 ![3] bcast_S128_S1x1x1x128_3 w))
def tab2 (x : FVec Ideal S1024x32 .f32) : FVec Ideal S8x2x1024x32 .f32 :=
  broadcastInDim S8x2x1024x32 ![0, 1, 2, 3] bcast_S1x1x1024x32_S8x2x1024x32_0_1_2_3 (broadcastInDim S1x1x1024x32 ![2, 3] bcast_S1024x32_S1x1x1024x32_2_3 x)
/-- 64 columns rotated: the first 32 against the last 32. -/
def rot2 (x : FVec Ideal S8x2x1024x64 .f32) (c s : FVec Ideal S8x2x1024x32 .f32) : FVec Ideal S8x2x1024x64 .f32 :=
  concatenate S8x2x1024x64 3 [⟨S8x2x1024x32, (subf (mulf (extractStridedSlice S8x2x1024x32 ![0, 0, 0, 0] x slices_S8x2x1024x64_S8x2x1024x32_0_0_0_0) c) (mulf (extractStridedSlice S8x2x1024x32 ![0, 0, 0, 32] x slices_S8x2x1024x64_S8x2x1024x32_0_0_0_32) s))⟩, ⟨S8x2x1024x32, (addf (mulf (extractStridedSlice S8x2x1024x32 ![0, 0, 0, 0] x slices_S8x2x1024x64_S8x2x1024x32_0_0_0_0) s) (mulf (extractStridedSlice S8x2x1024x32 ![0, 0, 0, 32] x slices_S8x2x1024x64_S8x2x1024x32_0_0_0_32) c))⟩] concatenates_S8x2x1024x32_S8x2x1024x32_S8x2x1024x64_d3
def lo2 (x : FVec Ideal S8x2x1024x128 .f32) : FVec Ideal S8x2x1024x64 .f32 :=
  extractStridedSlice S8x2x1024x64 ![0, 0, 0, 0] x slices_S8x2x1024x128_S8x2x1024x64_0_0_0_0
def hi2 (x : FVec Ideal S8x2x1024x128 .f32) : FVec Ideal S8x2x1024x64 .f32 :=
  extractStridedSlice S8x2x1024x64 ![0, 0, 0, 64] x slices_S8x2x1024x128_S8x2x1024x64_0_0_0_64
/-- The tokens' positions. -/
abbrev pos : IVec S1024 32 := iotaInDim S1024 32 0
abbrev c64 : IVec S_ 32 := id (constantI S_ 32 64#32)
abbrev quo : IVec S1024 32 := Host.divsi pos (broadcastInDim S1024 ![] bcast_S_S1024 c64)
/-- The tokens' grid rows. -/
def rowi : IVec S1024 32 :=
  select (andi (cmpi .ne (signi pos) (broadcastInDim S1024 ![] bcast_S_S1024 (signi c64))) (cmpi .ne (Host.remsi pos (broadcastInDim S1024 ![] bcast_S_S1024 c64)) (broadcastInDim S1024 ![] bcast_S_S1024 (constantI S_ 32 0#32)))) (subi quo (broadcastInDim S1024 ![] bcast_S_S1024 (constantI S_ 32 1#32))) quo
abbrev d64 : IVec S_ 32 := select (cmpi .eq c64 (constantI S_ 32 0#32)) (constantI S_ 32 1#32) c64
abbrev rem : IVec S1024 32 := Host.remsi pos (broadcastInDim S1024 ![] bcast_S_S1024 d64)
/-- The tokens' grid columns. -/
def coli : IVec S1024 32 :=
  select (andi (cmpi .ne (cmpi .slt rem (broadcastInDim S1024 ![] bcast_S_S1024 (constantI S_ 32 0#32))) (broadcastInDim S1024 ![] bcast_S_S1024 (cmpi .slt d64 (constantI S_ 32 0#32)))) (cmpi .ne rem (broadcastInDim S1024 ![] bcast_S_S1024 (constantI S_ 32 0#32)))) (addi rem (broadcastInDim S1024 ![] bcast_S_S1024 d64)) rem
def inv : FVec Ideal S32 .f32 :=
  Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))
def angOf (p : FVec Ideal S1024 .f32) : FVec Ideal S1024x32 .f32 :=
  mulf (broadcastInDim S1024x32 ![0, 1] bcast_S1024x1_S1024x32_0_1 (broadcastInDim S1024x1 ![0] bcast_S1024_S1024x1_0 p)) (broadcastInDim S1024x32 ![0, 1] bcast_S1x32_S1024x32_0_1 (broadcastInDim S1x32 ![1] bcast_S32_S1x32_1 inv))
/-- The angles at integer positions. -/
def ang (p : IVec S1024 32) : FVec Ideal S1024x32 .f32 := angOf (sitofp .f32 p)
def rope4 (x : FVec Ideal S8x4x1024x128 .f32) : FVec Ideal S8x4x1024x128 .f32 :=
  concatenate S8x4x1024x128 3 [⟨S8x4x1024x64, (rot4 (lo4 x) (tab4 (Host.cos (ang rowi))) (tab4 (Host.sin (ang rowi))))⟩, ⟨S8x4x1024x64, (rot4 (hi4 x) (tab4 (Host.cos (ang coli))) (tab4 (Host.sin (ang coli))))⟩] concatenates_S8x4x1024x64_S8x4x1024x64_S8x4x1024x128_d3
def rope2 (x : FVec Ideal S8x2x1024x128 .f32) : FVec Ideal S8x2x1024x128 .f32 :=
  concatenate S8x2x1024x128 3 [⟨S8x2x1024x64, (rot2 (lo2 x) (tab2 (Host.cos (ang rowi))) (tab2 (Host.sin (ang rowi))))⟩, ⟨S8x2x1024x64, (rot2 (hi2 x) (tab2 (Host.cos (ang coli))) (tab2 (Host.sin (ang coli))))⟩] concatenates_S8x2x1024x64_S8x2x1024x64_S8x2x1024x128_d3
/-- The cached and latent entries of a head, one after the other. -/
def both (c : FVec Ideal S8x4x2x256x128 .f32) (x : FVec Ideal S8x2x1024x128 .f32) : FVec Ideal S8x2x1280x128 .f32 :=
  concatenate S8x2x1280x128 2 [⟨S8x2x256x128, (shapeCast _ (extractStridedSlice S8x1x2x256x128 ![0, 0, 0, 0, 0] c slices_S8x4x2x256x128_S8x1x2x256x128_0_0_0_0_0) shapeCasts_S8x1x2x256x128_S8x2x256x128)⟩, ⟨S8x2x1024x128, x⟩] concatenates_S8x2x256x128_S8x2x1024x128_S8x2x1280x128_d2
def scores (q : FVec Ideal S8x4x1024x128 .f32) (k : FVec Ideal S8x2x1280x128 .f32) : FVec Ideal S8x2x2x1024x1280 .f32 :=
  mulf (Host.dotGeneral dot_S8x2x2x1024x128_S8x2x1280x128_S8x2x2x1024x1280_4_3_23_2_01_01 none (shapeCast _ q shapeCasts_S8x4x1024x128_S8x2x2x1024x128) k) (broadcastInDim S8x2x2x1024x1280 ![] bcast_S_S8x2x2x1024x1280 (constant S_ .f32 0x3DB504F3#32))
def rowMax (s : FVec Ideal S8x2x2x1024x1280 .f32) : FVec Ideal S8x2x2x1024 .f32 :=
  Host.reduce FloatOps.maximumf s (constant S_ .f32 0xFF800000#32) reducesTo_S8x2x2x1024x1280_S8x2x2x1024_d4 h_S_
def shifted (s : FVec Ideal S8x2x2x1024x1280 .f32) (mx : FVec Ideal S8x2x2x1024 .f32) : FVec Ideal S8x2x2x1024x1280 .f32 :=
  Host.exp (subf s (broadcastInDim S8x2x2x1024x1280 ![0, 1, 2, 3, 4] bcast_S8x2x2x1024x1_S8x2x2x1024x1280_0_1_2_3_4 (broadcastInDim S8x2x2x1024x1 ![0, 1, 2, 3] bcast_S8x2x2x1024_S8x2x2x1024x1_0_1_2_3 (maximumf (broadcastInDim S8x2x2x1024 ![] bcast_S_S8x2x2x1024 (constant S_ .f32 0xFF800000#32)) mx))))
def mix (e : FVec Ideal S8x2x2x1024x1280 .f32) (v : FVec Ideal S8x2x1280x128 .f32) : FVec Ideal S8192x512 .bf16 :=
  truncf .bf16 (shapeCast _ (transpose S8x1024x4x128 [0, 2, 1, 3] (shapeCast _ (Host.dotGeneral dot_S8x2x2x1024x1280_S8x2x1280x128_S8x2x2x1024x128_4_2_23_3_01_01 none (Host.divf e (broadcastInDim S8x2x2x1024x1280 ![0, 1, 2, 3, 4] bcast_S8x2x2x1024x1_S8x2x2x1024x1280_0_1_2_3_4 (broadcastInDim S8x2x2x1024x1 ![0, 1, 2, 3] bcast_S8x2x2x1024_S8x2x2x1024x1_0_1_2_3 (Host.reduceAdd e (constant S_ .f32 0x00000000#32) reducesTo_S8x2x2x1024x1280_S8x2x2x1024_d4 h_S_)))) v) shapeCasts_S8x2x2x1024x128_S8x4x1024x128) transposes_S8x4x1024x128_S8x1024x4x128_0_2_1_3) shapeCasts_S8x1024x4x128_S8192x512) bitsLt_bf16_f32

theorem qh_at (z : FVec Ideal S12288x6272 .f32) (b : Fin 8) (h : Fin 4) (t : Fin 1024) (l : Fin 128) :
    qh z (ix4 b h t l) = at2 z (4096 + (b * 1024 + t)) (3072 + 128 * h + l) := by
  pointwise [qh]; rw [at2_eq z]; congr 1; simp; omega
theorem kh_at (z : FVec Ideal S12288x6272 .f32) (b : Fin 8) (h : Fin 2) (t : Fin 1024) (l : Fin 128) :
    kh z (ix4 b h t l) = at2 z (4096 + (b * 1024 + t)) (3584 + 128 * h + l) := by
  pointwise [kh]; rw [at2_eq z]; congr 1; simp; omega
theorem vh_at (z : FVec Ideal S12288x6272 .f32) (b : Fin 8) (h : Fin 2) (t : Fin 1024) (l : Fin 128) :
    vh z (ix4 b h t l) = at2 z (4096 + (b * 1024 + t)) (3840 + 128 * h + l) := by
  pointwise [vh]; rw [at2_eq z]; congr 1; simp; omega
theorem w0_at (w : FVec Ideal S2x128 .f32) (l : Fin 128) : w0 w (ix1 l) = at2 w 0 l := by
  pointwise [w0]; rw [at2_eq w]; rfl
theorem w1_at (w : FVec Ideal S2x128 .f32) (l : Fin 128) : w1 w (ix1 l) = at2 w 1 l := by
  pointwise [w1]; rw [at2_eq w]; rfl
theorem rowi_at : ∀ n : Fin 1024, (rowi (ix1 n)).toInt = ((n / 64 : ℕ) : ℤ) := by decide +kernel
theorem coli_at : ∀ n : Fin 1024, (coli (ix1 n)).toInt = ((n % 64 : ℕ) : ℤ) := by decide +kernel
theorem inv_at (k : Fin 32) : inv (ix1 k) = freq k := by
  have e : FloatOps.sitofp (F := Ideal) FTy.f32 (BitVec.ofNat 32 (k : ℕ)) = ((((k : ℕ) : ℤ) : ℝ) : EReal) := by
    have h : ∀ k : Fin 32, (BitVec.ofNat 32 (k : ℕ)).toInt = ((k : ℕ) : ℤ) := by decide +kernel
    rw [← h k]; rfl
  pointwise [inv, freq]
  rw [e, Nat.mod_eq_of_lt k.2]
theorem angOf_at (p : FVec Ideal S1024 .f32) (n : Fin 1024) (k : Fin 32) : angOf p (ix2 n k) = p (ix1 n) * freq k := by
  rw [← inv_at]; pointwise [angOf]
theorem freq_mod {a b : ℕ} (h : a % 32 = b % 32) : freq a = freq b := by unfold freq; rw [h]
theorem row_at (n : Fin 1024) (k : Fin 32) {l : ℕ} (h : l < 64) (hk : (k : ℕ) = l % 32) : ang rowi (ix2 n k) = angle n l := by
  unfold ang; rw [angOf_at]; unfold angle; rw [if_pos h, freq_mod (show (k : ℕ) % 32 = l % 32 by omega)]
  refine congrArg (· * freq l) ?_
  show ((((rowi (ix1 n)).toInt : ℝ)) : EReal) = _
  rw [rowi_at]; rfl
theorem col_at (n : Fin 1024) (k : Fin 32) {l : ℕ} (h : ¬ l < 64) (hk : (k : ℕ) = l % 32) : ang coli (ix2 n k) = angle n l := by
  unfold ang; rw [angOf_at]; unfold angle; rw [if_neg h, freq_mod (show (k : ℕ) % 32 = l % 32 by omega)]
  refine congrArg (· * freq l) ?_
  show ((((coli (ix1 n)).toInt : ℝ)) : EReal) = _
  rw [coli_at]; rfl
theorem norm4_at (x : FVec Ideal S8x4x1024x128 .f32) (w : FVec Ideal S128 .f32) (b : Fin 8) (h : Fin 4) (t : Fin 1024) (l : Fin 128) :
    norm4 x w (ix4 b h t l) = rms (fun d => x (ix4 b h t d)) l * w (ix1 l) := by
  pointwise [norm4]; rfl
theorem tab4_at (x : FVec Ideal S1024x32 .f32) (b : Fin 8) (h : Fin 4) (t : Fin 1024) (l : Fin 32) :
    tab4 x (ix4 b h t l) = x (ix2 t l) := by
  pointwise [tab4]
theorem rot4_lo (x : FVec Ideal S8x4x1024x64 .f32) (c s : FVec Ideal S8x4x1024x32 .f32) (b : Fin 8) (h : Fin 4) (t : Fin 1024) (l : Fin 64) (hl : (l : ℕ) < 32) :
    rot4 x c s (ix4 b h t l) = x (ix4 b h t l) * c (ix4 b h t ⟨l, hl⟩) - x (ix4 b h t ⟨32 + l, by omega⟩) * s (ix4 b h t ⟨l, hl⟩) := by
  pointwise [rot4]
  rw [dif_pos hl]
theorem rot4_hi (x : FVec Ideal S8x4x1024x64 .f32) (c s : FVec Ideal S8x4x1024x32 .f32) (b : Fin 8) (h : Fin 4) (t : Fin 1024) (l : Fin 64) (hl : ¬ (l : ℕ) < 32) :
    rot4 x c s (ix4 b h t l) = x (ix4 b h t ⟨l - 32, by omega⟩) * s (ix4 b h t ⟨l - 32, by omega⟩) + x (ix4 b h t l) * c (ix4 b h t ⟨l - 32, by omega⟩) := by
  pointwise [rot4]
  rw [dif_neg hl]
  have e : (⟨32 + ((l : ℕ) - 32), by omega⟩ : Fin 64) = l := Fin.ext (by show 32 + ((l : ℕ) - 32) = l; omega)
  rw [e]
theorem lo4_at (x : FVec Ideal S8x4x1024x128 .f32) (b : Fin 8) (h : Fin 4) (t : Fin 1024) (l : Fin 64) :
    lo4 x (ix4 b h t l) = nat (fun d => x (ix4 b h t d)) l := by
  have hl := l.2
  unfold nat; rw [dif_pos (by omega)]
  pointwise [lo4]
theorem hi4_at (x : FVec Ideal S8x4x1024x128 .f32) (b : Fin 8) (h : Fin 4) (t : Fin 1024) (l : Fin 64) :
    hi4 x (ix4 b h t l) = nat (fun d => x (ix4 b h t d)) (64 + l) := by
  have hl := l.2
  unfold nat; rw [dif_pos (by omega)]
  pointwise [hi4]
theorem rope4_lo (x : FVec Ideal S8x4x1024x128 .f32) (b : Fin 8) (h : Fin 4) (t : Fin 1024) (l : Fin 128) (hl : (l : ℕ) < 64) :
    rope4 x (ix4 b h t l) = rot4 (lo4 x) (tab4 (Host.cos (ang rowi))) (tab4 (Host.sin (ang rowi))) (ix4 b h t ⟨l, hl⟩) := by
  pointwise [rope4]
  exact dif_pos hl
theorem rope4_hi (x : FVec Ideal S8x4x1024x128 .f32) (b : Fin 8) (h : Fin 4) (t : Fin 1024) (l : Fin 128) (hl : ¬ (l : ℕ) < 64) :
    rope4 x (ix4 b h t l) = rot4 (hi4 x) (tab4 (Host.cos (ang coli))) (tab4 (Host.sin (ang coli))) (ix4 b h t ⟨l - 64, by omega⟩) := by
  pointwise [rope4]
  exact dif_neg hl
theorem rope4_at (x : FVec Ideal S8x4x1024x128 .f32) (b : Fin 8) (h : Fin 4) (t : Fin 1024) (l : Fin 128) :
    rope4 x (ix4 b h t l) = rope (nat fun d => x (ix4 b h t d)) t l := by
  have hl := l.2
  have cos (p : IVec S1024 32) (k : Fin 32) : (Host.cos (ang p) : FVec Ideal S1024x32 .f32) (ix2 t k) = Ideal.cos (ang p (ix2 t k)) := rfl
  have sin (p : IVec S1024 32) (k : Fin 32) : (Host.sin (ang p) : FVec Ideal S1024x32 .f32) (ix2 t k) = Ideal.sin (ang p (ix2 t k)) := rfl
  unfold rope
  by_cases p : (l : ℕ) < 64
  · rw [rope4_lo x b h t l p]
    by_cases q : (l : ℕ) < 32
    · rw [rot4_lo _ _ _ _ _ _ _ q, if_pos (by omega), tab4_at, tab4_at, cos, sin, lo4_at, lo4_at,
        row_at t ⟨l, q⟩ (l := l) p (by show (l : ℕ) = _; omega)]
      simp only [add_comm 32]
    · rw [rot4_hi _ _ _ _ _ _ _ q, if_neg (by omega), tab4_at, tab4_at, cos, sin, lo4_at, lo4_at,
        row_at t ⟨l - 32, by omega⟩ (l := l) p (by show (l : ℕ) - 32 = _; omega)]
  · rw [rope4_hi x b h t l p]
    have e : 64 + ((l : ℕ) - 64) = l := by omega
    by_cases q : (l : ℕ) - 64 < 32
    · have e' : 64 + (32 + ((l : ℕ) - 64)) = l + 32 := by omega
      rw [rot4_lo _ _ _ _ _ _ _ q, if_pos (by omega), tab4_at, tab4_at, cos, sin, hi4_at, hi4_at,
        col_at t ⟨l - 64, q⟩ (l := l) p (by show (l : ℕ) - 64 = _; omega)]
      simp only [e, e']
    · have e' : 64 + ((l : ℕ) - 64 - 32) = l - 32 := by omega
      rw [rot4_hi _ _ _ _ _ _ _ q, if_neg (by omega), tab4_at, tab4_at, cos, sin, hi4_at, hi4_at,
        col_at t ⟨l - 64 - 32, by omega⟩ (l := l) p (by show (l : ℕ) - 64 - 32 = _; omega)]
      simp only [e, e']
theorem norm2_at (x : FVec Ideal S8x2x1024x128 .f32) (w : FVec Ideal S128 .f32) (b : Fin 8) (h : Fin 2) (t : Fin 1024) (l : Fin 128) :
    norm2 x w (ix4 b h t l) = rms (fun d => x (ix4 b h t d)) l * w (ix1 l) := by
  pointwise [norm2]; rfl
theorem tab2_at (x : FVec Ideal S1024x32 .f32) (b : Fin 8) (h : Fin 2) (t : Fin 1024) (l : Fin 32) :
    tab2 x (ix4 b h t l) = x (ix2 t l) := by
  pointwise [tab2]
theorem rot2_lo (x : FVec Ideal S8x2x1024x64 .f32) (c s : FVec Ideal S8x2x1024x32 .f32) (b : Fin 8) (h : Fin 2) (t : Fin 1024) (l : Fin 64) (hl : (l : ℕ) < 32) :
    rot2 x c s (ix4 b h t l) = x (ix4 b h t l) * c (ix4 b h t ⟨l, hl⟩) - x (ix4 b h t ⟨32 + l, by omega⟩) * s (ix4 b h t ⟨l, hl⟩) := by
  pointwise [rot2]
  rw [dif_pos hl]
theorem rot2_hi (x : FVec Ideal S8x2x1024x64 .f32) (c s : FVec Ideal S8x2x1024x32 .f32) (b : Fin 8) (h : Fin 2) (t : Fin 1024) (l : Fin 64) (hl : ¬ (l : ℕ) < 32) :
    rot2 x c s (ix4 b h t l) = x (ix4 b h t ⟨l - 32, by omega⟩) * s (ix4 b h t ⟨l - 32, by omega⟩) + x (ix4 b h t l) * c (ix4 b h t ⟨l - 32, by omega⟩) := by
  pointwise [rot2]
  rw [dif_neg hl]
  have e : (⟨32 + ((l : ℕ) - 32), by omega⟩ : Fin 64) = l := Fin.ext (by show 32 + ((l : ℕ) - 32) = l; omega)
  rw [e]
theorem lo2_at (x : FVec Ideal S8x2x1024x128 .f32) (b : Fin 8) (h : Fin 2) (t : Fin 1024) (l : Fin 64) :
    lo2 x (ix4 b h t l) = nat (fun d => x (ix4 b h t d)) l := by
  have hl := l.2
  unfold nat; rw [dif_pos (by omega)]
  pointwise [lo2]
theorem hi2_at (x : FVec Ideal S8x2x1024x128 .f32) (b : Fin 8) (h : Fin 2) (t : Fin 1024) (l : Fin 64) :
    hi2 x (ix4 b h t l) = nat (fun d => x (ix4 b h t d)) (64 + l) := by
  have hl := l.2
  unfold nat; rw [dif_pos (by omega)]
  pointwise [hi2]
theorem rope2_lo (x : FVec Ideal S8x2x1024x128 .f32) (b : Fin 8) (h : Fin 2) (t : Fin 1024) (l : Fin 128) (hl : (l : ℕ) < 64) :
    rope2 x (ix4 b h t l) = rot2 (lo2 x) (tab2 (Host.cos (ang rowi))) (tab2 (Host.sin (ang rowi))) (ix4 b h t ⟨l, hl⟩) := by
  pointwise [rope2]
  exact dif_pos hl
theorem rope2_hi (x : FVec Ideal S8x2x1024x128 .f32) (b : Fin 8) (h : Fin 2) (t : Fin 1024) (l : Fin 128) (hl : ¬ (l : ℕ) < 64) :
    rope2 x (ix4 b h t l) = rot2 (hi2 x) (tab2 (Host.cos (ang coli))) (tab2 (Host.sin (ang coli))) (ix4 b h t ⟨l - 64, by omega⟩) := by
  pointwise [rope2]
  exact dif_neg hl
theorem rope2_at (x : FVec Ideal S8x2x1024x128 .f32) (b : Fin 8) (h : Fin 2) (t : Fin 1024) (l : Fin 128) :
    rope2 x (ix4 b h t l) = rope (nat fun d => x (ix4 b h t d)) t l := by
  have hl := l.2
  have cos (p : IVec S1024 32) (k : Fin 32) : (Host.cos (ang p) : FVec Ideal S1024x32 .f32) (ix2 t k) = Ideal.cos (ang p (ix2 t k)) := rfl
  have sin (p : IVec S1024 32) (k : Fin 32) : (Host.sin (ang p) : FVec Ideal S1024x32 .f32) (ix2 t k) = Ideal.sin (ang p (ix2 t k)) := rfl
  unfold rope
  by_cases p : (l : ℕ) < 64
  · rw [rope2_lo x b h t l p]
    by_cases q : (l : ℕ) < 32
    · rw [rot2_lo _ _ _ _ _ _ _ q, if_pos (by omega), tab2_at, tab2_at, cos, sin, lo2_at, lo2_at,
        row_at t ⟨l, q⟩ (l := l) p (by show (l : ℕ) = _; omega)]
      simp only [add_comm 32]
    · rw [rot2_hi _ _ _ _ _ _ _ q, if_neg (by omega), tab2_at, tab2_at, cos, sin, lo2_at, lo2_at,
        row_at t ⟨l - 32, by omega⟩ (l := l) p (by show (l : ℕ) - 32 = _; omega)]
  · rw [rope2_hi x b h t l p]
    have e : 64 + ((l : ℕ) - 64) = l := by omega
    by_cases q : (l : ℕ) - 64 < 32
    · have e' : 64 + (32 + ((l : ℕ) - 64)) = l + 32 := by omega
      rw [rot2_lo _ _ _ _ _ _ _ q, if_pos (by omega), tab2_at, tab2_at, cos, sin, hi2_at, hi2_at,
        col_at t ⟨l - 64, q⟩ (l := l) p (by show (l : ℕ) - 64 = _; omega)]
      simp only [e, e']
    · have e' : 64 + ((l : ℕ) - 64 - 32) = l - 32 := by omega
      rw [rot2_hi _ _ _ _ _ _ _ q, if_neg (by omega), tab2_at, tab2_at, cos, sin, hi2_at, hi2_at,
        col_at t ⟨l - 64 - 32, by omega⟩ (l := l) p (by show (l : ℕ) - 64 - 32 = _; omega)]
      simp only [e, e']
theorem both_at (c : FVec Ideal S8x4x2x256x128 .f32) (x : FVec Ideal S8x2x1024x128 .f32) (b : Fin 8) (h : Fin 2) (k : Fin 1280) (l : Fin 128) :
    both c x (ix4 b h k l) = if hk : (k : ℕ) < 256 then cache c b h k l else x (ix4 b h ⟨k - 256, by omega⟩ l) := by
  pointwise [both]
  split
  · unfold cache; rw [dif_pos (by omega)]; rfl
  · rfl
theorem scores_at (q : FVec Ideal S8x4x1024x128 .f32) (k : FVec Ideal S8x2x1280x128 .f32) (b : Fin 8) (h g : Fin 2) (t : Fin 1024) (s : Fin 1280) :
    scores q k (ix5 b h g t s) = (∑ d, q (ix4 b ⟨h * 2 + g, by omega⟩ t d) * k (ix4 b h s d)) * Ideal.ofBits .f32 0x3DB504F3#32 := by
  pointwise [scores]
theorem rowMax_at (x : FVec Ideal S8x2x2x1024x1280 .f32) (b : Fin 8) (h g : Fin 2) (t : Fin 1024) :
    rowMax x (ix4 b h g t) = top fun k => x (ix5 b h g t k) := by
  pointwise [rowMax]; unfold top; with_reducible rfl
theorem shifted_at (x : FVec Ideal S8x2x2x1024x1280 .f32) (mx : FVec Ideal S8x2x2x1024 .f32) (b : Fin 8) (h g : Fin 2) (t : Fin 1024) (s : Fin 1280) :
    shifted x mx (ix5 b h g t s) = Ideal.exp (x (ix5 b h g t s) - max (Ideal.ofBits .f32 0xFF800000#32) (mx (ix4 b h g t))) := by
  pointwise [shifted]
def exps (s : FVec Ideal S8x2x2x1024x1280 .f32) : FVec Ideal S8x2x2x1024x1280 .f32 := shifted s (rowMax s)
theorem exps_at (x : FVec Ideal S8x2x2x1024x1280 .f32) (b : Fin 8) (h g : Fin 2) (t : Fin 1024) (s : Fin 1280) :
    exps x (ix5 b h g t s) = Ideal.exp (x (ix5 b h g t s) - top fun k => x (ix5 b h g t k)) := by
  unfold exps; rw [shifted_at, rowMax_at, max_top]
theorem mix_at (e : FVec Ideal S8x2x2x1024x1280 .f32) (v : FVec Ideal S8x2x1280x128 .f32) (r : Fin 8192) (c : Fin 512) :
    mix e v (ix2 r c) = ∑ s, Ideal.div (e (ix5 ⟨r / 1024, by omega⟩ ⟨c / 128 / 2, by omega⟩ ⟨c / 128 % 2, by omega⟩ ⟨r % 1024, by omega⟩ s))
      (∑ j, e (ix5 ⟨r / 1024, by omega⟩ ⟨c / 128 / 2, by omega⟩ ⟨c / 128 % 2, by omega⟩ ⟨r % 1024, by omega⟩ j))
        * v (ix4 ⟨r / 1024, by omega⟩ ⟨c / 128 / 2, by omega⟩ s ⟨c % 128, by omega⟩) := by
  pointwise [mix]

variable (z : FVec Ideal S12288x6272 .f32) (ck cv : FVec Ideal S8x4x2x256x128 .f32) (w : FVec Ideal S2x128 .f32)
/-- The reference's result. -/
def whole : FVec Ideal S8192x512 .bf16 :=
  mix (exps (scores (rope4 (norm4 (qh z) (w0 w))) (both ck (rope2 (norm2 (kh z) (w1 w)))))) (both cv (vh z))

theorem q_at (b : Fin 8) (g : Fin 4) (t : Fin 1024) (l : Fin 128) :
    rope4 (norm4 (qh z) (w0 w)) (ix4 b g t l) = rrow z w 0 b t (3072 + 128 * g) l := by
  rw [rope4_at]; simp only [norm4_at, qh_at, w0_at]; rfl
theorem k_at (b : Fin 8) (h : Fin 2) (k : Fin 1280) (l : Fin 128) :
    both ck (rope2 (norm2 (kh z) (w1 w))) (ix4 b h k l) = key z ck w b h k l := by
  rw [both_at]; unfold key; split
  · rfl
  · rw [rope2_at]; simp only [norm2_at, kh_at, w1_at]; rfl
theorem v_at (b : Fin 8) (h : Fin 2) (k : Fin 1280) (l : Fin 128) :
    both cv (vh z) (ix4 b h k l) = val z cv b h k l := by
  rw [both_at]; unfold val; split
  · rfl
  · rw [vh_at]
theorem s_at (b : Fin 8) (h g : Fin 2) (t : Fin 1024) (k : Fin 1280) :
    scores (rope4 (norm4 (qh z) (w0 w))) (both ck (rope2 (norm2 (kh z) (w1 w)))) (ix5 b h g t k) = qscore z ck w b (h * 2 + g) t k := by
  have q : ((h : ℕ) * 2 + g) / 2 = h := by omega
  rw [scores_at]; simp only [q_at, k_at]; unfold qscore; rw [q]
theorem whole_at (r : Fin 8192) (c : Fin 512) :
    whole z ck cv w (ix2 r c) = gqa z ck cv w (r / 1024) (c / 128) (r % 1024) (c % 128) := by
  unfold whole
  rw [mix_at]
  simp only [exps_at, s_at, v_at]
  have q : (c / 128 / 2 * 2 + c / 128 % 2 : ℕ) = c / 128 := by omega
  rw [q]
  rfl
end Cert.GqaRefIdeal.Gqa
-- ==== Proof.GqaClaim.lean ====
module
public import proofs.«01_k».proof.Defs
public import proofs.«01_k».proof.Proof.Gqa
public import proofs.«01_k».proof.Proof.GqaRef
public import proofs.«01_k».proof.Proof.Gen.GqaIdeal.Frame
public import Idealize.ShloMosaic.Lib.ReduceAll
/-! The latent grouped attention against its reference. -/
@[expose] public section
set_option maxRecDepth 16384
noncomputable section
open Idealize.ShloMosaic Idealize.ShloMosaic.TcCoe Idealize.SL.Sem
namespace Cert.GqaClaim
open Cert.Softmax Cert.CtxSpec Cert.GqaSpec

theorem preFacts : Cert.Pre_finite_keys.Facts := ⟨by decide, by decide, by decide, by decide, by decide⟩

theorem frame_ref : Cert.quiescent_GqaRefIdeal (hGqaRefIdeal := Cert.GqaRefIdeal.Gen.facts) := by
  intro m g _
  exact (θ_run _ _ _).mono (fun r h => ⟨fun c => (h c).2, Idealize.ShloMosaic.sem_eq_zero_of_no_sems (by decide) r.2⟩)
    (Cert.GqaRefIdeal.Value.run m g)

theorem real_of_test {x : EReal} (h : BitVec.ofBool (decide (max x (-x) < Ideal.ofBits .f32 0x7F800000#32)) = 1#1) : IsReal x := by
  rw [ofBits_inf] at h
  refine isReal_of_abs_lt ?_
  by_contra q
  rw [decide_eq_false q] at h
  exact absurd h (by decide)

/-- The precondition read at an index: the cached keys and the weights are finite. -/
theorem keys_real [Cert.Pre_finite_keys.Facts] (z : FVec Ideal Cert.Pre_finite_keys.S12288x6272 .f32)
    (ck cv : FVec Ideal Cert.Pre_finite_keys.S8x4x2x256x128 .f32)
    (w : FVec Ideal Cert.Pre_finite_keys.S2x128 .f32) (h : Cert.Pre_finite_keys.fn (F := Ideal) z ck cv w = fun _ => 1#1) :
    (∀ i, IsReal (ck i)) ∧ (∀ i, IsReal (w i)) := by
  have hand : ∀ a b : BitVec 1, IntOp.andi a b = 1#1 → a = 1#1 ∧ b = 1#1 := by decide
  haveI : Subsingleton (Cert.Pre_finite_keys.S_).Idx := ⟨fun a b => funext fun k => k.elim0⟩
  obtain ⟨ha, hb⟩ := hand _ _ (congrFun h (fun k => k.elim0))
  have ha := Host.reduce_andi_all _ _ _ _ _ ha
  have hb := Host.reduce_andi_all _ _ _ _ _ hb
  exact ⟨fun i => real_of_test (ha i), fun i => real_of_test (hb i)⟩

open Cert.GqaIdeal.Gqa Cert.GqaRefIdeal.Gqa in
/-- The latent grouped attention's output is the reference's, where the cached keys and the norm weights are finite. -/
theorem algebraic : Cert.algebraic_GqaIdeal_GqaRefIdeal_pre_finite_keys (hGqaIdeal := Cert.GqaIdeal.Gen.facts)
    (hGqaRefIdeal := Cert.GqaRefIdeal.Gen.facts) (hPre_finite_keys := preFacts) := by
  intro m g m' g' hpre hargs
  refine ⟨_, Cert.GqaIdeal.Value.run_blocks m g, ?_⟩
  refine (θ_run _ _ _).mono (fun r h c => ?_) (Cert.GqaRefIdeal.Value.run m' g')
  obtain ⟨h0, hrest⟩ := h c
  obtain ⟨e0, e1, e2, e3⟩ := hargs c
  have hw := @keys_real preFacts _ _ _ _ (hpre c)
  refine ⟨h0.trans ?_, hrest⟩
  refine Eq.trans ?_ (final m c hw.2 hw.1).symm
  refine (show _ = whole (m' ((c.tc : Thread Cert.GqaRefIdeal.nD Cert.GqaRefIdeal.τ).loc Cert.GqaRefIdeal.main_arg0))
    (m' ((c.tc : Thread Cert.GqaRefIdeal.nD Cert.GqaRefIdeal.τ).loc Cert.GqaRefIdeal.main_arg1))
    (m' ((c.tc : Thread Cert.GqaRefIdeal.nD Cert.GqaRefIdeal.τ).loc Cert.GqaRefIdeal.main_arg2))
    (m' ((c.tc : Thread Cert.GqaRefIdeal.nD Cert.GqaRefIdeal.τ).loc Cert.GqaRefIdeal.main_arg3)) from rfl).trans ?_
  rw [e0, e1, e2, e3]
  funext y
  obtain ⟨r, k, rfl⟩ : ∃ (r : Fin 8192) (k : Fin 512), y = ix2 r k := ⟨y 0, y 1, eq_ix2 y⟩
  exact whole_at _ _ _ _ r k
end Cert.GqaClaim
-- ==== Proof.NaSpec.lean ====
module
public import proofs.«01_k».proof.Proof.GqaSpec
/-! What the neighbourhood attention of the latent tokens computes, as functions of the projected tokens, the cached keys
    and values, the table of biases and the norm weights, entries read at natural numbers. -/
@[expose] public section
noncomputable section
open Idealize.ShloMosaic
namespace Cert.NaSpec
open Cert.Softmax Cert.CtxSpec Cert.GqaSpec

/-- The entry of a table at layer 0, zero outside. -/
def table {a n b s d : ℕ} (z : (⟨5, ![a, n, b, s, d]⟩ : Shape).Idx → EReal) (i h r l : ℕ) : EReal :=
  if h : 0 < a ∧ i < n ∧ h < b ∧ r < s ∧ l < d then z (ix5 ⟨0, h.1⟩ ⟨i, h.2.1⟩ ⟨_, h.2.2.1⟩ ⟨r, h.2.2.2.1⟩ ⟨l, h.2.2.2.2⟩) else 0

/-- The exponential of a score below +∞ over a finite one is a real that is not negative. -/
theorem exp_sub_nonneg {x y : EReal} (hx : x ≠ ⊤) (hy : IsReal y) : ∃ r : ℝ, 0 ≤ r ∧ Ideal.exp (x - y) = (r : EReal) := by
  by_cases h : x = ⊥
  · subst h
    obtain ⟨b, rfl⟩ := hy
    exact ⟨0, le_rfl, by rw [EReal.bot_sub]; rfl⟩
  · obtain ⟨r, hr, e⟩ := exp_sub_pos (isReal_of_ne hx h) hy
    exact ⟨r, hr.le, e⟩

/-- The largest score is finite where none is +∞ and one is finite. -/
theorem top_fin_of {n : ℕ} {s : Fin n → EReal} (h : ∀ k, s k ≠ ⊤) (k₀ : Fin n) (h₀ : IsReal (s k₀)) : IsReal (top s) := by
  unfold top
  rw [ofBits_neg_inf]
  refine isReal_of_ne (ne_of_lt ?_) (ne_of_gt ?_)
  · rw [Finset.fold_max_lt]; exact ⟨bot_lt_top, fun k _ => lt_top_iff_ne_top.mpr (h k)⟩
  · rw [Finset.lt_fold_max]; exact .inr ⟨k₀, Finset.mem_univ _, bot_lt_iff_ne_bot.mpr h₀.ne_bot⟩

/-- The division may come after the product with the values where no score is +∞ and one is finite. -/
theorem div_sum_eq_weighted_of {n : ℕ} (s v : Fin n → EReal) (h : ∀ k, s k ≠ ⊤) (k₀ : Fin n) (h₀ : IsReal (s k₀)) :
    Ideal.div (∑ k, Ideal.exp (s k - top s) * v k) (∑ j, Ideal.exp (s j - top s)) = weighted s v := by
  have ht := top_fin_of h k₀ h₀
  obtain ⟨d, hd, hD⟩ : ∃ r : ℝ, 0 < r ∧ ∑ j, Ideal.exp (s j - top s) = (r : EReal) := by
    choose g hg hf using fun k => exp_sub_nonneg (h k) ht
    refine ⟨∑ k, g k, Finset.sum_pos' (fun k _ => hg k) ⟨k₀, Finset.mem_univ _, ?_⟩, ?_⟩
    · obtain ⟨r, hr, e⟩ := exp_sub_pos h₀ ht
      have q := (hf k₀).symm.trans e
      rw [EReal.coe_eq_coe_iff] at q
      rw [q]; exact hr
    · simp only [hf]
      exact (map_sum (⟨⟨Real.toEReal, rfl⟩, EReal.coe_add⟩ : ℝ →+ EReal) g Finset.univ).symm
  unfold weighted
  rw [hD, Ideal.div_coe hd.ne', sum_mul_coe _ _ (by positivity)]
  refine Finset.sum_congr rfl fun k _ => ?_
  rw [Ideal.div_coe hd.ne', mul_right_comm]

/-- The same over two parts, each summed alone. -/
theorem two_parts_of {a b : ℕ} (s v : Fin (a + b) → EReal) (h : ∀ k, s k ≠ ⊤) (k₀ : Fin (a + b)) (h₀ : IsReal (s k₀)) (x : EReal)
    (hx : x = max (top fun k => s (Fin.castAdd b k)) (top fun k => s (Fin.natAdd a k))) :
    Ideal.div ((∑ k, Ideal.exp (s (Fin.castAdd b k) - x) * v (Fin.castAdd b k)) + ∑ k, Ideal.exp (s (Fin.natAdd a k) - x) * v (Fin.natAdd a k))
      ((∑ k, Ideal.exp (s (Fin.castAdd b k) - x)) + ∑ k, Ideal.exp (s (Fin.natAdd a k) - x)) = weighted s v := by
  rw [← div_sum_eq_weighted_of s v h k₀ h₀, Fin.sum_univ_add, Fin.sum_univ_add, top_add, hx]

variable (z : (⟨2, ![12288, 6272]⟩ : Shape).Idx → EReal) (ck cv : (⟨5, ![8, 4, 4, 256, 128]⟩ : Shape).Idx → EReal)
  (bi : (⟨5, ![4, 4, 4, 256, 768]⟩ : Shape).Idx → EReal) (w : (⟨2, ![2, 128]⟩ : Shape).Idx → EReal)

/-- The row of the projected tokens that latent token `n` of sample `b` reads as its key `k` of 768: those of the first 12
    grid rows for the upper half of the grid, of the last 12 for the lower half. -/
def near (b n k : ℕ) : ℕ := 4096 + (b * 1024 + (256 * (n / 512) + k))

/-- The score of latent token `n` of sample `b` in head `h` against a cached key. -/
def ctx (b h n k : ℕ) : EReal :=
  (∑ d : Fin 128, nrow z w 0 (4096 + (b * 1024 + n)) (128 * h) d * cache ck b h k d) * Ideal.ofBits .f32 0x3DB504F3#32
/-- The score against a latent key, with its bias. -/
def loc (b h n k : ℕ) : EReal :=
  (∑ d : Fin 128, nrow z w 0 (4096 + (b * 1024 + n)) (128 * h) d * nrow z w 1 (near b n k) (512 + 128 * h) d) * Ideal.ofBits .f32 0x3DB504F3#32
    + table bi h (n / 256) (n % 256) k
/-- The scores: the 256 cached keys, then the 768 latent ones. -/
def nscore (b h n k : ℕ) : EReal := if k < 256 then ctx z ck w b h n k else loc z bi w b h n (k - 256)
/-- The values. -/
def nval (b h n k l : ℕ) : EReal :=
  if k < 256 then cache cv b h k l else at2 z (near b n (k - 256)) (1024 + 128 * h + l)

/-- The attention of latent token `n` of sample `b` in head `h`, column `l`. -/
def na (b h n l : ℕ) : EReal := weighted (fun k : Fin 1024 => nscore z ck bi w b h n k) (fun k => nval z cv b h n k l)

theorem nscore_ctx (b h n : ℕ) (k : Fin 256) : nscore z ck bi w b h n (Fin.castAdd 768 k : Fin 1024) = ctx z ck w b h n k := by
  unfold nscore; simp only [Fin.val_castAdd, k.2, if_true]
theorem nscore_loc (b h n : ℕ) (k : Fin 768) : nscore z ck bi w b h n (Fin.natAdd 256 k : Fin 1024) = loc z bi w b h n k := by
  unfold nscore
  simp only [Fin.val_natAdd, Nat.add_sub_cancel_left, Nat.not_lt.mpr (Nat.le_add_right 256 _), if_false]
theorem nval_ctx (b h n l : ℕ) (k : Fin 256) : nval z cv b h n (Fin.castAdd 768 k : Fin 1024) l = cache cv b h k l := by
  unfold nval; simp only [Fin.val_castAdd, k.2, if_true]
theorem nval_loc (b h n l : ℕ) (k : Fin 768) :
    nval z cv b h n (Fin.natAdd 256 k : Fin 1024) l = at2 z (near b n k) (1024 + 128 * h + l) := by
  unfold nval
  simp only [Fin.val_natAdd, Nat.add_sub_cancel_left, Nat.not_lt.mpr (Nat.le_add_right 256 _), if_false]

variable {z ck bi w} (hw : ∀ i, IsReal (w i)) (hck : ∀ i, IsReal (ck i)) (hb : ∀ i, bi i ≠ ⊤)
include hw

theorem nrow_real (j r c : ℕ) (l : Fin 128) : IsReal (nrow z w j r c l) := (rms_fin _ _).mul (at2_real hw _ _)

include hck in
theorem ctx_real (b h n k : ℕ) : IsReal (ctx z ck w b h n k) := by
  obtain ⟨s, hs⟩ := ofBits_scale
  refine IsReal.mul (IsReal.sum _ fun d => (nrow_real hw _ _ _ _).mul ?_) ⟨s, hs⟩
  unfold cache; split
  · exact hck _
  · exact ⟨0, rfl⟩

include hb in
theorem loc_ne_top (b h n k : ℕ) : loc z bi w b h n k ≠ ⊤ := by
  obtain ⟨s, hs⟩ := ofBits_scale
  unfold loc
  obtain ⟨r, hr⟩ := IsReal.mul (IsReal.sum Finset.univ fun d =>
    (nrow_real (z := z) hw 0 (4096 + (b * 1024 + n)) (128 * h) d).mul (nrow_real (z := z) hw 1 (near b n k) (512 + 128 * h) d)) ⟨s, hs⟩
  rw [hr]
  have t : table bi h (n / 256) (n % 256) k ≠ ⊤ := by
    unfold table; split
    · exact hb _
    · exact EReal.zero_ne_top
  generalize table bi h (n / 256) (n % 256) k = x at t
  induction x with
  | bot => simp
  | top => exact absurd rfl t
  | coe a => rw [← EReal.coe_add]; exact EReal.coe_ne_top _

include hck hb
theorem nscore_ne_top (b h n k : ℕ) : nscore z ck bi w b h n k ≠ ⊤ := by
  unfold nscore; split
  · exact (ctx_real hw hck _ _ _ _).ne_top
  · exact loc_ne_top hw hb _ _ _ _

end Cert.NaSpec
-- ==== Proof.Na.lean ====
module
public import proofs.«01_k».proof.Proof.Gen.NaIdeal.Value
public import Idealize.ShloMosaic.Lib.Pipeline.ValueKit
public import Idealize.ShloMosaic.Lib.Pointwise
public import proofs.«01_k».proof.Proof.NaSpec
public import Idealize.ShloMosaic.Lib.KernelVsHost
/-! The neighbourhood attention kernel's output. -/
@[expose] public section
set_option maxRecDepth 16384
noncomputable section
open Idealize.ShloMosaic Idealize.ShloMosaic.TcCoe Idealize.SL.Sem
open Idealize.ShloMosaic.Pipeline (Dat)
namespace Cert.NaIdeal.Na
open Cert.NaIdeal Cert.NaIdeal.Gen Cert.Softmax Cert.CtxSpec Cert.GqaSpec Cert.NaSpec

theorem pay1_at (x : FVec Ideal S1024x128 .f32) (w : FVec Ideal S1x128 .f32) (i : Fin 1024) (l : Fin 128) :
    k0_pay1 (F := Ideal) x w (ix2 i l) = rms (fun d => x (ix2 i d)) l * w (ix2 0 l) := by
  pointwise [k0_pay1]; rfl
theorem pay2_at (x : FVec Ideal S1024x128 .f32) (i : Fin 1024) (l : Fin 128) : k0_pay2 (F := Ideal) x (ix2 i l) = x (ix2 i l) := by
  pointwise [k0_pay2]
theorem pay3_at (x : FVec Ideal S256x128 .f32) (w : FVec Ideal S1x128 .f32) (i : Fin 256) (l : Fin 128) :
    k0_pay3 (F := Ideal) x w (ix2 i l) = rms (fun d => x (ix2 i d)) l * w (ix2 0 l) := by
  pointwise [k0_pay3]; rfl
theorem pay4_at (x : FVec Ideal S256x128 .f32) (w : FVec Ideal S1x128 .f32) (ck : FVec Ideal S1x1x1x256x128 .f32) (i s : Fin 256) :
    k0_pay4 (F := Ideal) x w ck (ix2 i s) = (∑ d, k0_pay3 (F := Ideal) x w (ix2 i d) * ck (ix5 0 0 0 s d)) * Ideal.ofBits .f32 0x3DB504F3#32 := by
  pointwise [k0_pay4]

/-- The kernel's score of a query row against a latent key. -/
def near768 (q : FVec Ideal S256x128 .bf16) (k : FVec Ideal S768x128 .bf16) (bi : FVec Ideal S1x1x1x256x768 .f32) (i : Fin 256) (s : Fin 768) : EReal :=
  (∑ d, q (ix2 i d) * k (ix2 s d)) * Ideal.ofBits .f32 0x3DB504F3#32 + bi (ix5 0 0 0 i s)

theorem pay5_at (q : FVec Ideal S256x128 .bf16) (sc : FVec Ideal S256x256 .f32) (k : FVec Ideal S768x128 .bf16) (bi : FVec Ideal S1x1x1x256x768 .f32)
    (cv : FVec Ideal S1x1x1x256x128 .f32) (v : FVec Ideal S768x128 .bf16) (i : Fin 256) (l : Fin 128) :
    k0_pay5 (F := Ideal) q sc k bi cv v (ix2 i l) =
      Ideal.div ((∑ s, Ideal.exp (sc (ix2 i s) - max (top fun s => sc (ix2 i s)) (top fun s => near768 q k bi i s)) * cv (ix5 0 0 0 s l))
          + ∑ s, Ideal.exp (near768 q k bi i s - max (top fun s => sc (ix2 i s)) (top fun s => near768 q k bi i s)) * v (ix2 s l))
        ((∑ s, Ideal.exp (sc (ix2 i s) - max (top fun s => sc (ix2 i s)) (top fun s => near768 q k bi i s)))
          + ∑ s, Ideal.exp (near768 q k bi i s - max (top fun s => sc (ix2 i s)) (top fun s => near768 q k bi i s))) := by
  pointwise [k0_pay5]; rfl

/-- One block's stored attention, from what its operands hold. -/
theorem head_at {Z : FVec Ideal S12288x6272 .f32} {CK CV : FVec Ideal S8x4x4x256x128 .f32} {B : FVec Ideal S4x4x4x256x768 .f32}
    {W : FVec Ideal S2x128 .f32} (hW : ∀ i, IsReal (W i)) (hC : ∀ i, IsReal (CK i)) (hB : ∀ i, B i ≠ ⊤) {b h n : ℕ} {i : Fin 256} {l : Fin 128}
    {q : FVec Ideal S256x128 .f32} {wq : FVec Ideal S1x128 .f32} {ck cv : FVec Ideal S1x1x1x256x128 .f32}
    {k v : FVec Ideal S768x128 .bf16} {bi : FVec Ideal S1x1x1x256x768 .f32}
    (hq : ∀ d : Fin 128, q (ix2 i d) = at2 Z (4096 + (b * 1024 + n)) (128 * h + d))
    (hwq : ∀ d : Fin 128, wq (ix2 0 d) = at2 W 0 d)
    (hck : ∀ (s : Fin 256) (d : Fin 128), ck (ix5 0 0 0 s d) = cache CK b h s d)
    (hcv : ∀ (s : Fin 256), cv (ix5 0 0 0 s l) = cache CV b h s l)
    (hk : ∀ (s : Fin 768) (d : Fin 128), k (ix2 s d) = nrow Z W 1 (near b n s) (512 + 128 * h) d)
    (hv : ∀ s : Fin 768, v (ix2 s l) = at2 Z (near b n s) (1024 + 128 * h + l))
    (hbi : ∀ s : Fin 768, bi (ix5 0 0 0 i s) = table B h (n / 256) (n % 256) s) :
    k0_pay5 (F := Ideal) (k0_pay3 q wq) (k0_pay4 q wq ck) k bi cv v (ix2 i l) = na Z CK CV B W b h n l := by
  have hr : ∀ d : Fin 128, k0_pay3 (F := Ideal) q wq (ix2 i d) = nrow Z W 0 (4096 + (b * 1024 + n)) (128 * h) d := by
    intro d
    rw [pay3_at]
    simp only [hq, hwq]; rfl
  have sc : ∀ s : Fin 256, k0_pay4 (F := Ideal) q wq ck (ix2 i s) = nscore Z CK B W b h n (Fin.castAdd 768 s : Fin 1024) := by
    intro s
    rw [pay4_at, nscore_ctx]
    simp only [hr, hck]; rfl
  have sl : ∀ s : Fin 768, near768 (k0_pay3 (F := Ideal) q wq) k bi i s = nscore Z CK B W b h n (Fin.natAdd 256 s : Fin 1024) := by
    intro s
    unfold near768
    rw [nscore_loc]
    simp only [hr, hk, hbi]; rfl
  rw [pay5_at]
  simp only [sc, sl, hcv, hv]
  refine Eq.trans ?_ (two_parts_of (a := 256) (b := 768) (fun s => nscore Z CK B W b h n s) (fun s => nval Z CV b h n s l)
    (fun s => nscore_ne_top hW hC hB _ _ _ _) ⟨0, by norm_num⟩ ?_ _ rfl)
  · simp only [nval_ctx, nval_loc]
  · exact ctx_real hW hC _ _ _ _

variable (m : (ℓ : Loc nD τ sig) → Buf (Elt Ideal) ℓ)

theorem idx : ∀ t : Fin cfg0.N, win0_0.index t = ![16 + (t.val / 16 * 4 + t.val % 4), t.val / 4 % 4]
    ∧ win0_1.index t = ![4 + t.val / 16, 4 + t.val / 4 % 4] ∧ win0_2.index t = ![4 + t.val / 16, 8 + t.val / 4 % 4]
    ∧ win0_3.index t = ![t.val / 16, 0, t.val / 4 % 4, 0, 0] ∧ win0_4.index t = ![t.val / 16, 0, t.val / 4 % 4, 0, 0]
    ∧ win0_5.index t = ![0, t.val / 4 % 4, t.val % 4, 0, 0] ∧ win0_6.index t = ![0, 0]
    ∧ win0_7.index t = ![t.val / 16 * 4 + t.val % 4, t.val / 4 % 4] :=
  (by decide +kernel : ∀ t : Fin grid0.N, _)
/-- The first latent key of a block. -/
theorem off : ∀ t : Fin cfg0.N, k0_off1 (grid0.coords t) = ![256 * (t.val % 4 / 2), 0] :=
  (by decide +kernel : ∀ t : Fin grid0.N, _)

variable (c : Dev nD) (t : Fin cfg0.N)
abbrev Z : FVec Ideal S12288x6272 .f32 := m ((c : Thread nD τ).loc main_arg0)
abbrev CK : FVec Ideal S8x4x4x256x128 .f32 := m ((c : Thread nD τ).loc main_arg1)
abbrev CV : FVec Ideal S8x4x4x256x128 .f32 := m ((c : Thread nD τ).loc main_arg2)
abbrev B : FVec Ideal S4x4x4x256x768 .f32 := m ((c : Thread nD τ).loc main_arg3)
abbrev W : FVec Ideal S2x128 .f32 := m ((c : Thread nD τ).loc main_arg4)

theorem blk0 (i : Fin 256) (d : Fin 128) : iblk m c 0 t (ix2 i d) = at2 (Z m c) ((16 + (t.val / 16 * 4 + t.val % 4)) * 256 + i) (t.val / 4 % 4 * 128 + d) := by
  blk_point [iblk, V, idx t]
  all_goals exfalso; omega
theorem blk1 (i : Fin 1024) (d : Fin 128) : iblk m c 1 t (ix2 i d) = at2 (Z m c) ((4 + t.val / 16) * 1024 + i) ((4 + t.val / 4 % 4) * 128 + d) := by
  blk_point [iblk, V, idx t]
  all_goals exfalso; omega
theorem blk2 (i : Fin 1024) (d : Fin 128) : iblk m c 2 t (ix2 i d) = at2 (Z m c) ((4 + t.val / 16) * 1024 + i) ((8 + t.val / 4 % 4) * 128 + d) := by
  blk_point [iblk, V, idx t]
  all_goals exfalso; omega
theorem blk3 (i : Fin 256) (d : Fin 128) : iblk m c 3 t (ix5 0 0 0 i d) = cache (CK m c) (t.val / 16) (t.val / 4 % 4) i d := by
  blk_point [iblk, V, idx t, cache]
  all_goals exfalso; omega
theorem blk4 (i : Fin 256) (d : Fin 128) : iblk m c 4 t (ix5 0 0 0 i d) = cache (CV m c) (t.val / 16) (t.val / 4 % 4) i d := by
  blk_point [iblk, V, idx t, cache]
  all_goals exfalso; omega
theorem blk5 (i : Fin 256) (s : Fin 768) : iblk m c 5 t (ix5 0 0 0 i s) = table (B m c) (t.val / 4 % 4) (t.val % 4) i s := by
  blk_point [iblk, V, idx t, table]
  all_goals exfalso; omega
theorem ldw {j : ℕ} (hj : j < 2) (h) (d : Fin 128) :
    View.ld (iblk m c 6 t) (Rect.unit ![j, 0] ![1, 128] h) (ix2 0 d) = at2 (W m c) j d := by
  blk_point [iblk, V, idx t]
  all_goals exfalso; omega

/-- The normalised keys the kernel keeps. -/
abbrev Keys (n : ℕ) : FVec Ideal S1024x128 .bf16 :=
  fun y => nrow (Z m c) (W m c) 1 (4096 + (n / 16 * 1024 + y 0)) (512 + 128 * (n / 4 % 4)) (y 1)
/-- The values the kernel keeps. -/
abbrev Vals (n : ℕ) : FVec Ideal S1024x128 .bf16 :=
  fun y => at2 (Z m c) (4096 + (n / 16 * 1024 + y 0)) (1024 + 128 * (n / 4 % 4) + y 1)

theorem keys_eq : k0_pay1 (F := Ideal) (iblk m c 1 t) (View.ld (iblk m c 6 t) (Rect.unit ![1, 0] ![1, 128] inb_S2x128_S1x128_1_0)) = Keys m c t.val := by
  funext y
  obtain ⟨i, d, rfl⟩ : ∃ (i : Fin 1024) (d : Fin 128), y = ix2 i d := ⟨y 0, y 1, eq_ix2 y⟩
  refine (pay1_at _ _ i d).trans ?_
  have e1 : (4 + t.val / 16) * 1024 + (i : ℕ) = 4096 + (t.val / 16 * 1024 + i) := by omega
  have e2 : (4 + t.val / 4 % 4) * 128 = 512 + 128 * (t.val / 4 % 4) := by omega
  simp only [blk1, ldw m c t (by norm_num : 1 < 2), e1, e2]
  rfl
theorem vals_eq : k0_pay2 (F := Ideal) (iblk m c 2 t) = Vals m c t.val := by
  funext y
  obtain ⟨i, d, rfl⟩ : ∃ (i : Fin 1024) (d : Fin 128), y = ix2 i d := ⟨y 0, y 1, eq_ix2 y⟩
  refine (pay2_at _ i d).trans ?_
  have e1 : (4 + t.val / 16) * 1024 + (i : ℕ) = 4096 + (t.val / 16 * 1024 + i) := by omega
  have e2 : (8 + t.val / 4 % 4) * 128 = 1024 + 128 * (t.val / 4 % 4) := by omega
  rw [blk2, e1, e2]
  rfl

theorem kA (h0 : t.val % 4 = 0) : (outsAt0 m c t.val t.isLt).2.1 = Keys m c t.val := by
  rw [outsAt0_A m c t h0]
  frame_out
  exact keys_eq m c t
theorem vA (h0 : t.val % 4 = 0) : (outsAt0 m c t.val t.isLt).2.2 = Vals m c t.val := by
  rw [outsAt0_A m c t h0]
  frame_out
  exact vals_eq m c t
theorem kB (h0 : ¬ t.val % 4 = 0) : (outsAt0 m c t.val t.isLt).2.1 = (outsAt0 m c (t.val - 1) (by omega)).2.1 := by
  rw [outsAt0_B m c t h0]
  rfl
theorem vB (h0 : ¬ t.val % 4 = 0) : (outsAt0 m c t.val t.isLt).2.2 = (outsAt0 m c (t.val - 1) (by omega)).2.2 := by
  rw [outsAt0_B m c t h0]
  rfl
/-- What the kernel keeps, at every grid point. -/
theorem kept_at : ∀ (n : ℕ) (h : n < cfg0.N), (outsAt0 m c n h).2.1 = Keys m c n ∧ (outsAt0 m c n h).2.2 = Vals m c n := by
  intro n
  induction n with
  | zero => intro h; exact ⟨kA m c ⟨0, h⟩ rfl, vA m c ⟨0, h⟩ rfl⟩
  | succ n ih =>
    intro h
    by_cases h0 : (n + 1) % 4 = 0
    · exact ⟨kA m c ⟨n + 1, h⟩ h0, vA m c ⟨n + 1, h⟩ h0⟩
    · have q8 : (n + 1) / 16 = n / 16 := by omega
      have q4 : (n + 1) / 4 % 4 = n / 4 % 4 := by omega
      have q : Keys m c (n + 1) = Keys m c n := by unfold Keys; rw [q8, q4]
      have q' : Vals m c (n + 1) = Vals m c n := by unfold Vals; rw [q8, q4]
      rw [q, q']
      exact ⟨(kB m c ⟨n + 1, h⟩ h0).trans (ih _).1, (vB m c ⟨n + 1, h⟩ h0).trans (ih _).2⟩
theorem prev (h0 : ¬ t.val % 4 = 0) : (outsAt0 m c (t.val - 1) (by omega)).2.1 = Keys m c t.val ∧
    (outsAt0 m c (t.val - 1) (by omega)).2.2 = Vals m c t.val := by
  have k := kept_at m c (t.val - 1) (by omega)
  have q8 : (t.val - 1) / 16 = t.val / 16 := by omega
  have q4 : (t.val - 1) / 4 % 4 = t.val / 4 % 4 := by omega
  refine ⟨k.1.trans ?_, k.2.trans ?_⟩
  · unfold Keys; rw [q8, q4]
  · unfold Vals; rw [q8, q4]

theorem near_eq (s : Fin 768) (i : Fin 256) :
    4096 + (t.val / 16 * 1024 + (256 * (t.val % 4 / 2) + s)) = near (t.val / 16) (t.val % 4 * 256 + i) s := by
  unfold near; omega

variable (hW : ∀ i, IsReal (W m c i)) (hC : ∀ i, IsReal (CK m c i)) (hB : ∀ i, B m c i ≠ ⊤)
include hW hC hB in
theorem head_pt (h1) (h2 h3 : ∀ a, k0_off1 (grid0.coords t) a + S768x128.size a ≤ S1024x128.size a) {kr vb : FVec Ideal S1024x128 .bf16}
    (hk : kr = Keys m c t.val) (hv : vb = Vals m c t.val) (i : Fin 256) (l : Fin 128) :
    k0_pay5 (F := Ideal) (k0_pay3 (iblk m c 0 t) (View.ld (iblk m c 6 t) (Rect.unit ![0, 0] ![1, 128] h1)))
        (k0_pay4 (iblk m c 0 t) (View.ld (iblk m c 6 t) (Rect.unit ![0, 0] ![1, 128] h1)) (iblk m c 3 t))
        (View.ld kr (Rect.unit (s := S1024x128) (k0_off1 (grid0.coords t)) S768x128.size h2)) (iblk m c 5 t) (iblk m c 4 t)
        (View.ld vb (Rect.unit (s := S1024x128) (k0_off1 (grid0.coords t)) S768x128.size h3)) (ix2 i l)
      = na (Z m c) (CK m c) (CV m c) (B m c) (W m c) (t.val / 16) (t.val / 4 % 4) (t.val % 4 * 256 + i) l := by
  subst hk hv
  have e0 : ∀ (s : Fin 768) (d : Fin 128) (h), ((Rect.unit (s := S1024x128) (k0_off1 (grid0.coords t)) S768x128.size h).idx (ix2 s d) 0 : ℕ) = 256 * (t.val % 4 / 2) + s := by
    intro s d h; rw [Rect.idx_unit_val]; exact congrArg (· + (s : ℕ)) (congrFun (off t) 0)
  have e1 : ∀ (s : Fin 768) (d : Fin 128) (h), (Rect.unit (s := S1024x128) (k0_off1 (grid0.coords t)) S768x128.size h).idx (ix2 s d) 1 = d := by
    intro s d h; refine Fin.ext ?_; rw [Rect.idx_unit_val]; exact (congrArg (· + (d : ℕ)) (congrFun (off t) 1)).trans (Nat.zero_add _)
  refine head_at hW hC hB (fun d => ?_) (ldw m c t (by norm_num) _) (blk3 m c t) (fun s => blk4 m c t s l) (fun s d => ?_) (fun s => ?_) (fun s => ?_)
  · rw [blk0]; congr 1 <;> omega
  · rw [View.ld_apply]; unfold Keys; rw [e0, e1, near_eq t s i]
  · rw [View.ld_apply]; unfold Vals; rw [e0, e1, near_eq t s i]
  · rw [blk5]; congr 1 <;> omega

include hW hC hB in
/-- The kernel's output array. -/
theorem final : (dats m 0 c).arrAt 7 cfg0.N = fun y : S8192x512.Idx =>
    na (Z m c) (CK m c) (CV m c) (B m c) (W m c) (y 0 / 1024) (y 1 / 128) (y 0 % 1024) (y 1 % 128) := by
  refine (dats m 0 c).arrAt_eq_of_covers 7 _ (by decide +kernel) fun t _ y => ?_
  obtain ⟨-, -, -, -, -, -, -, e⟩ := idx t
  blk_simp
  rw [after0_7]
  idx_vars y
  by_cases hA : t.val % 4 = 0
  · rw [outsAt0_A m c t hA]
    frame_out
    refine Eq.trans (head_pt m c t hW hC hB _ _ _ (keys_eq m c t) (vals_eq m c t) y0 y1) ?_
    simp only [e]
    congr 1 <;> simp <;> omega
  · have hB' := hA
    rw [outsAt0_B m c t hB']
    frame_out
    refine Eq.trans (head_pt m c t hW hC hB _ _ _ ((Memref.IsWhole.read_unread _ _).trans (prev m c t hB').1) ((Memref.IsWhole.read_unread _ _).trans (prev m c t hB').2) y0 y1) ?_
    simp only [e]
    congr 1 <;> simp <;> omega
end Cert.NaIdeal.Na
-- ==== Proof.NaRef.lean ====
module
public import proofs.«01_k».proof.Proof.Gen.NaRefIdeal.Run
public import proofs.«01_k».proof.Proof.NaSpec
public import Idealize.ShloMosaic.Lib.Pointwise
/-! The neighbourhood attention reference's result, read at an index. -/
@[expose] public section
set_option maxRecDepth 16384
noncomputable section
open Idealize.ShloMosaic Idealize.ShloMosaic.TcCoe Idealize.SL.Sem
namespace Cert.NaRefIdeal.Na
open Cert.NaRefIdeal Cert.NaRefIdeal.Gen Cert.Softmax Cert.CtxSpec Cert.GqaSpec Cert.NaSpec

/-- The latent tokens, by sample. -/
abbrev tokens (z : FVec Ideal S12288x6272 .f32) : FVec Ideal S8x1024x6272 .f32 :=
  shapeCast _ (extractStridedSlice S8192x6272 ![4096, 0] z slices_S12288x6272_S8192x6272_4096_0) shapeCasts_S8192x6272_S8x1024x6272
def qh (z : FVec Ideal S12288x6272 .f32) : FVec Ideal S8x4x1024x128 .f32 :=
  transpose S8x4x1024x128 [0, 2, 1, 3] (shapeCast _ (extractStridedSlice S8x1024x512 ![0, 0, 0] (tokens z) slices_S8x1024x6272_S8x1024x512_0_0_0) shapeCasts_S8x1024x512_S8x1024x4x128) transposes_S8x1024x4x128_S8x4x1024x128_0_2_1_3
def kh (z : FVec Ideal S12288x6272 .f32) : FVec Ideal S8x4x1024x128 .f32 :=
  transpose S8x4x1024x128 [0, 2, 1, 3] (shapeCast _ (extractStridedSlice S8x1024x512 ![0, 0, 512] (tokens z) slices_S8x1024x6272_S8x1024x512_0_0_512) shapeCasts_S8x1024x512_S8x1024x4x128) transposes_S8x1024x4x128_S8x4x1024x128_0_2_1_3
def vh (z : FVec Ideal S12288x6272 .f32) : FVec Ideal S8x4x1024x128 .f32 :=
  transpose S8x4x1024x128 [0, 2, 1, 3] (shapeCast _ (extractStridedSlice S8x1024x512 ![0, 0, 1024] (tokens z) slices_S8x1024x6272_S8x1024x512_0_0_1024) shapeCasts_S8x1024x512_S8x1024x4x128) transposes_S8x1024x4x128_S8x4x1024x128_0_2_1_3
def w0 (w : FVec Ideal S2x128 .f32) : FVec Ideal S128 .f32 :=
  shapeCast _ (extractStridedSlice S1x128 ![0, 0] w slices_S2x128_S1x128_0_0) shapeCasts_S1x128_S128
def w1 (w : FVec Ideal S2x128 .f32) : FVec Ideal S128 .f32 :=
  shapeCast _ (extractStridedSlice S1x128 ![1, 0] w slices_S2x128_S1x128_1_0) shapeCasts_S1x128_S128
def norm4 (x : FVec Ideal S8x4x1024x128 .f32) (w : FVec Ideal S128 .f32) : FVec Ideal S8x4x1024x128 .f32 :=
  mulf (mulf x (broadcastInDim S8x4x1024x128 ![0, 1, 2, 3] bcast_S8x4x1024x1_S8x4x1024x128_0_1_2_3 (Host.rsqrt (addf (Host.divf (broadcastInDim S8x4x1024x1 ![0, 1, 2] bcast_S8x4x1024_S8x4x1024x1_0_1_2 (Host.reduceAdd (mulf x x) (constant S_ .f32 0x00000000#32) reducesTo_S8x4x1024x128_S8x4x1024_d3 h_S_)) (broadcastInDim S8x4x1024x1 ![] bcast_S_S8x4x1024x1 (constant S_ .f32 0x43000000#32))) (broadcastInDim S8x4x1024x1 ![] bcast_S_S8x4x1024x1 (constant S_ .f32 0x358637BD#32)))))) (broadcastInDim S8x4x1024x128 ![0, 1, 2, 3] bcast_S1x1x1x128_S8x4x1024x128_0_1_2_3 (broadcastInDim S1x1x1x128 ![3] bcast_S128_S1x1x1x128_3 w))
/-- The 768 tokens of each half of the grid. -/
def halves (x : FVec Ideal S8x4x1024x128 .f32) : FVec Ideal S8x4x2x768x128 .f32 :=
  concatenate S8x4x2x768x128 2 [⟨S8x4x1x768x128, (broadcastInDim S8x4x1x768x128 ![0, 1, 3, 4] bcast_S8x4x768x128_S8x4x1x768x128_0_1_3_4 (extractStridedSlice S8x4x768x128 ![0, 0, 0, 0] x slices_S8x4x1024x128_S8x4x768x128_0_0_0_0))⟩, ⟨S8x4x1x768x128, (broadcastInDim S8x4x1x768x128 ![0, 1, 3, 4] bcast_S8x4x768x128_S8x4x1x768x128_0_1_3_4 (extractStridedSlice S8x4x768x128 ![0, 0, 256, 0] x slices_S8x4x1024x128_S8x4x768x128_0_0_256_0))⟩] concatenates_S8x4x1x768x128_S8x4x1x768x128_S8x4x2x768x128_d2
def cached (c : FVec Ideal S8x4x4x256x128 .f32) : FVec Ideal S8x4x256x128 .f32 :=
  shapeCast _ (extractStridedSlice S8x1x4x256x128 ![0, 0, 0, 0, 0] c slices_S8x4x4x256x128_S8x1x4x256x128_0_0_0_0_0) shapeCasts_S8x1x4x256x128_S8x4x256x128
def q5 (q : FVec Ideal S8x4x1024x128 .f32) : FVec Ideal S8x4x2x512x128 .f32 := shapeCast _ q shapeCasts_S8x4x1024x128_S8x4x2x512x128
def biases (b : FVec Ideal S4x4x4x256x768 .f32) : FVec Ideal S8x4x2x512x768 .f32 :=
  broadcastInDim S8x4x2x512x768 ![0, 1, 2, 3, 4] bcast_S1x4x2x512x768_S8x4x2x512x768_0_1_2_3_4 (broadcastInDim S1x4x2x512x768 ![1, 2, 3, 4] bcast_S4x2x512x768_S1x4x2x512x768_1_2_3_4 (shapeCast _ (shapeCast _ (extractStridedSlice S1x4x4x256x768 ![0, 0, 0, 0, 0] b slices_S4x4x4x256x768_S1x4x4x256x768_0_0_0_0_0) shapeCasts_S1x4x4x256x768_S4x4x256x768 : FVec Ideal S4x4x256x768 .f32) shapeCasts_S4x4x256x768_S4x2x512x768))
def locs (q : FVec Ideal S8x4x2x512x128 .f32) (k : FVec Ideal S8x4x2x768x128 .f32) (b : FVec Ideal S8x4x2x512x768 .f32) : FVec Ideal S8x4x2x512x768 .f32 :=
  addf (mulf (Host.dotGeneral dot_S8x4x2x512x128_S8x4x2x768x128_S8x4x2x512x768_4_4_3_3_012_012 none q k) (broadcastInDim S8x4x2x512x768 ![] bcast_S_S8x4x2x512x768 (constant S_ .f32 0x3DB504F3#32))) b
def ctxs (q : FVec Ideal S8x4x2x512x128 .f32) (k : FVec Ideal S8x4x256x128 .f32) : FVec Ideal S8x4x2x512x256 .f32 :=
  mulf (Host.dotGeneral dot_S8x4x2x512x128_S8x4x256x128_S8x4x2x512x256_4_3_23_2_01_01 none q k) (broadcastInDim S8x4x2x512x256 ![] bcast_S_S8x4x2x512x256 (constant S_ .f32 0x3DB504F3#32))
def scores (x : FVec Ideal S8x4x2x512x256 .f32) (y : FVec Ideal S8x4x2x512x768 .f32) : FVec Ideal S8x4x2x512x1024 .f32 :=
  concatenate S8x4x2x512x1024 4 [⟨S8x4x2x512x256, x⟩, ⟨S8x4x2x512x768, y⟩] concatenates_S8x4x2x512x256_S8x4x2x512x768_S8x4x2x512x1024_d4
def rowMax (s : FVec Ideal S8x4x2x512x1024 .f32) : FVec Ideal S8x4x2x512 .f32 :=
  Host.reduce FloatOps.maximumf s (constant S_ .f32 0xFF800000#32) reducesTo_S8x4x2x512x1024_S8x4x2x512_d4 h_S_
def shifted (s : FVec Ideal S8x4x2x512x1024 .f32) (mx : FVec Ideal S8x4x2x512 .f32) : FVec Ideal S8x4x2x512x1024 .f32 :=
  Host.exp (subf s (broadcastInDim S8x4x2x512x1024 ![0, 1, 2, 3, 4] bcast_S8x4x2x512x1_S8x4x2x512x1024_0_1_2_3_4 (broadcastInDim S8x4x2x512x1 ![0, 1, 2, 3] bcast_S8x4x2x512_S8x4x2x512x1_0_1_2_3 (maximumf (broadcastInDim S8x4x2x512 ![] bcast_S_S8x4x2x512 (constant S_ .f32 0xFF800000#32)) mx))))
def probs (e : FVec Ideal S8x4x2x512x1024 .f32) : FVec Ideal S8x4x2x512x1024 .f32 :=
  Host.divf e (broadcastInDim S8x4x2x512x1024 ![0, 1, 2, 3, 4] bcast_S8x4x2x512x1_S8x4x2x512x1024_0_1_2_3_4 (broadcastInDim S8x4x2x512x1 ![0, 1, 2, 3] bcast_S8x4x2x512_S8x4x2x512x1_0_1_2_3 (Host.reduceAdd e (constant S_ .f32 0x00000000#32) reducesTo_S8x4x2x512x1024_S8x4x2x512_d4 h_S_)))
def mixed (p : FVec Ideal S8x4x2x512x1024 .f32) (c : FVec Ideal S8x4x256x128 .f32) (v : FVec Ideal S8x4x2x768x128 .f32) : FVec Ideal S8x4x2x512x128 .f32 :=
  addf (Host.dotGeneral dot_S8x4x2x512x256_S8x4x256x128_S8x4x2x512x128_4_2_23_3_01_01 none (extractStridedSlice S8x4x2x512x256 ![0, 0, 0, 0, 0] p slices_S8x4x2x512x1024_S8x4x2x512x256_0_0_0_0_0) c) (Host.dotGeneral dot_S8x4x2x512x768_S8x4x2x768x128_S8x4x2x512x128_4_3_3_4_012_012 none (extractStridedSlice S8x4x2x512x768 ![0, 0, 0, 0, 256] p slices_S8x4x2x512x1024_S8x4x2x512x768_0_0_0_0_256) v)
def rows (x : FVec Ideal S8x4x2x512x128 .f32) : FVec Ideal S8192x512 .bf16 :=
  truncf .bf16 (shapeCast _ (transpose S8x1024x4x128 [0, 2, 1, 3] (shapeCast _ x shapeCasts_S8x4x2x512x128_S8x4x1024x128) transposes_S8x4x1024x128_S8x1024x4x128_0_2_1_3) shapeCasts_S8x1024x4x128_S8192x512) bitsLt_bf16_f32

theorem qh_at (z : FVec Ideal S12288x6272 .f32) (b : Fin 8) (h : Fin 4) (t : Fin 1024) (l : Fin 128) :
    qh z (ix4 b h t l) = at2 z (4096 + (b * 1024 + t)) (128 * h + l) := by
  pointwise [qh]; rw [at2_eq z]; congr 1; simp; omega
theorem kh_at (z : FVec Ideal S12288x6272 .f32) (b : Fin 8) (h : Fin 4) (t : Fin 1024) (l : Fin 128) :
    kh z (ix4 b h t l) = at2 z (4096 + (b * 1024 + t)) (512 + 128 * h + l) := by
  pointwise [kh]; rw [at2_eq z]; congr 1; simp; omega
theorem vh_at (z : FVec Ideal S12288x6272 .f32) (b : Fin 8) (h : Fin 4) (t : Fin 1024) (l : Fin 128) :
    vh z (ix4 b h t l) = at2 z (4096 + (b * 1024 + t)) (1024 + 128 * h + l) := by
  pointwise [vh]; rw [at2_eq z]; congr 1; simp; omega
theorem w0_at (w : FVec Ideal S2x128 .f32) (l : Fin 128) : w0 w (ix1 l) = at2 w 0 l := by
  pointwise [w0]; rw [at2_eq w]; rfl
theorem w1_at (w : FVec Ideal S2x128 .f32) (l : Fin 128) : w1 w (ix1 l) = at2 w 1 l := by
  pointwise [w1]; rw [at2_eq w]; rfl
theorem norm4_at (x : FVec Ideal S8x4x1024x128 .f32) (w : FVec Ideal S128 .f32) (b : Fin 8) (h : Fin 4) (t : Fin 1024) (l : Fin 128) :
    norm4 x w (ix4 b h t l) = rms (fun d => x (ix4 b h t d)) l * w (ix1 l) := by
  pointwise [norm4]; rfl
theorem halves_at (x : FVec Ideal S8x4x1024x128 .f32) (b : Fin 8) (h : Fin 4) (a : Fin 2) (k : Fin 768) (l : Fin 128) :
    halves x (ix5 b h a k l) = x (ix4 b h ⟨256 * a + k, by omega⟩ l) := by
  obtain ⟨a, ha⟩ := a
  have : a = 0 ∨ a = 1 := by omega
  rcases this with rfl | rfl
  · pointwise [halves]
  · pointwise [halves]
theorem cached_at (c : FVec Ideal S8x4x4x256x128 .f32) (b : Fin 8) (h : Fin 4) (k : Fin 256) (l : Fin 128) :
    cached c (ix4 b h k l) = cache c b h k l := by
  pointwise [cached]
  unfold cache; rw [dif_pos (by omega)]; rfl
theorem q5_at (q : FVec Ideal S8x4x1024x128 .f32) (b : Fin 8) (h : Fin 4) (a : Fin 2) (n : Fin 512) (l : Fin 128) :
    q5 q (ix5 b h a n l) = q (ix4 b h ⟨a * 512 + n, by omega⟩ l) := by
  pointwise [q5]
theorem biases_at (x : FVec Ideal S4x4x4x256x768 .f32) (b : Fin 8) (h : Fin 4) (a : Fin 2) (n : Fin 512) (k : Fin 768) :
    biases x (ix5 b h a n k) = table x h ((a * 512 + n : ℕ) / 256) ((a * 512 + n : ℕ) % 256) k := by
  pointwise [biases]
  have e1 : ((a : ℕ) * 512 + n) / 256 = a * 2 + n / 256 := by omega
  have e2 : ((a : ℕ) * 512 + n) % 256 = n % 256 := by omega
  unfold table; rw [dif_pos (by omega)]; simp only [e1, e2]; rfl
theorem locs_at (q : FVec Ideal S8x4x2x512x128 .f32) (k : FVec Ideal S8x4x2x768x128 .f32) (x : FVec Ideal S8x4x2x512x768 .f32)
    (b : Fin 8) (h : Fin 4) (a : Fin 2) (n : Fin 512) (s : Fin 768) :
    locs q k x (ix5 b h a n s) = (∑ d, q (ix5 b h a n d) * k (ix5 b h a s d)) * Ideal.ofBits .f32 0x3DB504F3#32 + x (ix5 b h a n s) := by
  pointwise [locs]
theorem ctxs_at (q : FVec Ideal S8x4x2x512x128 .f32) (k : FVec Ideal S8x4x256x128 .f32) (b : Fin 8) (h : Fin 4) (a : Fin 2) (n : Fin 512) (s : Fin 256) :
    ctxs q k (ix5 b h a n s) = (∑ d, q (ix5 b h a n d) * k (ix4 b h s d)) * Ideal.ofBits .f32 0x3DB504F3#32 := by
  pointwise [ctxs]
theorem scores_at (x : FVec Ideal S8x4x2x512x256 .f32) (y : FVec Ideal S8x4x2x512x768 .f32) (b : Fin 8) (h : Fin 4) (a : Fin 2) (n : Fin 512) (k : Fin 1024) :
    scores x y (ix5 b h a n k) = if hk : (k : ℕ) < 256 then x (ix5 b h a n ⟨k, hk⟩) else y (ix5 b h a n ⟨k - 256, by omega⟩) := by
  pointwise [scores]
theorem rowMax_at (x : FVec Ideal S8x4x2x512x1024 .f32) (b : Fin 8) (h : Fin 4) (g : Fin 2) (t : Fin 512) :
    rowMax x (ix4 b h g t) = top fun k => x (ix5 b h g t k) := by
  pointwise [rowMax]; unfold top; with_reducible rfl
theorem shifted_at (x : FVec Ideal S8x4x2x512x1024 .f32) (mx : FVec Ideal S8x4x2x512 .f32) (b : Fin 8) (h : Fin 4) (g : Fin 2) (t : Fin 512) (s : Fin 1024) :
    shifted x mx (ix5 b h g t s) = Ideal.exp (x (ix5 b h g t s) - max (Ideal.ofBits .f32 0xFF800000#32) (mx (ix4 b h g t))) := by
  pointwise [shifted]
def exps (s : FVec Ideal S8x4x2x512x1024 .f32) : FVec Ideal S8x4x2x512x1024 .f32 := shifted s (rowMax s)
theorem exps_at (x : FVec Ideal S8x4x2x512x1024 .f32) (b : Fin 8) (h : Fin 4) (g : Fin 2) (t : Fin 512) (s : Fin 1024) :
    exps x (ix5 b h g t s) = Ideal.exp (x (ix5 b h g t s) - top fun k => x (ix5 b h g t k)) := by
  unfold exps; rw [shifted_at, rowMax_at, max_top]
theorem probs_at (e : FVec Ideal S8x4x2x512x1024 .f32) (b : Fin 8) (h : Fin 4) (a : Fin 2) (n : Fin 512) (k : Fin 1024) :
    probs e (ix5 b h a n k) = Ideal.div (e (ix5 b h a n k)) (∑ j, e (ix5 b h a n j)) := by
  pointwise [probs]
theorem mixed_at (p : FVec Ideal S8x4x2x512x1024 .f32) (c : FVec Ideal S8x4x256x128 .f32) (v : FVec Ideal S8x4x2x768x128 .f32)
    (b : Fin 8) (h : Fin 4) (a : Fin 2) (n : Fin 512) (l : Fin 128) :
    mixed p c v (ix5 b h a n l) = (∑ k : Fin 256, p (ix5 b h a n (Fin.castAdd 768 k : Fin 1024)) * c (ix4 b h k l))
      + ∑ k : Fin 768, p (ix5 b h a n (Fin.natAdd 256 k : Fin 1024)) * v (ix5 b h a k l) := by
  pointwise [mixed]; rfl
theorem rows_at (x : FVec Ideal S8x4x2x512x128 .f32) (r : Fin 8192) (c : Fin 512) :
    rows x (ix2 r c) = x (ix5 ⟨r / 1024, by omega⟩ ⟨c / 128, by omega⟩ ⟨r % 1024 / 512, by omega⟩ ⟨r % 512, by omega⟩ ⟨c % 128, by omega⟩) := by
  have e : (r % 512 : ℕ) = r % 1024 % 512 := by omega
  pointwise [rows]
  simp only [e]

variable (z : FVec Ideal S12288x6272 .f32) (ck cv : FVec Ideal S8x4x4x256x128 .f32) (bi : FVec Ideal S4x4x4x256x768 .f32) (w : FVec Ideal S2x128 .f32)
def allScores : FVec Ideal S8x4x2x512x1024 .f32 :=
  scores (ctxs (q5 (norm4 (qh z) (w0 w))) (cached ck)) (locs (q5 (norm4 (qh z) (w0 w))) (halves (norm4 (kh z) (w1 w))) (biases bi))
/-- The reference's result. -/
def whole : FVec Ideal S8192x512 .bf16 := rows (mixed (probs (exps (allScores z ck bi w))) (cached cv) (halves (vh z)))

theorem q_at (b : Fin 8) (h : Fin 4) (a : Fin 2) (n : Fin 512) (l : Fin 128) :
    q5 (norm4 (qh z) (w0 w)) (ix5 b h a n l) = nrow z w 0 (4096 + (b * 1024 + (a * 512 + n))) (128 * h) l := by
  rw [q5_at, norm4_at]; simp only [qh_at, w0_at]; rfl
theorem near_half (b : ℕ) (a : Fin 2) (n : Fin 512) (k : ℕ) : 4096 + (b * 1024 + (256 * a + k)) = near b (a * 512 + n) k := by
  unfold near; omega
theorem k_at (b : Fin 8) (h : Fin 4) (a : Fin 2) (n : Fin 512) (k : Fin 768) (l : Fin 128) :
    halves (norm4 (kh z) (w1 w)) (ix5 b h a k l) = nrow z w 1 (near b (a * 512 + n) k) (512 + 128 * h) l := by
  rw [halves_at, norm4_at, ← near_half]; simp only [kh_at, w1_at]; rfl
theorem v_at (b : Fin 8) (h : Fin 4) (a : Fin 2) (n : Fin 512) (k : Fin 768) (l : Fin 128) :
    halves (vh z) (ix5 b h a k l) = at2 z (near b (a * 512 + n) k) (1024 + 128 * h + l) := by
  rw [halves_at, vh_at, ← near_half]
theorem s_at (b : Fin 8) (h : Fin 4) (a : Fin 2) (n : Fin 512) (k : Fin 1024) :
    allScores z ck bi w (ix5 b h a n k) = nscore z ck bi w b h (a * 512 + n) k := by
  unfold allScores nscore
  rw [scores_at]
  split
  · rw [ctxs_at]; simp only [q_at, cached_at]; rfl
  · rw [locs_at, biases_at]; simp only [q_at, k_at z w b h a n]; rfl
theorem out_at (b : Fin 8) (h : Fin 4) (a : Fin 2) (n : Fin 512) (l : Fin 128) :
    mixed (probs (exps (allScores z ck bi w))) (cached cv) (halves (vh z)) (ix5 b h a n l) = na z ck cv bi w b h (a * 512 + n) l := by
  rw [mixed_at]
  simp only [probs_at, exps_at, s_at, cached_at, v_at z b h a n]
  unfold na weighted
  refine Eq.trans ?_ (Fin.sum_univ_add (a := 256) (b := 768) _).symm
  simp only [nval_ctx, nval_loc]
theorem whole_at (r : Fin 8192) (c : Fin 512) :
    whole z ck cv bi w (ix2 r c) = na z ck cv bi w (r / 1024) (c / 128) (r % 1024) (c % 128) := by
  unfold whole
  rw [rows_at, out_at]
  have q : (r % 1024 / 512 * 512 + r % 512 : ℕ) = r % 1024 := by omega
  simp only [q]
end Cert.NaRefIdeal.Na
-- ==== Proof.NaClaim.lean ====
module
public import proofs.«01_k».proof.Defs
public import proofs.«01_k».proof.Proof.Na
public import proofs.«01_k».proof.Proof.NaRef
public import proofs.«01_k».proof.Proof.Gen.NaIdeal.Frame
public import Idealize.ShloMosaic.Lib.ReduceAll
/-! The neighbourhood attention of the latent tokens against its reference. -/
@[expose] public section
set_option maxRecDepth 16384
noncomputable section
open Idealize.ShloMosaic Idealize.ShloMosaic.TcCoe Idealize.SL.Sem
namespace Cert.NaClaim
open Cert.Softmax Cert.CtxSpec Cert.GqaSpec Cert.NaSpec

theorem preFacts : Cert.Pre_finite_scores.Facts := ⟨by decide, by decide, by decide, by decide, by decide, by decide, by decide⟩

theorem frame_ref : Cert.quiescent_NaRefIdeal (hNaRefIdeal := Cert.NaRefIdeal.Gen.facts) := by
  intro m g _
  exact (θ_run _ _ _).mono (fun r h => ⟨fun c => (h c).2, Idealize.ShloMosaic.sem_eq_zero_of_no_sems (by decide) r.2⟩)
    (Cert.NaRefIdeal.Value.run m g)

theorem real_of_test {x : EReal} (h : BitVec.ofBool (decide (max x (-x) < Ideal.ofBits .f32 0x7F800000#32)) = 1#1) : IsReal x := by
  rw [ofBits_inf] at h
  refine isReal_of_abs_lt ?_
  by_contra q
  rw [decide_eq_false q] at h
  exact absurd h (by decide)

theorem ne_top_of_test {x : EReal} (h : BitVec.ofBool (decide (x < Ideal.ofBits .f32 0x7F800000#32)) = 1#1) : x ≠ ⊤ := by
  rw [ofBits_inf] at h
  refine ne_of_lt ?_
  by_contra q
  rw [decide_eq_false q] at h
  exact absurd h (by decide)

/-- The precondition read at an index: the cached keys and the weights are finite, no bias is +∞. -/
theorem scores_real [Cert.Pre_finite_scores.Facts] (z : FVec Ideal Cert.Pre_finite_scores.S12288x6272 .f32)
    (ck cv : FVec Ideal Cert.Pre_finite_scores.S8x4x4x256x128 .f32) (bi : FVec Ideal Cert.Pre_finite_scores.S4x4x4x256x768 .f32)
    (w : FVec Ideal Cert.Pre_finite_scores.S2x128 .f32) (h : Cert.Pre_finite_scores.fn (F := Ideal) z ck cv bi w = fun _ => 1#1) :
    (∀ i, IsReal (ck i)) ∧ (∀ i, bi i ≠ ⊤) ∧ (∀ i, IsReal (w i)) := by
  have hand : ∀ a b : BitVec 1, IntOp.andi a b = 1#1 → a = 1#1 ∧ b = 1#1 := by decide
  haveI : Subsingleton (Cert.Pre_finite_scores.S_).Idx := ⟨fun a b => funext fun k => k.elim0⟩
  obtain ⟨hab, hc⟩ := hand _ _ (congrFun h (fun k => k.elim0))
  obtain ⟨ha, hb⟩ := hand _ _ hab
  have ha := Host.reduce_andi_all _ _ _ _ _ ha
  have hb := Host.reduce_andi_all _ _ _ _ _ hb
  have hc := Host.reduce_andi_all _ _ _ _ _ hc
  exact ⟨fun i => real_of_test (ha i), fun i => ne_top_of_test (hb i), fun i => real_of_test (hc i)⟩

open Cert.NaIdeal.Na Cert.NaRefIdeal.Na in
/-- The neighbourhood attention of the latent tokens's output is the reference's, where the cached keys and the norm weights are finite and no bias is +∞. -/
theorem algebraic : Cert.algebraic_NaIdeal_NaRefIdeal_pre_finite_scores (hNaIdeal := Cert.NaIdeal.Gen.facts)
    (hNaRefIdeal := Cert.NaRefIdeal.Gen.facts) (hPre_finite_scores := preFacts) := by
  intro m g m' g' hpre hargs
  refine ⟨_, Cert.NaIdeal.Value.run_blocks m g, ?_⟩
  refine (θ_run _ _ _).mono (fun r h c => ?_) (Cert.NaRefIdeal.Value.run m' g')
  obtain ⟨h0, hrest⟩ := h c
  obtain ⟨e0, e1, e2, e3, e4⟩ := hargs c
  have hw := @scores_real preFacts _ _ _ _ _ (hpre c)
  refine ⟨h0.trans ?_, hrest⟩
  refine Eq.trans ?_ (final m c hw.2.2 hw.1 hw.2.1).symm
  refine (show _ = whole (m' ((c.tc : Thread Cert.NaRefIdeal.nD Cert.NaRefIdeal.τ).loc Cert.NaRefIdeal.main_arg0))
    (m' ((c.tc : Thread Cert.NaRefIdeal.nD Cert.NaRefIdeal.τ).loc Cert.NaRefIdeal.main_arg1))
    (m' ((c.tc : Thread Cert.NaRefIdeal.nD Cert.NaRefIdeal.τ).loc Cert.NaRefIdeal.main_arg2))
    (m' ((c.tc : Thread Cert.NaRefIdeal.nD Cert.NaRefIdeal.τ).loc Cert.NaRefIdeal.main_arg3))
    (m' ((c.tc : Thread Cert.NaRefIdeal.nD Cert.NaRefIdeal.τ).loc Cert.NaRefIdeal.main_arg4)) from rfl).trans ?_
  rw [e0, e1, e2, e3, e4]
  funext y
  obtain ⟨r, k, rfl⟩ : ∃ (r : Fin 8192) (k : Fin 512), y = ix2 r k := ⟨y 0, y 1, eq_ix2 y⟩
  exact whole_at _ _ _ _ _ r k
end Cert.NaClaim
-- ==== Proof.NaBiasSpec.lean ====
module
public import Idealize.ShloMosaic.Lib.Pointwise
/-! The table of biases of the neighbourhood attention: which keys a query attends to, and with which learned bias. -/
@[expose] public section
noncomputable section
open Idealize.ShloMosaic Idealize.ShloMosaic.TcCoe Idealize.SL.Sem
namespace Cert.NaBiasSpec

/-- The key's row is one of the eight around the query's row, moved inwards at the grid's edge. -/
abbrev rowIn (q k : ℕ) : Prop := min (q - 4) 8 ≤ k ∧ k < min (q - 4) 8 + 8
/-- The key's column is one of the sixteen around the query's column, moved inwards at the grid's edge. -/
abbrev colIn (q k : ℕ) : Prop := min (q - 8) 48 ≤ k ∧ k < min (q - 8) 48 + 16
/-- The relative row, and the relative column, counted from the lowest one and kept in the learned table. -/
abbrev rowDiff (q k : ℕ) : ℕ := min (k + 7 - q) 14
abbrev colDiff (q k : ℕ) : ℕ := min (k + 15 - q) 30

/-- The learned bias of a relative row and column in layer `l`, head `h`. -/
def learned (x : FVec Ideal ⟨4, ![4, 4, 15, 31]⟩ .f32) (l h : Fin 4) (r c : ℕ) : Ideal .f32 :=
  if p : r < 15 ∧ c < 31 then x (ix4 l h ⟨r, p.1⟩ ⟨c, p.2⟩) else 0
/-- The constant of the keys outside the window. -/
def far : Ideal .f32 := Ideal.ofBits .f32 0xF149F2CA#32
/-- One tile: the columns' window, and the biases of relative row `r`. -/
def tileAt (x : FVec Ideal ⟨4, ![4, 4, 15, 31]⟩ .f32) (l h : Fin 4) (r qc kc : ℕ) : Ideal .f32 :=
  if colIn qc kc then learned x l h r (colDiff qc kc) else far
/-- The bias of query (row `qr`, column `qc`) and key (row `kr`, column `kc`). -/
def entry (x : FVec Ideal ⟨4, ![4, 4, 15, 31]⟩ .f32) (l h : Fin 4) (qr qc kr kc : ℕ) : Ideal .f32 :=
  if rowIn qr kr then tileAt x l h (rowDiff qr kr) qc kc else far
/-- The table: per block of four rows of queries the twelve rows of keys around it. -/
def table (x : FVec Ideal ⟨4, ![4, 4, 15, 31]⟩ .f32) : FVec Ideal ⟨5, ![4, 4, 4, 256, 768]⟩ .f32 :=
  fun y => entry x (y 0) (y 1) (4 * (y 2 : ℕ) + (y 3 : ℕ) / 64) ((y 3 : ℕ) % 64) (4 * ((y 2 : ℕ) / 2) + (y 4 : ℕ) / 64) ((y 4 : ℕ) % 64)
end Cert.NaBiasSpec
-- ==== Proof.NaBias.lean ====
module
public import proofs.«01_k».proof.Proof.Gen.NaBiasIdeal.Frame
public import proofs.«01_k».proof.Proof.Gen.NaBiasIdeal.Value
public import proofs.«01_k».proof.Proof.NaBiasSpec
public import Idealize.ShloMosaic.Lib.Pipeline.ValueKit
public import Idealize.ShloMosaic.Lib.Pointwise
/-! The table of biases: what the kernel leaves in its output array. -/
@[expose] public section
set_option maxRecDepth 65536
noncomputable section
open Idealize.ShloMosaic Idealize.ShloMosaic.TcCoe Idealize.SL.Sem
namespace Cert.NaBiasIdeal.NaBias
open Cert.NaBiasIdeal Cert.NaBiasIdeal.Gen Cert.NaBiasSpec

/-! ## One tile -/

/-- The first `n` relative columns' scalars, each put where its relative column holds. -/
def nest (s : ℕ → Ideal .f32) : ℕ → FVec Ideal S64x64 .f32
  | 0 => broadcast S64x64 (Scalar.ofBits .f32 0x00000000#32)
  | n + 1 => select (cmpi .eq k0_pay7 (broadcast S64x64 (BitVec.ofNat 32 n))) (broadcast S64x64 (s n)) (nest s n)
/-- A tile as it is stored: the scalars inside the columns' window, the constant outside it. -/
def tile (s : ℕ → Ideal .f32) : FVec Ideal S1x1x1x64x64 .f32 :=
  shapeCast S1x1x1x64x64 (select k0_pay8 (nest s 31) (broadcast S64x64 (Scalar.ofBits .f32 0xF149F2CA#32))) shapeCasts_S64x64_S1x1x1x64x64
/-- The tile of the rows outside the window. -/
def farTile : FVec Ideal S1x1x1x64x64 .f32 := shapeCast S1x1x1x64x64 (k0_pay9 (F := Ideal)) shapeCasts_S64x64_S1x1x1x64x64

theorem col_at (q k : Fin 64) : k0_pay7 (ix2 q k) = BitVec.ofNat 32 (colDiff q k) := by
  revert q k; decide +kernel
theorem win_at (q k : Fin 64) : k0_pay8 (ix2 q k) = if colIn q k then 1#1 else 0#1 := by
  revert q k; decide +kernel
theorem nest_at (s : ℕ → Ideal .f32) (q k : Fin 64) : ∀ n, n ≤ 31 → colDiff q k < n → nest s n (ix2 q k) = s (colDiff q k)
  | 0, _, h => absurd h (Nat.not_lt_zero _)
  | n + 1, hn, h => by
    have e : ∀ a b : Fin 31, IntOp.cmpi .eq (BitVec.ofNat 32 a) (BitVec.ofNat 32 b) = if a = b then 1#1 else 0#1 := by decide +kernel
    have e' := e ⟨colDiff q k, by omega⟩ ⟨n, by omega⟩
    show Scalar.select (IntOp.cmpi .eq (k0_pay7 (ix2 q k)) (BitVec.ofNat 32 n)) (s n) (nest s n (ix2 q k)) = _
    rw [col_at, e']
    by_cases p : colDiff q k = n
    · rw [if_pos (Fin.ext p), p]; rfl
    · rw [if_neg (fun h => p (congrArg Fin.val h))]
      exact nest_at s q k n (by omega) (by omega)
theorem tile_at (s : ℕ → Ideal .f32) (q k : Fin 64) : tile s (ix5 0 0 0 q k) = if colIn q k then s (colDiff q k) else far := by
  have e : tile s (ix5 0 0 0 q k) = Scalar.select (k0_pay8 (ix2 q k)) (nest s 31 (ix2 q k)) far := by
    pointwise [tile]; rfl
  rw [e, win_at, nest_at s q k 31 le_rfl (lt_of_le_of_lt (Nat.min_le_right _ _) (by decide))]
  by_cases p : colIn q k
  · rw [if_pos p, if_pos p]; rfl
  · rw [if_neg p, if_neg p]; rfl
theorem farTile_at (q k : Fin 64) : farTile (ix5 0 0 0 q k) = far := by
  pointwise [farTile, k0_pay9]; rfl

/-! ## The pieces of a block -/

/-- The block of layer `l`, head `h`. -/
def block (x : FVec Ideal ⟨4, ![4, 4, 15, 31]⟩ .f32) (l h : Fin 4) : FVec Ideal S1x1x4x256x768 .f32 :=
  fun y => entry x l h (4 * (y 2 : ℕ) + (y 3 : ℕ) / 64) ((y 3 : ℕ) % 64) (4 * ((y 2 : ℕ) / 2) + (y 4 : ℕ) / 64) ((y 4 : ℕ) % 64)
/-- The rectangle of the queries' row `i` and the keys' row `j` of block `b`. -/
theorem block_at (x : FVec Ideal ⟨4, ![4, 4, 15, 31]⟩ .f32) (l h : Fin 4) (b i j : ℕ)
    (inb : ∀ a, (![0, 0, b, 64 * i, 64 * j] : Fin 5 → ℕ) a + (![1, 1, 1, 64, 64] : Fin 5 → ℕ) a ≤ S1x1x4x256x768.size a) (q k : Fin 64) :
    block x l h ((Rect.unit (s := S1x1x4x256x768) ![0, 0, b, 64 * i, 64 * j] ![1, 1, 1, 64, 64] inb).emb (ix5 0 0 0 q k : S1x1x1x64x64.Idx))
      = entry x l h (4 * b + i) q (4 * (b / 2) + j) k := by
  have h2 : ((Rect.unit (s := S1x1x4x256x768) ![0, 0, b, 64 * i, 64 * j] ![1, 1, 1, 64, 64] inb).emb (ix5 0 0 0 q k : S1x1x1x64x64.Idx) 2 : ℕ) = b :=
    (Rect.idx_unit_val ..).trans (by simp)
  have h3 : ((Rect.unit (s := S1x1x4x256x768) ![0, 0, b, 64 * i, 64 * j] ![1, 1, 1, 64, 64] inb).emb (ix5 0 0 0 q k : S1x1x1x64x64.Idx) 3 : ℕ) = 64 * i + q :=
    (Rect.idx_unit_val ..).trans (by simp)
  have h4 : ((Rect.unit (s := S1x1x4x256x768) ![0, 0, b, 64 * i, 64 * j] ![1, 1, 1, 64, 64] inb).emb (ix5 0 0 0 q k : S1x1x1x64x64.Idx) 4 : ℕ) = 64 * j + k :=
    (Rect.idx_unit_val ..).trans (by simp)
  unfold block
  rw [h2, h3, h4]
  have e1 : (64 * i + (q : ℕ)) / 64 = i := by omega
  have e2 : (64 * i + (q : ℕ)) % 64 = q := by omega
  have e3 : (64 * j + (k : ℕ)) / 64 = j := by omega
  have e4 : (64 * j + (k : ℕ)) % 64 = k := by omega
  rw [e1, e2, e3, e4]

/-- The scalar at relative row `r`, relative column `n`, as the body reads it. -/
def scalar (i : grid0.Coords) (arg2 : Memref sig .tc .smem S7440 .f32) (harg2 : arg2.IsWhole) (x0 : Vec Ideal S7440 .f32) (r : Fin 15) (n : ℕ) : Ideal .f32 :=
  if h : n < 31 then View.readAt (Elt Ideal) arg2.view (Rect.unit (s := S7440) (k0_off1 i (BitVec.ofNat 32 (31 * r.val)) (BitVec.ofNat 32 n)) S1.size (k0_off1_inb i r ⟨n, h⟩)).toLoadRect (harg2.unread x0) (Shape.Idx.first (show 0 < S1.numel by rw [numel1_S1]; decide))
  else 0

section
variable (x : FVec Ideal ⟨4, ![4, 4, 15, 31]⟩ .f32) (l h : Fin 4) (i : grid0.Coords) (arg2 : Memref sig .tc .smem S7440 .f32) (harg2 : arg2.IsWhole) (x0 : Vec Ideal S7440 .f32)
theorem tile_piece (hs : ∀ r n, n < 31 → scalar i arg2 harg2 x0 r n = learned x l h r n) (b a j : ℕ) (r : Fin 15)
    (p : rowIn (4 * b + a) (4 * (b / 2) + j) ∧ rowDiff (4 * b + a) (4 * (b / 2) + j) = r)
    (inb : ∀ a', (![0, 0, b, 64 * a, 64 * j] : Fin 5 → ℕ) a' + (![1, 1, 1, 64, 64] : Fin 5 → ℕ) a' ≤ S1x1x4x256x768.size a') (y : S1x1x1x64x64.Idx) :
    tile (scalar i arg2 harg2 x0 r) y = block x l h ((Rect.unit (s := S1x1x4x256x768) ![0, 0, b, 64 * a, 64 * j] ![1, 1, 1, 64, 64] inb).emb y) := by
  obtain ⟨z0, z1, z2, q, k, rfl⟩ : ∃ (z0 z1 z2 : Fin 1) (q k : Fin 64), y = ix5 z0 z1 z2 q k := ⟨y 0, y 1, y 2, y 3, y 4, eq_ix5 y⟩
  obtain rfl : z0 = 0 := Subsingleton.elim _ _
  obtain rfl : z1 = 0 := Subsingleton.elim _ _
  obtain rfl : z2 = 0 := Subsingleton.elim _ _
  rw [block_at, tile_at]
  unfold entry tileAt
  rw [if_pos p.1, p.2, hs r _ (lt_of_le_of_lt (Nat.min_le_right _ _) (by decide))]
theorem far_piece (b a j : ℕ) (p : ¬rowIn (4 * b + a) (4 * (b / 2) + j))
    (inb : ∀ a', (![0, 0, b, 64 * a, 64 * j] : Fin 5 → ℕ) a' + (![1, 1, 1, 64, 64] : Fin 5 → ℕ) a' ≤ S1x1x4x256x768.size a') (y : S1x1x1x64x64.Idx) :
    farTile y = block x l h ((Rect.unit (s := S1x1x4x256x768) ![0, 0, b, 64 * a, 64 * j] ![1, 1, 1, 64, 64] inb).emb y) := by
  obtain ⟨z0, z1, z2, q, k, rfl⟩ : ∃ (z0 z1 z2 : Fin 1) (q k : Fin 64), y = ix5 z0 z1 z2 q k := ⟨y 0, y 1, y 2, y 3, y 4, eq_ix5 y⟩
  obtain rfl : z0 = 0 := Subsingleton.elim _ _
  obtain rfl : z1 = 0 := Subsingleton.elim _ _
  obtain rfl : z2 = 0 := Subsingleton.elim _ _
  rw [block_at, farTile_at]
  unfold entry
  rw [if_neg p]
set_option maxHeartbeats 8000000 in
/-- Each stored piece is the block's part: from the last store to the first. -/
theorem pieces (hs : ∀ r n, n < 31 → scalar i arg2 harg2 x0 r n = learned x l h r n) (c : Dev nD) (arg3 : Memref sig .tc .vmem S1x1x4x256x768 .f32) (harg3 : arg3.IsWhole) :
    ∀ p ∈ (kernelRun0_A (F := Ideal) c i arg2 harg2 arg3 harg3 x0).1, ∀ y, p.2 y = block x l h (p.1.emb y) := by
  refine List.forall_iff_forall_mem.mp ?_
  unfold kernelRun0_A
  dsimp only [List.Forall]
  exact ⟨tile_piece x l h i arg2 harg2 x0 hs 3 3 11 7 (by decide) _,
    tile_piece x l h i arg2 harg2 x0 hs 3 3 10 6 (by decide) _,
    tile_piece x l h i arg2 harg2 x0 hs 3 3 9 5 (by decide) _,
    tile_piece x l h i arg2 harg2 x0 hs 3 3 8 4 (by decide) _,
    tile_piece x l h i arg2 harg2 x0 hs 3 3 7 3 (by decide) _,
    tile_piece x l h i arg2 harg2 x0 hs 3 3 6 2 (by decide) _,
    tile_piece x l h i arg2 harg2 x0 hs 3 3 5 1 (by decide) _,
    tile_piece x l h i arg2 harg2 x0 hs 3 3 4 0 (by decide) _,
    far_piece x l h 3 3 3 (by decide) _,
    far_piece x l h 3 3 2 (by decide) _,
    far_piece x l h 3 3 1 (by decide) _,
    far_piece x l h 3 3 0 (by decide) _,
    tile_piece x l h i arg2 harg2 x0 hs 3 2 11 8 (by decide) _,
    tile_piece x l h i arg2 harg2 x0 hs 3 2 10 7 (by decide) _,
    tile_piece x l h i arg2 harg2 x0 hs 3 2 9 6 (by decide) _,
    tile_piece x l h i arg2 harg2 x0 hs 3 2 8 5 (by decide) _,
    tile_piece x l h i arg2 harg2 x0 hs 3 2 7 4 (by decide) _,
    tile_piece x l h i arg2 harg2 x0 hs 3 2 6 3 (by decide) _,
    tile_piece x l h i arg2 harg2 x0 hs 3 2 5 2 (by decide) _,
    tile_piece x l h i arg2 harg2 x0 hs 3 2 4 1 (by decide) _,
    far_piece x l h 3 2 3 (by decide) _,
    far_piece x l h 3 2 2 (by decide) _,
    far_piece x l h 3 2 1 (by decide) _,
    far_piece x l h 3 2 0 (by decide) _,
    tile_piece x l h i arg2 harg2 x0 hs 3 1 11 9 (by decide) _,
    tile_piece x l h i arg2 harg2 x0 hs 3 1 10 8 (by decide) _,
    tile_piece x l h i arg2 harg2 x0 hs 3 1 9 7 (by decide) _,
    tile_piece x l h i arg2 harg2 x0 hs 3 1 8 6 (by decide) _,
    tile_piece x l h i arg2 harg2 x0 hs 3 1 7 5 (by decide) _,
    tile_piece x l h i arg2 harg2 x0 hs 3 1 6 4 (by decide) _,
    tile_piece x l h i arg2 harg2 x0 hs 3 1 5 3 (by decide) _,
    tile_piece x l h i arg2 harg2 x0 hs 3 1 4 2 (by decide) _,
    far_piece x l h 3 1 3 (by decide) _,
    far_piece x l h 3 1 2 (by decide) _,
    far_piece x l h 3 1 1 (by decide) _,
    far_piece x l h 3 1 0 (by decide) _,
    tile_piece x l h i arg2 harg2 x0 hs 3 0 11 10 (by decide) _,
    tile_piece x l h i arg2 harg2 x0 hs 3 0 10 9 (by decide) _,
    tile_piece x l h i arg2 harg2 x0 hs 3 0 9 8 (by decide) _,
    tile_piece x l h i arg2 harg2 x0 hs 3 0 8 7 (by decide) _,
    tile_piece x l h i arg2 harg2 x0 hs 3 0 7 6 (by decide) _,
    tile_piece x l h i arg2 harg2 x0 hs 3 0 6 5 (by decide) _,
    tile_piece x l h i arg2 harg2 x0 hs 3 0 5 4 (by decide) _,
    tile_piece x l h i arg2 harg2 x0 hs 3 0 4 3 (by decide) _,
    far_piece x l h 3 0 3 (by decide) _,
    far_piece x l h 3 0 2 (by decide) _,
    far_piece x l h 3 0 1 (by decide) _,
    far_piece x l h 3 0 0 (by decide) _,
    far_piece x l h 2 3 11 (by decide) _,
    tile_piece x l h i arg2 harg2 x0 hs 2 3 10 10 (by decide) _,
    tile_piece x l h i arg2 harg2 x0 hs 2 3 9 9 (by decide) _,
    tile_piece x l h i arg2 harg2 x0 hs 2 3 8 8 (by decide) _,
    tile_piece x l h i arg2 harg2 x0 hs 2 3 7 7 (by decide) _,
    tile_piece x l h i arg2 harg2 x0 hs 2 3 6 6 (by decide) _,
    tile_piece x l h i arg2 harg2 x0 hs 2 3 5 5 (by decide) _,
    tile_piece x l h i arg2 harg2 x0 hs 2 3 4 4 (by decide) _,
    tile_piece x l h i arg2 harg2 x0 hs 2 3 3 3 (by decide) _,
    far_piece x l h 2 3 2 (by decide) _,
    far_piece x l h 2 3 1 (by decide) _,
    far_piece x l h 2 3 0 (by decide) _,
    far_piece x l h 2 2 11 (by decide) _,
    far_piece x l h 2 2 10 (by decide) _,
    tile_piece x l h i arg2 harg2 x0 hs 2 2 9 10 (by decide) _,
    tile_piece x l h i arg2 harg2 x0 hs 2 2 8 9 (by decide) _,
    tile_piece x l h i arg2 harg2 x0 hs 2 2 7 8 (by decide) _,
    tile_piece x l h i arg2 harg2 x0 hs 2 2 6 7 (by decide) _,
    tile_piece x l h i arg2 harg2 x0 hs 2 2 5 6 (by decide) _,
    tile_piece x l h i arg2 harg2 x0 hs 2 2 4 5 (by decide) _,
    tile_piece x l h i arg2 harg2 x0 hs 2 2 3 4 (by decide) _,
    tile_piece x l h i arg2 harg2 x0 hs 2 2 2 3 (by decide) _,
    far_piece x l h 2 2 1 (by decide) _,
    far_piece x l h 2 2 0 (by decide) _,
    far_piece x l h 2 1 11 (by decide) _,
    far_piece x l h 2 1 10 (by decide) _,
    far_piece x l h 2 1 9 (by decide) _,
    tile_piece x l h i arg2 harg2 x0 hs 2 1 8 10 (by decide) _,
    tile_piece x l h i arg2 harg2 x0 hs 2 1 7 9 (by decide) _,
    tile_piece x l h i arg2 harg2 x0 hs 2 1 6 8 (by decide) _,
    tile_piece x l h i arg2 harg2 x0 hs 2 1 5 7 (by decide) _,
    tile_piece x l h i arg2 harg2 x0 hs 2 1 4 6 (by decide) _,
    tile_piece x l h i arg2 harg2 x0 hs 2 1 3 5 (by decide) _,
    tile_piece x l h i arg2 harg2 x0 hs 2 1 2 4 (by decide) _,
    tile_piece x l h i arg2 harg2 x0 hs 2 1 1 3 (by decide) _,
    far_piece x l h 2 1 0 (by decide) _,
    far_piece x l h 2 0 11 (by decide) _,
    far_piece x l h 2 0 10 (by decide) _,
    far_piece x l h 2 0 9 (by decide) _,
    far_piece x l h 2 0 8 (by decide) _,
    tile_piece x l h i arg2 harg2 x0 hs 2 0 7 10 (by decide) _,
    tile_piece x l h i arg2 harg2 x0 hs 2 0 6 9 (by decide) _,
    tile_piece x l h i arg2 harg2 x0 hs 2 0 5 8 (by decide) _,
    tile_piece x l h i arg2 harg2 x0 hs 2 0 4 7 (by decide) _,
    tile_piece x l h i arg2 harg2 x0 hs 2 0 3 6 (by decide) _,
    tile_piece x l h i arg2 harg2 x0 hs 2 0 2 5 (by decide) _,
    tile_piece x l h i arg2 harg2 x0 hs 2 0 1 4 (by decide) _,
    tile_piece x l h i arg2 harg2 x0 hs 2 0 0 3 (by decide) _,
    far_piece x l h 1 3 11 (by decide) _,
    tile_piece x l h i arg2 harg2 x0 hs 1 3 10 10 (by decide) _,
    tile_piece x l h i arg2 harg2 x0 hs 1 3 9 9 (by decide) _,
    tile_piece x l h i arg2 harg2 x0 hs 1 3 8 8 (by decide) _,
    tile_piece x l h i arg2 harg2 x0 hs 1 3 7 7 (by decide) _,
    tile_piece x l h i arg2 harg2 x0 hs 1 3 6 6 (by decide) _,
    tile_piece x l h i arg2 harg2 x0 hs 1 3 5 5 (by decide) _,
    tile_piece x l h i arg2 harg2 x0 hs 1 3 4 4 (by decide) _,
    tile_piece x l h i arg2 harg2 x0 hs 1 3 3 3 (by decide) _,
    far_piece x l h 1 3 2 (by decide) _,
    far_piece x l h 1 3 1 (by decide) _,
    far_piece x l h 1 3 0 (by decide) _,
    far_piece x l h 1 2 11 (by decide) _,
    far_piece x l h 1 2 10 (by decide) _,
    tile_piece x l h i arg2 harg2 x0 hs 1 2 9 10 (by decide) _,
    tile_piece x l h i arg2 harg2 x0 hs 1 2 8 9 (by decide) _,
    tile_piece x l h i arg2 harg2 x0 hs 1 2 7 8 (by decide) _,
    tile_piece x l h i arg2 harg2 x0 hs 1 2 6 7 (by decide) _,
    tile_piece x l h i arg2 harg2 x0 hs 1 2 5 6 (by decide) _,
    tile_piece x l h i arg2 harg2 x0 hs 1 2 4 5 (by decide) _,
    tile_piece x l h i arg2 harg2 x0 hs 1 2 3 4 (by decide) _,
    tile_piece x l h i arg2 harg2 x0 hs 1 2 2 3 (by decide) _,
    far_piece x l h 1 2 1 (by decide) _,
    far_piece x l h 1 2 0 (by decide) _,
    far_piece x l h 1 1 11 (by decide) _,
    far_piece x l h 1 1 10 (by decide) _,
    far_piece x l h 1 1 9 (by decide) _,
    tile_piece x l h i arg2 harg2 x0 hs 1 1 8 10 (by decide) _,
    tile_piece x l h i arg2 harg2 x0 hs 1 1 7 9 (by decide) _,
    tile_piece x l h i arg2 harg2 x0 hs 1 1 6 8 (by decide) _,
    tile_piece x l h i arg2 harg2 x0 hs 1 1 5 7 (by decide) _,
    tile_piece x l h i arg2 harg2 x0 hs 1 1 4 6 (by decide) _,
    tile_piece x l h i arg2 harg2 x0 hs 1 1 3 5 (by decide) _,
    tile_piece x l h i arg2 harg2 x0 hs 1 1 2 4 (by decide) _,
    tile_piece x l h i arg2 harg2 x0 hs 1 1 1 3 (by decide) _,
    far_piece x l h 1 1 0 (by decide) _,
    far_piece x l h 1 0 11 (by decide) _,
    far_piece x l h 1 0 10 (by decide) _,
    far_piece x l h 1 0 9 (by decide) _,
    far_piece x l h 1 0 8 (by decide) _,
    tile_piece x l h i arg2 harg2 x0 hs 1 0 7 10 (by decide) _,
    tile_piece x l h i arg2 harg2 x0 hs 1 0 6 9 (by decide) _,
    tile_piece x l h i arg2 harg2 x0 hs 1 0 5 8 (by decide) _,
    tile_piece x l h i arg2 harg2 x0 hs 1 0 4 7 (by decide) _,
    tile_piece x l h i arg2 harg2 x0 hs 1 0 3 6 (by decide) _,
    tile_piece x l h i arg2 harg2 x0 hs 1 0 2 5 (by decide) _,
    tile_piece x l h i arg2 harg2 x0 hs 1 0 1 4 (by decide) _,
    tile_piece x l h i arg2 harg2 x0 hs 1 0 0 3 (by decide) _,
    far_piece x l h 0 3 11 (by decide) _,
    far_piece x l h 0 3 10 (by decide) _,
    far_piece x l h 0 3 9 (by decide) _,
    far_piece x l h 0 3 8 (by decide) _,
    tile_piece x l h i arg2 harg2 x0 hs 0 3 7 11 (by decide) _,
    tile_piece x l h i arg2 harg2 x0 hs 0 3 6 10 (by decide) _,
    tile_piece x l h i arg2 harg2 x0 hs 0 3 5 9 (by decide) _,
    tile_piece x l h i arg2 harg2 x0 hs 0 3 4 8 (by decide) _,
    tile_piece x l h i arg2 harg2 x0 hs 0 3 3 7 (by decide) _,
    tile_piece x l h i arg2 harg2 x0 hs 0 3 2 6 (by decide) _,
    tile_piece x l h i arg2 harg2 x0 hs 0 3 1 5 (by decide) _,
    tile_piece x l h i arg2 harg2 x0 hs 0 3 0 4 (by decide) _,
    far_piece x l h 0 2 11 (by decide) _,
    far_piece x l h 0 2 10 (by decide) _,
    far_piece x l h 0 2 9 (by decide) _,
    far_piece x l h 0 2 8 (by decide) _,
    tile_piece x l h i arg2 harg2 x0 hs 0 2 7 12 (by decide) _,
    tile_piece x l h i arg2 harg2 x0 hs 0 2 6 11 (by decide) _,
    tile_piece x l h i arg2 harg2 x0 hs 0 2 5 10 (by decide) _,
    tile_piece x l h i arg2 harg2 x0 hs 0 2 4 9 (by decide) _,
    tile_piece x l h i arg2 harg2 x0 hs 0 2 3 8 (by decide) _,
    tile_piece x l h i arg2 harg2 x0 hs 0 2 2 7 (by decide) _,
    tile_piece x l h i arg2 harg2 x0 hs 0 2 1 6 (by decide) _,
    tile_piece x l h i arg2 harg2 x0 hs 0 2 0 5 (by decide) _,
    far_piece x l h 0 1 11 (by decide) _,
    far_piece x l h 0 1 10 (by decide) _,
    far_piece x l h 0 1 9 (by decide) _,
    far_piece x l h 0 1 8 (by decide) _,
    tile_piece x l h i arg2 harg2 x0 hs 0 1 7 13 (by decide) _,
    tile_piece x l h i arg2 harg2 x0 hs 0 1 6 12 (by decide) _,
    tile_piece x l h i arg2 harg2 x0 hs 0 1 5 11 (by decide) _,
    tile_piece x l h i arg2 harg2 x0 hs 0 1 4 10 (by decide) _,
    tile_piece x l h i arg2 harg2 x0 hs 0 1 3 9 (by decide) _,
    tile_piece x l h i arg2 harg2 x0 hs 0 1 2 8 (by decide) _,
    tile_piece x l h i arg2 harg2 x0 hs 0 1 1 7 (by decide) _,
    tile_piece x l h i arg2 harg2 x0 hs 0 1 0 6 (by decide) _,
    far_piece x l h 0 0 11 (by decide) _,
    far_piece x l h 0 0 10 (by decide) _,
    far_piece x l h 0 0 9 (by decide) _,
    far_piece x l h 0 0 8 (by decide) _,
    tile_piece x l h i arg2 harg2 x0 hs 0 0 7 14 (by decide) _,
    tile_piece x l h i arg2 harg2 x0 hs 0 0 6 13 (by decide) _,
    tile_piece x l h i arg2 harg2 x0 hs 0 0 5 12 (by decide) _,
    tile_piece x l h i arg2 harg2 x0 hs 0 0 4 11 (by decide) _,
    tile_piece x l h i arg2 harg2 x0 hs 0 0 3 10 (by decide) _,
    tile_piece x l h i arg2 harg2 x0 hs 0 0 2 9 (by decide) _,
    tile_piece x l h i arg2 harg2 x0 hs 0 0 1 8 (by decide) _,
    tile_piece x l h i arg2 harg2 x0 hs 0 0 0 7 (by decide) _⟩
end

/-! ## The array -/

variable (m : (ℓ : Loc nD τ sig) → Buf (Elt Ideal) ℓ) (c : Dev nD) (t : Fin cfg0.N)
abbrev X : FVec Ideal S4x4x15x31 .f32 := m ((c : Thread nD τ).loc main_arg0)

theorem idx : ∀ t : Fin cfg0.N, win0_0.index t = ![0] ∧ win0_1.index t = ![t.val / 4, t.val % 4, 0, 0, 0] :=
  (by decide +kernel : ∀ t : Fin grid0.N, _)
theorem lt16 (t : Fin cfg0.N) : (t : ℕ) < 16 := t.2
theorem off : ∀ t : Fin cfg0.N, ∀ (r : Fin 15) (n : Fin 31), k0_off1 (grid0.coords t) (BitVec.ofNat 32 (31 * r.val)) (BitVec.ofNat 32 n.val) 0 = t.val * 465 + (31 * r.val + n.val) :=
  (by decide +kernel : ∀ t : Fin grid0.N, _)
theorem V0 (k : Fin 7440) : V m c main_v0 (ix1 k) = X m c (ix4 ⟨k / 1860, by omega⟩ ⟨k / 465 % 4, by omega⟩ ⟨k / 31 % 15, by omega⟩ ⟨k % 31, by omega⟩) := by
  have h : V m c main_v0 = shapeCast S7440 (X m c) shapeCasts_S4x4x15x31_S7440 := rfl
  rw [h]
  pointwise []
theorem blk0 (y : S7440.Idx) : iblk m c 0 t y = V m c main_v0 y := by
  blk_point [iblk, V, idx t]
  all_goals exfalso; omega
theorem scalar_at (r : Fin 15) (n : ℕ) (h : n < 31) :
    scalar (grid0.coords t) (ms0_0 t) (hs0_0 t) (iblk m c 0 t) r n = learned (X m c) ⟨t / 4, by have := lt16 t; omega⟩ ⟨t % 4, by omega⟩ r n := by
  unfold scalar
  rw [dif_pos h]
  refine (congrFun ((hs0_0 t).read_unread (iblk m c 0 t)) _).trans ?_
  rw [blk0]
  have e : ((Rect.unit (s := S7440) (k0_off1 (grid0.coords t) (BitVec.ofNat 32 (31 * r.val)) (BitVec.ofNat 32 n)) S1.size (k0_off1_inb (grid0.coords t) r ⟨n, h⟩)).toLoadRect.idx (Shape.Idx.first (show 0 < S1.numel by rw [numel1_S1]; decide)))
      = ix1 ⟨t.val * 465 + (31 * r.val + n), by have := lt16 t; have := r.2; omega⟩ := by
    funext a
    obtain rfl : a = 0 := Subsingleton.elim _ _
    refine Fin.ext ((Rect.idx_unit_val ..).trans ?_)
    rw [off t r ⟨n, h⟩]
    rfl
  refine (congrArg (V m c main_v0) e).trans ?_
  rw [V0]
  unfold learned
  rw [dif_pos ⟨r.2, h⟩]
  have := lt16 t
  have := r.2
  congr 1
  refine congr (congr (congrArg₂ (fun a b => ix4 a b) (Fin.ext ?_) (Fin.ext ?_)) (Fin.ext ?_)) (Fin.ext ?_) <;> simp only [] <;> omega

/-- The kernel's output array. -/
theorem final : (dats m 0 c).arrAt 1 cfg0.N = (table (X m c) : FVec Ideal S4x4x4x256x768 .f32) := by
  refine (dats m 0 c).arrAt_eq_of_covers 1 _ (by decide +kernel) fun t hf y => ?_
  blk_simp
  rw [after0_1]
  show out0_A_1 c (grid0.coords t) (ms0_0 t) (hs0_0 t) (ms0_1 t) (hs0_1 t) (iblk m c 0 t) y = _
  unfold out0_A_1
  refine (View.read_writes_apply_of_pieces VO0_1 _ (block (X m c) ⟨t / 4, by have := lt16 t; omega⟩ ⟨t % 4, by omega⟩) _ (pieces _ _ _ _ _ _ _ (fun r n hn => scalar_at m c t r n hn) _ _ _) y
    (cover0_A_1 _ _ _ _ _ _ _ y)).trans ?_
  have h0 : (((win0_1.blk t).view.emb y) 0 : ℕ) = t / 4 := by blk_simp [idx t]
  have h1 : (((win0_1.blk t).view.emb y) 1 : ℕ) = t % 4 := by blk_simp [idx t]
  have h2 : (((win0_1.blk t).view.emb y) 2 : ℕ) = y 2 := by blk_simp [idx t]
  have h3 : (((win0_1.blk t).view.emb y) 3 : ℕ) = y 3 := by blk_simp [idx t]
  have h4 : (((win0_1.blk t).view.emb y) 4 : ℕ) = y 4 := by blk_simp [idx t]
  unfold block table
  rw [h2, h3, h4]
  exact congrArg₂ (fun a b => entry (X m c) a b _ _ _ _) (Fin.ext h0.symm) (Fin.ext h1.symm)
end Cert.NaBiasIdeal.NaBias
-- ==== Proof.NaBiasRef.lean ====
module
public import proofs.«01_k».proof.Proof.Gen.NaBiasRefIdeal.Run
public import proofs.«01_k».proof.Proof.NaBiasSpec
public import Idealize.ShloMosaic.Lib.Pointwise
/-! The reference's table of biases, read at an index. -/
@[expose] public section
set_option maxRecDepth 16384
noncomputable section
open Idealize.ShloMosaic Idealize.ShloMosaic.TcCoe Idealize.SL.Sem
namespace Cert.NaBiasRefIdeal.NaBias
open Cert.NaBiasRefIdeal Cert.NaBiasRefIdeal.Gen Cert.NaBiasSpec

/-- The window's first row, by the query's row. -/
def row0 : IVec S16 32 := minsi (broadcastInDim S16 ![] bcast_S_S16 (id (constantI S_ 32 8#32))) (maxsi (broadcastInDim S16 ![] bcast_S_S16 (id (constantI S_ 32 0#32))) (subi (iotaInDim S16 32 0) (broadcastInDim S16 ![] bcast_S_S16 (constantI S_ 32 4#32))))
def rowMask : IVec S16x16 1 :=
  andi (cmpi .sge (broadcastInDim S16x16 ![0, 1] bcast_S1x16_S16x16_0_1 (broadcastInDim S1x16 ![1] bcast_S16_S1x16_1 (iotaInDim S16 32 0))) (broadcastInDim S16x16 ![0, 1] bcast_S16x1_S16x16_0_1 (broadcastInDim S16x1 ![0] bcast_S16_S16x1_0 row0)))
    (cmpi .slt (broadcastInDim S16x16 ![0, 1] bcast_S1x16_S16x16_0_1 (broadcastInDim S1x16 ![1] bcast_S16_S1x16_1 (iotaInDim S16 32 0))) (broadcastInDim S16x16 ![0, 1] bcast_S16x1_S16x16_0_1 (addi (broadcastInDim S16x1 ![0] bcast_S16_S16x1_0 row0) (broadcastInDim S16x1 ![] bcast_S_S16x1 (constantI S_ 32 8#32)))))
/-- The window's first column, by the query's column. -/
def col0 : IVec S64 32 := minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32))))
def colMask : IVec S64x64 1 :=
  andi (cmpi .sge (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 col0)))
    (cmpi .slt (broadcastInDim S64x64 ![0, 1] bcast_S1x64_S64x64_0_1 (broadcastInDim S1x64 ![1] bcast_S64_S1x64_1 (iotaInDim S64 32 0))) (broadcastInDim S64x64 ![0, 1] bcast_S64x1_S64x64_0_1 (addi (broadcastInDim S64x1 ![0] bcast_S64_S64x1_0 col0) (broadcastInDim S64x1 ![] bcast_S_S64x1 (constantI S_ 32 16#32)))))
/-- The relative rows and columns. -/
def rowRel : IVec S16x16 32 := minsi (broadcastInDim S16x16 ![] bcast_S_S16x16 (id (constantI S_ 32 14#32))) (maxsi (broadcastInDim S16x16 ![] bcast_S_S16x16 (id (constantI S_ 32 0#32))) (addi (subi (broadcastInDim S16x16 ![0, 1] bcast_S1x16_S16x16_0_1 (broadcastInDim S1x16 ![1] bcast_S16_S1x16_1 (iotaInDim S16 32 0))) (broadcastInDim S16x16 ![0, 1] bcast_S16x1_S16x16_0_1 (broadcastInDim S16x1 ![0] bcast_S16_S16x1_0 (iotaInDim S16 32 0)))) (broadcastInDim S16x16 ![] bcast_S_S16x16 (constantI S_ 32 7#32))))
def colRel : IVec S64x64 32 := minsi (broadcastInDim S64x64 ![] bcast_S_S64x64 (id (constantI S_ 32 30#32))) (maxsi (broadcastInDim S64x64 ![] bcast_S_S64x64 (id (constantI S_ 32 0#32))) (addi (subi (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (iotaInDim S64 32 0)))) (broadcastInDim S64x64 ![] bcast_S_S64x64 (constantI S_ 32 15#32))))
/-- The gather's indices of rows and of columns: a negative one would count from the end. -/
def rowIdx (r : IVec S16x16 32) : IVec S16x64x16x64x1 32 :=
  broadcastInDim S16x64x16x64x1 ![0, 1, 2, 3] bcast_S16x64x16x64_S16x64x16x64x1_0_1_2_3 (broadcastInDim S16x64x16x64 ![0, 1, 2, 3] bcast_S16x1x16x1_S16x64x16x64_0_1_2_3 (select (cmpi .slt (broadcastInDim S16x1x16x1 ![0, 2] bcast_S16x16_S16x1x16x1_0_2 r) (broadcastInDim S16x1x16x1 ![] bcast_S_S16x1x16x1 (constantI S_ 32 0#32))) (addi (broadcastInDim S16x1x16x1 ![0, 2] bcast_S16x16_S16x1x16x1_0_2 r) (broadcastInDim S16x1x16x1 ![] bcast_S_S16x1x16x1 (constantI S_ 32 15#32))) (broadcastInDim S16x1x16x1 ![0, 2] bcast_S16x16_S16x1x16x1_0_2 r)))
def colIdx (r : IVec S64x64 32) : IVec S16x64x16x64x1 32 :=
  broadcastInDim S16x64x16x64x1 ![0, 1, 2, 3] bcast_S16x64x16x64_S16x64x16x64x1_0_1_2_3 (broadcastInDim S16x64x16x64 ![0, 1, 2, 3] bcast_S1x64x1x64_S16x64x16x64_0_1_2_3 (select (cmpi .slt (broadcastInDim S1x64x1x64 ![1, 3] bcast_S64x64_S1x64x1x64_1_3 r) (broadcastInDim S1x64x1x64 ![] bcast_S_S1x64x1x64 (constantI S_ 32 0#32))) (addi (broadcastInDim S1x64x1x64 ![1, 3] bcast_S64x64_S1x64x1x64_1_3 r) (broadcastInDim S1x64x1x64 ![] bcast_S_S1x64x1x64 (constantI S_ 32 31#32))) (broadcastInDim S1x64x1x64 ![1, 3] bcast_S64x64_S1x64x1x64_1_3 r)))
def idxs (a b : IVec S16x64x16x64x1 32) : IVec S16x64x16x64x2 32 :=
  concatenate S16x64x16x64x2 4 [⟨S16x64x16x64x1, a⟩, ⟨S16x64x16x64x1, b⟩] concatenates_S16x64x16x64x1_S16x64x16x64x1_S16x64x16x64x2_d4
def masks (a : IVec S16x16 1) (b : IVec S64x64 1) : IVec S4x4x16x64x16x64 1 :=
  broadcastInDim S4x4x16x64x16x64 ![2, 3, 4, 5] bcast_S16x64x16x64_S4x4x16x64x16x64_2_3_4_5 (andi (broadcastInDim S16x64x16x64 ![0, 1, 2, 3] bcast_S16x1x16x1_S16x64x16x64_0_1_2_3 (broadcastInDim S16x1x16x1 ![0, 2] bcast_S16x16_S16x1x16x1_0_2 a)) (broadcastInDim S16x64x16x64 ![0, 1, 2, 3] bcast_S1x64x1x64_S16x64x16x64_0_1_2_3 (broadcastInDim S1x64x1x64 ![1, 3] bcast_S64x64_S1x64x1x64_1_3 b)))
def gathered (x : FVec Ideal S4x4x15x31 .f32) (i : IVec S16x64x16x64x2 32) : FVec Ideal S4x4x16x64x16x64 .f32 :=
  Host.gather gather_S4x4x15x31_S16x64x16x64x2_S4x4x16x64x16x64_01_23_n_n_23_4_4411 x i
def masked (p : IVec S4x4x16x64x16x64 1) (x : FVec Ideal S4x4x16x64x16x64 .f32) : FVec Ideal S4x4x16x64x16x64 .f32 :=
  select p x (broadcastInDim S4x4x16x64x16x64 ![] bcast_S_S4x4x16x64x16x64 (id (constant S_ .f32 0xF149F2CA#32)))
def near (x : FVec Ideal S4x4x16x64x16x64 .f32) : FVec Ideal S4x4x16x64x12x64 .f32 :=
  concatenate S4x4x16x64x12x64 2 [⟨S4x4x8x64x12x64, extractStridedSlice S4x4x8x64x12x64 ![0, 0, 0, 0, 0, 0] x slices_S4x4x16x64x16x64_S4x4x8x64x12x64_0_0_0_0_0_0⟩, ⟨S4x4x8x64x12x64, extractStridedSlice S4x4x8x64x12x64 ![0, 0, 8, 0, 4, 0] x slices_S4x4x16x64x16x64_S4x4x8x64x12x64_0_0_8_0_4_0⟩] concatenates_S4x4x8x64x12x64_S4x4x8x64x12x64_S4x4x16x64x12x64_d2
def whole (x : FVec Ideal S4x4x15x31 .f32) : FVec Ideal S4x4x4x256x768 .f32 :=
  shapeCast _ (near (masked (masks rowMask colMask) (gathered x (idxs (rowIdx rowRel) (colIdx colRel))))) shapeCasts_S4x4x16x64x12x64_S4x4x4x256x768

theorem rowMask_at (q k : Fin 16) : rowMask (ix2 q k) = if rowIn q k then 1#1 else 0#1 := by
  revert q k; decide +kernel
theorem colMask_at (q k : Fin 64) : colMask (ix2 q k) = if colIn q k then 1#1 else 0#1 := by
  revert q k; decide +kernel
theorem rowRel_at (q k : Fin 16) : rowRel (ix2 q k) = BitVec.ofNat 32 (rowDiff q k) := by
  revert q k; decide +kernel
theorem colRel_at (q k : Fin 64) : colRel (ix2 q k) = BitVec.ofNat 32 (colDiff q k) := by
  revert q k; decide +kernel
theorem masks_at (a : IVec S16x16 1) (b : IVec S64x64 1) (l h : Fin 4) (qr : Fin 16) (qc : Fin 64) (kr : Fin 16) (kc : Fin 64) :
    masks a b (ix6 l h qr qc kr kc) = a (ix2 qr kr) &&& b (ix2 qc kc) := by
  pointwise [masks]; rfl
theorem rowIdx_at (r : IVec S16x16 32) (qr : Fin 16) (qc : Fin 64) (kr : Fin 16) (kc : Fin 64) (h : r (ix2 qr kr) = BitVec.ofNat 32 (rowDiff qr kr)) :
    rowIdx r (ix5 qr qc kr kc 0) = BitVec.ofNat 32 (rowDiff qr kr) := by
  pointwise [rowIdx]; rw [h]
  have e : ∀ n : Fin 15, Scalar.select (Scalar.cmpi .slt (BitVec.ofNat 32 n) 0#32) (Scalar.addi (BitVec.ofNat 32 n) 15#32) (BitVec.ofNat 32 n) = BitVec.ofNat 32 n := by decide
  exact e ⟨rowDiff qr kr, Nat.lt_succ_of_le (Nat.min_le_right _ _)⟩
theorem colIdx_at (r : IVec S64x64 32) (qr : Fin 16) (qc : Fin 64) (kr : Fin 16) (kc : Fin 64) (h : r (ix2 qc kc) = BitVec.ofNat 32 (colDiff qc kc)) :
    colIdx r (ix5 qr qc kr kc 0) = BitVec.ofNat 32 (colDiff qc kc) := by
  pointwise [colIdx]; rw [h]
  have e : ∀ n : Fin 31, Scalar.select (Scalar.cmpi .slt (BitVec.ofNat 32 n) 0#32) (Scalar.addi (BitVec.ofNat 32 n) 31#32) (BitVec.ofNat 32 n) = BitVec.ofNat 32 n := by decide
  exact e ⟨colDiff qc kc, Nat.lt_succ_of_le (Nat.min_le_right _ _)⟩
theorem idxs_at0 (a b : IVec S16x64x16x64x1 32) (qr : Fin 16) (qc : Fin 64) (kr : Fin 16) (kc : Fin 64) :
    idxs a b (ix5 qr qc kr kc 0) = a (ix5 qr qc kr kc 0) := by pointwise [idxs]
theorem idxs_at1 (a b : IVec S16x64x16x64x1 32) (qr : Fin 16) (qc : Fin 64) (kr : Fin 16) (kc : Fin 64) :
    idxs a b (ix5 qr qc kr kc 1) = b (ix5 qr qc kr kc 0) := by pointwise [idxs]
/-- The gather's dimension numbers. -/
abbrev dims : GatherDims S4x4x15x31 S16x64x16x64x2 S4x4x16x64x16x64 := gather_S4x4x15x31_S16x64x16x64x2_S4x4x16x64x16x64_01_23_n_n_23_4_4411
theorem gathered_at (x : FVec Ideal S4x4x15x31 .f32) (i : IVec S16x64x16x64x2 32) (l h : Fin 4) (qr : Fin 16) (qc : Fin 64) (kr : Fin 16) (kc : Fin 64) :
    gathered x i (ix6 l h qr qc kr kc) = x (ix4 l h ⟨min (i (ix5 qr qc kr kc 0)).toInt.toNat 14, by omega⟩ ⟨min (i (ix5 qr qc kr kc 1)).toInt.toNat 30, by omega⟩) := by
  unfold gathered Host.gather
  congr 1
  funext a
  refine Fin.ext ?_
  show dims.start (ix6 l h qr qc kr kc) i a + dims.batchCoord (ix6 l h qr qc kr kc) a + dims.offCoord (ix6 l h qr qc kr kc) a = _
  rw [GatherDims.batchCoord_eq_zero _ _ _ List.not_mem_nil]
  have cases : ∀ a : Fin 4, a = 0 ∨ a = 1 ∨ a = 2 ∨ a = 3 := by decide
  rcases cases a with rfl | rfl | rfl | rfl
  · unfold GatherDims.start
    rw [dif_neg (show (0 : Fin 4) ∉ dims.startIndexMap by decide)]
    simp only [Nat.zero_add]
    rfl
  · unfold GatherDims.start
    rw [dif_neg (show (1 : Fin 4) ∉ dims.startIndexMap by decide)]
    simp only [Nat.zero_add]
    rfl
  · rw [GatherDims.offCoord_eq_zero _ _ _ (fun h => ((GatherDims.mem_sKept _ _).mp h).1 (show (2 : Fin 4) ∈ dims.collapsedSliceDims by decide))]
    unfold GatherDims.start
    rw [dif_pos (show (2 : Fin 4) ∈ dims.startIndexMap by decide)]
    simp only [Nat.add_zero]
    have e : dims.siIdx (ix6 l h qr qc kr kc) ⟨0, by decide⟩ = ix5 qr qc kr kc 0 := by
      funext b; refine Fin.ext ?_
      match b with
      | ⟨0, _⟩ => rfl
      | ⟨1, _⟩ => rfl
      | ⟨2, _⟩ => rfl
      | ⟨3, _⟩ => rfl
      | ⟨4, _⟩ => rfl
    refine Eq.trans ?_ (congrArg (fun t => min (i t).toInt.toNat 14) e)
    rfl
  · rw [GatherDims.offCoord_eq_zero _ _ _ (fun h => ((GatherDims.mem_sKept _ _).mp h).1 (show (3 : Fin 4) ∈ dims.collapsedSliceDims by decide))]
    unfold GatherDims.start
    rw [dif_pos (show (3 : Fin 4) ∈ dims.startIndexMap by decide)]
    simp only [Nat.add_zero]
    have e : dims.siIdx (ix6 l h qr qc kr kc) ⟨1, by decide⟩ = ix5 qr qc kr kc 1 := by
      funext b; refine Fin.ext ?_
      match b with
      | ⟨0, _⟩ => rfl
      | ⟨1, _⟩ => rfl
      | ⟨2, _⟩ => rfl
      | ⟨3, _⟩ => rfl
      | ⟨4, _⟩ => rfl
    refine Eq.trans ?_ (congrArg (fun t => min (i t).toInt.toNat 30) e)
    rfl
theorem gathered_of (x : FVec Ideal S4x4x15x31 .f32) (i : IVec S16x64x16x64x2 32) (l h : Fin 4) (qr : Fin 16) (qc : Fin 64) (kr : Fin 16) (kc : Fin 64)
    (r c : ℕ) (hr : r < 15) (hc : c < 31) (h0 : i (ix5 qr qc kr kc 0) = BitVec.ofNat 32 r) (h1 : i (ix5 qr qc kr kc 1) = BitVec.ofNat 32 c) :
    gathered x i (ix6 l h qr qc kr kc) = learned x l h r c := by
  have e : ∀ n : Fin 31, (BitVec.ofNat 32 (n : ℕ)).toInt.toNat = n := by decide
  have e0 : (i (ix5 qr qc kr kc 0)).toInt.toNat = r := by rw [h0]; exact e ⟨r, by omega⟩
  have e1 : (i (ix5 qr qc kr kc 1)).toInt.toNat = c := by rw [h1]; exact e ⟨c, hc⟩
  rw [gathered_at]
  unfold learned
  rw [dif_pos ⟨hr, hc⟩]
  exact congrArg x (congrArg₂ (fun s t => ix4 l h s t) (Fin.ext (by simp only [e0]; omega)) (Fin.ext (by simp only [e1]; omega)))
theorem masked_at (p : IVec S4x4x16x64x16x64 1) (x : FVec Ideal S4x4x16x64x16x64 .f32) (l h : Fin 4) (qr : Fin 16) (qc : Fin 64) (kr : Fin 16) (kc : Fin 64) :
    masked p x (ix6 l h qr qc kr kc) = if p (ix6 l h qr qc kr kc) = 1#1 then x (ix6 l h qr qc kr kc) else far := by
  pointwise [masked]; rfl
theorem near_at (x : FVec Ideal S4x4x16x64x16x64 .f32) (l h : Fin 4) (qr : Fin 16) (qc : Fin 64) (kr : Fin 12) (kc : Fin 64) :
    near x (ix6 l h qr qc kr kc) = x (ix6 l h qr qc ⟨4 * (qr / 8) + kr, by omega⟩ kc) := by
  pointwise [near]
  split
  · congr 1; refine congrArg (fun t => ix6 l h qr qc t kc) (Fin.ext ?_); show (kr : ℕ) = _; simp only []; omega
  · congr 1
    have e : (⟨8 + ((qr : ℕ) - 8), by omega⟩ : Fin 16) = qr := Fin.ext (by simp only []; omega)
    have e' : (⟨4 + (kr : ℕ), by omega⟩ : Fin 16) = ⟨4 * ((qr : ℕ) / 8) + kr, by omega⟩ := Fin.ext (by simp only []; omega)
    simp only [e, e']
theorem entry_at (x : FVec Ideal S4x4x15x31 .f32) (l h : Fin 4) (qr : Fin 16) (qc : Fin 64) (kr : Fin 16) (kc : Fin 64) :
    masked (masks rowMask colMask) (gathered x (idxs (rowIdx rowRel) (colIdx colRel))) (ix6 l h qr qc kr kc) = entry x l h qr qc kr kc := by
  have g : gathered x (idxs (rowIdx rowRel) (colIdx colRel)) (ix6 l h qr qc kr kc) = learned x l h (rowDiff qr kr) (colDiff qc kc) :=
    gathered_of _ _ _ _ _ _ _ _ _ _ (lt_of_le_of_lt (Nat.min_le_right _ _) (by decide)) (lt_of_le_of_lt (Nat.min_le_right _ _) (by decide)) ((idxs_at0 _ _ _ _ _ _).trans (rowIdx_at _ _ _ _ _ (rowRel_at qr kr)))
      ((idxs_at1 _ _ _ _ _ _).trans (colIdx_at _ _ _ _ _ (colRel_at qc kc)))
  rw [masked_at, g, masks_at, rowMask_at, colMask_at]
  unfold entry tileAt
  by_cases p : rowIn qr kr <;> by_cases q : colIn qc kc
  · rw [if_pos p, if_pos q, if_pos p, if_pos q, if_pos (show 1#1 &&& 1#1 = 1#1 by decide)]
  · rw [if_pos p, if_neg q, if_pos p, if_neg q, if_neg (show ¬1#1 &&& 0#1 = 1#1 by decide)]
  · rw [if_neg p, if_pos q, if_neg p, if_neg (show ¬0#1 &&& 1#1 = 1#1 by decide)]
  · rw [if_neg p, if_neg q, if_neg p, if_neg (show ¬0#1 &&& 0#1 = 1#1 by decide)]
theorem whole_eq (x : FVec Ideal S4x4x15x31 .f32) : whole x = table x := by
  funext y
  idx_vars y
  unfold whole
  pointwise
  rw [near_at, entry_at]
  show entry _ _ _ _ _ _ _ = entry _ _ _ _ _ _ _
  congr 1
  · show (y2 : ℕ) * 4 + y3 / 64 = 4 * (y2 : ℕ) + y3 / 64; omega
  · show 4 * (((y2 : ℕ) * 4 + y3 / 64) / 8) + y4 / 64 = 4 * ((y2 : ℕ) / 2) + y4 / 64; omega
end Cert.NaBiasRefIdeal.NaBias
-- ==== Proof.NaBiasClaim.lean ====
module
public import proofs.«01_k».proof.Defs
public import proofs.«01_k».proof.Proof.NaBias
public import proofs.«01_k».proof.Proof.NaBiasRef
public import Idealize.ShloMosaic.Lib.Claim
/-! The kernel's table of biases is the reference's. -/
@[expose] public section
set_option maxRecDepth 16384
noncomputable section
open Idealize.ShloMosaic Idealize.ShloMosaic.TcCoe Idealize.SL.Sem
namespace Cert.NaBiasClaim

/-- The reference runs to its end. -/
theorem frame_ref : Cert.quiescent_NaBiasRefIdeal (hNaBiasRefIdeal := Cert.NaBiasRefIdeal.Gen.facts) := by
  intro m g _
  exact (θ_run _ _ _).mono (fun r h => ⟨fun c => (h c).2, Idealize.ShloMosaic.sem_eq_zero_of_no_sems (by decide) r.2⟩)
    (Cert.NaBiasRefIdeal.Value.run m g)

open Cert.NaBiasIdeal.NaBias Cert.NaBiasRefIdeal.NaBias in
/-- The kernel's output is the reference's. -/
theorem algebraic : Cert.algebraic_NaBiasIdeal_NaBiasRefIdeal (hNaBiasIdeal := Cert.NaBiasIdeal.Gen.facts) (hNaBiasRefIdeal := Cert.NaBiasRefIdeal.Gen.facts) := by
  intro m g m' g' hpre hargs
  refine ⟨_, Cert.NaBiasIdeal.Value.run_blocks m g, ?_⟩
  refine (θ_run _ _ _).mono (fun r h c => ?_) (Cert.NaBiasRefIdeal.Value.run m' g')
  obtain ⟨h0, hrest⟩ := h c
  have e0 := hargs c
  refine ⟨h0.trans ?_, hrest⟩
  refine Eq.trans ?_ (final m c).symm
  refine (show _ = whole (m' ((c.tc : Thread Cert.NaBiasRefIdeal.nD Cert.NaBiasRefIdeal.τ).loc Cert.NaBiasRefIdeal.main_arg0)) from rfl).trans ?_
  rw [e0]
  exact whole_eq _
end Cert.NaBiasClaim
-- ==== Proof.lean ====
module

public import proofs.«01_k».proof.Defs
public import proofs.«01_k».proof.Proof.CtxClaim
public import proofs.«01_k».proof.Proof.FfnClaim
public import proofs.«01_k».proof.Proof.InProjClaim
public import proofs.«01_k».proof.Proof.OutProjClaim
public import proofs.«01_k».proof.Proof.AdalnClaim
public import proofs.«01_k».proof.Proof.GqaClaim
public import proofs.«01_k».proof.Proof.NaClaim
public import proofs.«01_k».proof.Proof.NaBiasClaim
public import proofs.«01_k».proof.Proof.Gen.Kernel.Frame
public import proofs.«01_k».proof.Proof.Gen.KernelIdeal.Frame
public import proofs.«01_k».proof.Proof.Gen.Ffn.Frame
public import proofs.«01_k».proof.Proof.Gen.FfnIdeal.Frame
public import proofs.«01_k».proof.Proof.Gen.InProj.Frame
public import proofs.«01_k».proof.Proof.Gen.InProjIdeal.Frame
public import proofs.«01_k».proof.Proof.Gen.OutProj.Frame
public import proofs.«01_k».proof.Proof.Gen.OutProjIdeal.Frame
public import proofs.«01_k».proof.Proof.Gen.Adaln.Frame
public import proofs.«01_k».proof.Proof.Gen.AdalnIdeal.Frame
public import proofs.«01_k».proof.Proof.Gen.Gqa.Frame
public import proofs.«01_k».proof.Proof.Gen.GqaIdeal.Frame
public import proofs.«01_k».proof.Proof.Gen.Na.Frame
public import proofs.«01_k».proof.Proof.Gen.NaIdeal.Frame
public import proofs.«01_k».proof.Proof.Gen.NaBias.Frame
public import proofs.«01_k».proof.Proof.Gen.NaBiasIdeal.Frame

@[expose] public section

noncomputable section

namespace Cert.Proof

open Idealize.ShloMosaic Idealize.SL.Sem Cert.Kernel

theorem frame_ReferenceIdeal : Cert.quiescent_ReferenceIdeal (hReferenceIdeal := Cert.ReferenceIdeal.Gen.facts) := by
  intro m g _
  exact (θ_run _ _ _).mono (fun r h => ⟨fun c => (h c).2.2.2.2.2.2, Idealize.ShloMosaic.sem_eq_zero_of_no_sems (by decide) r.2⟩)
    (Cert.ReferenceIdeal.Value.run m g)

theorem claim : Cert.Claim :=
  ⟨Cert.Kernel.Gen.facts, Cert.KernelIdeal.Gen.facts, Cert.ReferenceIdeal.Gen.facts,
    Cert.Ffn.Gen.facts, Cert.FfnIdeal.Gen.facts, Cert.FfnRefIdeal.Gen.facts,
    Cert.InProj.Gen.facts, Cert.InProjIdeal.Gen.facts, Cert.InProjRefIdeal.Gen.facts,
    Cert.OutProj.Gen.facts, Cert.OutProjIdeal.Gen.facts, Cert.OutProjRefIdeal.Gen.facts,
    Cert.Adaln.Gen.facts, Cert.AdalnIdeal.Gen.facts, Cert.AdalnRefIdeal.Gen.facts,
    Cert.Gqa.Gen.facts, Cert.GqaIdeal.Gen.facts, Cert.GqaRefIdeal.Gen.facts,
    Cert.Na.Gen.facts, Cert.NaIdeal.Gen.facts, Cert.NaRefIdeal.Gen.facts,
    Cert.NaBias.Gen.facts, Cert.NaBiasIdeal.Gen.facts, Cert.NaBiasRefIdeal.Gen.facts,
    Cert.CtxClaim.preFacts, Cert.GqaClaim.preFacts, Cert.NaClaim.preFacts,
    fun m g _ => Cert.Kernel.Gen.frame m g, fun m g _ => Cert.KernelIdeal.Gen.frame m g, fun m g _ => Cert.KernelIdeal.Gen.frame m g,
    frame_ReferenceIdeal, fun m g _ => frame_ReferenceIdeal m g trivial,
    fun m g _ => Cert.Ffn.Gen.frame m g, fun m g _ => Cert.FfnIdeal.Gen.frame m g, Cert.FfnClaim.frame_ref,
    fun m g _ => Cert.InProj.Gen.frame m g, fun m g _ => Cert.InProjIdeal.Gen.frame m g, Cert.InProjClaim.frame_ref,
    fun m g _ => Cert.OutProj.Gen.frame m g, fun m g _ => Cert.OutProjIdeal.Gen.frame m g, Cert.OutProjClaim.frame_ref,
    fun m g _ => Cert.Adaln.Gen.frame m g, fun m g _ => Cert.AdalnIdeal.Gen.frame m g, Cert.AdalnClaim.frame_ref,
    fun m g _ => Cert.Gqa.Gen.frame m g, fun m g _ => Cert.GqaIdeal.Gen.frame m g, fun m g _ => Cert.GqaIdeal.Gen.frame m g,
    Cert.GqaClaim.frame_ref, fun m g _ => Cert.GqaClaim.frame_ref m g trivial,
    fun m g _ => Cert.Na.Gen.frame m g, fun m g _ => Cert.NaIdeal.Gen.frame m g, fun m g _ => Cert.NaIdeal.Gen.frame m g,
    Cert.NaClaim.frame_ref, fun m g _ => Cert.NaClaim.frame_ref m g trivial,
    fun m g _ => Cert.NaBias.Gen.frame m g, fun m g _ => Cert.NaBiasIdeal.Gen.frame m g, Cert.NaBiasClaim.frame_ref,
    trivial, Cert.CtxClaim.algebraic, trivial, Cert.FfnClaim.algebraic, trivial, Cert.InProjClaim.algebraic, trivial, Cert.OutProjClaim.algebraic, trivial, Cert.AdalnClaim.algebraic,
    trivial, Cert.GqaClaim.algebraic, trivial, Cert.NaClaim.algebraic, trivial, Cert.NaBiasClaim.algebraic⟩

end Cert.Proof

end
